-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_scans_finite [hPre_scans_finite : Cert.Pre_scans_finite.Facts] (m : (ℓ : Loc Cert.MergeIdeal.nD Cert.MergeIdeal.τ Cert.MergeIdeal.sig) → Buf (Elt Ideal) ℓ) : Prop :=
  ∀ c : Dev Cert.MergeIdeal.nD,
    (Cert.Pre_scans_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12))) = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_scans_finite [hPre_scans_finite : Cert.Pre_scans_finite.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_scans_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12))) = (fun _ => 1#1)

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontReferenceIdeal (m : (ℓ : Loc Cert.FrontReferenceIdeal.nD Cert.FrontReferenceIdeal.τ Cert.FrontReferenceIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeIdeal_pre_scans_finite [hMergeIdeal : Cert.MergeIdeal.Facts] [hPre_scans_finite : Cert.Pre_scans_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_scans_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0)

def quiescent_MergeReferenceIdeal_pre_scans_finite [hMergeReferenceIdeal : Cert.MergeReferenceIdeal.Facts] [hPre_scans_finite : Cert.Pre_scans_finite.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_scans_finite m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7)
      ∧ r.2.mem ((c.tc : Thread Cert.Front.nD Cert.Front.τ).loc Cert.Front.main_arg8) = m ((c.tc : Thread Cert.Front.nD Cert.Front.τ).loc Cert.Front.main_arg8)
      ∧ r.2.mem ((c.tc : Thread Cert.Front.nD Cert.Front.τ).loc Cert.Front.main_arg9) = m ((c.tc : Thread Cert.Front.nD Cert.Front.τ).loc Cert.Front.main_arg9)
      ∧ r.2.mem ((c.tc : Thread Cert.Front.nD Cert.Front.τ).loc Cert.Front.main_arg10) = m ((c.tc : Thread Cert.Front.nD Cert.Front.τ).loc Cert.Front.main_arg10)
      ∧ r.2.mem ((c.tc : Thread Cert.Front.nD Cert.Front.τ).loc Cert.Front.main_arg11) = m ((c.tc : Thread Cert.Front.nD Cert.Front.τ).loc Cert.Front.main_arg11)
      ∧ r.2.mem ((c.tc : Thread Cert.Front.nD Cert.Front.τ).loc Cert.Front.main_arg12) = m ((c.tc : Thread Cert.Front.nD Cert.Front.τ).loc Cert.Front.main_arg12)
      ∧ r.2.mem ((c.tc : Thread Cert.Front.nD Cert.Front.τ).loc Cert.Front.main_arg13) = m ((c.tc : Thread Cert.Front.nD Cert.Front.τ).loc Cert.Front.main_arg13)
      ∧ r.2.mem ((c.tc : Thread Cert.Front.nD Cert.Front.τ).loc Cert.Front.main_arg14) = m ((c.tc : Thread Cert.Front.nD Cert.Front.τ).loc Cert.Front.main_arg14)
      ∧ r.2.mem ((c.tc : Thread Cert.Front.nD Cert.Front.τ).loc Cert.Front.main_arg15) = m ((c.tc : Thread Cert.Front.nD Cert.Front.τ).loc Cert.Front.main_arg15)
      ∧ r.2.mem ((c.tc : Thread Cert.Front.nD Cert.Front.τ).loc Cert.Front.main_arg16) = m ((c.tc : Thread Cert.Front.nD Cert.Front.τ).loc Cert.Front.main_arg16)
      ∧ r.2.mem ((c.tc : Thread Cert.Front.nD Cert.Front.τ).loc Cert.Front.main_arg17) = m ((c.tc : Thread Cert.Front.nD Cert.Front.τ).loc Cert.Front.main_arg17)
      ∧ r.2.mem ((c.tc : Thread Cert.Front.nD Cert.Front.τ).loc Cert.Front.main_arg18) = m ((c.tc : Thread Cert.Front.nD Cert.Front.τ).loc Cert.Front.main_arg18)
      ∧ r.2.mem ((c.tc : Thread Cert.Front.nD Cert.Front.τ).loc Cert.Front.main_arg19) = m ((c.tc : Thread Cert.Front.nD Cert.Front.τ).loc Cert.Front.main_arg19)
      ∧ r.2.mem ((c.tc : Thread Cert.Front.nD Cert.Front.τ).loc Cert.Front.main_arg20) = m ((c.tc : Thread Cert.Front.nD Cert.Front.τ).loc Cert.Front.main_arg20)
      ∧ r.2.mem ((c.tc : Thread Cert.Front.nD Cert.Front.τ).loc Cert.Front.main_arg21) = m ((c.tc : Thread Cert.Front.nD Cert.Front.τ).loc Cert.Front.main_arg21))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
      ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
      ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
      ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11)
      ∧ r.2.mem ((c.tc : Thread Cert.FrontIdeal.nD Cert.FrontIdeal.τ).loc Cert.FrontIdeal.main_arg12) = m ((c.tc : Thread Cert.FrontIdeal.nD Cert.FrontIdeal.τ).loc Cert.FrontIdeal.main_arg12)
      ∧ r.2.mem ((c.tc : Thread Cert.FrontIdeal.nD Cert.FrontIdeal.τ).loc Cert.FrontIdeal.main_arg13) = m ((c.tc : Thread Cert.FrontIdeal.nD Cert.FrontIdeal.τ).loc Cert.FrontIdeal.main_arg13)
      ∧ r.2.mem ((c.tc : Thread Cert.FrontIdeal.nD Cert.FrontIdeal.τ).loc Cert.FrontIdeal.main_arg14) = m ((c.tc : Thread Cert.FrontIdeal.nD Cert.FrontIdeal.τ).loc Cert.FrontIdeal.main_arg14)
      ∧ r.2.mem ((c.tc : Thread Cert.FrontIdeal.nD Cert.FrontIdeal.τ).loc Cert.FrontIdeal.main_arg15) = m ((c.tc : Thread Cert.FrontIdeal.nD Cert.FrontIdeal.τ).loc Cert.FrontIdeal.main_arg15)
      ∧ r.2.mem ((c.tc : Thread Cert.FrontIdeal.nD Cert.FrontIdeal.τ).loc Cert.FrontIdeal.main_arg16) = m ((c.tc : Thread Cert.FrontIdeal.nD Cert.FrontIdeal.τ).loc Cert.FrontIdeal.main_arg16)
      ∧ r.2.mem ((c.tc : Thread Cert.FrontIdeal.nD Cert.FrontIdeal.τ).loc Cert.FrontIdeal.main_arg17) = m ((c.tc : Thread Cert.FrontIdeal.nD Cert.FrontIdeal.τ).loc Cert.FrontIdeal.main_arg17)
      ∧ r.2.mem ((c.tc : Thread Cert.FrontIdeal.nD Cert.FrontIdeal.τ).loc Cert.FrontIdeal.main_arg18) = m ((c.tc : Thread Cert.FrontIdeal.nD Cert.FrontIdeal.τ).loc Cert.FrontIdeal.main_arg18)
      ∧ r.2.mem ((c.tc : Thread Cert.FrontIdeal.nD Cert.FrontIdeal.τ).loc Cert.FrontIdeal.main_arg19) = m ((c.tc : Thread Cert.FrontIdeal.nD Cert.FrontIdeal.τ).loc Cert.FrontIdeal.main_arg19)
      ∧ r.2.mem ((c.tc : Thread Cert.FrontIdeal.nD Cert.FrontIdeal.τ).loc Cert.FrontIdeal.main_arg20) = m ((c.tc : Thread Cert.FrontIdeal.nD Cert.FrontIdeal.τ).loc Cert.FrontIdeal.main_arg20)
      ∧ r.2.mem ((c.tc : Thread Cert.FrontIdeal.nD Cert.FrontIdeal.τ).loc Cert.FrontIdeal.main_arg21) = m ((c.tc : Thread Cert.FrontIdeal.nD Cert.FrontIdeal.τ).loc Cert.FrontIdeal.main_arg21))
      ∧ r.2.sem = fun _ => 0)

def quiescent_FrontReferenceIdeal [hFrontReferenceIdeal : Cert.FrontReferenceIdeal.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2)
      ∧ r.2.mem ((c.tc : Thread Cert.FrontReferenceIdeal.nD Cert.FrontReferenceIdeal.τ).loc Cert.FrontReferenceIdeal.main_arg3) = m ((c.tc : Thread Cert.FrontReferenceIdeal.nD Cert.FrontReferenceIdeal.τ).loc Cert.FrontReferenceIdeal.main_arg3)
      ∧ r.2.mem ((c.tc : Thread Cert.FrontReferenceIdeal.nD Cert.FrontReferenceIdeal.τ).loc Cert.FrontReferenceIdeal.main_arg4) = m ((c.tc : Thread Cert.FrontReferenceIdeal.nD Cert.FrontReferenceIdeal.τ).loc Cert.FrontReferenceIdeal.main_arg4)
      ∧ r.2.mem ((c.tc : Thread Cert.FrontReferenceIdeal.nD Cert.FrontReferenceIdeal.τ).loc Cert.FrontReferenceIdeal.main_arg5) = m ((c.tc : Thread Cert.FrontReferenceIdeal.nD Cert.FrontReferenceIdeal.τ).loc Cert.FrontReferenceIdeal.main_arg5)
      ∧ r.2.mem ((c.tc : Thread Cert.FrontReferenceIdeal.nD Cert.FrontReferenceIdeal.τ).loc Cert.FrontReferenceIdeal.main_arg6) = m ((c.tc : Thread Cert.FrontReferenceIdeal.nD Cert.FrontReferenceIdeal.τ).loc Cert.FrontReferenceIdeal.main_arg6)
      ∧ r.2.mem ((c.tc : Thread Cert.FrontReferenceIdeal.nD Cert.FrontReferenceIdeal.τ).loc Cert.FrontReferenceIdeal.main_arg7) = m ((c.tc : Thread Cert.FrontReferenceIdeal.nD Cert.FrontReferenceIdeal.τ).loc Cert.FrontReferenceIdeal.main_arg7)
      ∧ r.2.mem ((c.tc : Thread Cert.FrontReferenceIdeal.nD Cert.FrontReferenceIdeal.τ).loc Cert.FrontReferenceIdeal.main_arg8) = m ((c.tc : Thread Cert.FrontReferenceIdeal.nD Cert.FrontReferenceIdeal.τ).loc Cert.FrontReferenceIdeal.main_arg8)
      ∧ r.2.mem ((c.tc : Thread Cert.FrontReferenceIdeal.nD Cert.FrontReferenceIdeal.τ).loc Cert.FrontReferenceIdeal.main_arg9) = m ((c.tc : Thread Cert.FrontReferenceIdeal.nD Cert.FrontReferenceIdeal.τ).loc Cert.FrontReferenceIdeal.main_arg9)
      ∧ r.2.mem ((c.tc : Thread Cert.FrontReferenceIdeal.nD Cert.FrontReferenceIdeal.τ).loc Cert.FrontReferenceIdeal.main_arg10) = m ((c.tc : Thread Cert.FrontReferenceIdeal.nD Cert.FrontReferenceIdeal.τ).loc Cert.FrontReferenceIdeal.main_arg10)
      ∧ r.2.mem ((c.tc : Thread Cert.FrontReferenceIdeal.nD Cert.FrontReferenceIdeal.τ).loc Cert.FrontReferenceIdeal.main_arg11) = m ((c.tc : Thread Cert.FrontReferenceIdeal.nD Cert.FrontReferenceIdeal.τ).loc Cert.FrontReferenceIdeal.main_arg11)
      ∧ r.2.mem ((c.tc : Thread Cert.FrontReferenceIdeal.nD Cert.FrontReferenceIdeal.τ).loc Cert.FrontReferenceIdeal.main_arg12) = m ((c.tc : Thread Cert.FrontReferenceIdeal.nD Cert.FrontReferenceIdeal.τ).loc Cert.FrontReferenceIdeal.main_arg12)
      ∧ r.2.mem ((c.tc : Thread Cert.FrontReferenceIdeal.nD Cert.FrontReferenceIdeal.τ).loc Cert.FrontReferenceIdeal.main_arg13) = m ((c.tc : Thread Cert.FrontReferenceIdeal.nD Cert.FrontReferenceIdeal.τ).loc Cert.FrontReferenceIdeal.main_arg13)
      ∧ r.2.mem ((c.tc : Thread Cert.FrontReferenceIdeal.nD Cert.FrontReferenceIdeal.τ).loc Cert.FrontReferenceIdeal.main_arg14) = m ((c.tc : Thread Cert.FrontReferenceIdeal.nD Cert.FrontReferenceIdeal.τ).loc Cert.FrontReferenceIdeal.main_arg14)
      ∧ r.2.mem ((c.tc : Thread Cert.FrontReferenceIdeal.nD Cert.FrontReferenceIdeal.τ).loc Cert.FrontReferenceIdeal.main_arg15) = m ((c.tc : Thread Cert.FrontReferenceIdeal.nD Cert.FrontReferenceIdeal.τ).loc Cert.FrontReferenceIdeal.main_arg15)
      ∧ r.2.mem ((c.tc : Thread Cert.FrontReferenceIdeal.nD Cert.FrontReferenceIdeal.τ).loc Cert.FrontReferenceIdeal.main_arg16) = m ((c.tc : Thread Cert.FrontReferenceIdeal.nD Cert.FrontReferenceIdeal.τ).loc Cert.FrontReferenceIdeal.main_arg16)
      ∧ r.2.mem ((c.tc : Thread Cert.FrontReferenceIdeal.nD Cert.FrontReferenceIdeal.τ).loc Cert.FrontReferenceIdeal.main_arg17) = m ((c.tc : Thread Cert.FrontReferenceIdeal.nD Cert.FrontReferenceIdeal.τ).loc Cert.FrontReferenceIdeal.main_arg17)
      ∧ r.2.mem ((c.tc : Thread Cert.FrontReferenceIdeal.nD Cert.FrontReferenceIdeal.τ).loc Cert.FrontReferenceIdeal.main_arg18) = m ((c.tc : Thread Cert.FrontReferenceIdeal.nD Cert.FrontReferenceIdeal.τ).loc Cert.FrontReferenceIdeal.main_arg18)
      ∧ r.2.mem ((c.tc : Thread Cert.FrontReferenceIdeal.nD Cert.FrontReferenceIdeal.τ).loc Cert.FrontReferenceIdeal.main_arg19) = m ((c.tc : Thread Cert.FrontReferenceIdeal.nD Cert.FrontReferenceIdeal.τ).loc Cert.FrontReferenceIdeal.main_arg19)
      ∧ r.2.mem ((c.tc : Thread Cert.FrontReferenceIdeal.nD Cert.FrontReferenceIdeal.τ).loc Cert.FrontReferenceIdeal.main_arg20) = m ((c.tc : Thread Cert.FrontReferenceIdeal.nD Cert.FrontReferenceIdeal.τ).loc Cert.FrontReferenceIdeal.main_arg20)
      ∧ r.2.mem ((c.tc : Thread Cert.FrontReferenceIdeal.nD Cert.FrontReferenceIdeal.τ).loc Cert.FrontReferenceIdeal.main_arg21) = m ((c.tc : Thread Cert.FrontReferenceIdeal.nD Cert.FrontReferenceIdeal.τ).loc Cert.FrontReferenceIdeal.main_arg21))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3))
      ∧ r.2.sem = fun _ => 0)

def preserves_Kernel_KernelIdeal : Prop :=
  IdealRules.named_const.Statement Cert.KernelIdeal.κ "log2e_over_8" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Merge_MergeIdeal : Prop :=
  IdealRules.truncf_extf.Statement Cert.MergeIdeal.S512x256 .f32 .bf16

def algebraic_MergeIdeal_MergeReferenceIdeal_pre_scans_finite [hMergeIdeal : Cert.MergeIdeal.Facts] [hMergeReferenceIdeal : Cert.MergeReferenceIdeal.Facts] [hPre_scans_finite : Cert.Pre_scans_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal_scans_finite m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v16)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v91) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12))

def preserves_Front_FrontIdeal : Prop :=
  IdealRules.truncf_extf.Statement Cert.FrontIdeal.S256x256 .f32 .bf16
  ∧ IdealRules.truncf_extf.Statement Cert.FrontIdeal.S64x512 .f32 .bf16
  ∧ IdealRules.truncf_extf.Statement Cert.FrontIdeal.S64x256 .f32 .bf16

def algebraic_FrontIdeal_FrontReferenceIdeal [hFrontIdeal : Cert.FrontIdeal.Facts] [hFrontReferenceIdeal : Cert.FrontReferenceIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontReferenceIdeal.nD Cert.FrontReferenceIdeal.τ Cert.FrontReferenceIdeal.sig) → Buf (Elt Ideal) ℓ) (g' : Dev Cert.FrontReferenceIdeal.nD → PrngReg), Pre_FrontIdeal m →
    (∀ c : Dev Cert.FrontIdeal.nD,
      m' ((c.tc : Thread Cert.FrontReferenceIdeal.nD Cert.FrontReferenceIdeal.τ).loc Cert.FrontReferenceIdeal.main_arg0) = m ((c.tc : Thread Cert.FrontIdeal.nD Cert.FrontIdeal.τ).loc Cert.FrontIdeal.main_arg0)
      ∧ m' ((c.tc : Thread Cert.FrontReferenceIdeal.nD Cert.FrontReferenceIdeal.τ).loc Cert.FrontReferenceIdeal.main_arg1) = m ((c.tc : Thread Cert.FrontIdeal.nD Cert.FrontIdeal.τ).loc Cert.FrontIdeal.main_arg1)
      ∧ m' ((c.tc : Thread Cert.FrontReferenceIdeal.nD Cert.FrontReferenceIdeal.τ).loc Cert.FrontReferenceIdeal.main_arg2) = m ((c.tc : Thread Cert.FrontIdeal.nD Cert.FrontIdeal.τ).loc Cert.FrontIdeal.main_arg2)
      ∧ m' ((c.tc : Thread Cert.FrontReferenceIdeal.nD Cert.FrontReferenceIdeal.τ).loc Cert.FrontReferenceIdeal.main_arg3) = m ((c.tc : Thread Cert.FrontIdeal.nD Cert.FrontIdeal.τ).loc Cert.FrontIdeal.main_arg3)
      ∧ m' ((c.tc : Thread Cert.FrontReferenceIdeal.nD Cert.FrontReferenceIdeal.τ).loc Cert.FrontReferenceIdeal.main_arg4) = m ((c.tc : Thread Cert.FrontIdeal.nD Cert.FrontIdeal.τ).loc Cert.FrontIdeal.main_arg4)
      ∧ m' ((c.tc : Thread Cert.FrontReferenceIdeal.nD Cert.FrontReferenceIdeal.τ).loc Cert.FrontReferenceIdeal.main_arg5) = m ((c.tc : Thread Cert.FrontIdeal.nD Cert.FrontIdeal.τ).loc Cert.FrontIdeal.main_arg5)
      ∧ m' ((c.tc : Thread Cert.FrontReferenceIdeal.nD Cert.FrontReferenceIdeal.τ).loc Cert.FrontReferenceIdeal.main_arg6) = m ((c.tc : Thread Cert.FrontIdeal.nD Cert.FrontIdeal.τ).loc Cert.FrontIdeal.main_arg6)
      ∧ m' ((c.tc : Thread Cert.FrontReferenceIdeal.nD Cert.FrontReferenceIdeal.τ).loc Cert.FrontReferenceIdeal.main_arg7) = m ((c.tc : Thread Cert.FrontIdeal.nD Cert.FrontIdeal.τ).loc Cert.FrontIdeal.main_arg7)
      ∧ m' ((c.tc : Thread Cert.FrontReferenceIdeal.nD Cert.FrontReferenceIdeal.τ).loc Cert.FrontReferenceIdeal.main_arg8) = m ((c.tc : Thread Cert.FrontIdeal.nD Cert.FrontIdeal.τ).loc Cert.FrontIdeal.main_arg8)
      ∧ m' ((c.tc : Thread Cert.FrontReferenceIdeal.nD Cert.FrontReferenceIdeal.τ).loc Cert.FrontReferenceIdeal.main_arg9) = m ((c.tc : Thread Cert.FrontIdeal.nD Cert.FrontIdeal.τ).loc Cert.FrontIdeal.main_arg9)
      ∧ m' ((c.tc : Thread Cert.FrontReferenceIdeal.nD Cert.FrontReferenceIdeal.τ).loc Cert.FrontReferenceIdeal.main_arg10) = m ((c.tc : Thread Cert.FrontIdeal.nD Cert.FrontIdeal.τ).loc Cert.FrontIdeal.main_arg10)
      ∧ m' ((c.tc : Thread Cert.FrontReferenceIdeal.nD Cert.FrontReferenceIdeal.τ).loc Cert.FrontReferenceIdeal.main_arg11) = m ((c.tc : Thread Cert.FrontIdeal.nD Cert.FrontIdeal.τ).loc Cert.FrontIdeal.main_arg11)
      ∧ m' ((c.tc : Thread Cert.FrontReferenceIdeal.nD Cert.FrontReferenceIdeal.τ).loc Cert.FrontReferenceIdeal.main_arg12) = m ((c.tc : Thread Cert.FrontIdeal.nD Cert.FrontIdeal.τ).loc Cert.FrontIdeal.main_arg12)
      ∧ m' ((c.tc : Thread Cert.FrontReferenceIdeal.nD Cert.FrontReferenceIdeal.τ).loc Cert.FrontReferenceIdeal.main_arg13) = m ((c.tc : Thread Cert.FrontIdeal.nD Cert.FrontIdeal.τ).loc Cert.FrontIdeal.main_arg13)
      ∧ m' ((c.tc : Thread Cert.FrontReferenceIdeal.nD Cert.FrontReferenceIdeal.τ).loc Cert.FrontReferenceIdeal.main_arg14) = m ((c.tc : Thread Cert.FrontIdeal.nD Cert.FrontIdeal.τ).loc Cert.FrontIdeal.main_arg14)
      ∧ m' ((c.tc : Thread Cert.FrontReferenceIdeal.nD Cert.FrontReferenceIdeal.τ).loc Cert.FrontReferenceIdeal.main_arg15) = m ((c.tc : Thread Cert.FrontIdeal.nD Cert.FrontIdeal.τ).loc Cert.FrontIdeal.main_arg15)
      ∧ m' ((c.tc : Thread Cert.FrontReferenceIdeal.nD Cert.FrontReferenceIdeal.τ).loc Cert.FrontReferenceIdeal.main_arg16) = m ((c.tc : Thread Cert.FrontIdeal.nD Cert.FrontIdeal.τ).loc Cert.FrontIdeal.main_arg16)
      ∧ m' ((c.tc : Thread Cert.FrontReferenceIdeal.nD Cert.FrontReferenceIdeal.τ).loc Cert.FrontReferenceIdeal.main_arg17) = m ((c.tc : Thread Cert.FrontIdeal.nD Cert.FrontIdeal.τ).loc Cert.FrontIdeal.main_arg17)
      ∧ m' ((c.tc : Thread Cert.FrontReferenceIdeal.nD Cert.FrontReferenceIdeal.τ).loc Cert.FrontReferenceIdeal.main_arg18) = m ((c.tc : Thread Cert.FrontIdeal.nD Cert.FrontIdeal.τ).loc Cert.FrontIdeal.main_arg18)
      ∧ m' ((c.tc : Thread Cert.FrontReferenceIdeal.nD Cert.FrontReferenceIdeal.τ).loc Cert.FrontReferenceIdeal.main_arg19) = m ((c.tc : Thread Cert.FrontIdeal.nD Cert.FrontIdeal.τ).loc Cert.FrontIdeal.main_arg19)
      ∧ m' ((c.tc : Thread Cert.FrontReferenceIdeal.nD Cert.FrontReferenceIdeal.τ).loc Cert.FrontReferenceIdeal.main_arg20) = m ((c.tc : Thread Cert.FrontIdeal.nD Cert.FrontIdeal.τ).loc Cert.FrontIdeal.main_arg20)
      ∧ m' ((c.tc : Thread Cert.FrontReferenceIdeal.nD Cert.FrontReferenceIdeal.τ).loc Cert.FrontReferenceIdeal.main_arg21) = m ((c.tc : Thread Cert.FrontIdeal.nD Cert.FrontIdeal.τ).loc Cert.FrontIdeal.main_arg21)) →
    ∃ (v0 : (c : Dev Cert.FrontIdeal.nD) → Buf (Elt Ideal) ((c.tc : Thread Cert.FrontIdeal.nD Cert.FrontIdeal.τ).loc Cert.FrontIdeal.main_v62_0)) (v1 : (c : Dev Cert.FrontIdeal.nD) → Buf (Elt Ideal) ((c.tc : Thread Cert.FrontIdeal.nD Cert.FrontIdeal.τ).loc Cert.FrontIdeal.main_v62_1)) (v2 : (c : Dev Cert.FrontIdeal.nD) → Buf (Elt Ideal) ((c.tc : Thread Cert.FrontIdeal.nD Cert.FrontIdeal.τ).loc Cert.FrontIdeal.main_v62_2)) (v3 : (c : Dev Cert.FrontIdeal.nD) → Buf (Elt Ideal) ((c.tc : Thread Cert.FrontIdeal.nD Cert.FrontIdeal.τ).loc Cert.FrontIdeal.main_v62_3)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v62_0) = v0 c
          ∧ r.2.mem ((c.tc : Thread Cert.FrontIdeal.nD Cert.FrontIdeal.τ).loc Cert.FrontIdeal.main_v62_1) = v1 c
          ∧ r.2.mem ((c.tc : Thread Cert.FrontIdeal.nD Cert.FrontIdeal.τ).loc Cert.FrontIdeal.main_v62_2) = v2 c
          ∧ r.2.mem ((c.tc : Thread Cert.FrontIdeal.nD Cert.FrontIdeal.τ).loc Cert.FrontIdeal.main_v62_3) = v3 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
          ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
          ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
          ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
          ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11)
          ∧ r.2.mem ((c.tc : Thread Cert.FrontIdeal.nD Cert.FrontIdeal.τ).loc Cert.FrontIdeal.main_arg12) = m ((c.tc : Thread Cert.FrontIdeal.nD Cert.FrontIdeal.τ).loc Cert.FrontIdeal.main_arg12)
          ∧ r.2.mem ((c.tc : Thread Cert.FrontIdeal.nD Cert.FrontIdeal.τ).loc Cert.FrontIdeal.main_arg13) = m ((c.tc : Thread Cert.FrontIdeal.nD Cert.FrontIdeal.τ).loc Cert.FrontIdeal.main_arg13)
          ∧ r.2.mem ((c.tc : Thread Cert.FrontIdeal.nD Cert.FrontIdeal.τ).loc Cert.FrontIdeal.main_arg14) = m ((c.tc : Thread Cert.FrontIdeal.nD Cert.FrontIdeal.τ).loc Cert.FrontIdeal.main_arg14)
          ∧ r.2.mem ((c.tc : Thread Cert.FrontIdeal.nD Cert.FrontIdeal.τ).loc Cert.FrontIdeal.main_arg15) = m ((c.tc : Thread Cert.FrontIdeal.nD Cert.FrontIdeal.τ).loc Cert.FrontIdeal.main_arg15)
          ∧ r.2.mem ((c.tc : Thread Cert.FrontIdeal.nD Cert.FrontIdeal.τ).loc Cert.FrontIdeal.main_arg16) = m ((c.tc : Thread Cert.FrontIdeal.nD Cert.FrontIdeal.τ).loc Cert.FrontIdeal.main_arg16)
          ∧ r.2.mem ((c.tc : Thread Cert.FrontIdeal.nD Cert.FrontIdeal.τ).loc Cert.FrontIdeal.main_arg17) = m ((c.tc : Thread Cert.FrontIdeal.nD Cert.FrontIdeal.τ).loc Cert.FrontIdeal.main_arg17)
          ∧ r.2.mem ((c.tc : Thread Cert.FrontIdeal.nD Cert.FrontIdeal.τ).loc Cert.FrontIdeal.main_arg18) = m ((c.tc : Thread Cert.FrontIdeal.nD Cert.FrontIdeal.τ).loc Cert.FrontIdeal.main_arg18)
          ∧ r.2.mem ((c.tc : Thread Cert.FrontIdeal.nD Cert.FrontIdeal.τ).loc Cert.FrontIdeal.main_arg19) = m ((c.tc : Thread Cert.FrontIdeal.nD Cert.FrontIdeal.τ).loc Cert.FrontIdeal.main_arg19)
          ∧ r.2.mem ((c.tc : Thread Cert.FrontIdeal.nD Cert.FrontIdeal.τ).loc Cert.FrontIdeal.main_arg20) = m ((c.tc : Thread Cert.FrontIdeal.nD Cert.FrontIdeal.τ).loc Cert.FrontIdeal.main_arg20)
          ∧ r.2.mem ((c.tc : Thread Cert.FrontIdeal.nD Cert.FrontIdeal.τ).loc Cert.FrontIdeal.main_arg21) = m ((c.tc : Thread Cert.FrontIdeal.nD Cert.FrontIdeal.τ).loc Cert.FrontIdeal.main_arg21))
      ∧ θ_run (Cert.FrontReferenceIdeal.defs (F := Ideal)) (onTc (τ := Cert.FrontReferenceIdeal.τ) (Cert.FrontReferenceIdeal.main (F := Ideal))) ⟨m', fun _ => 0, g'⟩ (fun r => ∀ c : Dev Cert.FrontReferenceIdeal.nD,
          r.2.mem ((c.tc : Thread Cert.FrontReferenceIdeal.nD Cert.FrontReferenceIdeal.τ).loc Cert.FrontReferenceIdeal.main_v107) = v0 c
          ∧ r.2.mem ((c.tc : Thread Cert.FrontReferenceIdeal.nD Cert.FrontReferenceIdeal.τ).loc Cert.FrontReferenceIdeal.main_v162) = v1 c
          ∧ r.2.mem ((c.tc : Thread Cert.FrontReferenceIdeal.nD Cert.FrontReferenceIdeal.τ).loc Cert.FrontReferenceIdeal.main_v219) = v2 c
          ∧ r.2.mem ((c.tc : Thread Cert.FrontReferenceIdeal.nD Cert.FrontReferenceIdeal.τ).loc Cert.FrontReferenceIdeal.main_v221) = v3 c
          ∧ r.2.mem ((c.tc : Thread Cert.FrontReferenceIdeal.nD Cert.FrontReferenceIdeal.τ).loc Cert.FrontReferenceIdeal.main_arg0) = m' ((c.tc : Thread Cert.FrontReferenceIdeal.nD Cert.FrontReferenceIdeal.τ).loc Cert.FrontReferenceIdeal.main_arg0)
          ∧ r.2.mem ((c.tc : Thread Cert.FrontReferenceIdeal.nD Cert.FrontReferenceIdeal.τ).loc Cert.FrontReferenceIdeal.main_arg1) = m' ((c.tc : Thread Cert.FrontReferenceIdeal.nD Cert.FrontReferenceIdeal.τ).loc Cert.FrontReferenceIdeal.main_arg1)
          ∧ r.2.mem ((c.tc : Thread Cert.FrontReferenceIdeal.nD Cert.FrontReferenceIdeal.τ).loc Cert.FrontReferenceIdeal.main_arg2) = m' ((c.tc : Thread Cert.FrontReferenceIdeal.nD Cert.FrontReferenceIdeal.τ).loc Cert.FrontReferenceIdeal.main_arg2)
          ∧ r.2.mem ((c.tc : Thread Cert.FrontReferenceIdeal.nD Cert.FrontReferenceIdeal.τ).loc Cert.FrontReferenceIdeal.main_arg3) = m' ((c.tc : Thread Cert.FrontReferenceIdeal.nD Cert.FrontReferenceIdeal.τ).loc Cert.FrontReferenceIdeal.main_arg3)
          ∧ r.2.mem ((c.tc : Thread Cert.FrontReferenceIdeal.nD Cert.FrontReferenceIdeal.τ).loc Cert.FrontReferenceIdeal.main_arg4) = m' ((c.tc : Thread Cert.FrontReferenceIdeal.nD Cert.FrontReferenceIdeal.τ).loc Cert.FrontReferenceIdeal.main_arg4)
          ∧ r.2.mem ((c.tc : Thread Cert.FrontReferenceIdeal.nD Cert.FrontReferenceIdeal.τ).loc Cert.FrontReferenceIdeal.main_arg5) = m' ((c.tc : Thread Cert.FrontReferenceIdeal.nD Cert.FrontReferenceIdeal.τ).loc Cert.FrontReferenceIdeal.main_arg5)
          ∧ r.2.mem ((c.tc : Thread Cert.FrontReferenceIdeal.nD Cert.FrontReferenceIdeal.τ).loc Cert.FrontReferenceIdeal.main_arg6) = m' ((c.tc : Thread Cert.FrontReferenceIdeal.nD Cert.FrontReferenceIdeal.τ).loc Cert.FrontReferenceIdeal.main_arg6)
          ∧ r.2.mem ((c.tc : Thread Cert.FrontReferenceIdeal.nD Cert.FrontReferenceIdeal.τ).loc Cert.FrontReferenceIdeal.main_arg7) = m' ((c.tc : Thread Cert.FrontReferenceIdeal.nD Cert.FrontReferenceIdeal.τ).loc Cert.FrontReferenceIdeal.main_arg7)
          ∧ r.2.mem ((c.tc : Thread Cert.FrontReferenceIdeal.nD Cert.FrontReferenceIdeal.τ).loc Cert.FrontReferenceIdeal.main_arg8) = m' ((c.tc : Thread Cert.FrontReferenceIdeal.nD Cert.FrontReferenceIdeal.τ).loc Cert.FrontReferenceIdeal.main_arg8)
          ∧ r.2.mem ((c.tc : Thread Cert.FrontReferenceIdeal.nD Cert.FrontReferenceIdeal.τ).loc Cert.FrontReferenceIdeal.main_arg9) = m' ((c.tc : Thread Cert.FrontReferenceIdeal.nD Cert.FrontReferenceIdeal.τ).loc Cert.FrontReferenceIdeal.main_arg9)
          ∧ r.2.mem ((c.tc : Thread Cert.FrontReferenceIdeal.nD Cert.FrontReferenceIdeal.τ).loc Cert.FrontReferenceIdeal.main_arg10) = m' ((c.tc : Thread Cert.FrontReferenceIdeal.nD Cert.FrontReferenceIdeal.τ).loc Cert.FrontReferenceIdeal.main_arg10)
          ∧ r.2.mem ((c.tc : Thread Cert.FrontReferenceIdeal.nD Cert.FrontReferenceIdeal.τ).loc Cert.FrontReferenceIdeal.main_arg11) = m' ((c.tc : Thread Cert.FrontReferenceIdeal.nD Cert.FrontReferenceIdeal.τ).loc Cert.FrontReferenceIdeal.main_arg11)
          ∧ r.2.mem ((c.tc : Thread Cert.FrontReferenceIdeal.nD Cert.FrontReferenceIdeal.τ).loc Cert.FrontReferenceIdeal.main_arg12) = m' ((c.tc : Thread Cert.FrontReferenceIdeal.nD Cert.FrontReferenceIdeal.τ).loc Cert.FrontReferenceIdeal.main_arg12)
          ∧ r.2.mem ((c.tc : Thread Cert.FrontReferenceIdeal.nD Cert.FrontReferenceIdeal.τ).loc Cert.FrontReferenceIdeal.main_arg13) = m' ((c.tc : Thread Cert.FrontReferenceIdeal.nD Cert.FrontReferenceIdeal.τ).loc Cert.FrontReferenceIdeal.main_arg13)
          ∧ r.2.mem ((c.tc : Thread Cert.FrontReferenceIdeal.nD Cert.FrontReferenceIdeal.τ).loc Cert.FrontReferenceIdeal.main_arg14) = m' ((c.tc : Thread Cert.FrontReferenceIdeal.nD Cert.FrontReferenceIdeal.τ).loc Cert.FrontReferenceIdeal.main_arg14)
          ∧ r.2.mem ((c.tc : Thread Cert.FrontReferenceIdeal.nD Cert.FrontReferenceIdeal.τ).loc Cert.FrontReferenceIdeal.main_arg15) = m' ((c.tc : Thread Cert.FrontReferenceIdeal.nD Cert.FrontReferenceIdeal.τ).loc Cert.FrontReferenceIdeal.main_arg15)
          ∧ r.2.mem ((c.tc : Thread Cert.FrontReferenceIdeal.nD Cert.FrontReferenceIdeal.τ).loc Cert.FrontReferenceIdeal.main_arg16) = m' ((c.tc : Thread Cert.FrontReferenceIdeal.nD Cert.FrontReferenceIdeal.τ).loc Cert.FrontReferenceIdeal.main_arg16)
          ∧ r.2.mem ((c.tc : Thread Cert.FrontReferenceIdeal.nD Cert.FrontReferenceIdeal.τ).loc Cert.FrontReferenceIdeal.main_arg17) = m' ((c.tc : Thread Cert.FrontReferenceIdeal.nD Cert.FrontReferenceIdeal.τ).loc Cert.FrontReferenceIdeal.main_arg17)
          ∧ r.2.mem ((c.tc : Thread Cert.FrontReferenceIdeal.nD Cert.FrontReferenceIdeal.τ).loc Cert.FrontReferenceIdeal.main_arg18) = m' ((c.tc : Thread Cert.FrontReferenceIdeal.nD Cert.FrontReferenceIdeal.τ).loc Cert.FrontReferenceIdeal.main_arg18)
          ∧ r.2.mem ((c.tc : Thread Cert.FrontReferenceIdeal.nD Cert.FrontReferenceIdeal.τ).loc Cert.FrontReferenceIdeal.main_arg19) = m' ((c.tc : Thread Cert.FrontReferenceIdeal.nD Cert.FrontReferenceIdeal.τ).loc Cert.FrontReferenceIdeal.main_arg19)
          ∧ r.2.mem ((c.tc : Thread Cert.FrontReferenceIdeal.nD Cert.FrontReferenceIdeal.τ).loc Cert.FrontReferenceIdeal.main_arg20) = m' ((c.tc : Thread Cert.FrontReferenceIdeal.nD Cert.FrontReferenceIdeal.τ).loc Cert.FrontReferenceIdeal.main_arg20)
          ∧ r.2.mem ((c.tc : Thread Cert.FrontReferenceIdeal.nD Cert.FrontReferenceIdeal.τ).loc Cert.FrontReferenceIdeal.main_arg21) = m' ((c.tc : Thread Cert.FrontReferenceIdeal.nD Cert.FrontReferenceIdeal.τ).loc Cert.FrontReferenceIdeal.main_arg21))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)
      ∧ m' ((c.tc : Thread Cert.ModReferenceIdeal.nD Cert.ModReferenceIdeal.τ).loc Cert.ModReferenceIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v4)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v4) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v9) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hFront : Cert.Front.Facts) (hFrontIdeal : Cert.FrontIdeal.Facts) (hFrontReferenceIdeal : Cert.FrontReferenceIdeal.Facts) (hMod : Cert.Mod.Facts) (hModIdeal : Cert.ModIdeal.Facts) (hModReferenceIdeal : Cert.ModReferenceIdeal.Facts) (hPre_finite : Cert.Pre_finite.Facts) (hPre_scans_finite : Cert.Pre_scans_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeIdeal_pre_scans_finite (hMergeIdeal := hMergeIdeal) (hPre_scans_finite := hPre_scans_finite)
    ∧ quiescent_MergeReferenceIdeal (hMergeReferenceIdeal := hMergeReferenceIdeal)
    ∧ quiescent_MergeReferenceIdeal_pre_scans_finite (hMergeReferenceIdeal := hMergeReferenceIdeal) (hPre_scans_finite := hPre_scans_finite)
    ∧ quiescent_Front (hFront := hFront)
    ∧ quiescent_FrontIdeal (hFrontIdeal := hFrontIdeal)
    ∧ quiescent_FrontReferenceIdeal (hFrontReferenceIdeal := hFrontReferenceIdeal)
    ∧ quiescent_Mod (hMod := hMod)
    ∧ quiescent_ModIdeal (hModIdeal := hModIdeal)
    ∧ quiescent_ModReferenceIdeal (hModReferenceIdeal := hModReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal_pre_scans_finite (hMergeIdeal := hMergeIdeal) (hMergeReferenceIdeal := hMergeReferenceIdeal) (hPre_scans_finite := hPre_scans_finite)
    ∧ preserves_Front_FrontIdeal
    ∧ algebraic_FrontIdeal_FrontReferenceIdeal (hFrontIdeal := hFrontIdeal) (hFrontReferenceIdeal := hFrontReferenceIdeal)
    ∧ preserves_Mod_ModIdeal
    ∧ algebraic_ModIdeal_ModReferenceIdeal (hModIdeal := hModIdeal) (hModReferenceIdeal := hModReferenceIdeal)
-- ==== Pre_finite.lean ====
abbrev S4x256x4x2x64 : Shape := ⟨5, ![4, 256, 4, 2, 64]⟩
abbrev S4x4096x4x2x64 : Shape := ⟨5, ![4, 4096, 4, 2, 64]⟩
abbrev S4x256x4x128 : Shape := ⟨4, ![4, 256, 4, 128]⟩
abbrev S4x4096x4x128 : Shape := ⟨4, ![4, 4096, 4, 128]⟩
abbrev S4x64 : Shape := ⟨2, ![4, 64]⟩
abbrev S1x1 : Shape := ⟨2, ![1, 1]⟩
abbrev S128 : Shape := ⟨1, ![128]⟩
abbrev S64 : Shape := ⟨1, ![64]⟩
abbrev S_ : Shape := ⟨0, ![]⟩

class Facts : Prop where
  bcast_S_S4x256x4x2x64 : S_.BroadcastsInDim S4x256x4x2x64 (![] : Fin 0 → Fin S4x256x4x2x64.rank)
  reducesTo_S4x256x4x2x64_S_d0_1_2_3_4 : S4x256x4x2x64.ReducesTo [0, 1, 2, 3, 4] S_
  h_S_ : 0 < S_.numel
  bcast_S_S4x4096x4x2x64 : S_.BroadcastsInDim S4x4096x4x2x64 (![] : Fin 0 → Fin S4x4096x4x2x64.rank)
  reducesTo_S4x4096x4x2x64_S_d0_1_2_3_4 : S4x4096x4x2x64.ReducesTo [0, 1, 2, 3, 4] S_
  bcast_S_S4x256x4x128 : S_.BroadcastsInDim S4x256x4x128 (![] : Fin 0 → Fin S4x256x4x128.rank)
  reducesTo_S4x256x4x128_S_d0_1_2_3 : S4x256x4x128.ReducesTo [0, 1, 2, 3] S_
  bcast_S_S4x4096x4x128 : S_.BroadcastsInDim S4x4096x4x128 (![] : Fin 0 → Fin S4x4096x4x128.rank)
  reducesTo_S4x4096x4x128_S_d0_1_2_3 : S4x4096x4x128.ReducesTo [0, 1, 2, 3] S_
  bcast_S_S4x64 : S_.BroadcastsInDim S4x64 (![] : Fin 0 → Fin S4x64.rank)
  reducesTo_S4x64_S_d0_1 : S4x64.ReducesTo [0, 1] S_
  bcast_S_S1x1 : S_.BroadcastsInDim S1x1 (![] : Fin 0 → Fin S1x1.rank)
  reducesTo_S1x1_S_d0_1 : S1x1.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S4x256x4x128 .f32) (main_arg5 : FVec F S4x4096x4x128 .f32) (main_arg6 : FVec F S4x64 .f32) (main_arg7 : FVec F S1x1 .f32) (main_v3 : IVec S_ 1) (main_v7 : IVec S_ 1) (main_v11 : IVec S_ 1) (main_v15 : IVec S_ 1) : IVec S_ 1 :=
  let main_v16 : FVec F S4x256x4x128 .f32 := Host.absf main_arg4
  let main_cst_6 : FVec F S_ .f32 := constant S_ .f32 0x7F800000#32
  let main_v17 : FVec F S4x256x4x128 .f32 := broadcastInDim S4x256x4x128 ![] bcast_S_S4x256x4x128 main_cst_6
  let main_v18 : IVec S4x256x4x128 1 := cmpf .olt main_v16 main_v17
  let main_c_7 : IVec S_ 1 := constantI S_ 1 1#1
  let main_v19 : IVec S_ 1 := (fun x v => Host.reduce IntOp.andi x v reducesTo_S4x256x4x128_S_d0_1_2_3 h_S_) main_v18 main_c_7
  let main_v20 : FVec F S4x4096x4x128 .f32 := Host.absf main_arg5
  let main_cst_8 : FVec F S_ .f32 := constant S_ .f32 0x7F800000#32
  let main_v21 : FVec F S4x4096x4x128 .f32 := broadcastInDim S4x4096x4x128 ![] bcast_S_S4x4096x4x128 main_cst_8
  let main_v22 : IVec S4x4096x4x128 1 := cmpf .olt main_v20 main_v21
  let main_c_9 : IVec S_ 1 := constantI S_ 1 1#1
  let main_v23 : IVec S_ 1 := (fun x v => Host.reduce IntOp.andi x v reducesTo_S4x4096x4x128_S_d0_1_2_3 h_S_) main_v22 main_c_9
  let main_v24 : FVec F S4x64 .f32 := Host.absf main_arg6
  let main_cst_10 : FVec F S_ .f32 := constant S_ .f32 0x7F800000#32
  let main_v25 : FVec F S4x64 .f32 := broadcastInDim S4x64 ![] bcast_S_S4x64 main_cst_10
  let main_v26 : IVec S4x64 1 := cmpf .olt main_v24 main_v25
  let main_c_11 : IVec S_ 1 := constantI S_ 1 1#1
  let main_v27 : IVec S_ 1 := (fun x v => Host.reduce IntOp.andi x v reducesTo_S4x64_S_d0_1 h_S_) main_v26 main_c_11
  let main_v28 : FVec F S1x1 .f32 := Host.absf main_arg7
  let main_cst_12 : FVec F S_ .f32 := constant S_ .f32 0x7F800000#32
  let main_v29 : FVec F S1x1 .f32 := broadcastInDim S1x1 ![] bcast_S_S1x1 main_cst_12
  let main_v30 : IVec S1x1 1 := cmpf .olt main_v28 main_v29
  let main_c_13 : IVec S_ 1 := constantI S_ 1 1#1
  let main_v31 : IVec S_ 1 := (fun x v => Host.reduce IntOp.andi x v reducesTo_S1x1_S_d0_1 h_S_) main_v30 main_c_13
  fn_part2 (F := F) main_v3 main_v7 main_v11 main_v15 main_v19 main_v23 main_v27 main_v31

def fn {F : FTy → Type} [FloatOps F] (main_arg0 : FVec F S4x256x4x2x64 .f32) (main_arg1 : FVec F S4x4096x4x2x64 .f32) (main_arg2 : FVec F S4x256x4x2x64 .f32) (main_arg3 : FVec F S4x4096x4x2x64 .f32) (main_arg4 : FVec F S4x256x4x128 .f32) (main_arg5 : FVec F S4x4096x4x128 .f32) (main_arg6 : FVec F S4x64 .f32) (main_arg7 : FVec F S1x1 .f32) (main_arg8 : FVec F S128 .f32) (main_arg9 : FVec F S64 .f32) (main_arg10 : FVec F S64 .f32) : IVec S_ 1 :=
  let main_v0 : FVec F S4x256x4x2x64 .f32 := Host.absf main_arg0
  let main_cst : FVec F S_ .f32 := constant S_ .f32 0x7F800000#32
  let main_v1 : FVec F S4x256x4x2x64 .f32 := broadcastInDim S4x256x4x2x64 ![] bcast_S_S4x256x4x2x64 main_cst
  let main_v2 : IVec S4x256x4x2x64 1 := cmpf .olt main_v0 main_v1
  let main_c : IVec S_ 1 := constantI S_ 1 1#1
  let main_v3 : IVec S_ 1 := (fun x v => Host.reduce IntOp.andi x v reducesTo_S4x256x4x2x64_S_d0_1_2_3_4 h_S_) main_v2 main_c
  let main_v4 : FVec F S4x4096x4x2x64 .f32 := Host.absf main_arg1
  let main_cst_0 : FVec F S_ .f32 := constant S_ .f32 0x7F800000#32
  let main_v5 : FVec F S4x4096x4x2x64 .f32 := broadcastInDim S4x4096x4x2x64 ![] bcast_S_S4x4096x4x2x64 main_cst_0
  let main_v6 : IVec S4x4096x4x2x64 1 := cmpf .olt main_v4 main_v5
  let main_c_1 : IVec S_ 1 := constantI S_ 1 1#1
  let main_v7 : IVec S_ 1 := (fun x v => Host.reduce IntOp.andi x v reducesTo_S4x4096x4x2x64_S_d0_1_2_3_4 h_S_) main_v6 main_c_1
  let main_v8 : FVec F S4x256x4x2x64 .f32 := Host.absf main_arg2
  let main_cst_2 : FVec F S_ .f32 := constant S_ .f32 0x7F800000#32
  let main_v9 : FVec F S4x256x4x2x64 .f32 := broadcastInDim S4x256x4x2x64 ![] bcast_S_S4x256x4x2x64 main_cst_2
  let main_v10 : IVec S4x256x4x2x64 1 := cmpf .olt main_v8 main_v9
  let main_c_3 : IVec S_ 1 := constantI S_ 1 1#1
  let main_v11 : IVec S_ 1 := (fun x v => Host.reduce IntOp.andi x v reducesTo_S4x256x4x2x64_S_d0_1_2_3_4 h_S_) main_v10 main_c_3
  let main_v12 : FVec F S4x4096x4x2x64 .f32 := Host.absf main_arg3
  let main_cst_4 : FVec F S_ .f32 := constant S_ .f32 0x7F800000#32
  let main_v13 : FVec F S4x4096x4x2x64 .f32 := broadcastInDim S4x4096x4x2x64 ![] bcast_S_S4x4096x4x2x64 main_cst_4
  let main_v14 : IVec S4x4096x4x2x64 1 := cmpf .olt main_v12 main_v13
  let main_c_5 : IVec S_ 1 := constantI S_ 1 1#1
  let main_v15 : IVec S_ 1 := (fun x v => Host.reduce IntOp.andi x v reducesTo_S4x4096x4x2x64_S_d0_1_2_3_4 h_S_) main_v14 main_c_5
  fn_part1 (F := F) main_arg4 main_arg5 main_arg6 main_arg7 main_v3 main_v7 main_v11 main_v15
-- ==== Pre_scans_finite.lean ====
abbrev S17408x1024 : Shape := ⟨2, ![17408, 1024]⟩
abbrev S8x3x1024 : Shape := ⟨3, ![8, 3, 1024]⟩
abbrev S1024 : Shape := ⟨1, ![1024]⟩
abbrev S1024x8960 : Shape := ⟨2, ![1024, 8960]⟩
abbrev S17408x512 : Shape := ⟨2, ![17408, 512]⟩
abbrev S512 : Shape := ⟨1, ![512]⟩
abbrev S3x512x1024 : Shape := ⟨3, ![3, 512, 1024]⟩
abbrev S1024x1024 : Shape := ⟨2, ![1024, 1024]⟩
abbrev S_ : Shape := ⟨0, ![]⟩

class Facts : Prop where
  bcast_S_S17408x512 : S_.BroadcastsInDim S17408x512 (![] : Fin 0 → Fin S17408x512.rank)
  reducesTo_S17408x512_S_d0_1 : S17408x512.ReducesTo [0, 1] S_
  h_S_ : 0 < S_.numel

variable [Facts]

def fn {F : FTy → Type} [FloatOps F] (main_arg0 : FVec F S17408x1024 .f32) (main_arg1 : FVec F S8x3x1024 .f32) (main_arg2 : FVec F S1024 .f32) (main_arg3 : FVec F S1024x8960 .f32) (main_arg4 : FVec F S17408x512 .f32) (main_arg5 : FVec F S17408x512 .f32) (main_arg6 : FVec F S17408x512 .f32) (main_arg7 : FVec F S17408x512 .f32) (main_arg8 : FVec F S17408x512 .f32) (main_arg9 : FVec F S512 .f32) (main_arg10 : FVec F S512 .f32) (main_arg11 : FVec F S3x512x1024 .f32) (main_arg12 : FVec F S1024x1024 .f32) : IVec S_ 1 :=
  let main_v0 : FVec F S17408x512 .f32 := Host.absf main_arg6
  let main_cst : FVec F S_ .f32 := constant S_ .f32 0x7F800000#32
  let main_v1 : FVec F S17408x512 .f32 := broadcastInDim S17408x512 ![] bcast_S_S17408x512 main_cst
  let main_v2 : IVec S17408x512 1 := cmpf .olt main_v0 main_v1
  let main_c : IVec S_ 1 := constantI S_ 1 1#1
  let main_v3 : IVec S_ 1 := (fun x v => Host.reduce IntOp.andi x v reducesTo_S17408x512_S_d0_1 h_S_) main_v2 main_c
  let main_v4 : FVec F S17408x512 .f32 := Host.absf main_arg7
  let main_cst_0 : FVec F S_ .f32 := constant S_ .f32 0x7F800000#32
  let main_v5 : FVec F S17408x512 .f32 := broadcastInDim S17408x512 ![] bcast_S_S17408x512 main_cst_0
  let main_v6 : IVec S17408x512 1 := cmpf .olt main_v4 main_v5
  let main_c_1 : IVec S_ 1 := constantI S_ 1 1#1
  let main_v7 : IVec S_ 1 := (fun x v => Host.reduce IntOp.andi x v reducesTo_S17408x512_S_d0_1 h_S_) main_v6 main_c_1
  let main_v8 : IVec S_ 1 := andi main_v3 main_v7
  main_v8
-- ==== Kernel.lean ====
abbrev S4x256x4x2x64 : Shape := ⟨5, ![4, 256, 4, 2, 64]⟩
abbrev S4x4096x4x2x64 : Shape := ⟨5, ![4, 4096, 4, 2, 64]⟩
abbrev S4x256x4x128 : Shape := ⟨4, ![4, 256, 4, 128]⟩
abbrev S4x4096x4x128 : Shape := ⟨4, ![4, 4096, 4, 128]⟩
abbrev S4x64 : Shape := ⟨2, ![4, 64]⟩
abbrev S1x1 : Shape := ⟨2, ![1, 1]⟩
abbrev S128 : Shape := ⟨1, ![128]⟩
abbrev S64 : Shape := ⟨1, ![64]⟩
abbrev S4x4352x4x2x64 : Shape := ⟨5, ![4, 4352, 4, 2, 64]⟩
abbrev S17408x512 : Shape := ⟨2, ![17408, 512]⟩
abbrev S512x17408 : Shape := ⟨2, ![512, 17408]⟩
abbrev S4x4352x4x128 : Shape := ⟨4, ![4, 4352, 4, 128]⟩
abbrev S1x128 : Shape := ⟨2, ![1, 128]⟩
abbrev S1x64 : Shape := ⟨2, ![1, 64]⟩
abbrev S256x512 : Shape := ⟨2, ![256, 512]⟩
abbrev S512x4352 : Shape := ⟨2, ![512, 4352]⟩
abbrev S4352x512 : Shape := ⟨2, ![4352, 512]⟩
abbrev S4352x1024 : Shape := ⟨2, ![4352, 1024]⟩
abbrev S4352x128 : Shape := ⟨2, ![4352, 128]⟩
abbrev S1 : Shape := ⟨1, ![1]⟩
abbrev S256x64 : Shape := ⟨2, ![256, 64]⟩
abbrev S64x256 : Shape := ⟨2, ![64, 256]⟩
abbrev S256x256 : Shape := ⟨2, ![256, 256]⟩
abbrev S256x128 : Shape := ⟨2, ![256, 128]⟩
abbrev S256x1 : Shape := ⟨2, ![256, 1]⟩
abbrev S256 : Shape := ⟨1, ![256]⟩
abbrev S64x4352 : Shape := ⟨2, ![64, 4352]⟩
abbrev S256x4352 : Shape := ⟨2, ![256, 4352]⟩
abbrev S4352x256 : Shape := ⟨2, ![4352, 256]⟩

abbrev nBuf : Space → Nat
  | .hbm => 24
  | .vmem => 12
  | .smem => 0
  | _ => 0

abbrev bufTy : (tb : Table) → Fin (tcTables nBuf tb) → BufTy
  | .hbm, ⟨0, _⟩ => ⟨S4x256x4x2x64, .f32⟩
  | .hbm, ⟨1, _⟩ => ⟨S4x4096x4x2x64, .f32⟩
  | .hbm, ⟨2, _⟩ => ⟨S4x256x4x2x64, .f32⟩
  | .hbm, ⟨3, _⟩ => ⟨S4x4096x4x2x64, .f32⟩
  | .hbm, ⟨4, _⟩ => ⟨S4x256x4x128, .f32⟩
  | .hbm, ⟨5, _⟩ => ⟨S4x4096x4x128, .f32⟩
  | .hbm, ⟨6, _⟩ => ⟨S4x64, .f32⟩
  | .hbm, ⟨7, _⟩ => ⟨S1x1, .f32⟩
  | .hbm, ⟨8, _⟩ => ⟨S128, .f32⟩
  | .hbm, ⟨9, _⟩ => ⟨S64, .f32⟩
  | .hbm, ⟨10, _⟩ => ⟨S64, .f32⟩
  | .hbm, ⟨11, _⟩ => ⟨S4x4352x4x2x64, .f32⟩
  | .hbm, ⟨12, _⟩ => ⟨S17408x512, .f32⟩
  | .hbm, ⟨13, _⟩ => ⟨S4x4352x4x2x64, .f32⟩
  | .hbm, ⟨14, _⟩ => ⟨S17408x512, .f32⟩
  | .hbm, ⟨15, _⟩ => ⟨S512x17408, .f32⟩
  | .hbm, ⟨16, _⟩ => ⟨S512x17408, .bf16⟩
  | .hbm, ⟨17, _⟩ => ⟨S4x4352x4x128, .f32⟩
  | .hbm, ⟨18, _⟩ => ⟨S17408x512, .f32⟩
  | .hbm, ⟨19, _⟩ => ⟨S17408x512, .bf16⟩
  | .hbm, ⟨20, _⟩ => ⟨S1x128, .f32⟩
  | .hbm, ⟨21, _⟩ => ⟨S1x64, .f32⟩
  | .hbm, ⟨22, _⟩ => ⟨S1x64, .f32⟩
  | .hbm, ⟨23, _⟩ => ⟨S17408x512, .f32⟩
  | .local _ .vmem, ⟨0, _⟩ => ⟨S256x512, .f32⟩
  | .local _ .vmem, ⟨1, _⟩ => ⟨S256x512, .f32⟩
  | .local _ .vmem, ⟨2, _⟩ => ⟨S512x4352, .bf16⟩
  | .local _ .vmem, ⟨3, _⟩ => ⟨S4352x512, .bf16⟩
  | .local _ .vmem, ⟨4, _⟩ => ⟨S4x64, .f32⟩
  | .local _ .vmem, ⟨5, _⟩ => ⟨S1x1, .f32⟩
  | .local _ .vmem, ⟨6, _⟩ => ⟨S1x128, .f32⟩
  | .local _ .vmem, ⟨7, _⟩ => ⟨S1x64, .f32⟩
  | .local _ .vmem, ⟨8, _⟩ => ⟨S1x64, .f32⟩
  | .local _ .vmem, ⟨9, _⟩ => ⟨S256x512, .f32⟩
  | .local _ .vmem, ⟨10, _⟩ => ⟨S256x512, .f32⟩
  | .local _ .vmem, ⟨11, _⟩ => ⟨S4352x1024, .bf16⟩
  | _, _ => ⟨S4x256x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨3, ![4, 1, 17], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  ![v1.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S512x4352 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S4352x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "log2e_over_8" => some (((8 * (Real.log 2))⁻¹ : ℝ) : EReal)
  | _ => none
-- ==== ReferenceIdeal.lean ====
abbrev S4x256x4x2x64 : Shape := ⟨5, ![4, 256, 4, 2, 64]⟩
abbrev S4x4096x4x2x64 : Shape := ⟨5, ![4, 4096, 4, 2, 64]⟩
abbrev S4x256x4x128 : Shape := ⟨4, ![4, 256, 4, 128]⟩
abbrev S4x4096x4x128 : Shape := ⟨4, ![4, 4096, 4, 128]⟩
abbrev S4x64 : Shape := ⟨2, ![4, 64]⟩
abbrev S1x1 : Shape := ⟨2, ![1, 1]⟩
abbrev S128 : Shape := ⟨1, ![128]⟩
abbrev S64 : Shape := ⟨1, ![64]⟩
abbrev S_ : Shape := ⟨0, ![]⟩
abbrev S1x64 : Shape := ⟨2, ![1, 64]⟩
abbrev S4x4x2x256x256 : Shape := ⟨5, ![4, 4, 2, 256, 256]⟩
abbrev S4x4x2x256 : Shape := ⟨4, ![4, 4, 2, 256]⟩
abbrev S4x4x2x256x1 : Shape := ⟨5, ![4, 4, 2, 256, 1]⟩
abbrev S4x4x1x256x256 : Shape := ⟨5, ![4, 4, 1, 256, 256]⟩
abbrev S4x4x256x256 : Shape := ⟨4, ![4, 4, 256, 256]⟩
abbrev S4x4x128x256 : Shape := ⟨4, ![4, 4, 128, 256]⟩
abbrev S4x256x4 : Shape := ⟨3, ![4, 256, 4]⟩
abbrev S4x256x4x1 : Shape := ⟨4, ![4, 256, 4, 1]⟩
abbrev S1x1x1x128 : Shape := ⟨4, ![1, 1, 1, 128]⟩
abbrev S4x4352x4x2x64 : Shape := ⟨5, ![4, 4352, 4, 2, 64]⟩
abbrev S4x4352x4x128 : Shape := ⟨4, ![4, 4352, 4, 128]⟩
abbrev S4x4x2x4096x4352 : Shape := ⟨5, ![4, 4, 2, 4096, 4352]⟩
abbrev S4x4x2x4096 : Shape := ⟨4, ![4, 4, 2, 4096]⟩
abbrev S4x4x2x4096x1 : Shape := ⟨5, ![4, 4, 2, 4096, 1]⟩
abbrev S4x4x1x4096x4352 : Shape := ⟨5, ![4, 4, 1, 4096, 4352]⟩
abbrev S4x4x4096x4352 : Shape := ⟨4, ![4, 4, 4096, 4352]⟩
abbrev S4x4x128x4096 : Shape := ⟨4, ![4, 4, 128, 4096]⟩
abbrev S4x4096x4 : Shape := ⟨3, ![4, 4096, 4]⟩
abbrev S4x4096x4x1 : Shape := ⟨4, ![4, 4096, 4, 1]⟩
abbrev S17408x512 : Shape := ⟨2, ![17408, 512]⟩

abbrev nBuf : Space → Nat
  | .hbm => 128
  | .vmem => 0
  | .smem => 0
  | _ => 0

abbrev bufTy : (tb : Table) → Fin (tcTables nBuf tb) → BufTy
  | .hbm, ⟨0, _⟩ => ⟨S4x256x4x2x64, .f32⟩
  | .hbm, ⟨1, _⟩ => ⟨S4x4096x4x2x64, .f32⟩
  | .hbm, ⟨2, _⟩ => ⟨S4x256x4x2x64, .f32⟩
  | .hbm, ⟨3, _⟩ => ⟨S4x4096x4x2x64, .f32⟩
  | .hbm, ⟨4, _⟩ => ⟨S4x256x4x128, .f32⟩
  | .hbm, ⟨5, _⟩ => ⟨S4x4096x4x128, .f32⟩
  | .hbm, ⟨6, _⟩ => ⟨S4x64, .f32⟩
  | .hbm, ⟨7, _⟩ => ⟨S1x1, .f32⟩
  | .hbm, ⟨8, _⟩ => ⟨S128, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4x4x2x256x256, .f32⟩
  | .hbm, ⟨31, _⟩ => ⟨S_, .f32⟩
  | .hbm, ⟨32, _⟩ => ⟨S4x4x2x256x256, .f32⟩
  | .hbm, ⟨33, _⟩ => ⟨S4x4x2x256x256, .f32⟩
  | .hbm, ⟨34, _⟩ => ⟨S_, .f32⟩
  | .hbm, ⟨35, _⟩ => ⟨S4x4x2x256, .f32⟩
  | .hbm, ⟨36, _⟩ => ⟨S_, .f32⟩
  | .hbm, ⟨37, _⟩ => ⟨S4x4x2x256, .f32⟩
  | .hbm, ⟨38, _⟩ => ⟨S4x4x2x256, .f32⟩
  | .hbm, ⟨39, _⟩ => ⟨S4x4x2x256x1, .f32⟩
  | .hbm, ⟨40, _⟩ => ⟨S4x4x2x256x256, .f32⟩
  | .hbm, ⟨41, _⟩ => ⟨S4x4x2x256x256, .f32⟩
  | .hbm, ⟨42, _⟩ => ⟨S4x4x2x256x256, .f32⟩
  | .hbm, ⟨43, _⟩ => ⟨S_, .f32⟩
  | .hbm, ⟨44, _⟩ => ⟨S4x4x2x256, .f32⟩
  | .hbm, ⟨45, _⟩ => ⟨S4x4x2x256x1, .f32⟩
  | .hbm, ⟨46, _⟩ => ⟨S4x4x2x256x256, .f32⟩
  | .hbm, ⟨47, _⟩ => ⟨S4x4x2x256x256, .f32⟩
  | .hbm, ⟨48, _⟩ => ⟨S4x4x1x256x256, .f32⟩
  | .hbm, ⟨49, _⟩ => ⟨S4x4x256x256, .f32⟩
  | .hbm, ⟨50, _⟩ => ⟨S4x4x1x256x256, .f32⟩
  | .hbm, ⟨51, _⟩ => ⟨S4x4x256x256, .f32⟩
  | .hbm, ⟨52, _⟩ => ⟨S4x4x256x256, .f32⟩
  | .hbm, ⟨53, _⟩ => ⟨S4x4x256x256, .f32⟩
  | .hbm, ⟨54, _⟩ => ⟨S4x4x256x256, .f32⟩
  | .hbm, ⟨55, _⟩ => ⟨S4x4x128x256, .f32⟩
  | .hbm, ⟨56, _⟩ => ⟨S4x256x4x128, .f32⟩
  | .hbm, ⟨57, _⟩ => ⟨S4x256x4x128, .f32⟩
  | .hbm, ⟨58, _⟩ => ⟨S_, .f32⟩
  | .hbm, ⟨59, _⟩ => ⟨S4x256x4, .f32⟩
  | .hbm, ⟨60, _⟩ => ⟨S4x256x4x1, .f32⟩
  | .hbm, ⟨61, _⟩ => ⟨S_, .f32⟩
  | .hbm, ⟨62, _⟩ => ⟨S4x256x4x1, .f32⟩
  | .hbm, ⟨63, _⟩ => ⟨S4x256x4x1, .f32⟩
  | .hbm, ⟨64, _⟩ => ⟨S_, .f32⟩
  | .hbm, ⟨65, _⟩ => ⟨S4x256x4x1, .f32⟩
  | .hbm, ⟨66, _⟩ => ⟨S4x256x4x1, .f32⟩
  | .hbm, ⟨67, _⟩ => ⟨S4x256x4x1, .f32⟩
  | .hbm, ⟨68, _⟩ => ⟨S4x256x4x128, .f32⟩
  | .hbm, ⟨69, _⟩ => ⟨S4x256x4x128, .f32⟩
  | .hbm, ⟨70, _⟩ => ⟨S1x1x1x128, .f32⟩
  | .hbm, ⟨71, _⟩ => ⟨S4x256x4x128, .f32⟩
  | .hbm, ⟨72, _⟩ => ⟨S4x256x4x128, .f32⟩
  | .hbm, ⟨73, _⟩ => ⟨S_, .f32⟩
  | .hbm, ⟨74, _⟩ => ⟨S_, .f32⟩
  | .hbm, ⟨75, _⟩ => ⟨S4x256x4x128, .f32⟩
  | .hbm, ⟨76, _⟩ => ⟨S4x256x4x128, .f32⟩
  | .hbm, ⟨77, _⟩ => ⟨S4x4352x4x2x64, .f32⟩
  | .hbm, ⟨78, _⟩ => ⟨S4x4352x4x128, .f32⟩
  | .hbm, ⟨79, _⟩ => ⟨S4x4x2x4096x4352, .f32⟩
  | .hbm, ⟨80, _⟩ => ⟨S_, .f32⟩
  | .hbm, ⟨81, _⟩ => ⟨S4x4x2x4096x4352, .f32⟩
  | .hbm, ⟨82, _⟩ => ⟨S4x4x2x4096x4352, .f32⟩
  | .hbm, ⟨83, _⟩ => ⟨S_, .f32⟩
  | .hbm, ⟨84, _⟩ => ⟨S4x4x2x4096, .f32⟩
  | .hbm, ⟨85, _⟩ => ⟨S_, .f32⟩
  | .hbm, ⟨86, _⟩ => ⟨S4x4x2x4096, .f32⟩
  | .hbm, ⟨87, _⟩ => ⟨S4x4x2x4096, .f32⟩
  | .hbm, ⟨88, _⟩ => ⟨S4x4x2x4096x1, .f32⟩
  | .hbm, ⟨89, _⟩ => ⟨S4x4x2x4096x4352, .f32⟩
  | .hbm, ⟨90, _⟩ => ⟨S4x4x2x4096x4352, .f32⟩
  | .hbm, ⟨91, _⟩ => ⟨S4x4x2x4096x4352, .f32⟩
  | .hbm, ⟨92, _⟩ => ⟨S_, .f32⟩
  | .hbm, ⟨93, _⟩ => ⟨S4x4x2x4096, .f32⟩
  | .hbm, ⟨94, _⟩ => ⟨S4x4x2x4096x1, .f32⟩
  | .hbm, ⟨95, _⟩ => ⟨S4x4x2x4096x4352, .f32⟩
  | .hbm, ⟨96, _⟩ => ⟨S4x4x2x4096x4352, .f32⟩
  | .hbm, ⟨97, _⟩ => ⟨S4x4x1x4096x4352, .f32⟩
  | .hbm, ⟨98, _⟩ => ⟨S4x4x4096x4352, .f32⟩
  | .hbm, ⟨99, _⟩ => ⟨S4x4x1x4096x4352, .f32⟩
  | .hbm, ⟨100, _⟩ => ⟨S4x4x4096x4352, .f32⟩
  | .hbm, ⟨101, _⟩ => ⟨S4x4x4096x4352, .f32⟩
  | .hbm, ⟨102, _⟩ => ⟨S4x4x4096x4352, .f32⟩
  | .hbm, ⟨103, _⟩ => ⟨S4x4x4096x4352, .f32⟩
  | .hbm, ⟨104, _⟩ => ⟨S4x4x128x4096, .f32⟩
  | .hbm, ⟨105, _⟩ => ⟨S4x4096x4x128, .f32⟩
  | .hbm, ⟨106, _⟩ => ⟨S4x4096x4x128, .f32⟩
  | .hbm, ⟨107, _⟩ => ⟨S_, .f32⟩
  | .hbm, ⟨108, _⟩ => ⟨S4x4096x4, .f32⟩
  | .hbm, ⟨109, _⟩ => ⟨S4x4096x4x1, .f32⟩
  | .hbm, ⟨110, _⟩ => ⟨S_, .f32⟩
  | .hbm, ⟨111, _⟩ => ⟨S4x4096x4x1, .f32⟩
  | .hbm, ⟨112, _⟩ => ⟨S4x4096x4x1, .f32⟩
  | .hbm, ⟨113, _⟩ => ⟨S_, .f32⟩
  | .hbm, ⟨114, _⟩ => ⟨S4x4096x4x1, .f32⟩
  | .hbm, ⟨115, _⟩ => ⟨S4x4096x4x1, .f32⟩
  | .hbm, ⟨116, _⟩ => ⟨S4x4096x4x1, .f32⟩
  | .hbm, ⟨117, _⟩ => ⟨S4x4096x4x128, .f32⟩
  | .hbm, ⟨118, _⟩ => ⟨S4x4096x4x128, .f32⟩
  | .hbm, ⟨119, _⟩ => ⟨S1x1x1x128, .f32⟩
  | .hbm, ⟨120, _⟩ => ⟨S4x4096x4x128, .f32⟩
  | .hbm, ⟨121, _⟩ => ⟨S4x4096x4x128, .f32⟩
  | .hbm, ⟨122, _⟩ => ⟨S_, .f32⟩
  | .hbm, ⟨123, _⟩ => ⟨S_, .f32⟩
  | .hbm, ⟨124, _⟩ => ⟨S4x4096x4x128, .f32⟩
  | .hbm, ⟨125, _⟩ => ⟨S4x4096x4x128, .f32⟩
  | .hbm, ⟨126, _⟩ => ⟨S4x4352x4x128, .f32⟩
  | .hbm, ⟨127, _⟩ => ⟨S17408x512, .f32⟩
  | _, _ => ⟨S4x256x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_13 : Ref sig .tc := ⟨.hbm, 107, rfl⟩
abbrev main_v82 : Ref sig .tc := ⟨.hbm, 108, rfl⟩
abbrev main_v83 : Ref sig .tc := ⟨.hbm, 109, rfl⟩
abbrev main_cst_14 : Ref sig .tc := ⟨.hbm, 110, rfl⟩
abbrev main_v84 : Ref sig .tc := ⟨.hbm, 111, rfl⟩
abbrev main_v85 : Ref sig .tc := ⟨.hbm, 112, rfl⟩
abbrev main_cst_15 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_16 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩

abbrev nD : Nat := 1
abbrev τ : Topo := Topo.v7x

variable {F : FTy → Type} [FloatOps F]
-- ==== Merge.lean ====
abbrev S17408x1024 : Shape := ⟨2, ![17408, 1024]⟩
abbrev S8x3x1024 : Shape := ⟨3, ![8, 3, 1024]⟩
abbrev S1024 : Shape := ⟨1, ![1024]⟩
abbrev S1024x8960 : Shape := ⟨2, ![1024, 8960]⟩
abbrev S17408x512 : Shape := ⟨2, ![17408, 512]⟩
abbrev S512 : Shape := ⟨1, ![512]⟩
abbrev S3x512x1024 : Shape := ⟨3, ![3, 512, 1024]⟩
abbrev S1024x1024 : Shape := ⟨2, ![1024, 1024]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S1024x4096 : Shape := ⟨2, ![1024, 4096]⟩
abbrev S1x1024 : Shape := ⟨2, ![1, 1024]⟩
abbrev S1x512 : Shape := ⟨2, ![1, 512]⟩
abbrev S512x1024 : Shape := ⟨2, ![512, 1024]⟩
abbrev S512x512 : Shape := ⟨2, ![512, 512]⟩
abbrev S1x3x1024 : Shape := ⟨3, ![1, 3, 1024]⟩
abbrev S256x1024 : Shape := ⟨2, ![256, 1024]⟩
abbrev S3x1024 : Shape := ⟨2, ![3, 1024]⟩
abbrev S512x4096 : Shape := ⟨2, ![512, 4096]⟩
abbrev S512x256 : Shape := ⟨2, ![512, 256]⟩
abbrev S1x512x1024 : Shape := ⟨3, ![1, 512, 1024]⟩

abbrev nBuf : Space → Nat
  | .hbm => 64
  | .vmem => 25
  | .smem => 0
  | _ => 0

abbrev bufTy : (tb : Table) → Fin (tcTables nBuf tb) → BufTy
  | .hbm, ⟨0, _⟩ => ⟨S17408x1024, .f32⟩
  | .hbm, ⟨1, _⟩ => ⟨S8x3x1024, .f32⟩
  | .hbm, ⟨2, _⟩ => ⟨S1024, .f32⟩
  | .hbm, ⟨3, _⟩ => ⟨S1024x8960, .f32⟩
  | .hbm, ⟨4, _⟩ => ⟨S17408x512, .f32⟩
  | .hbm, ⟨5, _⟩ => ⟨S17408x512, .f32⟩
  | .hbm, ⟨6, _⟩ => ⟨S17408x512, .f32⟩
  | .hbm, ⟨7, _⟩ => ⟨S17408x512, .f32⟩
  | .hbm, ⟨8, _⟩ => ⟨S17408x512, .f32⟩
  | .hbm, ⟨9, _⟩ => ⟨S512, .f32⟩
  | .hbm, ⟨10, _⟩ => ⟨S512, .f32⟩
  | .hbm, ⟨11, _⟩ => ⟨S3x512x1024, .f32⟩
  | .hbm, ⟨12, _⟩ => ⟨S1024x1024, .f32⟩
  | .hbm, ⟨13, _⟩ => ⟨S256, .i32⟩
  | .hbm, ⟨14, _⟩ => ⟨S256x1, .i32⟩
  | .hbm, ⟨15, _⟩ => ⟨S_, .i32⟩
  | .hbm, ⟨16, _⟩ => ⟨S_, .i32⟩
  | .hbm, ⟨17, _⟩ => ⟨S256x1, .i32⟩
  | .hbm, ⟨18, _⟩ => ⟨S256x1, .i32⟩
  | .hbm, ⟨19, _⟩ => ⟨S256x1, .i32⟩
  | .hbm, ⟨20, _⟩ => ⟨S_, .i32⟩
  | .hbm, ⟨21, _⟩ => ⟨S256x1, .i32⟩
  | .hbm, ⟨22, _⟩ => ⟨S256x1, .i1⟩
  | .hbm, ⟨23, _⟩ => ⟨S256x1, .i32⟩
  | .hbm, ⟨24, _⟩ => ⟨S256x1, .i32⟩
  | .hbm, ⟨25, _⟩ => ⟨S_, .i32⟩
  | .hbm, ⟨26, _⟩ => ⟨S256x1, .i32⟩
  | .hbm, ⟨27, _⟩ => ⟨S256x1, .i1⟩
  | .hbm, ⟨28, _⟩ => ⟨S256x1, .i1⟩
  | .hbm, ⟨29, _⟩ => ⟨S_, .i32⟩
  | .hbm, ⟨30, _⟩ => ⟨S256x1, .i32⟩
  | .hbm, ⟨31, _⟩ => ⟨S256x1, .i32⟩
  | .hbm, ⟨32, _⟩ => ⟨S256x1, .i32⟩
  | .hbm, ⟨33, _⟩ => ⟨S1x256, .i32⟩
  | .hbm, ⟨34, _⟩ => ⟨S_, .i32⟩
  | .hbm, ⟨35, _⟩ => ⟨S_, .i32⟩
  | .hbm, ⟨36, _⟩ => ⟨S1x256, .i32⟩
  | .hbm, ⟨37, _⟩ => ⟨S1x256, .i32⟩
  | .hbm, ⟨38, _⟩ => ⟨S1x256, .i32⟩
  | .hbm, ⟨39, _⟩ => ⟨S_, .i32⟩
  | .hbm, ⟨40, _⟩ => ⟨S1x256, .i32⟩
  | .hbm, ⟨41, _⟩ => ⟨S1x256, .i1⟩
  | .hbm, ⟨42, _⟩ => ⟨S1x256, .i32⟩
  | .hbm, ⟨43, _⟩ => ⟨S1x256, .i32⟩
  | .hbm, ⟨44, _⟩ => ⟨S_, .i32⟩
  | .hbm, ⟨45, _⟩ => ⟨S1x256, .i32⟩
  | .hbm, ⟨46, _⟩ => ⟨S1x256, .i1⟩
  | .hbm, ⟨47, _⟩ => ⟨S1x256, .i1⟩
  | .hbm, ⟨48, _⟩ => ⟨S_, .i32⟩
  | .hbm, ⟨49, _⟩ => ⟨S1x256, .i32⟩
  | .hbm, ⟨50, _⟩ => ⟨S1x256, .i32⟩
  | .hbm, ⟨51, _⟩ => ⟨S1x256, .i32⟩
  | .hbm, ⟨52, _⟩ => ⟨S256x256, .i32⟩
  | .hbm, ⟨53, _⟩ => ⟨S256x256, .i32⟩
  | .hbm, ⟨54, _⟩ => ⟨S256x256, .i1⟩
  | .hbm, ⟨55, _⟩ => ⟨S256x256, .bf16⟩
  | .hbm, ⟨56, _⟩ => ⟨S1024x8960, .bf16⟩
  | .hbm, ⟨57, _⟩ => ⟨S1024x4096, .bf16⟩
  | .hbm, ⟨58, _⟩ => ⟨S3x512x1024, .bf16⟩
  | .hbm, ⟨59, _⟩ => ⟨S1024x1024, .bf16⟩
  | .hbm, ⟨60, _⟩ => ⟨S1x1024, .f32⟩
  | .hbm, ⟨61, _⟩ => ⟨S1x512, .f32⟩
  | .hbm, ⟨62, _⟩ => ⟨S1x512, .f32⟩
  | .hbm, ⟨63, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S1024x4096, .bf16⟩
  | .local _ .vmem, ⟨14, _⟩ => ⟨S3x512x1024, .bf16⟩
  | .local _ .vmem, ⟨15, _⟩ => ⟨S1024x1024, .bf16⟩
  | .local _ .vmem, ⟨16, _⟩ => ⟨S1x512, .f32⟩
  | .local _ .vmem, ⟨17, _⟩ => ⟨S1x512, .f32⟩
  | .local _ .vmem, ⟨18, _⟩ => ⟨S256x256, .bf16⟩
  | .local _ .vmem, ⟨19, _⟩ => ⟨S1x3x1024, .f32⟩
  | .local _ .vmem, ⟨20, _⟩ => ⟨S1x3x1024, .f32⟩
  | .local _ .vmem, ⟨21, _⟩ => ⟨S1x3x1024, .f32⟩
  | .local _ .vmem, ⟨22, _⟩ => ⟨S1x3x1024, .f32⟩
  | .local _ .vmem, ⟨23, _⟩ => ⟨S512x1024, .f32⟩
  | .local _ .vmem, ⟨24, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v2 : Ref sig .tc := ⟨.hbm, 32, rfl⟩
abbrev main_v3 : Ref sig .tc := ⟨.hbm, 33, rfl⟩
abbrev main_c_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c17_i32 : BitVec 32 := 17#32
  let c0_i32_0 : BitVec 32 := 0#32
  let v2 : BitVec 1 := Scalar.cmpi .eq c17_i32 c0_i32_0
  let c1_i32 : BitVec 32 := 1#32
  let v3 : BitVec 32 := Scalar.select v2 c1_i32 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 1 := Scalar.cmpi .slt v11 c1_i32_4
  let c17_i32_5 : BitVec 32 := 17#32
  let v13 : BitVec 32 := Scalar.divsi v1 c17_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c17_i32_5 c0_i32_8
  let v20 : BitVec 32 := Scalar.extui v19
  let c0_i32_9 : BitVec 32 := 0#32
  let v21 : BitVec 1 := Scalar.cmpi .slt c17_i32_5 c0_i32_9
  let v22 : BitVec 32 := Scalar.extui v21
  let v23 : BitVec 32 := Scalar.subi v20 v22
  let v24 : BitVec 1 := Scalar.cmpi .ne v18 v23
  let v25 : BitVec 32 := Scalar.remsi v1 c17_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c4_i32 : BitVec 32 := 4#32
  let v30 : BitVec 32 := Scalar.select v12 c4_i32 v29
  let c0_i32_12 : BitVec 32 := 0#32
  let c0_i32_13 : BitVec 32 := 0#32
  let c0_i32_14 : BitVec 32 := 0#32
  ![v30.toNat, c0_i32_12.toNat, c0_i32_13.toNat]

def cc0_transform_14 (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c17_i32 : BitVec 32 := 17#32
  let c0_i32 : BitVec 32 := 0#32
  let v2 : BitVec 1 := Scalar.cmpi .eq c17_i32 c0_i32
  let c1_i32_0 : BitVec 32 := 1#32
  let v3 : BitVec 32 := Scalar.select v2 c1_i32_0 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 1 := Scalar.cmpi .slt v11 c1_i32_4
  let c17_i32_5 : BitVec 32 := 17#32
  let v13 : BitVec 32 := Scalar.divsi v1 c17_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c17_i32_5 c0_i32_8
  let v20 : BitVec 32 := Scalar.extui v19
  let c0_i32_9 : BitVec 32 := 0#32
  let v21 : BitVec 1 := Scalar.cmpi .slt c17_i32_5 c0_i32_9
  let v22 : BitVec 32 := Scalar.extui v21
  let v23 : BitVec 32 := Scalar.subi v20 v22
  let v24 : BitVec 1 := Scalar.cmpi .ne v18 v23
  let v25 : BitVec 32 := Scalar.remsi v1 c17_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c4_i32 : BitVec 32 := 4#32
  let v30 : BitVec 32 := Scalar.select v12 c4_i32 v29
  let c0_i32_12 : BitVec 32 := 0#32
  let c0_i32_13 : BitVec 32 := 0#32
  let c0_i32_14 : BitVec 32 := 0#32
  ![v30.toNat, c0_i32_12.toNat, c0_i32_13.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x3x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x3x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeReferenceIdeal.lean ====
abbrev S17408x1024 : Shape := ⟨2, ![17408, 1024]⟩
abbrev S8x3x1024 : Shape := ⟨3, ![8, 3, 1024]⟩
abbrev S1024 : Shape := ⟨1, ![1024]⟩
abbrev S1024x8960 : Shape := ⟨2, ![1024, 8960]⟩
abbrev S17408x512 : Shape := ⟨2, ![17408, 512]⟩
abbrev S512 : Shape := ⟨1, ![512]⟩
abbrev S3x512x1024 : Shape := ⟨3, ![3, 512, 1024]⟩
abbrev S1024x1024 : Shape := ⟨2, ![1024, 1024]⟩
abbrev S4x4352x1024 : Shape := ⟨3, ![4, 4352, 1024]⟩
abbrev S4x4352x512 : Shape := ⟨3, ![4, 4352, 512]⟩
abbrev S1x3x1024 : Shape := ⟨3, ![1, 3, 1024]⟩
abbrev S3x1024 : Shape := ⟨2, ![3, 1024]⟩
abbrev S4x256x3x1024 : Shape := ⟨4, ![4, 256, 3, 1024]⟩
abbrev S4x3x1024 : Shape := ⟨3, ![4, 3, 1024]⟩
abbrev S4x1x3x1024 : Shape := ⟨4, ![4, 1, 3, 1024]⟩
abbrev S4x4096x3x1024 : Shape := ⟨4, ![4, 4096, 3, 1024]⟩
abbrev S4x4352x3x1024 : Shape := ⟨4, ![4, 4352, 3, 1024]⟩
abbrev S4x4352x1x1024 : Shape := ⟨4, ![4, 4352, 1, 1024]⟩
abbrev S_ : Shape := ⟨0, ![]⟩
abbrev S4x4352 : Shape := ⟨2, ![4, 4352]⟩
abbrev S4x4352x1 : Shape := ⟨3, ![4, 4352, 1]⟩
abbrev S1x1x1024 : Shape := ⟨3, ![1, 1, 1024]⟩
abbrev S1024x4096 : Shape := ⟨2, ![1024, 4096]⟩
abbrev S4x4352x4096 : Shape := ⟨3, ![4, 4352, 4096]⟩
abbrev S4x4352x3072 : Shape := ⟨3, ![4, 4352, 3072]⟩
abbrev S4x4352x8x64 : Shape := ⟨4, ![4, 4352, 8, 64]⟩
abbrev S4x4352x8 : Shape := ⟨3, ![4, 4352, 8]⟩
abbrev S4x4352x8x1 : Shape := ⟨4, ![4, 4352, 8, 1]⟩
abbrev S1x1x512 : Shape := ⟨3, ![1, 1, 512]⟩
abbrev S4x4352x1x512 : Shape := ⟨4, ![4, 4352, 1, 512]⟩
abbrev S4x4352x3x512 : Shape := ⟨4, ![4, 4352, 3, 512]⟩
abbrev S3x1024x4x4352 : Shape := ⟨4, ![3, 1024, 4, 4352]⟩

abbrev nBuf : Space → Nat
  | .hbm => 133
  | .vmem => 0
  | .smem => 0
  | _ => 0

abbrev hbmTy0_0 (i : Nat) : BufTy := match i % 128 with
  | 0 => ⟨S17408x1024, .f32⟩
  | 1 => ⟨S8x3x1024, .f32⟩
  | 2 => ⟨S1024, .f32⟩
  | 3 => ⟨S1024x8960, .f32⟩
  | 4 => ⟨S17408x512, .f32⟩
  | 5 => ⟨S17408x512, .f32⟩
  | 6 => ⟨S17408x512, .f32⟩
  | 7 => ⟨S17408x512, .f32⟩
  | 8 => ⟨S17408x512, .f32⟩
  | 9 => ⟨S512, .f32⟩
  | 10 => ⟨S512, .f32⟩
  | 11 => ⟨S3x512x1024, .f32⟩
  | 12 => ⟨S1024x1024, .f32⟩
  | 13 => ⟨S4x4352x1024, .f32⟩
  | 14 => ⟨S4x4352x512, .f32⟩
  | 15 => ⟨S4x4352x512, .f32⟩
  | 16 => ⟨S4x4352x512, .f32⟩
  | 17 => ⟨S4x4352x512, .f32⟩
  | 18 => ⟨S4x4352x512, .f32⟩
  | 19 => ⟨S1x3x1024, .f32⟩
  | 20 => ⟨S3x1024, .f32⟩
  | 21 => ⟨S4x256x3x1024, .f32⟩
  | 22 => ⟨S4x3x1024, .f32⟩
  | 23 => ⟨S4x1x3x1024, .f32⟩
  | 24 => ⟨S4x4096x3x1024, .f32⟩
  | 25 => ⟨S4x4352x3x1024, .f32⟩
  | 26 => ⟨S4x4352x1x1024, .f32⟩
  | 27 => ⟨S4x4352x1024, .f32⟩
  | 28 => ⟨S4x4352x1x1024, .f32⟩
  | 29 => ⟨S4x4352x1024, .f32⟩
  | 30 => ⟨S4x4352x1x1024, .f32⟩
  | 31 => ⟨S4x4352x1024, .f32⟩
  | 32 => ⟨S4x4352x1024, .f32⟩
  | 33 => ⟨S_, .f32⟩
  | 34 => ⟨S4x4352, .f32⟩
  | 35 => ⟨S4x4352x1, .f32⟩
  | 36 => ⟨S_, .f32⟩
  | 37 => ⟨S4x4352x1, .f32⟩
  | 38 => ⟨S4x4352x1, .f32⟩
  | 39 => ⟨S_, .f32⟩
  | 40 => ⟨S4x4352x1, .f32⟩
  | 41 => ⟨S4x4352x1, .f32⟩
  | 42 => ⟨S4x4352x1, .f32⟩
  | 43 => ⟨S4x4352x1024, .f32⟩
  | 44 => ⟨S4x4352x1024, .f32⟩
  | 45 => ⟨S1x1x1024, .f32⟩
  | 46 => ⟨S4x4352x1024, .f32⟩
  | 47 => ⟨S4x4352x1024, .f32⟩
  | 48 => ⟨S_, .f32⟩
  | 49 => ⟨S4x4352x1024, .f32⟩
  | 50 => ⟨S4x4352x1024, .f32⟩
  | 51 => ⟨S4x4352x1024, .f32⟩
  | 52 => ⟨S4x4352x1024, .f32⟩
  | 53 => ⟨S1024x4096, .f32⟩
  | 54 => ⟨S4x4352x4096, .f32⟩
  | 55 => ⟨S4x4352x512, .f32⟩
  | 56 => ⟨S4x4352x512, .f32⟩
  | 57 => ⟨S4x4352x3072, .f32⟩
  | 58 => ⟨S4x4352x512, .f32⟩
  | 59 => ⟨S4x4352x8x64, .f32⟩
  | 60 => ⟨S_, .f32⟩
  | 61 => ⟨S4x4352x8, .f32⟩
  | 62 => ⟨S4x4352x8x1, .f32⟩
  | 63 => ⟨S_, .f32⟩
  | 64 => ⟨S4x4352x8x1, .f32⟩
  | 65 => ⟨S4x4352x8x1, .f32⟩
  | 66 => ⟨S4x4352x8x64, .f32⟩
  | 67 => ⟨S4x4352x8x64, .f32⟩
  | 68 => ⟨S4x4352x8x64, .f32⟩
  | 69 => ⟨S_, .f32⟩
  | 70 => ⟨S4x4352x8, .f32⟩
  | 71 => ⟨S4x4352x8x1, .f32⟩
  | 72 => ⟨S_, .f32⟩
  | 73 => ⟨S4x4352x8x1, .f32⟩
  | 74 => ⟨S4x4352x8x1, .f32⟩
  | 75 => ⟨S4x4352x8x64, .f32⟩
  | 76 => ⟨S4x4352x8x64, .f32⟩
  | 77 => ⟨S_, .f32⟩
  | 78 => ⟨S4x4352x8x1, .f32⟩
  | 79 => ⟨S4x4352x8x1, .f32⟩
  | 80 => ⟨S4x4352x8x1, .f32⟩
  | 81 => ⟨S4x4352x8x64, .f32⟩
  | 82 => ⟨S4x4352x8x64, .f32⟩
  | 83 => ⟨S4x4352x512, .f32⟩
  | 84 => ⟨S1x1x512, .f32⟩
  | 85 => ⟨S4x4352x512, .f32⟩
  | 86 => ⟨S4x4352x512, .f32⟩
  | 87 => ⟨S1x1x512, .f32⟩
  | 88 => ⟨S4x4352x512, .f32⟩
  | 89 => ⟨S4x4352x512, .f32⟩
  | 90 => ⟨S4x4352x512, .f32⟩
  | 91 => ⟨S4x4352x512, .f32⟩
  | 92 => ⟨S4x4352x512, .f32⟩
  | 93 => ⟨S_, .f32⟩
  | 94 => ⟨S4x4352x512, .f32⟩
  | 95 => ⟨S4x4352x512, .f32⟩
  | 96 => ⟨S_, .f32⟩
  | 97 => ⟨S4x4352x512, .f32⟩
  | 98 => ⟨S4x4352x512, .f32⟩
  | 99 => ⟨S4x4352x512, .f32⟩
  | 100 => ⟨S4x4352x512, .f32⟩
  | 101 => ⟨S4x4352x512, .f32⟩
  | 102 => ⟨S4x4352x512, .f32⟩
  | 103 => ⟨S_, .f32⟩
  | 104 => ⟨S4x4352x512, .f32⟩
  | 105 => ⟨S4x4352x512, .f32⟩
  | 106 => ⟨S_, .f32⟩
  | 107 => ⟨S4x4352x512, .f32⟩
  | 108 => ⟨S4x4352x512, .f32⟩
  | 109 => ⟨S4x4352x512, .f32⟩
  | 110 => ⟨S4x4352x512, .f32⟩
  | 111 => ⟨S4x4352x1x512, .f32⟩
  | 112 => ⟨S4x4352x1x512, .f32⟩
  | 113 => ⟨S4x4352x1x512, .f32⟩
  | 114 => ⟨S4x4352x3x512, .f32⟩
  | 115 => ⟨S3x1024x4x4352, .f32⟩
  | 116 => ⟨S4x4352x3x1024, .f32⟩
  | 117 => ⟨S4x4352x3x1024, .f32⟩
  | 118 => ⟨S4x4352x3x1024, .f32⟩
  | 119 => ⟨S4x4352x3x1024, .f32⟩
  | 120 => ⟨S_, .f32⟩
  | 121 => ⟨S4x4352x3x1024, .f32⟩
  | 122 => ⟨S4x4352x3x1024, .f32⟩
  | 123 => ⟨S_, .f32⟩
  | 124 => ⟨S4x4352x3x1024, .f32⟩
  | 125 => ⟨S4x4352x3x1024, .f32⟩
  | 126 => ⟨S4x4352x3x1024, .f32⟩
  | 127 => ⟨S_, .f32⟩
  | _ => ⟨S17408x1024, .f32⟩

abbrev hbmTy0_1 (i : Nat) : BufTy := match i % 128 with
  | 0 => ⟨S4x4352x1024, .f32⟩
  | 1 => ⟨S4x4352x1024, .f32⟩
  | 2 => ⟨S4x4352x1024, .f32⟩
  | 3 => ⟨S4x4352x1024, .f32⟩
  | 4 => ⟨S17408x1024, .f32⟩
  | _ => ⟨S17408x1024, .f32⟩

abbrev hbmTy (i : Nat) : BufTy := match i / 128 with
  | 0 => hbmTy0_0 i
  | 1 => hbmTy0_1 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_cst_4 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_v51 : Ref sig .tc := ⟨.hbm, 71, rfl⟩
abbrev main_cst_6 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_call0_v0 : Ref sig .tc := ⟨.hbm, 91, rfl⟩
abbrev main_call0_v1 : Ref sig .tc := ⟨.hbm, 92, rfl⟩
abbrev main_call0_cst : Ref sig .tc := ⟨.hbm, 93, rfl⟩
abbrev main_call0_v2 : Ref sig .tc := ⟨.hbm, 94, rfl⟩
abbrev main_call0_v3 : Ref sig .tc := ⟨.hbm, 95, rfl⟩
abbrev main_call0_cst_0 : Ref sig .tc := ⟨.hbm, 96, rfl⟩
abbrev main_call0_v4 : Ref sig .tc := ⟨.hbm, 97, rfl⟩
abbrev main_call0_v5 : Ref sig .tc := ⟨.hbm, 98, rfl⟩
abbrev main_v69 : Ref sig .tc := ⟨.hbm, 99, rfl⟩
abbrev main_v70 : Ref sig .tc := ⟨.hbm, 100, rfl⟩
abbrev main_call1_v0 : Ref sig .tc := ⟨.hbm, 101, rfl⟩
abbrev main_call1_v1 : Ref sig .tc := ⟨.hbm, 102, rfl⟩
abbrev main_call1_cst : Ref sig .tc := ⟨.hbm, 103, rfl⟩
abbrev main_call1_v2 : Ref sig .tc := ⟨.hbm, 104, rfl⟩
abbrev main_call1_v3 : Ref sig .tc := ⟨.hbm, 105, rfl⟩
abbrev main_call1_cst_0 : Ref sig .tc := ⟨.hbm, 106, rfl⟩
abbrev main_call1_v4 : Ref sig .tc := ⟨.hbm, 107, rfl⟩
abbrev main_call1_v5 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_8 : Ref sig .tc := ⟨.hbm, 120, rfl⟩
abbrev main_v82 : Ref sig .tc := ⟨.hbm, 121, rfl⟩
abbrev main_v83 : Ref sig .tc := ⟨.hbm, 122, rfl⟩
abbrev main_cst_9 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_10 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩

abbrev nD : Nat := 1
abbrev τ : Topo := Topo.v7x

variable {F : FTy → Type} [FloatOps F]
-- ==== Front.lean ====
abbrev S17408x1024 : Shape := ⟨2, ![17408, 1024]⟩
abbrev S8x3x1024 : Shape := ⟨3, ![8, 3, 1024]⟩
abbrev S1024 : Shape := ⟨1, ![1024]⟩
abbrev S1024x8960 : Shape := ⟨2, ![1024, 8960]⟩
abbrev S512 : Shape := ⟨1, ![512]⟩
abbrev S4x128x128 : Shape := ⟨3, ![4, 128, 128]⟩
abbrev S4x128 : Shape := ⟨2, ![4, 128]⟩
abbrev S64 : Shape := ⟨1, ![64]⟩
abbrev S4096x16 : Shape := ⟨2, ![4096, 16]⟩
abbrev S3x3x512 : Shape := ⟨3, ![3, 3, 512]⟩
abbrev S2x512 : Shape := ⟨2, ![2, 512]⟩
abbrev S2x64x512 : Shape := ⟨3, ![2, 64, 512]⟩
abbrev S8x64 : Shape := ⟨2, ![8, 64]⟩
abbrev S4096x64 : Shape := ⟨2, ![4096, 64]⟩
abbrev S_ : Shape := ⟨0, ![]⟩
abbrev S256x64 : Shape := ⟨2, ![256, 64]⟩
abbrev S4352x64 : Shape := ⟨2, ![4352, 64]⟩
abbrev S4352x128 : Shape := ⟨2, ![4352, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x512 : Shape := ⟨2, ![1, 512]⟩
abbrev S128x4 : Shape := ⟨2, ![128, 4]⟩
abbrev S1x64 : Shape := ⟨2, ![1, 64]⟩
abbrev S1x64x512 : Shape := ⟨3, ![1, 64, 512]⟩
abbrev S64x512 : Shape := ⟨2, ![64, 512]⟩
abbrev S64x1024 : Shape := ⟨2, ![64, 1024]⟩
abbrev S128x1024 : Shape := ⟨2, ![128, 1024]⟩
abbrev S1x1024 : Shape := ⟨2, ![1, 1024]⟩
abbrev S1024x4864 : Shape := ⟨2, ![1024, 4864]⟩
abbrev S1x1024x4864 : Shape := ⟨3, ![1, 1024, 4864]⟩
abbrev S17408x512 : Shape := ⟨2, ![17408, 512]⟩
abbrev S512x17408 : Shape := ⟨2, ![512, 17408]⟩
abbrev S2x17408x4096 : Shape := ⟨3, ![2, 17408, 4096]⟩
abbrev S2x2176x512 : Shape := ⟨3, ![2, 2176, 512]⟩
abbrev S256x1024 : Shape := ⟨2, ![256, 1024]⟩
abbrev S16x1024 : Shape := ⟨2, ![16, 1024]⟩
abbrev S1x3x1024 : Shape := ⟨3, ![1, 3, 1024]⟩
abbrev S256x128 : Shape := ⟨2, ![256, 128]⟩
abbrev S256x512 : Shape := ⟨2, ![256, 512]⟩
abbrev S512x256 : Shape := ⟨2, ![512, 256]⟩
abbrev S2x256x4096 : Shape := ⟨3, ![2, 256, 4096]⟩
abbrev S2x32x512 : Shape := ⟨3, ![2, 32, 512]⟩
abbrev S3x1024 : Shape := ⟨2, ![3, 1024]⟩
abbrev S16 : Shape := ⟨1, ![16]⟩
abbrev S16x1 : Shape := ⟨2, ![16, 1]⟩
abbrev S288x1024 : Shape := ⟨2, ![288, 1024]⟩
abbrev S288x4864 : Shape := ⟨2, ![288, 4864]⟩
abbrev S256x4864 : Shape := ⟨2, ![256, 4864]⟩
abbrev S128x128 : Shape := ⟨2, ![128, 128]⟩
abbrev S1x128x128 : Shape := ⟨3, ![1, 128, 128]⟩
abbrev S128x1 : Shape := ⟨2, ![128, 1]⟩
abbrev S128x512 : Shape := ⟨2, ![128, 512]⟩
abbrev S1x3x512 : Shape := ⟨3, ![1, 3, 512]⟩
abbrev S3x512 : Shape := ⟨2, ![3, 512]⟩
abbrev S64x64 : Shape := ⟨2, ![64, 64]⟩
abbrev S64x256 : Shape := ⟨2, ![64, 256]⟩
abbrev S8x512 : Shape := ⟨2, ![8, 512]⟩
abbrev S1x8x512 : Shape := ⟨3, ![1, 8, 512]⟩
abbrev S128x256 : Shape := ⟨2, ![128, 256]⟩
abbrev S1x64x256 : Shape := ⟨3, ![1, 64, 256]⟩

abbrev nBuf : Space → Nat
  | .hbm => 129
  | .vmem => 43
  | .smem => 0
  | _ => 0

abbrev hbmTy0_0 (i : Nat) : BufTy := match i % 128 with
  | 0 => ⟨S17408x1024, .f32⟩
  | 1 => ⟨S8x3x1024, .f32⟩
  | 2 => ⟨S1024, .f32⟩
  | 3 => ⟨S1024x8960, .f32⟩
  | 4 => ⟨S512, .f32⟩
  | 5 => ⟨S512, .f32⟩
  | 6 => ⟨S4x128x128, .f32⟩
  | 7 => ⟨S4x128, .f32⟩
  | 8 => ⟨S64, .f32⟩
  | 9 => ⟨S64, .f32⟩
  | 10 => ⟨S4096x16, .f32⟩
  | 11 => ⟨S4096x16, .f32⟩
  | 12 => ⟨S4096x16, .f32⟩
  | 13 => ⟨S4096x16, .f32⟩
  | 14 => ⟨S3x3x512, .f32⟩
  | 15 => ⟨S2x512, .f32⟩
  | 16 => ⟨S2x64x512, .f32⟩
  | 17 => ⟨S2x512, .f32⟩
  | 18 => ⟨S2x64x512, .f32⟩
  | 19 => ⟨S512, .f32⟩
  | 20 => ⟨S512, .f32⟩
  | 21 => ⟨S8x64, .f32⟩
  | 22 => ⟨S4096x64, .f32⟩
  | 23 => ⟨S_, .f32⟩
  | 24 => ⟨S256x64, .f32⟩
  | 25 => ⟨S4352x64, .f32⟩
  | 26 => ⟨S4352x128, .f32⟩
  | 27 => ⟨S4096x16, .f32⟩
  | 28 => ⟨S4096x16, .f32⟩
  | 29 => ⟨S4096x64, .f32⟩
  | 30 => ⟨S_, .f32⟩
  | 31 => ⟨S256x64, .f32⟩
  | 32 => ⟨S4352x64, .f32⟩
  | 33 => ⟨S4352x128, .f32⟩
  | 34 => ⟨S256, .i32⟩
  | 35 => ⟨S256x1, .i32⟩
  | 36 => ⟨S_, .i32⟩
  | 37 => ⟨S_, .i32⟩
  | 38 => ⟨S256x1, .i32⟩
  | 39 => ⟨S256x1, .i32⟩
  | 40 => ⟨S256x1, .i32⟩
  | 41 => ⟨S_, .i32⟩
  | 42 => ⟨S256x1, .i32⟩
  | 43 => ⟨S256x1, .i1⟩
  | 44 => ⟨S256x1, .i32⟩
  | 45 => ⟨S256x1, .i32⟩
  | 46 => ⟨S_, .i32⟩
  | 47 => ⟨S256x1, .i32⟩
  | 48 => ⟨S256x1, .i1⟩
  | 49 => ⟨S256x1, .i1⟩
  | 50 => ⟨S_, .i32⟩
  | 51 => ⟨S256x1, .i32⟩
  | 52 => ⟨S256x1, .i32⟩
  | 53 => ⟨S256x1, .i32⟩
  | 54 => ⟨S1x256, .i32⟩
  | 55 => ⟨S_, .i32⟩
  | 56 => ⟨S_, .i32⟩
  | 57 => ⟨S1x256, .i32⟩
  | 58 => ⟨S1x256, .i32⟩
  | 59 => ⟨S1x256, .i32⟩
  | 60 => ⟨S_, .i32⟩
  | 61 => ⟨S1x256, .i32⟩
  | 62 => ⟨S1x256, .i1⟩
  | 63 => ⟨S1x256, .i32⟩
  | 64 => ⟨S1x256, .i32⟩
  | 65 => ⟨S_, .i32⟩
  | 66 => ⟨S1x256, .i32⟩
  | 67 => ⟨S1x256, .i1⟩
  | 68 => ⟨S1x256, .i1⟩
  | 69 => ⟨S_, .i32⟩
  | 70 => ⟨S1x256, .i32⟩
  | 71 => ⟨S1x256, .i32⟩
  | 72 => ⟨S1x256, .i32⟩
  | 73 => ⟨S256x256, .i32⟩
  | 74 => ⟨S256x256, .i32⟩
  | 75 => ⟨S256x256, .i1⟩
  | 76 => ⟨S256x256, .bf16⟩
  | 77 => ⟨S1x512, .f32⟩
  | 78 => ⟨S1x512, .f32⟩
  | 79 => ⟨S4x128x128, .bf16⟩
  | 80 => ⟨S128x4, .f32⟩
  | 81 => ⟨S1x64, .f32⟩
  | 82 => ⟨S8x64, .f32⟩
  | 83 => ⟨S512, .f32⟩
  | 84 => ⟨S1x512, .f32⟩
  | 85 => ⟨S1x64, .f32⟩
  | 86 => ⟨S8x64, .f32⟩
  | 87 => ⟨S512, .f32⟩
  | 88 => ⟨S1x512, .f32⟩
  | 89 => ⟨S1x64x512, .f32⟩
  | 90 => ⟨S64x512, .f32⟩
  | 91 => ⟨S_, .f32⟩
  | 92 => ⟨S64x512, .f32⟩
  | 93 => ⟨S1x64x512, .f32⟩
  | 94 => ⟨S64x512, .f32⟩
  | 95 => ⟨S64x1024, .f32⟩
  | 96 => ⟨S1x64x512, .f32⟩
  | 97 => ⟨S64x512, .f32⟩
  | 98 => ⟨S64x1024, .f32⟩
  | 99 => ⟨S128x1024, .f32⟩
  | 100 => ⟨S128x1024, .bf16⟩
  | 101 => ⟨S1x64x512, .f32⟩
  | 102 => ⟨S64x512, .f32⟩
  | 103 => ⟨S_, .f32⟩
  | 104 => ⟨S64x512, .f32⟩
  | 105 => ⟨S1x64x512, .f32⟩
  | 106 => ⟨S64x512, .f32⟩
  | 107 => ⟨S64x1024, .f32⟩
  | 108 => ⟨S1x64x512, .f32⟩
  | 109 => ⟨S64x512, .f32⟩
  | 110 => ⟨S64x1024, .f32⟩
  | 111 => ⟨S128x1024, .f32⟩
  | 112 => ⟨S128x1024, .bf16⟩
  | 113 => ⟨S1x1024, .f32⟩
  | 114 => ⟨S1x1024, .f32⟩
  | 115 => ⟨S1x512, .f32⟩
  | 116 => ⟨S1x512, .f32⟩
  | 117 => ⟨S1x512, .f32⟩
  | 118 => ⟨S1024x8960, .bf16⟩
  | 119 => ⟨S1024x4864, .bf16⟩
  | 120 => ⟨S1x1024x4864, .bf16⟩
  | 121 => ⟨S1x1024, .f32⟩
  | 122 => ⟨S17408x512, .bf16⟩
  | 123 => ⟨S17408x512, .f32⟩
  | 124 => ⟨S512x17408, .bf16⟩
  | 125 => ⟨S17408x512, .bf16⟩
  | 126 => ⟨S17408x512, .f32⟩
  | 127 => ⟨S2x17408x4096, .bf16⟩
  | _ => ⟨S17408x1024, .f32⟩

abbrev hbmTy0_1 (i : Nat) : BufTy := match i % 128 with
  | 0 => ⟨S2x2176x512, .f32⟩
  | _ => ⟨S17408x1024, .f32⟩

abbrev hbmTy (i : Nat) : BufTy := match i / 128 with
  | 0 => hbmTy0_0 i
  | 1 => hbmTy0_1 i
  | _ => ⟨S17408x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1x3x1024, .f32⟩
  | .local _ .vmem, ⟨8, _⟩ => ⟨S1x3x1024, .f32⟩
  | .local _ .vmem, ⟨9, _⟩ => ⟨S1x1024x4864, .bf16⟩
  | .local _ .vmem, ⟨10, _⟩ => ⟨S1x512, .f32⟩
  | .local _ .vmem, ⟨11, _⟩ => ⟨S1x512, .f32⟩
  | .local _ .vmem, ⟨12, _⟩ => ⟨S4x128x128, .bf16⟩
  | .local _ .vmem, ⟨13, _⟩ => ⟨S128x4, .f32⟩
  | .local _ .vmem, ⟨14, _⟩ => ⟨S1x512, .f32⟩
  | .local _ .vmem, ⟨15, _⟩ => ⟨S1x512, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S3x3x512, .f32⟩
  | .local _ .vmem, ⟨21, _⟩ => ⟨S128x1024, .bf16⟩
  | .local _ .vmem, ⟨22, _⟩ => ⟨S128x1024, .bf16⟩
  | .local _ .vmem, ⟨23, _⟩ => ⟨S1x1024, .f32⟩
  | .local _ .vmem, ⟨24, _⟩ => ⟨S1x1024, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S256x256, .bf16⟩
  | .local _ .vmem, ⟨29, _⟩ => ⟨S256x512, .bf16⟩
  | .local _ .vmem, ⟨30, _⟩ => ⟨S256x512, .bf16⟩
  | .local _ .vmem, ⟨31, _⟩ => ⟨S256x512, .f32⟩
  | .local _ .vmem, ⟨32, _⟩ => ⟨S256x512, .f32⟩
  | .local _ .vmem, ⟨33, _⟩ => ⟨S512x256, .bf16⟩
  | .local _ .vmem, ⟨34, _⟩ => ⟨S512x256, .bf16⟩
  | .local _ .vmem, ⟨35, _⟩ => ⟨S256x512, .bf16⟩
  | .local _ .vmem, ⟨36, _⟩ => ⟨S256x512, .bf16⟩
  | .local _ .vmem, ⟨37, _⟩ => ⟨S256x512, .f32⟩
  | .local _ .vmem, ⟨38, _⟩ => ⟨S256x512, .f32⟩
  | .local _ .vmem, ⟨39, _⟩ => ⟨S2x256x4096, .bf16⟩
  | .local _ .vmem, ⟨40, _⟩ => ⟨S2x256x4096, .bf16⟩
  | .local _ .vmem, ⟨41, _⟩ => ⟨S2x32x512, .f32⟩
  | .local _ .vmem, ⟨42, _⟩ => ⟨S2x32x512, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst_0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v12 : Ref sig .tc := ⟨.hbm, 53, rfl⟩
abbrev main_v13 : Ref sig .tc := ⟨.hbm, 54, rfl⟩
abbrev main_c_1 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_c : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_0 : Ref sig .tc := ⟨.hbm, 69, rfl⟩
abbrev main_call1_v12 : Ref sig .tc := ⟨.hbm, 70, rfl⟩
abbrev main_call1_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_cst_2 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_cst_3 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62_0 : Ref sig .tc := ⟨.hbm, 122, rfl⟩
abbrev main_v62_1 : Ref sig .tc := ⟨.hbm, 123, rfl⟩
abbrev main_v62_2 : Ref sig .tc := ⟨.hbm, 124, rfl⟩
abbrev main_v62_3 : Ref sig .tc := ⟨.hbm, 125, rfl⟩
abbrev main_v62_4 : Ref sig .tc := ⟨.hbm, 126, rfl⟩
abbrev main_v62_5 : Ref sig .tc := ⟨.hbm, 127, rfl⟩
abbrev main_v62_6 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg23_1 : Ref sig .tc := ⟨.vmem, 30, rfl⟩
abbrev cc0_stg24_0 : Ref sig .tc := ⟨.vmem, 31, rfl⟩
abbrev cc0_stg24_1 : Ref sig .tc := ⟨.vmem, 32, rfl⟩
abbrev cc0_stg25_0 : Ref sig .tc := ⟨.vmem, 33, rfl⟩
abbrev cc0_stg25_1 : Ref sig .tc := ⟨.vmem, 34, rfl⟩
abbrev cc0_stg26_0 : Ref sig .tc := ⟨.vmem, 35, rfl⟩
abbrev cc0_stg26_1 : Ref sig .tc := ⟨.vmem, 36, rfl⟩
abbrev cc0_stg27_0 : Ref sig .tc := ⟨.vmem, 37, rfl⟩
abbrev cc0_stg27_1 : Ref sig .tc := ⟨.vmem, 38, rfl⟩
abbrev cc0_stg28_0 : Ref sig .tc := ⟨.vmem, 39, rfl⟩
abbrev cc0_stg28_1 : Ref sig .tc := ⟨.vmem, 40, rfl⟩
abbrev cc0_stg29_0 : Ref sig .tc := ⟨.vmem, 41, rfl⟩
abbrev cc0_stg29_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28
abbrev cc0_sem23_0 : DmaSem sig := 29
abbrev cc0_sem23_1 : DmaSem sig := 30
abbrev cc0_sem24_0 : DmaSem sig := 31
abbrev cc0_sem24_1 : DmaSem sig := 32
abbrev cc0_sem25_0 : DmaSem sig := 33
abbrev cc0_sem25_1 : DmaSem sig := 34
abbrev cc0_sem26_0 : DmaSem sig := 35
abbrev cc0_sem26_1 : DmaSem sig := 36
abbrev cc0_sem27_0 : DmaSem sig := 37
abbrev cc0_sem27_1 : DmaSem sig := 38
abbrev cc0_sem28_0 : DmaSem sig := 39
abbrev cc0_sem28_1 : DmaSem sig := 40
abbrev cc0_sem29_0 : DmaSem sig := 41
abbrev cc0_sem29_1 : DmaSem sig := 42

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1087_i32 : BitVec 32 := 1087#32
  let v2 : BitVec 32 := Scalar.minsi v1 c1087_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .slt v9 c1_i32_3
  let c17_i32_4 : BitVec 32 := 17#32
  let v11 : BitVec 32 := Scalar.divsi arg0 c17_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c17_i32_4 c0_i32_7
  let v18 : BitVec 32 := Scalar.extui v17
  let c0_i32_8 : BitVec 32 := 0#32
  let v19 : BitVec 1 := Scalar.cmpi .slt c17_i32_4 c0_i32_8
  let v20 : BitVec 32 := Scalar.extui v19
  let v21 : BitVec 32 := Scalar.subi v18 v20
  let v22 : BitVec 1 := Scalar.cmpi .ne v16 v21
  let v23 : BitVec 32 := Scalar.remsi arg0 c17_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c4_i32 : BitVec 32 := 4#32
  let v28 : BitVec 32 := Scalar.select v10 c4_i32 v27
  let c0_i32_11 : BitVec 32 := 0#32
  let c0_i32_12 : BitVec 32 := 0#32
  let c0_i32_13 : BitVec 32 := 0#32
  ![v28.toNat, c0_i32_11.toNat, c0_i32_12.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x4864 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S3x3x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S256x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x512 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S2x256x4096 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S2x32x512 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== FrontReferenceIdeal.lean ====
abbrev S17408x1024 : Shape := ⟨2, ![17408, 1024]⟩
abbrev S8x3x1024 : Shape := ⟨3, ![8, 3, 1024]⟩
abbrev S1024 : Shape := ⟨1, ![1024]⟩
abbrev S1024x8960 : Shape := ⟨2, ![1024, 8960]⟩
abbrev S512 : Shape := ⟨1, ![512]⟩
abbrev S4x128x128 : Shape := ⟨3, ![4, 128, 128]⟩
abbrev S4x128 : Shape := ⟨2, ![4, 128]⟩
abbrev S64 : Shape := ⟨1, ![64]⟩
abbrev S4096x16 : Shape := ⟨2, ![4096, 16]⟩
abbrev S3x3x512 : Shape := ⟨3, ![3, 3, 512]⟩
abbrev S2x512 : Shape := ⟨2, ![2, 512]⟩
abbrev S2x64x512 : Shape := ⟨3, ![2, 64, 512]⟩
abbrev S8x64 : Shape := ⟨2, ![8, 64]⟩
abbrev S4x4352x1024 : Shape := ⟨3, ![4, 4352, 1024]⟩
abbrev S1x3x1024 : Shape := ⟨3, ![1, 3, 1024]⟩
abbrev S3x1024 : Shape := ⟨2, ![3, 1024]⟩
abbrev S4x256x3x1024 : Shape := ⟨4, ![4, 256, 3, 1024]⟩
abbrev S4x3x1024 : Shape := ⟨3, ![4, 3, 1024]⟩
abbrev S4x1x3x1024 : Shape := ⟨4, ![4, 1, 3, 1024]⟩
abbrev S4x4096x3x1024 : Shape := ⟨4, ![4, 4096, 3, 1024]⟩
abbrev S4x4352x3x1024 : Shape := ⟨4, ![4, 4352, 3, 1024]⟩
abbrev S_ : Shape := ⟨0, ![]⟩
abbrev S4x4352 : Shape := ⟨2, ![4, 4352]⟩
abbrev S4x4352x1 : Shape := ⟨3, ![4, 4352, 1]⟩
abbrev S1x1x1024 : Shape := ⟨3, ![1, 1, 1024]⟩
abbrev S4x4352x1x1024 : Shape := ⟨4, ![4, 4352, 1, 1024]⟩
abbrev S4x4352x8960 : Shape := ⟨3, ![4, 4352, 8960]⟩
abbrev S4x4352x512 : Shape := ⟨3, ![4, 4352, 512]⟩
abbrev S4x4352x256 : Shape := ⟨3, ![4, 4352, 256]⟩
abbrev S4x4352x4096 : Shape := ⟨3, ![4, 4352, 4096]⟩
abbrev S4096x1x1x16 : Shape := ⟨4, ![4096, 1, 1, 16]⟩
abbrev S1x1x512 : Shape := ⟨3, ![1, 1, 512]⟩
abbrev S4x34x128x4x128 : Shape := ⟨5, ![4, 34, 128, 4, 128]⟩
abbrev S4x4x34x128x128 : Shape := ⟨5, ![4, 4, 34, 128, 128]⟩
abbrev S128x4 : Shape := ⟨2, ![128, 4]⟩
abbrev S1x1x128x4x1 : Shape := ⟨5, ![1, 1, 128, 4, 1]⟩
abbrev S17408x512 : Shape := ⟨2, ![17408, 512]⟩
abbrev S4x4352x4x2x64 : Shape := ⟨5, ![4, 4352, 4, 2, 64]⟩
abbrev S4x4352x4x2 : Shape := ⟨4, ![4, 4352, 4, 2]⟩
abbrev S4x4352x4x2x1 : Shape := ⟨5, ![4, 4352, 4, 2, 1]⟩
abbrev S1x1x1x1x64 : Shape := ⟨5, ![1, 1, 1, 1, 64]⟩
abbrev S4x256x4x2x64 : Shape := ⟨5, ![4, 256, 4, 2, 64]⟩
abbrev S4x4096x4x2x64 : Shape := ⟨5, ![4, 4096, 4, 2, 64]⟩
abbrev S4x4096x4x2x32 : Shape := ⟨5, ![4, 4096, 4, 2, 32]⟩
abbrev S4x4096x4x2x16 : Shape := ⟨5, ![4, 4096, 4, 2, 16]⟩
abbrev S1x4096x1x1x16 : Shape := ⟨5, ![1, 4096, 1, 1, 16]⟩
abbrev S512x17408 : Shape := ⟨2, ![512, 17408]⟩

abbrev nBuf : Space → Nat
  | .hbm => 275
  | .vmem => 0
  | .smem => 0
  | _ => 0

abbrev hbmTy0_0 (i : Nat) : BufTy := match i % 128 with
  | 0 => ⟨S17408x1024, .f32⟩
  | 1 => ⟨S8x3x1024, .f32⟩
  | 2 => ⟨S1024, .f32⟩
  | 3 => ⟨S1024x8960, .f32⟩
  | 4 => ⟨S512, .f32⟩
  | 5 => ⟨S512, .f32⟩
  | 6 => ⟨S4x128x128, .f32⟩
  | 7 => ⟨S4x128, .f32⟩
  | 8 => ⟨S64, .f32⟩
  | 9 => ⟨S64, .f32⟩
  | 10 => ⟨S4096x16, .f32⟩
  | 11 => ⟨S4096x16, .f32⟩
  | 12 => ⟨S4096x16, .f32⟩
  | 13 => ⟨S4096x16, .f32⟩
  | 14 => ⟨S3x3x512, .f32⟩
  | 15 => ⟨S2x512, .f32⟩
  | 16 => ⟨S2x64x512, .f32⟩
  | 17 => ⟨S2x512, .f32⟩
  | 18 => ⟨S2x64x512, .f32⟩
  | 19 => ⟨S512, .f32⟩
  | 20 => ⟨S512, .f32⟩
  | 21 => ⟨S8x64, .f32⟩
  | 22 => ⟨S4x4352x1024, .f32⟩
  | 23 => ⟨S1x3x1024, .f32⟩
  | 24 => ⟨S3x1024, .f32⟩
  | 25 => ⟨S4x256x3x1024, .f32⟩
  | 26 => ⟨S4x3x1024, .f32⟩
  | 27 => ⟨S4x1x3x1024, .f32⟩
  | 28 => ⟨S4x4096x3x1024, .f32⟩
  | 29 => ⟨S4x4352x3x1024, .f32⟩
  | 30 => ⟨S4x4352x1024, .f32⟩
  | 31 => ⟨S_, .f32⟩
  | 32 => ⟨S4x4352, .f32⟩
  | 33 => ⟨S4x4352x1, .f32⟩
  | 34 => ⟨S_, .f32⟩
  | 35 => ⟨S4x4352x1, .f32⟩
  | 36 => ⟨S4x4352x1, .f32⟩
  | 37 => ⟨S_, .f32⟩
  | 38 => ⟨S4x4352x1, .f32⟩
  | 39 => ⟨S4x4352x1, .f32⟩
  | 40 => ⟨S4x4352x1, .f32⟩
  | 41 => ⟨S4x4352x1024, .f32⟩
  | 42 => ⟨S4x4352x1024, .f32⟩
  | 43 => ⟨S1x1x1024, .f32⟩
  | 44 => ⟨S4x4352x1024, .f32⟩
  | 45 => ⟨S4x4352x1024, .f32⟩
  | 46 => ⟨S4x4352x1x1024, .f32⟩
  | 47 => ⟨S4x4352x1024, .f32⟩
  | 48 => ⟨S_, .f32⟩
  | 49 => ⟨S4x4352x1024, .f32⟩
  | 50 => ⟨S4x4352x1024, .f32⟩
  | 51 => ⟨S4x4352x1024, .f32⟩
  | 52 => ⟨S4x4352x1x1024, .f32⟩
  | 53 => ⟨S4x4352x1024, .f32⟩
  | 54 => ⟨S4x4352x1024, .f32⟩
  | 55 => ⟨S4x4352x8960, .f32⟩
  | 56 => ⟨S4x4352x512, .f32⟩
  | 57 => ⟨S4x4352x512, .f32⟩
  | 58 => ⟨S4x4352x512, .f32⟩
  | 59 => ⟨S4x4352x512, .f32⟩
  | 60 => ⟨S4x4352x256, .f32⟩
  | 61 => ⟨S4x4352x512, .f32⟩
  | 62 => ⟨S4x4352x512, .f32⟩
  | 63 => ⟨S4x4352x512, .f32⟩
  | 64 => ⟨S4x4352x512, .f32⟩
  | 65 => ⟨S4x4352x512, .f32⟩
  | 66 => ⟨S4x4352x4096, .f32⟩
  | 67 => ⟨S4096x1x1x16, .f32⟩
  | 68 => ⟨S4096x1x1x16, .f32⟩
  | 69 => ⟨S4096x1x1x16, .f32⟩
  | 70 => ⟨S4096x1x1x16, .f32⟩
  | 71 => ⟨S4x4352x512, .f32⟩
  | 72 => ⟨S4x4352x512, .f32⟩
  | 73 => ⟨S_, .f32⟩
  | 74 => ⟨S4x4352x512, .f32⟩
  | 75 => ⟨S4x4352x512, .f32⟩
  | 76 => ⟨S4x4352x512, .f32⟩
  | 77 => ⟨S_, .f32⟩
  | 78 => ⟨S4x4352x512, .f32⟩
  | 79 => ⟨S4x4352x512, .f32⟩
  | 80 => ⟨S4x4352x512, .f32⟩
  | 81 => ⟨S_, .f32⟩
  | 82 => ⟨S4x4352x512, .f32⟩
  | 83 => ⟨S4x4352x512, .f32⟩
  | 84 => ⟨S_, .f32⟩
  | 85 => ⟨S4x4352x512, .f32⟩
  | 86 => ⟨S4x4352x512, .f32⟩
  | 87 => ⟨S4x4352x512, .f32⟩
  | 88 => ⟨S4x4352x512, .f32⟩
  | 89 => ⟨S4x4352x512, .f32⟩
  | 90 => ⟨S_, .f32⟩
  | 91 => ⟨S4x4352x512, .f32⟩
  | 92 => ⟨S4x4352x512, .f32⟩
  | 93 => ⟨S4x4352x512, .f32⟩
  | 94 => ⟨S_, .f32⟩
  | 95 => ⟨S4x4352x512, .f32⟩
  | 96 => ⟨S4x4352x512, .f32⟩
  | 97 => ⟨S4x4352x512, .f32⟩
  | 98 => ⟨S_, .f32⟩
  | 99 => ⟨S4x4352x512, .f32⟩
  | 100 => ⟨S4x4352x512, .f32⟩
  | 101 => ⟨S_, .f32⟩
  | 102 => ⟨S4x4352x512, .f32⟩
  | 103 => ⟨S4x4352x512, .f32⟩
  | 104 => ⟨S4x4352x512, .f32⟩
  | 105 => ⟨S_, .f32⟩
  | 106 => ⟨S4x4352, .f32⟩
  | 107 => ⟨S4x4352x1, .f32⟩
  | 108 => ⟨S_, .f32⟩
  | 109 => ⟨S4x4352x1, .f32⟩
  | 110 => ⟨S4x4352x1, .f32⟩
  | 111 => ⟨S4x4352x512, .f32⟩
  | 112 => ⟨S4x4352x512, .f32⟩
  | 113 => ⟨S4x4352x512, .f32⟩
  | 114 => ⟨S_, .f32⟩
  | 115 => ⟨S4x4352, .f32⟩
  | 116 => ⟨S4x4352x1, .f32⟩
  | 117 => ⟨S_, .f32⟩
  | 118 => ⟨S4x4352x1, .f32⟩
  | 119 => ⟨S4x4352x1, .f32⟩
  | 120 => ⟨S4x4352x512, .f32⟩
  | 121 => ⟨S4x4352x512, .f32⟩
  | 122 => ⟨S_, .f32⟩
  | 123 => ⟨S4x4352x1, .f32⟩
  | 124 => ⟨S4x4352x1, .f32⟩
  | 125 => ⟨S4x4352x1, .f32⟩
  | 126 => ⟨S4x4352x512, .f32⟩
  | 127 => ⟨S4x4352x512, .f32⟩
  | _ => ⟨S17408x1024, .f32⟩

abbrev hbmTy0_1 (i : Nat) : BufTy := match i % 128 with
  | 0 => ⟨S1x1x512, .f32⟩
  | 1 => ⟨S4x4352x512, .f32⟩
  | 2 => ⟨S4x4352x512, .f32⟩
  | 3 => ⟨S1x1x512, .f32⟩
  | 4 => ⟨S4x4352x512, .f32⟩
  | 5 => ⟨S4x4352x512, .f32⟩
  | 6 => ⟨S4x34x128x4x128, .f32⟩
  | 7 => ⟨S4x4x34x128x128, .f32⟩
  | 8 => ⟨S4x34x128x4x128, .f32⟩
  | 9 => ⟨S128x4, .f32⟩
  | 10 => ⟨S1x1x128x4x1, .f32⟩
  | 11 => ⟨S4x34x128x4x128, .f32⟩
  | 12 => ⟨S4x34x128x4x128, .f32⟩
  | 13 => ⟨S4x4352x512, .f32⟩
  | 14 => ⟨S4x4352x512, .f32⟩
  | 15 => ⟨S4x4352x512, .f32⟩
  | 16 => ⟨S4x4352x512, .f32⟩
  | 17 => ⟨S_, .f32⟩
  | 18 => ⟨S4x4352x512, .f32⟩
  | 19 => ⟨S4x4352x512, .f32⟩
  | 20 => ⟨S_, .f32⟩
  | 21 => ⟨S4x4352x512, .f32⟩
  | 22 => ⟨S4x4352x512, .f32⟩
  | 23 => ⟨S4x4352x512, .f32⟩
  | 24 => ⟨S4x4352x512, .f32⟩
  | 25 => ⟨S17408x512, .f32⟩
  | 26 => ⟨S17408x512, .bf16⟩
  | 27 => ⟨S4x4352x4x2x64, .f32⟩
  | 28 => ⟨S4x4352x4x2x64, .f32⟩
  | 29 => ⟨S_, .f32⟩
  | 30 => ⟨S4x4352x4x2, .f32⟩
  | 31 => ⟨S4x4352x4x2x1, .f32⟩
  | 32 => ⟨S_, .f32⟩
  | 33 => ⟨S4x4352x4x2x1, .f32⟩
  | 34 => ⟨S4x4352x4x2x1, .f32⟩
  | 35 => ⟨S_, .f32⟩
  | 36 => ⟨S4x4352x4x2x1, .f32⟩
  | 37 => ⟨S4x4352x4x2x1, .f32⟩
  | 38 => ⟨S4x4352x4x2x1, .f32⟩
  | 39 => ⟨S4x4352x4x2x64, .f32⟩
  | 40 => ⟨S4x4352x4x2x64, .f32⟩
  | 41 => ⟨S1x1x1x1x64, .f32⟩
  | 42 => ⟨S4x4352x4x2x64, .f32⟩
  | 43 => ⟨S4x4352x4x2x64, .f32⟩
  | 44 => ⟨S4x256x4x2x64, .f32⟩
  | 45 => ⟨S4x4096x4x2x64, .f32⟩
  | 46 => ⟨S4x4096x4x2x32, .f32⟩
  | 47 => ⟨S4x4096x4x2x32, .f32⟩
  | 48 => ⟨S4x4096x4x2x16, .f32⟩
  | 49 => ⟨S4x4096x4x2x16, .f32⟩
  | 50 => ⟨S1x4096x1x1x16, .f32⟩
  | 51 => ⟨S4x4096x4x2x16, .f32⟩
  | 52 => ⟨S4x4096x4x2x16, .f32⟩
  | 53 => ⟨S1x4096x1x1x16, .f32⟩
  | 54 => ⟨S4x4096x4x2x16, .f32⟩
  | 55 => ⟨S4x4096x4x2x16, .f32⟩
  | 56 => ⟨S4x4096x4x2x16, .f32⟩
  | 57 => ⟨S1x4096x1x1x16, .f32⟩
  | 58 => ⟨S4x4096x4x2x16, .f32⟩
  | 59 => ⟨S4x4096x4x2x16, .f32⟩
  | 60 => ⟨S1x4096x1x1x16, .f32⟩
  | 61 => ⟨S4x4096x4x2x16, .f32⟩
  | 62 => ⟨S4x4096x4x2x16, .f32⟩
  | 63 => ⟨S4x4096x4x2x16, .f32⟩
  | 64 => ⟨S4x4096x4x2x32, .f32⟩
  | 65 => ⟨S4x4096x4x2x16, .f32⟩
  | 66 => ⟨S4x4096x4x2x16, .f32⟩
  | 67 => ⟨S1x4096x1x1x16, .f32⟩
  | 68 => ⟨S4x4096x4x2x16, .f32⟩
  | 69 => ⟨S4x4096x4x2x16, .f32⟩
  | 70 => ⟨S1x4096x1x1x16, .f32⟩
  | 71 => ⟨S4x4096x4x2x16, .f32⟩
  | 72 => ⟨S4x4096x4x2x16, .f32⟩
  | 73 => ⟨S4x4096x4x2x16, .f32⟩
  | 74 => ⟨S1x4096x1x1x16, .f32⟩
  | 75 => ⟨S4x4096x4x2x16, .f32⟩
  | 76 => ⟨S4x4096x4x2x16, .f32⟩
  | 77 => ⟨S1x4096x1x1x16, .f32⟩
  | 78 => ⟨S4x4096x4x2x16, .f32⟩
  | 79 => ⟨S4x4096x4x2x16, .f32⟩
  | 80 => ⟨S4x4096x4x2x16, .f32⟩
  | 81 => ⟨S4x4096x4x2x32, .f32⟩
  | 82 => ⟨S4x4096x4x2x64, .f32⟩
  | 83 => ⟨S4x4352x4x2x64, .f32⟩
  | 84 => ⟨S17408x512, .f32⟩
  | 85 => ⟨S4x4352x4x2x64, .f32⟩
  | 86 => ⟨S4x4352x4x2x64, .f32⟩
  | 87 => ⟨S_, .f32⟩
  | 88 => ⟨S4x4352x4x2, .f32⟩
  | 89 => ⟨S4x4352x4x2x1, .f32⟩
  | 90 => ⟨S_, .f32⟩
  | 91 => ⟨S4x4352x4x2x1, .f32⟩
  | 92 => ⟨S4x4352x4x2x1, .f32⟩
  | 93 => ⟨S_, .f32⟩
  | 94 => ⟨S4x4352x4x2x1, .f32⟩
  | 95 => ⟨S4x4352x4x2x1, .f32⟩
  | 96 => ⟨S4x4352x4x2x1, .f32⟩
  | 97 => ⟨S4x4352x4x2x64, .f32⟩
  | 98 => ⟨S4x4352x4x2x64, .f32⟩
  | 99 => ⟨S1x1x1x1x64, .f32⟩
  | 100 => ⟨S4x4352x4x2x64, .f32⟩
  | 101 => ⟨S4x4352x4x2x64, .f32⟩
  | 102 => ⟨S4x256x4x2x64, .f32⟩
  | 103 => ⟨S4x4096x4x2x64, .f32⟩
  | 104 => ⟨S4x4096x4x2x32, .f32⟩
  | 105 => ⟨S4x4096x4x2x32, .f32⟩
  | 106 => ⟨S4x4096x4x2x16, .f32⟩
  | 107 => ⟨S4x4096x4x2x16, .f32⟩
  | 108 => ⟨S1x4096x1x1x16, .f32⟩
  | 109 => ⟨S4x4096x4x2x16, .f32⟩
  | 110 => ⟨S4x4096x4x2x16, .f32⟩
  | 111 => ⟨S1x4096x1x1x16, .f32⟩
  | 112 => ⟨S4x4096x4x2x16, .f32⟩
  | 113 => ⟨S4x4096x4x2x16, .f32⟩
  | 114 => ⟨S4x4096x4x2x16, .f32⟩
  | 115 => ⟨S1x4096x1x1x16, .f32⟩
  | 116 => ⟨S4x4096x4x2x16, .f32⟩
  | 117 => ⟨S4x4096x4x2x16, .f32⟩
  | 118 => ⟨S1x4096x1x1x16, .f32⟩
  | 119 => ⟨S4x4096x4x2x16, .f32⟩
  | 120 => ⟨S4x4096x4x2x16, .f32⟩
  | 121 => ⟨S4x4096x4x2x16, .f32⟩
  | 122 => ⟨S4x4096x4x2x32, .f32⟩
  | 123 => ⟨S4x4096x4x2x16, .f32⟩
  | 124 => ⟨S4x4096x4x2x16, .f32⟩
  | 125 => ⟨S1x4096x1x1x16, .f32⟩
  | 126 => ⟨S4x4096x4x2x16, .f32⟩
  | 127 => ⟨S4x4096x4x2x16, .f32⟩
  | _ => ⟨S17408x1024, .f32⟩

abbrev hbmTy0_2 (i : Nat) : BufTy := match i % 128 with
  | 0 => ⟨S1x4096x1x1x16, .f32⟩
  | 1 => ⟨S4x4096x4x2x16, .f32⟩
  | 2 => ⟨S4x4096x4x2x16, .f32⟩
  | 3 => ⟨S4x4096x4x2x16, .f32⟩
  | 4 => ⟨S1x4096x1x1x16, .f32⟩
  | 5 => ⟨S4x4096x4x2x16, .f32⟩
  | 6 => ⟨S4x4096x4x2x16, .f32⟩
  | 7 => ⟨S1x4096x1x1x16, .f32⟩
  | 8 => ⟨S4x4096x4x2x16, .f32⟩
  | 9 => ⟨S4x4096x4x2x16, .f32⟩
  | 10 => ⟨S4x4096x4x2x16, .f32⟩
  | 11 => ⟨S4x4096x4x2x32, .f32⟩
  | 12 => ⟨S4x4096x4x2x64, .f32⟩
  | 13 => ⟨S4x4352x4x2x64, .f32⟩
  | 14 => ⟨S17408x512, .f32⟩
  | 15 => ⟨S512x17408, .f32⟩
  | 16 => ⟨S512x17408, .bf16⟩
  | 17 => ⟨S17408x512, .f32⟩
  | 18 => ⟨S17408x512, .bf16⟩
  | _ => ⟨S17408x1024, .f32⟩

abbrev hbmTy (i : Nat) : BufTy := match i / 128 with
  | 0 => hbmTy0_0 i
  | 1 => hbmTy0_1 i
  | 2 => hbmTy0_2 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_v10 : Ref sig .tc := ⟨.hbm, 33, rfl⟩
abbrev main_cst_0 : Ref sig .tc := ⟨.hbm, 34, rfl⟩
abbrev main_v11 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_2 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_3 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_4 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_5 : Ref sig .tc := ⟨.hbm, 81, rfl⟩
abbrev main_v53 : Ref sig .tc := ⟨.hbm, 82, rfl⟩
abbrev main_v54 : Ref sig .tc := ⟨.hbm, 83, rfl⟩
abbrev main_cst_6 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_7 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_8 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_9 : Ref sig .tc := ⟨.hbm, 98, rfl⟩
abbrev main_v66 : Ref sig .tc := ⟨.hbm, 99, rfl⟩
abbrev main_v67 : Ref sig .tc := ⟨.hbm, 100, rfl⟩
abbrev main_cst_10 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_11 : Ref sig .tc := ⟨.hbm, 105, rfl⟩
abbrev main_v71 : Ref sig .tc := ⟨.hbm, 106, rfl⟩
abbrev main_v72 : Ref sig .tc := ⟨.hbm, 107, rfl⟩
abbrev main_cst_12 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_13 : Ref sig .tc := ⟨.hbm, 114, rfl⟩
abbrev main_v78 : Ref sig .tc := ⟨.hbm, 115, rfl⟩
abbrev main_v79 : Ref sig .tc := ⟨.hbm, 116, rfl⟩
abbrev main_cst_14 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_15 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_call0_v0 : Ref sig .tc := ⟨.hbm, 143, rfl⟩
abbrev main_call0_v1 : Ref sig .tc := ⟨.hbm, 144, rfl⟩
abbrev main_call0_cst : Ref sig .tc := ⟨.hbm, 145, rfl⟩
abbrev main_call0_v2 : Ref sig .tc := ⟨.hbm, 146, rfl⟩
abbrev main_call0_v3 : Ref sig .tc := ⟨.hbm, 147, rfl⟩
abbrev main_call0_cst_0 : Ref sig .tc := ⟨.hbm, 148, rfl⟩
abbrev main_call0_v4 : Ref sig .tc := ⟨.hbm, 149, rfl⟩
abbrev main_call0_v5 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_16 : Ref sig .tc := ⟨.hbm, 157, rfl⟩
abbrev main_v110 : Ref sig .tc := ⟨.hbm, 158, rfl⟩
abbrev main_v111 : Ref sig .tc := ⟨.hbm, 159, rfl⟩
abbrev main_cst_17 : Ref sig .tc := ⟨.hbm, 160, rfl⟩
abbrev main_v112 : Ref sig .tc := ⟨.hbm, 161, rfl⟩
abbrev main_v113 : Ref sig .tc := ⟨.hbm, 162, rfl⟩
abbrev main_cst_18 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_cst_19 : Ref sig .tc := ⟨.hbm, 215, rfl⟩
abbrev main_v165 : Ref sig .tc := ⟨.hbm, 216, rfl⟩
abbrev main_v166 : Ref sig .tc := ⟨.hbm, 217, rfl⟩
abbrev main_cst_20 : Ref sig .tc := ⟨.hbm, 218, rfl⟩
abbrev main_v167 : Ref sig .tc := ⟨.hbm, 219, rfl⟩
abbrev main_v168 : Ref sig .tc := ⟨.hbm, 220, rfl⟩
abbrev main_cst_21 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩

abbrev nD : Nat := 1
abbrev τ : Topo := Topo.v7x

variable {F : FTy → Type} [FloatOps F]
-- ==== Mod.lean ====
abbrev S4x1024 : Shape := ⟨2, ![4, 1024]⟩
abbrev S1024 : Shape := ⟨1, ![1024]⟩
abbrev S4x1024x3072 : Shape := ⟨3, ![4, 1024, 3072]⟩
abbrev S4x3072 : Shape := ⟨2, ![4, 3072]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S4x1x3072 : Shape := ⟨3, ![4, 1, 3072]⟩
abbrev S4x8x3072 : Shape := ⟨3, ![4, 8, 3072]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S4x1024x3072, .f32⟩
  | .hbm, ⟨3, _⟩ => ⟨S4x3072, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S4x1x3072, .f32⟩
  | .hbm, ⟨9, _⟩ => ⟨S4x8x3072, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModReferenceIdeal.lean ====
abbrev S4x1024 : Shape := ⟨2, ![4, 1024]⟩
abbrev S1024 : Shape := ⟨1, ![1024]⟩
abbrev S4x1024x3072 : Shape := ⟨3, ![4, 1024, 3072]⟩
abbrev S4x3072 : Shape := ⟨2, ![4, 3072]⟩
abbrev S_ : Shape := ⟨0, ![]⟩
abbrev S1x1024 : Shape := ⟨2, ![1, 1024]⟩
abbrev S3x1024 : Shape := ⟨2, ![3, 1024]⟩
abbrev S8x1024 : Shape := ⟨2, ![8, 1024]⟩
abbrev S4x3072x8 : Shape := ⟨3, ![4, 3072, 8]⟩
abbrev S4x8x3072 : Shape := ⟨3, ![4, 8, 3072]⟩
abbrev S4x1x3072 : Shape := ⟨3, ![4, 1, 3072]⟩

abbrev nBuf : Space → Nat
  | .hbm => 31
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S4x1024x3072, .f32⟩
  | .hbm, ⟨3, _⟩ => ⟨S4x3072, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024, .f32⟩
  | .hbm, ⟨23, _⟩ => ⟨S_, .f32⟩
  | .hbm, ⟨24, _⟩ => ⟨S3x1024, .f32⟩
  | .hbm, ⟨25, _⟩ => ⟨S8x1024, .f32⟩
  | .hbm, ⟨26, _⟩ => ⟨S4x3072x8, .f32⟩
  | .hbm, ⟨27, _⟩ => ⟨S4x8x3072, .f32⟩
  | .hbm, ⟨28, _⟩ => ⟨S4x1x3072, .f32⟩
  | .hbm, ⟨29, _⟩ => ⟨S4x8x3072, .f32⟩
  | .hbm, ⟨30, _⟩ => ⟨S4x8x3072, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩

abbrev nD : Nat := 1
abbrev τ : Topo := Topo.v7x

variable {F : FTy → Type} [FloatOps F]
-- ==== Proof.AttIdeal.Setup.lean ====
module

public import proofs.«01_k».proof.Proof.Gen.KernelIdeal.Skeleton
public import proofs.«01_k».proof.Proof.Gen.KernelIdeal.Frame

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's first branch, "this is the batch's first tile", from the grid coordinates. -/
abbrev fillsScratch (i : grid0.Coords) : Prop := (Scalar.cmpi .ne (Scalar.extui (Scalar.cmpi .eq (BitVec.ofNat 32 (i 2).val) 0#32)) 0#32) = 1#1

/-- It holds at the points that start a batch: those ≡ 0 (mod 17). -/
theorem fillsScratch_iff : ∀ t : Fin cfg0.N, fillsScratch (grid0.coords t) ↔ t.val % 17 = 0 :=
  (fun t => by
    have ht : t.val < 68 := Nat.lt_of_lt_of_eq t.isLt N_0
    have e0 : (grid0.coords t 0).val = t.val / 17 % 4 := Pipeline.Grid.coords_val t 0 (by decide) rfl
    have e1 : (grid0.coords t 1).val = t.val / 17 % 1 := Pipeline.Grid.coords_val t 1 (by decide) rfl
    have e2 : (grid0.coords t 2).val = t.val / 1 % 17 := Pipeline.Grid.coords_val t 2 (by decide) rfl
    simp only [fillsScratch, e0, e1, e2]
    word_cmp
   : ∀ t : Fin grid0.N, fillsScratch (grid0.coords t) ↔ t.val % 17 = 0)

/-- A one-bit condition widened and compared with zero is the bit. -/
theorem gate_iff : ∀ b : BitVec 1, (Scalar.cmpi .ne (Scalar.extui b) 0#32 = 1#1) ↔ b = 1#1 := by decide

/-- The bit that says the point is its batch's first. -/
abbrev firstBit (i : grid0.Coords) : BitVec 1 := Scalar.cmpi .eq (BitVec.ofNat 32 (i 2).val) 0#32

/-- A condition that joins two decided bits. -/
theorem joins {a b : BitVec 1} {x y : BitVec 1} (ha : a = x) (hb : b = y) (h : Scalar.andi x y = 1#1) :
    Scalar.cmpi .ne (Scalar.extui (Scalar.andi a b)) 0#32 = 1#1 := by subst ha hb; exact (gate_iff _).2 h

/-- A condition that two decided bits refute. -/
theorem refutes {a b : BitVec 1} {x y : BitVec 1} (ha : a = x) (hb : b = y) (h : Scalar.andi x y ≠ 1#1) :
    ¬ Scalar.cmpi .ne (Scalar.extui (Scalar.andi a b)) 0#32 = 1#1 := by subst ha hb; exact fun h' => h ((gate_iff _).1 h')

/-- A bit that is not one is zero. -/
theorem bit_zero : ∀ {b : BitVec 1}, ¬ b = 1#1 → b = 0#1 := by decide

end Cert.KernelIdeal.Att
-- ==== Proof.AttIdeal.Attend.lean ====
module

public import proofs.«01_k».proof.Proof.Gen.KernelIdeal.Skeleton
public import proofs.«01_k».proof.Proof.Gen.KernelIdeal.Frame

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The kernel's block arithmetic, said once

One grid point of the attention takes 256 query rows of a batch and four heads of two maps each. The functions below
say what it leaves in its output block as a composition of the same vector operations the body performs, once for any
number `n` of keys (256 for a tile of the context, 4352 for a tile of the latents) and once for either way of
shifting the exponents (by the bound on the scores, or by the row's own maximum). -/

/-- The first column of head `h`'s map `j` in a row of queries (or of keys): 64 columns per map, two maps per head. -/
abbrev mapOff (h : Fin 4) (j : Fin 2) : ℕ := 128 * h.val + 64 * j.val

/-- A map's 64 columns lie inside the 512 columns of a row. -/
theorem mapOff_le (h : Fin 4) (j : Fin 2) : mapOff h j + 64 ≤ 512 := by unfold mapOff; omega

/-- Head `h` map `j`'s 64 query columns are a slice of the query block. -/
theorem slices_map (h : Fin 4) (j : Fin 2) : S256x512.Slices ![0, mapOff h j] S256x64 :=
  ⟨rfl, fun a => by have := mapOff_le h j; fin_cases a <;> simp [Fin.cast] <;> omega⟩

/-- Head `h` map `j`'s 64 key rows, `n` columns of them, are a rectangle of the transposed keys. -/
theorem inb_keys {n : ℕ} (hn : n ≤ 4352) (h : Fin 4) (j : Fin 2) :
    ∀ a, (![mapOff h j, 0] : Fin 2 → ℕ) a + (⟨2, ![64, n]⟩ : Shape).size a ≤ S512x4352.size a := fun a => by
  have := mapOff_le h j; fin_cases a <;> simp <;> omega

/-- Head `h`'s 256 columns, `n` rows of them, are a rectangle of the widened values. -/
theorem inb_vals {n : ℕ} (hn : n ≤ 4352) (h : Fin 4) :
    ∀ a, (![0, 256 * h.val] : Fin 2 → ℕ) a + (⟨2, ![n, 256]⟩ : Shape).size a ≤ S4352x1024.size a := fun a => by
  fin_cases a <;> simp <;> omega

/-- The scores of head `h`'s map `j`: its 64 query columns times the same 64 rows of the transposed keys. -/
def scores {n : ℕ} (hn : n ≤ 4352) (D : DotDims S256x64 ⟨2, ![64, n]⟩ ⟨2, ![256, n]⟩)
    (hc : (⟨2, ![64, n]⟩ : Shape).ShapeCasts ⟨2, ![64, n]⟩) (x0 : Vec F S256x512 .f32) (x1 : Vec F S512x4352 .bf16)
    (h : Fin 4) (j : Fin 2) : FVec F ⟨2, ![256, n]⟩ .f32 :=
  matmul D none
    (extractStridedSlice S256x64 ![0, mapOff h j] (k0_pay141 (View.ld x0 (Rect.unit ![0, 0] S256x512.size inb_S256x512_S256x512_0_0))) (slices_map h j))
    (shapeCast ⟨2, ![64, n]⟩ (View.ld x1 (Rect.unit ![mapOff h j, 0] (⟨2, ![64, n]⟩ : Shape).size (inb_keys hn h j))) hc)
    (constant ⟨2, ![256, n]⟩ .f32 0x00000000#32)

/-- The exponentials of shifted scores times head `h`'s widened values: the weighted values and the weights' sum. -/
def weigh {n : ℕ} (hn : n ≤ 4352) (D : DotDims ⟨2, ![256, n]⟩ ⟨2, ![n, 256]⟩ S256x256)
    (s shift : FVec F ⟨2, ![256, n]⟩ .f32) (xs : Vec F S4352x1024 .bf16) (h : Fin 4) : FVec F S256x256 .f32 :=
  matmul D none (truncf .bf16 (exp2 (subf s shift)) bitsLt_bf16_f32)
    (View.ld xs (Rect.unit ![0, 256 * h.val] (⟨2, ![n, 256]⟩ : Shape).size (inb_vals hn h)))
    (constant S256x256 .f32 0x00000000#32)

/-- The weighted values over the weights' sum: the first 128 columns times the reciprocal of column 128. -/
def share (o : FVec F S256x256 .f32) : FVec F S256x128 .f32 :=
  mulf (extractStridedSlice S256x128 ![0, 0] o slices_S256x256_o0_0_S256x128)
    (broadcastTo S256x128
      (divf (broadcast S256x1 (Scalar.ofBits .f32 0x3F800000#32)) (extractStridedSlice S256x1 ![0, 128] o slices_S256x256_o0_128_S256x1))
      broadcasts_S256x1_S256x128)

/-- The difference of a head's two maps, the second times `lam`. -/
def mix (lam : FVec F S1x1 .f32) (a b : FVec F S256x128 .f32) : FVec F S256x128 .f32 :=
  subf a (mulf (broadcastTo S256x128 lam broadcasts_S1x1_S256x128) b)

/-- Root-mean-square normalisation of each row of 128, times the gain `g`. -/
def normed (g : Vec F S1x128 .f32) (y : FVec F S256x128 .f32) : FVec F S256x128 .f32 :=
  mulf
    (mulf y
      (broadcastTo S256x128
        (rsqrt (addf
          (divf (shapeCast S256x1 (multiReduction .add [1] S256 (mulf y y) 0x00000000#32 reduces_S256x128_S256 (.inl rfl) rfl) shapeCasts_S256_S256x1)
            (broadcast S256x1 (Scalar.ofBits .f32 0x43000000#32)))
          (broadcast S256x1 (Scalar.ofBits .f32 0x358637BD#32))))
        broadcasts_S256x1_S256x128))
    (broadcastTo S256x128 (shapeCast S1x128 g shapeCasts_S1x128_S1x128) broadcasts_S1x128_S256x128)

/-- The four heads side by side, times one minus the initial `lam`. -/
def sideBySide (li : Vec F S1x1 .f32) (y : Fin 4 → FVec F S256x128 .f32) : FVec F S256x512 .f32 :=
  mulf (concatenate S256x512 1 [⟨S256x128, y 0⟩, ⟨S256x128, y 1⟩, ⟨S256x128, y 2⟩, ⟨S256x128, y 3⟩]
      concatenates_S256x128_S256x128_S256x128_S256x128_S256x512_d1)
    (broadcastTo S256x512 (subf (broadcast S1x1 (Scalar.ofBits .f32 0x3F800000#32)) li) broadcasts_S1x1_S256x512)

/-- An output block from the weighted values of the eight maps. -/
def block (x3 : Vec F S4x64 .f32) (x4 : Vec F S1x1 .f32) (x5 : Vec F S1x128 .f32)
    (o : Fin 4 → Fin 2 → FVec F S256x256 .f32) : FVec F S256x512 .f32 :=
  sideBySide (View.ld x4 (Rect.unit ![0, 0] S1x1.size inb_S1x1_S1x1_0_0)) fun h =>
    normed (View.ld x5 (Rect.unit ![0, 0] S1x128.size inb_S1x128_S1x128_0_0))
      (mix (k0_pay140 (View.ld x3 (Rect.unit ![0, 0] S4x64.size inb_S4x64_S4x64_0_0)) (View.ld x4 (Rect.unit ![0, 0] S1x1.size inb_S1x1_S1x1_0_0)))
        (share (o h 0)) (share (o h 1)))

/-- The bound on the scores the kernel computes from the two gains: a 1x1 vector. -/
def bound (x6 x7 : Vec F S1x64 .f32) : FVec F S1x1 .f32 :=
  k0_pay142 (View.ld x6 (Rect.unit ![0, 0] S1x64.size inb_S1x64_S1x64_0_0)) (View.ld x7 (Rect.unit ![0, 0] S1x64.size inb_S1x64_S1x64_0_0))

/-- The bit that says the bound is at most 40. -/
def boundBit (x6 x7 : Vec F S1x64 .f32) : BitVec 1 :=
  Scalar.cmpf .ole
    (k0_pay143 (View.ld x6 (Rect.unit ![0, 0] S1x64.size inb_S1x64_S1x64_0_0)) (View.ld x7 (Rect.unit ![0, 0] S1x64.size inb_S1x64_S1x64_0_0)))
    (Scalar.ofBits .f32 0x42200000#32)

/-- Each row's maximum of the scores, along the row. -/
def rowMax {n : ℕ} (hr : (⟨2, ![256, n]⟩ : Shape).Reduces [1] S256) (hb : S256x1.Broadcasts ⟨2, ![256, n]⟩)
    (s : FVec F ⟨2, ![256, n]⟩ .f32) : FVec F ⟨2, ![256, n]⟩ .f32 :=
  broadcastTo ⟨2, ![256, n]⟩
    (shapeCast S256x1 (multiReduction .maximumf [1] S256 s 0xFF800000#32 hr (.inl rfl) rfl) shapeCasts_S256_S256x1) hb

/-- What a tile of the CONTEXT leaves: 256 keys. -/
def ctxBlock (x0 : Vec F S256x512 .f32) (x1 : Vec F S512x4352 .bf16) (x3 : Vec F S4x64 .f32) (x4 : Vec F S1x1 .f32)
    (x5 : Vec F S1x128 .f32) (xs : Vec F S4352x1024 .bf16) (shift : FVec F S256x256 .f32 → FVec F S256x256 .f32) :
    FVec F S256x512 .f32 :=
  let s := scores (n := 256) (by decide) dot_S256x64_S64x256_S256x256_1_0_0_1_n_n shapeCasts_S64x256_S64x256 x0 x1
  block x3 x4 x5 fun h j => weigh (n := 256) (by decide) dot_S256x256_S256x256_S256x256_1_0_0_1_n_n (s h j) (shift (s h j)) xs h

/-- What a tile of the LATENTS leaves: all 4352 keys. -/
def latBlock (x0 : Vec F S256x512 .f32) (x1 : Vec F S512x4352 .bf16) (x3 : Vec F S4x64 .f32) (x4 : Vec F S1x1 .f32)
    (x5 : Vec F S1x128 .f32) (xs : Vec F S4352x1024 .bf16) (shift : FVec F S256x4352 .f32 → FVec F S256x4352 .f32) :
    FVec F S256x512 .f32 :=
  let s := scores (n := 4352) (by decide) dot_S256x64_S64x4352_S256x4352_1_0_0_1_n_n shapeCasts_S64x4352_S64x4352 x0 x1
  block x3 x4 x5 fun h j => weigh (n := 4352) (by decide) dot_S256x4352_S4352x256_S256x256_1_0_0_1_n_n (s h j) (shift (s h j)) xs h

/-- What the batch's first point writes into the scratch, last write first: under each head's 128 value columns a
    block of 128 columns of ones. -/
def fillPieces (x2 : Vec F S4352x512 .bf16) : List (View.Piece (Elt F) S4352x1024 .bf16) :=
  [⟨Rect.unit ![0, 896] S4352x128.size inb_S4352x1024_S4352x128_0_896, k0_pay139⟩,
   ⟨Rect.unit ![0, 768] S4352x128.size inb_S4352x1024_S4352x128_0_768, k0_pay138 (k0_pay11 (View.ld x2 (Rect.unit ![0, 384] S4352x128.size inb_S4352x512_S4352x128_0_384)))⟩,
   ⟨Rect.unit ![0, 640] S4352x128.size inb_S4352x1024_S4352x128_0_640, k0_pay10⟩,
   ⟨Rect.unit ![0, 512] S4352x128.size inb_S4352x1024_S4352x128_0_512, k0_pay9 (View.ld x2 (Rect.unit ![0, 256] S4352x128.size inb_S4352x512_S4352x128_0_256))⟩,
   ⟨Rect.unit ![0, 384] S4352x128.size inb_S4352x1024_S4352x128_0_384, k0_pay8⟩,
   ⟨Rect.unit ![0, 256] S4352x128.size inb_S4352x1024_S4352x128_0_256, k0_pay7 (View.ld x2 (Rect.unit ![0, 128] S4352x128.size inb_S4352x512_S4352x128_0_128))⟩,
   ⟨Rect.unit ![0, 128] S4352x128.size inb_S4352x1024_S4352x128_0_128, k0_pay6⟩,
   ⟨Rect.unit ![0, 0] S4352x128.size inb_S4352x1024_S4352x128_0_0, k0_pay5 (View.ld x2 (Rect.unit ![0, 0] S4352x128.size inb_S4352x512_S4352x128_0_0))⟩]

/-- The widened values: what the scratch holds throughout a batch whose values are `x2`. -/
def widened (x2 : Vec F S4352x512 .bf16) : Vec F S4352x1024 .bf16 := View.canon (fillPieces x2)

/-- What a batch's first point (a tile of the context) leaves in its output block. -/
def firstOut (x0 : Vec F S256x512 .f32) (x1 : Vec F S512x4352 .bf16) (x3 : Vec F S4x64 .f32) (x4 : Vec F S1x1 .f32)
    (x5 : Vec F S1x128 .f32) (x6 x7 : Vec F S1x64 .f32) (xs : Vec F S4352x1024 .bf16) : FVec F S256x512 .f32 :=
  if boundBit x6 x7 = 1#1 then ctxBlock x0 x1 x3 x4 x5 xs fun _ => broadcastTo S256x256 (bound x6 x7) broadcasts_S1x1_S256x256
  else ctxBlock x0 x1 x3 x4 x5 xs (rowMax reduces_S256x256_S256 broadcasts_S256x1_S256x256)

/-- What a later point (a tile of the latents) leaves in its output block. -/
def laterOut (x0 : Vec F S256x512 .f32) (x1 : Vec F S512x4352 .bf16) (x3 : Vec F S4x64 .f32) (x4 : Vec F S1x1 .f32)
    (x5 : Vec F S1x128 .f32) (x6 x7 : Vec F S1x64 .f32) (xs : Vec F S4352x1024 .bf16) : FVec F S256x512 .f32 :=
  if boundBit x6 x7 = 1#1 then latBlock x0 x1 x3 x4 x5 xs fun _ => broadcastTo S256x4352 (bound x6 x7) broadcasts_S1x1_S256x4352
  else latBlock x0 x1 x3 x4 x5 xs (rowMax reduces_S256x4352_S256 broadcasts_S256x1_S256x4352)

end Cert.KernelIdeal.Att
-- ==== Proof.AttIdeal.RunFirst.lean ====
module

public import proofs.«01_k».proof.Proof.AttIdeal.Setup
public import proofs.«01_k».proof.Proof.AttIdeal.Attend
public import Idealize.ShloMosaic.Lib.VecWindow

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The fill's eight writes tile the scratch: every index is in one of them. -/
theorem fill_cover (x2 : Vec F S4352x512 .bf16) : ∀ y, ∃ p ∈ fillPieces x2, y ∈ p.1.set :=
  View.cover_of_tiledL (fillPieces x2) S4352x128.size (by sl_kernel_rfl)

/-- The body at a batch's first point: whatever the scratch held, it leaves the widened values there, and in the output
    block what `firstOut` says of them. -/
theorem run_first (c : Dev nD) (i : grid0.Coords) (arg3 : Memref sig .tc .vmem S256x512 .f32) (harg3 : arg3.IsWhole) (arg4 : Memref sig .tc .vmem S512x4352 .bf16) (harg4 : arg4.IsWhole) (arg5 : Memref sig .tc .vmem S4352x512 .bf16) (harg5 : arg5.IsWhole) (arg6 : Memref sig .tc .vmem S4x64 .f32) (harg6 : arg6.IsWhole) (arg7 : Memref sig .tc .vmem S1x1 .f32) (harg7 : arg7.IsWhole) (arg8 : Memref sig .tc .vmem S1x128 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S256x512 .f32) (harg11 : arg11.IsWhole) (arg12 : Memref sig .tc .vmem S4352x1024 .bf16) (harg12 : arg12.IsWhole)
    (hc0 : fillsScratch i) (x0 : Vec F S256x512 .f32) (x1 : Vec F S512x4352 .bf16) (x2 : Vec F S4352x512 .bf16) (x3 : Vec F S4x64 .f32) (x4 : Vec F S1x1 .f32) (x5 : Vec F S1x128 .f32) (x6 : Vec F S1x64 .f32) (x7 : Vec F S1x64 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d)
        ∗ (owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
            ∗ owns (c : Thread nD τ) arg11 fullShare (firstOut x0 x1 x3 x4 x5 x6 x7 (widened x2)) ∗ owns (c : Thread nD τ) arg12 fullShare (widened x2) -∗ K ⟨⟩))
      ⊢ wp frame (wpE (defs₀ (F := F)) Variants.none c none) E (cc0_diff_attention i arg3 harg3 arg4 harg4 arg5 harg5 arg6 harg6 arg7 harg7 arg8 harg8 arg9 harg9 arg10 harg10 arg11 harg11 arg12 harg12) K := by
  simp only [cc0_diff_attention_eq_skeleton]; unfold cc0_diff_attention_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hpost⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg10.eq_unread hf7
  have hA : firstBit i = 1#1 := (gate_iff _).1 hc0
  by_cases hb : boundBit x6 x7 = 1#1
  · have hB : boundBit (arg9.view.read (Elt F) (harg9.unread x6)) (arg10.view.read (Elt F) (harg10.unread x7)) = 1#1 := by
      rw [harg9.read_unread, harg10.read_unread]; exact hb
    have h1 := joins hA hB (by decide)
    have h2 := refutes hA (congrArg (Scalar.xori · 1#1) hB) (by decide)
    have h3 := refutes (congrArg (Scalar.xori · 1#1) hA) hB (by decide)
    have h4 := refutes (congrArg (Scalar.xori · 1#1) hA) (congrArg (Scalar.xori · 1#1) hB) (by decide)
    sl_exec (disch := first | sl_exact hc0 | sl_exact h1 | sl_exact h2 | sl_exact h3 | sl_exact h4)
    sl_step
    iapply Hpost
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; swap; iexact H8
      ipureintro
      refine (View.read_writes_full arg11.view _ _ _ []).trans ?_
      refine Eq.trans (b := ctxBlock (arg3.view.read (Elt F) (harg3.unread x0)) (arg4.view.read (Elt F) (harg4.unread x1)) (arg6.view.read (Elt F) (harg6.unread x3)) (arg7.view.read (Elt F) (harg7.unread x4)) (arg8.view.read (Elt F) (harg8.unread x5)) (arg12.view.read (Elt F) (arg12.view.writes (Elt F) arg12.view.junk (fillPieces (arg5.view.read (Elt F) (harg5.unread x2))))) (fun _ => broadcastTo S256x256 (bound (arg9.view.read (Elt F) (harg9.unread x6)) (arg10.view.read (Elt F) (harg10.unread x7))) broadcasts_S1x1_S256x256)) rfl ?_
      rw [firstOut, if_pos hb, View.read_writes_junk_eq_canon, harg3.read_unread, harg4.read_unread, harg5.read_unread, harg6.read_unread, harg7.read_unread, harg8.read_unread, harg9.read_unread, harg10.read_unread]; rfl
    · iexists _; isplitr; swap; iexact HS0
      ipureintro
      refine (funext fun y => View.read_writes_apply_eq_canon arg12.view _ y _ (fill_cover _ y)).trans ?_
      refine Eq.trans (b := widened (arg5.view.read (Elt F) (harg5.unread x2))) rfl ?_
      rw [harg5.read_unread]
  · have hB : boundBit (arg9.view.read (Elt F) (harg9.unread x6)) (arg10.view.read (Elt F) (harg10.unread x7)) = 0#1 := by
      rw [harg9.read_unread, harg10.read_unread]; exact bit_zero hb
    have h1 := refutes hA hB (by decide)
    have h2 := joins hA (congrArg (Scalar.xori · 1#1) hB) (by decide)
    have h3 := refutes (congrArg (Scalar.xori · 1#1) hA) hB (by decide)
    have h4 := refutes (congrArg (Scalar.xori · 1#1) hA) (congrArg (Scalar.xori · 1#1) hB) (by decide)
    sl_exec (disch := first | sl_exact hc0 | sl_exact h1 | sl_exact h2 | sl_exact h3 | sl_exact h4)
    sl_step
    iapply Hpost
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; swap; iexact H8
      ipureintro
      refine (View.read_writes_full arg11.view _ _ _ []).trans ?_
      refine Eq.trans (b := ctxBlock (arg3.view.read (Elt F) (harg3.unread x0)) (arg4.view.read (Elt F) (harg4.unread x1)) (arg6.view.read (Elt F) (harg6.unread x3)) (arg7.view.read (Elt F) (harg7.unread x4)) (arg8.view.read (Elt F) (harg8.unread x5)) (arg12.view.read (Elt F) (arg12.view.writes (Elt F) arg12.view.junk (fillPieces (arg5.view.read (Elt F) (harg5.unread x2))))) (rowMax reduces_S256x256_S256 broadcasts_S256x1_S256x256)) rfl ?_
      rw [firstOut, if_neg hb, View.read_writes_junk_eq_canon, harg3.read_unread, harg4.read_unread, harg5.read_unread, harg6.read_unread, harg7.read_unread, harg8.read_unread]; rfl
    · iexists _; isplitr; swap; iexact HS0
      ipureintro
      refine (funext fun y => View.read_writes_apply_eq_canon arg12.view _ y _ (fill_cover _ y)).trans ?_
      refine Eq.trans (b := widened (arg5.view.read (Elt F) (harg5.unread x2))) rfl ?_
      rw [harg5.read_unread]

end Cert.KernelIdeal.Att
-- ==== Proof.AttIdeal.RunLater.lean ====
module

public import proofs.«01_k».proof.Proof.AttIdeal.Setup
public import proofs.«01_k».proof.Proof.AttIdeal.Attend
public import Idealize.ShloMosaic.Lib.VecWindow

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body at any later point: the scratch keeps what it held, and the output block takes what `laterOut` says of it. -/
theorem run_later (c : Dev nD) (i : grid0.Coords) (arg3 : Memref sig .tc .vmem S256x512 .f32) (harg3 : arg3.IsWhole) (arg4 : Memref sig .tc .vmem S512x4352 .bf16) (harg4 : arg4.IsWhole) (arg5 : Memref sig .tc .vmem S4352x512 .bf16) (harg5 : arg5.IsWhole) (arg6 : Memref sig .tc .vmem S4x64 .f32) (harg6 : arg6.IsWhole) (arg7 : Memref sig .tc .vmem S1x1 .f32) (harg7 : arg7.IsWhole) (arg8 : Memref sig .tc .vmem S1x128 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S256x512 .f32) (harg11 : arg11.IsWhole) (arg12 : Memref sig .tc .vmem S4352x1024 .bf16) (harg12 : arg12.IsWhole)
    (hc0 : ¬ fillsScratch i) (x0 : Vec F S256x512 .f32) (x1 : Vec F S512x4352 .bf16) (x2 : Vec F S4352x512 .bf16) (x3 : Vec F S4x64 .f32) (x4 : Vec F S1x1 .f32) (x5 : Vec F S1x128 .f32) (x6 : Vec F S1x64 .f32) (x7 : Vec F S1x64 .f32) (xs : Vec F S4352x1024 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs
        ∗ (owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
            ∗ owns (c : Thread nD τ) arg11 fullShare (laterOut x0 x1 x3 x4 x5 x6 x7 xs) ∗ owns (c : Thread nD τ) arg12 fullShare xs -∗ K ⟨⟩))
      ⊢ wp frame (wpE (defs₀ (F := F)) Variants.none c none) E (cc0_diff_attention i arg3 harg3 arg4 harg4 arg5 harg5 arg6 harg6 arg7 harg7 arg8 harg8 arg9 harg9 arg10 harg10 arg11 harg11 arg12 harg12) K := by
  simp only [cc0_diff_attention_eq_skeleton]; unfold cc0_diff_attention_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hpost⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg10.eq_unread hf7
  obtain rfl := harg12.eq_unread hfs0
  have hA : firstBit i = 0#1 := bit_zero fun h => hc0 ((gate_iff _).2 h)
  by_cases hb : boundBit x6 x7 = 1#1
  · have hB : boundBit (arg9.view.read (Elt F) (harg9.unread x6)) (arg10.view.read (Elt F) (harg10.unread x7)) = 1#1 := by
      rw [harg9.read_unread, harg10.read_unread]; exact hb
    have h1 := refutes hA hB (by decide)
    have h2 := refutes hA (congrArg (Scalar.xori · 1#1) hB) (by decide)
    have h3 := joins (congrArg (Scalar.xori · 1#1) hA) hB (by decide)
    have h4 := refutes (congrArg (Scalar.xori · 1#1) hA) (congrArg (Scalar.xori · 1#1) hB) (by decide)
    sl_exec (disch := first | sl_exact hc0 | sl_exact h1 | sl_exact h2 | sl_exact h3 | sl_exact h4)
    sl_step
    iapply Hpost
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; swap; iexact H8
      ipureintro
      refine (View.read_writes_full arg11.view _ _ _ []).trans ?_
      refine Eq.trans (b := latBlock (arg3.view.read (Elt F) (harg3.unread x0)) (arg4.view.read (Elt F) (harg4.unread x1)) (arg6.view.read (Elt F) (harg6.unread x3)) (arg7.view.read (Elt F) (harg7.unread x4)) (arg8.view.read (Elt F) (harg8.unread x5)) (arg12.view.read (Elt F) (harg12.unread xs)) (fun _ => broadcastTo S256x4352 (bound (arg9.view.read (Elt F) (harg9.unread x6)) (arg10.view.read (Elt F) (harg10.unread x7))) broadcasts_S1x1_S256x4352)) rfl ?_
      rw [laterOut, if_pos hb, harg3.read_unread, harg4.read_unread, harg6.read_unread, harg7.read_unread, harg8.read_unread, harg9.read_unread, harg10.read_unread, harg12.read_unread]
    · iexists _; isplitr; swap; iexact HS0
      ipureintro
      exact harg12.read_unread _
  · have hB : boundBit (arg9.view.read (Elt F) (harg9.unread x6)) (arg10.view.read (Elt F) (harg10.unread x7)) = 0#1 := by
      rw [harg9.read_unread, harg10.read_unread]; exact bit_zero hb
    have h1 := refutes hA hB (by decide)
    have h2 := refutes hA (congrArg (Scalar.xori · 1#1) hB) (by decide)
    have h3 := refutes (congrArg (Scalar.xori · 1#1) hA) hB (by decide)
    have h4 := joins (congrArg (Scalar.xori · 1#1) hA) (congrArg (Scalar.xori · 1#1) hB) (by decide)
    sl_exec (disch := first | sl_exact hc0 | sl_exact h1 | sl_exact h2 | sl_exact h3 | sl_exact h4)
    sl_step
    iapply Hpost
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; swap; iexact H8
      ipureintro
      refine (View.read_writes_full arg11.view _ _ _ []).trans ?_
      refine Eq.trans (b := latBlock (arg3.view.read (Elt F) (harg3.unread x0)) (arg4.view.read (Elt F) (harg4.unread x1)) (arg6.view.read (Elt F) (harg6.unread x3)) (arg7.view.read (Elt F) (harg7.unread x4)) (arg8.view.read (Elt F) (harg8.unread x5)) (arg12.view.read (Elt F) (harg12.unread xs)) (rowMax reduces_S256x4352_S256 broadcasts_S256x1_S256x4352)) rfl ?_
      rw [laterOut, if_neg hb, harg3.read_unread, harg4.read_unread, harg6.read_unread, harg7.read_unread, harg8.read_unread, harg12.read_unread]
    · iexists _; isplitr; swap; iexact HS0
      ipureintro
      exact harg12.read_unread _

end Cert.KernelIdeal.Att
-- ==== Proof.AttIdeal.Blocks.lean ====
module

public import proofs.«01_k».proof.Proof.AttIdeal.Setup
public import Idealize.ShloMosaic.Lib.ValueIdx
public import proofs.«01_k».proof.Proof.Gen.KernelIdeal.Frame

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx (ix2 eq_ix2)

/-! # What each window's block is at a grid point

The 68 points are four batches of seventeen tiles. Point `t` reads rows `256t ..` of the queries, the batch `t / 17`'s
4352 columns of the transposed keys and rows of the values, and the small operands whole; it writes rows `256t ..` of
the result. -/

variable (m : (ℓ : Loc nD τ sig) → Buf (Elt F) ℓ)

/-- The queries' block index at point `t`. -/
theorem index_q : ∀ t : Fin grid0.N, win0_0.index t 0 = t.val ∧ win0_0.index t 1 = 0 := by decide +kernel
/-- The transposed keys' block index at point `t`. -/
theorem index_k : ∀ t : Fin grid0.N, win0_1.index t 0 = 0 ∧ win0_1.index t 1 = t.val / 17 := by decide +kernel
/-- The values' block index at point `t`. -/
theorem index_v : ∀ t : Fin grid0.N, win0_2.index t 0 = t.val / 17 ∧ win0_2.index t 1 = 0 := by decide +kernel
/-- The result's block index at point `t`. -/
theorem index_o : ∀ t : Fin grid0.N, win0_8.index t 0 = t.val ∧ win0_8.index t 1 = 0 := by decide +kernel

/-- There are 68 points. -/
theorem lt_68 (t : Fin cfg0.N) : t.val < 68 := lt_of_lt_of_eq t.isLt (show cfg0.N = 68 from N_0)

/-- Point `t`'s row `r` of the queries is row `256t + r`. -/
theorem blk_q (c : Dev nD) (t : Fin cfg0.N) (y : S256x512.Idx) :
    (iblk m c 0 t : Vec F S256x512 .f32) y
      = (V m c main_v1 : Vec F S17408x512 .f32) (ix2 ⟨256 * t.val + (y 0).val, by have := lt_68 t; have := (y 0).isLt; simp at this; omega⟩ (y 1)) := by
  unfold iblk
  rw [View.read_apply]
  show V m c main_v1 _ = V m c main_v1 _
  congr 1; funext a; apply Fin.ext
  match a with
  | ⟨0, _⟩ => show win0_0.index t 0 * 256 + 1 * (y 0).val = 256 * t.val + (y 0).val; rw [(index_q t).1]; omega
  | ⟨1, _⟩ => show win0_0.index t 1 * 512 + 1 * (y 1).val = (y 1).val; rw [(index_q t).2]; omega

/-- Point `t`'s column `k` of the transposed keys is column `4352 (t / 17) + k`. -/
theorem blk_k (c : Dev nD) (t : Fin cfg0.N) (y : S512x4352.Idx) :
    (iblk m c 1 t : Vec F S512x4352 .bf16) y
      = (V m c main_v5 : Vec F S512x17408 .bf16) (ix2 (y 0) ⟨4352 * (t.val / 17) + (y 1).val, by have := lt_68 t; have := (y 1).isLt; simp at this; omega⟩) := by
  unfold iblk
  rw [View.read_apply]
  show V m c main_v5 _ = V m c main_v5 _
  congr 1; funext a; apply Fin.ext
  match a with
  | ⟨0, _⟩ => show win0_1.index t 0 * 512 + 1 * (y 0).val = (y 0).val; rw [(index_k t).1]; omega
  | ⟨1, _⟩ => show win0_1.index t 1 * 4352 + 1 * (y 1).val = 4352 * (t.val / 17) + (y 1).val; rw [(index_k t).2]; omega

/-- Point `t`'s row `k` of the values is row `4352 (t / 17) + k`. -/
theorem blk_v (c : Dev nD) (t : Fin cfg0.N) (y : S4352x512.Idx) :
    (iblk m c 2 t : Vec F S4352x512 .bf16) y
      = (V m c main_v8 : Vec F S17408x512 .bf16) (ix2 ⟨4352 * (t.val / 17) + (y 0).val, by have := lt_68 t; have := (y 0).isLt; simp at this; omega⟩ (y 1)) := by
  unfold iblk
  rw [View.read_apply]
  show V m c main_v8 _ = V m c main_v8 _
  congr 1; funext a; apply Fin.ext
  match a with
  | ⟨0, _⟩ => show win0_2.index t 0 * 4352 + 1 * (y 0).val = 4352 * (t.val / 17) + (y 0).val; rw [(index_v t).1]; omega
  | ⟨1, _⟩ => show win0_2.index t 1 * 512 + 1 * (y 1).val = (y 1).val; rw [(index_v t).2]; omega

/-- Two points of one batch read one block of values. -/
theorem blk_v_congr (c : Dev nD) (t t' : Fin cfg0.N) (h : t.val / 17 = t'.val / 17) :
    (iblk m c 2 t : Vec F S4352x512 .bf16) = iblk m c 2 t' := by
  funext y; rw [blk_v, blk_v]; congr 2; apply Fin.ext; show 4352 * (t.val / 17) + _ = 4352 * (t'.val / 17) + _; rw [h]

/-- The parameters of the mixing weight, whole. -/
theorem blk_3 (c : Dev nD) (t : Fin cfg0.N) : (iblk m c 3 t : Vec F S4x64 .f32) = V m c main_arg6 := by
  funext y; unfold iblk; rw [View.read_apply]
  show V m c main_arg6 _ = V m c main_arg6 _
  congr 1; funext a; apply Fin.ext
  match a with
  | ⟨0, _⟩ => show 0 * 4 + 1 * (y 0).val = (y 0).val; omega
  | ⟨1, _⟩ => show 0 * 64 + 1 * (y 1).val = (y 1).val; omega

/-- The initial mixing weight, whole. -/
theorem blk_4 (c : Dev nD) (t : Fin cfg0.N) : (iblk m c 4 t : Vec F S1x1 .f32) = V m c main_arg7 := by
  funext y; unfold iblk; rw [View.read_apply]
  show V m c main_arg7 _ = V m c main_arg7 _
  congr 1; funext a; apply Fin.ext
  match a with
  | ⟨0, _⟩ => show 0 * 1 + 1 * (y 0).val = (y 0).val; omega
  | ⟨1, _⟩ => show 0 * 1 + 1 * (y 1).val = (y 1).val; omega

/-- The normalisation's gain, whole. -/
theorem blk_5 (c : Dev nD) (t : Fin cfg0.N) : (iblk m c 5 t : Vec F S1x128 .f32) = V m c main_v9 := by
  funext y; unfold iblk; rw [View.read_apply]
  show V m c main_v9 _ = V m c main_v9 _
  congr 1; funext a; apply Fin.ext
  match a with
  | ⟨0, _⟩ => show 0 * 1 + 1 * (y 0).val = (y 0).val; omega
  | ⟨1, _⟩ => show 0 * 128 + 1 * (y 1).val = (y 1).val; omega

end Cert.KernelIdeal.Att
-- ==== Proof.AttIdeal.Frame.lean ====
module

public import proofs.«01_k».proof.Proof.AttIdeal.RunFirst
public import proofs.«01_k».proof.Proof.AttIdeal.RunLater
public import proofs.«01_k».proof.Proof.AttIdeal.Blocks
public import Idealize.ShloMosaic.Lib.Claim
public import proofs.«01_k».proof.Proof.Gen.KernelIdeal.Frame

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The attention's run: every point, then the whole grid

The scratch carries the widened values of a batch through its seventeen points: before any point but the grid's first it
holds those of the batch of the point before. A batch's first point refills it, and the others find it filled with their
own batch's. -/

variable (m : (ℓ : Loc nD τ sig) → Buf (Elt F) ℓ) (ρ : Dev nD → PrngReg)

/-- Window 0's staging buffer at point `t`, and that it is a whole buffer. -/
abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
/-- Window 1's staging buffer at point `t`, and that it is a whole buffer. -/
abbrev ms0_1 (t : Fin cfg0.N) : Memref sig .tc .vmem S512x4352 .bf16 := win0_1.stage (cfg0.slots t 1)
abbrev hs0_1 (t : Fin cfg0.N) : (ms0_1 t).IsWhole := hstage0_1 ((cfg0.slots t 1).cast nbuf0_1)
/-- Window 2's staging buffer at point `t`, and that it is a whole buffer. -/
abbrev ms0_2 (t : Fin cfg0.N) : Memref sig .tc .vmem S4352x512 .bf16 := win0_2.stage (cfg0.slots t 2)
abbrev hs0_2 (t : Fin cfg0.N) : (ms0_2 t).IsWhole := hstage0_2 ((cfg0.slots t 2).cast nbuf0_2)
/-- Window 3's staging buffer at point `t`, and that it is a whole buffer. -/
abbrev ms0_3 (t : Fin cfg0.N) : Memref sig .tc .vmem S4x64 .f32 := win0_3.stage (cfg0.slots t 3)
abbrev hs0_3 (t : Fin cfg0.N) : (ms0_3 t).IsWhole := hstage0_3 ((cfg0.slots t 3).cast nbuf0_3)
/-- Window 4's staging buffer at point `t`, and that it is a whole buffer. -/
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- Window 5's staging buffer at point `t`, and that it is a whole buffer. -/
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
/-- Window 6's staging buffer at point `t`, and that it is a whole buffer. -/
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
/-- Window 7's staging buffer at point `t`, and that it is a whole buffer. -/
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
/-- Window 8's staging buffer at point `t`, and that it is a whole buffer. -/
abbrev ms0_8 (t : Fin cfg0.N) : Memref sig .tc .vmem S256x512 .f32 := win0_8.stage (cfg0.slots t 8)
abbrev hs0_8 (t : Fin cfg0.N) : (ms0_8 t).IsWhole := hstage0_8 ((cfg0.slots t 8).cast nbuf0_8)
/-- The scratch, as a memref. -/
abbrev scM0_0 : Memref sig .tc .vmem S4352x1024 .bf16 := Memref.whole cc0_scratch0

/-- What the launch hands the grid: the scratch at anything, the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The widened values of point `t`'s batch. -/
def held (c : Dev nD) (t : Fin cfg0.N) : Vec F S4352x1024 .bf16 := widened (iblk m c 2 t)

/-- What point `t` leaves in its output block. -/
def outAt (c : Dev nD) (t : Fin cfg0.N) : Vec F S256x512 .f32 :=
  if t.val % 17 = 0 then
    firstOut (iblk m c 0 t) (iblk m c 1 t) (iblk m c 3 t) (iblk m c 4 t) (iblk m c 5 t) (iblk m c 6 t) (iblk m c 7 t) (held m c t)
  else
    laterOut (iblk m c 0 t) (iblk m c 1 t) (iblk m c 3 t) (iblk m c 4 t) (iblk m c 5 t) (iblk m c 6 t) (iblk m c 7 t) (held m c t)

/-- The invariant before point `n`: at the first the scratch holds anything, afterwards the widened values of the point
    before; the generator register is at some state. -/
def PhiS (c : Dev nD) : (n : ℕ) → n ≤ cfg0.N → sProp 𝕄
  | 0, _ => Pipeline.ΦA spec0 c
  | n + 1, hn => iprop(iprop(owns (c : Thread nD τ) scM0_0 fullShare (held m c ⟨n, hn⟩)) ∗ (∃ r, prngReg c r))

/-- Before the first point it is what the launch hands over. -/
theorem PhiS_zero (c : Dev nD) (n : ℕ) (h : n ≤ cfg0.N) (hz : n = 0) : PhiS m c n h = Pipeline.ΦA spec0 c := by
  subst hz; rfl

/-- Before any other point the scratch holds what the point before left. -/
theorem PhiS_pos (c : Dev nD) (n : ℕ) (h : n ≤ cfg0.N) (hz : n ≠ 0) :
    PhiS m c n h = iprop(iprop(owns (c : Thread nD τ) scM0_0 fullShare (held m c ⟨n - 1, by omega⟩)) ∗ (∃ r, prngReg c r)) := by
  cases n with
  | zero => exact absurd rfl hz
  | succ n => rfl

/-- A point that is not its batch's first finds its own batch's widened values. -/
theorem held_pred (c : Dev nD) (t : Fin cfg0.N) (h0 : ¬ t.val % 17 = 0) (hlt : t.val - 1 < cfg0.N) :
    held m c ⟨t.val - 1, hlt⟩ = held m c t := by
  unfold held; rw [blk_v_congr m c ⟨t.val - 1, hlt⟩ t (by show (t.val - 1) / 17 = t.val / 17; omega)]

/-- The proof data: the arrays as launched, each input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiS m c t.val (Nat.le_of_lt_succ t.isLt)
  q _ := fullShare
  owed _ := 0

/-- The proof data's arrays are what the launch leaves. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- The output window is written at every point. -/
theorem live8 : ∀ t : Fin cfg0.N, cfg0.idle 8 (grid0.coords t) = false := by decide +kernel

/-! What the body leaves in each window's buffer, and (for the inputs) finds there. -/

/-- Window 0 after the body. -/
theorem leaves_0 (c : Dev nD) (t : Fin cfg0.N) : (dats m 0 c).leavesExact 0 t = owns (c : Thread nD τ) (ms0_0 t) fullShare (iblk m c 0 t : Vec F S256x512 .f32) := by
  unfold Dat.leavesExact; rw [show cfg0.idle 0 (grid0.coords t) = false from rfl]; dsimp only [dats]
/-- Window 1 after the body. -/
theorem leaves_1 (c : Dev nD) (t : Fin cfg0.N) : (dats m 0 c).leavesExact 1 t = owns (c : Thread nD τ) (ms0_1 t) fullShare (iblk m c 1 t : Vec F S512x4352 .bf16) := by
  unfold Dat.leavesExact; rw [show cfg0.idle 1 (grid0.coords t) = false from rfl]; dsimp only [dats]
/-- Window 2 after the body. -/
theorem leaves_2 (c : Dev nD) (t : Fin cfg0.N) : (dats m 0 c).leavesExact 2 t = owns (c : Thread nD τ) (ms0_2 t) fullShare (iblk m c 2 t : Vec F S4352x512 .bf16) := by
  unfold Dat.leavesExact; rw [show cfg0.idle 2 (grid0.coords t) = false from rfl]; dsimp only [dats]
/-- Window 3 after the body. -/
theorem leaves_3 (c : Dev nD) (t : Fin cfg0.N) : (dats m 0 c).leavesExact 3 t = owns (c : Thread nD τ) (ms0_3 t) fullShare (iblk m c 3 t : Vec F S4x64 .f32) := by
  unfold Dat.leavesExact; rw [show cfg0.idle 3 (grid0.coords t) = false from rfl]; dsimp only [dats]
/-- Window 4 after the body. -/
theorem leaves_4 (c : Dev nD) (t : Fin cfg0.N) : (dats m 0 c).leavesExact 4 t = owns (c : Thread nD τ) (ms0_4 t) fullShare (iblk m c 4 t : Vec F S1x1 .f32) := by
  unfold Dat.leavesExact; rw [show cfg0.idle 4 (grid0.coords t) = false from rfl]; dsimp only [dats]
/-- Window 5 after the body. -/
theorem leaves_5 (c : Dev nD) (t : Fin cfg0.N) : (dats m 0 c).leavesExact 5 t = owns (c : Thread nD τ) (ms0_5 t) fullShare (iblk m c 5 t : Vec F S1x128 .f32) := by
  unfold Dat.leavesExact; rw [show cfg0.idle 5 (grid0.coords t) = false from rfl]; dsimp only [dats]
/-- Window 6 after the body. -/
theorem leaves_6 (c : Dev nD) (t : Fin cfg0.N) : (dats m 0 c).leavesExact 6 t = owns (c : Thread nD τ) (ms0_6 t) fullShare (iblk m c 6 t : Vec F S1x64 .f32) := by
  unfold Dat.leavesExact; rw [show cfg0.idle 6 (grid0.coords t) = false from rfl]; dsimp only [dats]
/-- Window 7 after the body. -/
theorem leaves_7 (c : Dev nD) (t : Fin cfg0.N) : (dats m 0 c).leavesExact 7 t = owns (c : Thread nD τ) (ms0_7 t) fullShare (iblk m c 7 t : Vec F S1x64 .f32) := by
  unfold Dat.leavesExact; rw [show cfg0.idle 7 (grid0.coords t) = false from rfl]; dsimp only [dats]
/-- Window 8 after the body. -/
theorem leaves_8 (c : Dev nD) (t : Fin cfg0.N) : (dats m 0 c).leavesExact 8 t = owns (c : Thread nD τ) (ms0_8 t) fullShare (outAt m c t) := by
  unfold Dat.leavesExact; rw [live8 t]; dsimp only [dats]
/-- Window 0 before the body. -/
theorem before0_0 (c : Dev nD) (t : Fin cfg0.N) (d) : (dats m 0 c).before 0 t d = iblk m c 0 t :=
  before0_0_of m (dats m 0 c) (A_eq m c 0) (fun t => by dsimp only [dats]) t d
/-- Window 1 before the body. -/
theorem before0_1 (c : Dev nD) (t : Fin cfg0.N) (d) : (dats m 0 c).before 1 t d = iblk m c 1 t :=
  before0_1_of m (dats m 0 c) (A_eq m c 1) (fun t => by dsimp only [dats]) t d
/-- Window 2 before the body. -/
theorem before0_2 (c : Dev nD) (t : Fin cfg0.N) (d) : (dats m 0 c).before 2 t d = iblk m c 2 t :=
  before0_2_of m (dats m 0 c) (A_eq m c 2) (fun t => by dsimp only [dats]) t d
/-- Window 3 before the body. -/
theorem before0_3 (c : Dev nD) (t : Fin cfg0.N) (d) : (dats m 0 c).before 3 t d = iblk m c 3 t :=
  before0_3_of m (dats m 0 c) (A_eq m c 3) (fun t => by dsimp only [dats]) t d
/-- Window 4 before the body. -/
theorem before0_4 (c : Dev nD) (t : Fin cfg0.N) (d) : (dats m 0 c).before 4 t d = iblk m c 4 t :=
  before0_4_of m (dats m 0 c) (A_eq m c 4) (fun t => by dsimp only [dats]) t d
/-- Window 5 before the body. -/
theorem before0_5 (c : Dev nD) (t : Fin cfg0.N) (d) : (dats m 0 c).before 5 t d = iblk m c 5 t :=
  before0_5_of m (dats m 0 c) (A_eq m c 5) (fun t => by dsimp only [dats]) t d
/-- Window 6 before the body. -/
theorem before0_6 (c : Dev nD) (t : Fin cfg0.N) (d) : (dats m 0 c).before 6 t d = iblk m c 6 t :=
  before0_6_of m (dats m 0 c) (A_eq m c 6) (fun t => by dsimp only [dats]) t d
/-- Window 7 before the body. -/
theorem before0_7 (c : Dev nD) (t : Fin cfg0.N) (d) : (dats m 0 c).before 7 t d = iblk m c 7 t :=
  before0_7_of m (dats m 0 c) (A_eq m c 7) (fun t => by dsimp only [dats]) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1600000 in
/-- The body at any point: at a batch's first it refills the scratch, at the others it finds its own batch's widened values. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, leaves_0, leaves_1, leaves_2, leaves_3, leaves_4, leaves_5, leaves_6, leaves_7, leaves_8]
  rw [show (dats m 0 c).owesAt () t.succ = (dats m 0 c).owesAt () t.castSucc from rfl]
  rw [show (dats m 0 c).Φ t.succ
    = iprop(iprop(owns (c : Thread nD τ) scM0_0 fullShare (held m c t)) ∗ (∃ r, prngReg c r)) from rfl]
  by_cases h0 : t.val % 17 = 0
  · rw [show outAt m c t = _ from if_pos h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid0.coords t) _ _ _ _ _ _ _ _ _ _ _ _ _ _ _ _ _ _ _ _ ((fillsScratch_iff t).mpr h0) (iblk m c 0 t) (iblk m c 1 t) (iblk m c 2 t) (iblk m c 3 t) (iblk m c 4 t) (iblk m c 5 t) (iblk m c 6 t) (iblk m c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, H8, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid0.coords t) _ _ _ _ _ _ _ _ _ _ _ _ _ _ _ _ _ _ _ _ ((fillsScratch_iff t).mpr h0) (iblk m c 0 t) (iblk m c 1 t) (iblk m c 2 t) (iblk m c 3 t) (iblk m c 4 t) (iblk m c 5 t) (iblk m c 6 t) (iblk m c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      iintro ⟨H0, H1, H2, H3, H4, H5, H6, H7, H8, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · have hz : t.val ≠ 0 := fun h => h0 (by rw [h])
    rw [show outAt m c t = _ from if_neg h0, PhiS_castSucc m c t, PhiS_pos m c _ _ hz, held_pred m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_later c (grid0.coords t) _ _ _ _ _ _ _ _ _ _ _ _ _ _ _ _ _ _ _ _ (fun h => h0 ((fillsScratch_iff t).mp h)) (iblk m c 0 t) (iblk m c 1 t) (iblk m c 2 t) (iblk m c 3 t) (iblk m c 4 t) (iblk m c 5 t) (iblk m c 6 t) (iblk m c 7 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    iintro ⟨H0, H1, H2, H3, H4, H5, H6, H7, H8, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 68 := N_0; omega), PhiA0_eq]
  iintro ⟨HS0, Hg⟩
  isplitl [HS0]
  · iexists _; iexact HS0
  iexact Hg

set_option backward.isDefEq.respectTransparency.types false in
/-- The whole program runs to an end, leaves every array as the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- THE FRAME: the program runs to an end, every argument is left as it was, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.KernelIdeal.Att
-- ==== Proof.AttIdeal.HostAt.lean ====
module

public import proofs.«01_k».proof.Proof.Gen.KernelIdeal.Frame
public import Idealize.ShloMosaic.Lib.Pointwise

@[expose] public section

set_option maxRecDepth 16384

noncomputable section

namespace Cert.KernelIdeal.Att

open Cert.KernelIdeal.Gen
open Idealize.ShloMosaic Idealize.ShloMosaic.TcCoe Idealize.SL.Sem

/-! # The arrays the host prepares, read at an index -/

variable (m : (ℓ : Loc nD τ sig) → Buf (Elt Ideal) ℓ)

/-- The queries' rows are the context's and the latents' queries, joined. -/
theorem V_q (c : Dev nD) :
    V m c main_v1 = shapeCast S17408x512 (concatenate S4x4352x4x2x64 1 [⟨S4x256x4x2x64, m ((c.tc : Thread nD τ).loc main_arg0)⟩, ⟨S4x4096x4x2x64, m ((c.tc : Thread nD τ).loc main_arg1)⟩]
      concatenates_S4x256x4x2x64_S4x4096x4x2x64_S4x4352x4x2x64_d1) shapeCasts_S4x4352x4x2x64_S17408x512 := by
  simp only [V, hostOps0, List.flatten_cons, List.flatten_nil, List.append_nil, List.cons_append, List.nil_append]
  after_results
  rfl

/-- The transposed keys are the context's and the latents' keys, joined, transposed. -/
theorem V_k (c : Dev nD) :
    V m c main_v5 = truncf .bf16 (transpose S512x17408 [1, 0] (shapeCast S17408x512 (concatenate S4x4352x4x2x64 1 [⟨S4x256x4x2x64, m ((c.tc : Thread nD τ).loc main_arg2)⟩, ⟨S4x4096x4x2x64, m ((c.tc : Thread nD τ).loc main_arg3)⟩]
      concatenates_S4x256x4x2x64_S4x4096x4x2x64_S4x4352x4x2x64_d1) shapeCasts_S4x4352x4x2x64_S17408x512 : FVec Ideal S17408x512 .f32) transposes_S17408x512_S512x17408_1_0) bitsLt_bf16_f32 := by
  simp only [V, hostOps0, List.flatten_cons, List.flatten_nil, List.append_nil, List.cons_append, List.nil_append]
  after_results
  rfl

/-- The values' rows are the context's and the latents' values, joined. -/
theorem V_v (c : Dev nD) :
    V m c main_v8 = truncf .bf16 (shapeCast S17408x512 (concatenate S4x4352x4x128 1 [⟨S4x256x4x128, m ((c.tc : Thread nD τ).loc main_arg4)⟩, ⟨S4x4096x4x128, m ((c.tc : Thread nD τ).loc main_arg5)⟩]
      concatenates_S4x256x4x128_S4x4096x4x128_S4x4352x4x128_d1) shapeCasts_S4x4352x4x128_S17408x512 : FVec Ideal S17408x512 .f32) bitsLt_bf16_f32 := by
  simp only [V, hostOps0, List.flatten_cons, List.flatten_nil, List.append_nil, List.cons_append, List.nil_append]
  after_results
  rfl

/-- The gain as one row. -/
theorem V_g (c : Dev nD) :
    V m c main_v9 = broadcastInDim S1x128 ![1] bcast_S128_S1x128_1 (m ((c.tc : Thread nD τ).loc main_arg8)) := by
  simp only [V, hostOps0, List.flatten_cons, List.flatten_nil, List.append_nil, List.cons_append, List.nil_append]
  after_results

/-- A query. -/
theorem q_at (c : Dev nD) (r : Fin 17408) (a : Fin 512) :
    V m c main_v1 (ix2 r a)
      = if h : r.val % 4352 < 256 then
          m ((c.tc : Thread nD τ).loc main_arg0) (ix5 ⟨r.val / 4352, by omega⟩ ⟨r.val % 4352, h⟩ ⟨a.val / 128, by omega⟩ ⟨a.val / 64 % 2, by omega⟩ ⟨a.val % 64, by omega⟩)
        else m ((c.tc : Thread nD τ).loc main_arg1) (ix5 ⟨r.val / 4352, by omega⟩ ⟨r.val % 4352 - 256, by omega⟩ ⟨a.val / 128, by omega⟩ ⟨a.val / 64 % 2, by omega⟩ ⟨a.val % 64, by omega⟩) := by
  rw [V_q]
  pointwise

/-- A key. -/
theorem k_at (c : Dev nD) (r : Fin 17408) (a : Fin 512) :
    V m c main_v5 (ix2 a r)
      = if h : r.val % 4352 < 256 then
          m ((c.tc : Thread nD τ).loc main_arg2) (ix5 ⟨r.val / 4352, by omega⟩ ⟨r.val % 4352, h⟩ ⟨a.val / 128, by omega⟩ ⟨a.val / 64 % 2, by omega⟩ ⟨a.val % 64, by omega⟩)
        else m ((c.tc : Thread nD τ).loc main_arg3) (ix5 ⟨r.val / 4352, by omega⟩ ⟨r.val % 4352 - 256, by omega⟩ ⟨a.val / 128, by omega⟩ ⟨a.val / 64 % 2, by omega⟩ ⟨a.val % 64, by omega⟩) := by
  rw [V_k]
  pointwise

/-- A value. -/
theorem v_at (c : Dev nD) (r : Fin 17408) (a : Fin 512) :
    V m c main_v8 (ix2 r a)
      = if h : r.val % 4352 < 256 then
          m ((c.tc : Thread nD τ).loc main_arg4) (ix4 ⟨r.val / 4352, by omega⟩ ⟨r.val % 4352, h⟩ ⟨a.val / 128, by omega⟩ ⟨a.val % 128, by omega⟩)
        else m ((c.tc : Thread nD τ).loc main_arg5) (ix4 ⟨r.val / 4352, by omega⟩ ⟨r.val % 4352 - 256, by omega⟩ ⟨a.val / 128, by omega⟩ ⟨a.val % 128, by omega⟩) := by
  rw [V_v]
  pointwise

/-- A gain. -/
theorem g_at (c : Dev nD) (a : Fin 128) : V m c main_v9 (ix2 0 a) = m ((c.tc : Thread nD τ).loc main_arg8) (ix1 a) := by
  rw [V_g]
  pointwise

end Cert.KernelIdeal.Att
-- ==== Proof.AttIdeal.Widened.lean ====
module

public import proofs.«01_k».proof.Proof.AttIdeal.RunFirst
public import Idealize.ShloMosaic.Lib.Pointwise
public import Idealize.ShloMosaic.Lib.Pipeline.ValueKit.Tiles

@[expose] public section

set_option maxRecDepth 16384

noncomputable section

namespace Cert.KernelIdeal.Att

open Cert.KernelIdeal.Gen
open Idealize.ShloMosaic

/-! # The widened values, read at an index -/

/-- Row `k`, column `c` of the widened values: in each 256 columns, 128 of the values and then 128 ones. -/
def wideAt (x2 : Vec Ideal S4352x512 .bf16) (y : S4352x1024.Idx) : EReal :=
  if (y 1).val % 256 < 128 then x2 (ix2 (y 0) ⟨128 * ((y 1).val / 256) + (y 1).val % 256 % 128, by have := (y 1).isLt; simp at this; omega⟩) else 1

/-- A piece of values holds `wideAt`. -/
theorem tile_val (x2 : Vec Ideal S4352x512 .bf16) (h : ℕ) (hh : h < 4) (y : S4352x1024.Idx)
    (w : (⟨2, ![4352, 128]⟩ : Shape).Idx → EReal)
    (hw : ∀ (a : Fin 4352) (b : Fin 128), w (ix2 a b) = x2 (ix2 a ⟨128 * h + b.val, by omega⟩)) :
    View.TileAt (Val := Elt Ideal) (e := .bf16) y ![0, 256 * h] ![4352, 128] w (wideAt x2 y) := by
  intro x hx
  have h0 : (y 0).val = 0 + (x 0).val := hx 0
  have h1 : (y 1).val = 256 * h + (x 1).val := hx 1
  have hb : (x 1).val < 128 := (x 1).isLt
  refine ((congrArg w (eq_ix2 x)).trans (hw (x 0) (x 1))).trans ?_
  unfold wideAt
  rw [if_pos (by omega)]
  congr 2
  · exact Fin.ext (by omega)
  · exact Fin.ext (by show 128 * h + (x 1).val = 128 * ((y 1).val / 256) + (y 1).val % 256 % 128; omega)

/-- A piece of ones holds `wideAt`. -/
theorem tile_one (x2 : Vec Ideal S4352x512 .bf16) (h : ℕ) (y : S4352x1024.Idx)
    (w : (⟨2, ![4352, 128]⟩ : Shape).Idx → EReal) (hw : ∀ (a : Fin 4352) (b : Fin 128), w (ix2 a b) = 1) :
    View.TileAt (Val := Elt Ideal) (e := .bf16) y ![0, 256 * h + 128] ![4352, 128] w (wideAt x2 y) := by
  intro x hx
  have h1 : (y 1).val = 256 * h + 128 + (x 1).val := hx 1
  have hb : (x 1).val < 128 := (x 1).isLt
  refine ((congrArg w (eq_ix2 x)).trans (hw (x 0) (x 1))).trans ?_
  unfold wideAt
  rw [if_neg (by omega)]

/-- The widened values at every index. -/
theorem widened_at (x2 : Vec Ideal S4352x512 .bf16) (y : S4352x1024.Idx) : widened x2 y = wideAt x2 y := by
  refine View.canon_eq_of_allAt _ y _ (fill_cover x2 y) ?_
  unfold fillPieces
  refine View.allAt_cons_unit _ _ _ _ _ (tile_one x2 3 y _ fun a b => ?_) ?_
  · pointwise [k0_pay139]
  refine View.allAt_cons_unit _ _ _ _ _ (tile_val x2 3 (by decide) y _ fun a b => ?_) ?_
  · pointwise [k0_pay138, k0_pay11]
  refine View.allAt_cons_unit _ _ _ _ _ (tile_one x2 2 y _ fun a b => ?_) ?_
  · pointwise [k0_pay10]
  refine View.allAt_cons_unit _ _ _ _ _ (tile_val x2 2 (by decide) y _ fun a b => ?_) ?_
  · pointwise [k0_pay9]
  refine View.allAt_cons_unit _ _ _ _ _ (tile_one x2 1 y _ fun a b => ?_) ?_
  · pointwise [k0_pay8]
  refine View.allAt_cons_unit _ _ _ _ _ (tile_val x2 1 (by decide) y _ fun a b => ?_) ?_
  · pointwise [k0_pay7]
  refine View.allAt_cons_unit _ _ _ _ _ (tile_one x2 0 y _ fun a b => ?_) ?_
  · pointwise [k0_pay6]
  refine View.allAt_cons_unit _ _ _ _ _ (tile_val x2 0 (by decide) y _ fun a b => ?_) ?_
  · pointwise [k0_pay5]
  exact View.allAt_nil y _

/-- A column of values. -/
theorem widened_val (x2 : Vec Ideal S4352x512 .bf16) (k : Fin 4352) (h : Fin 4) (e : Fin 128) (hlt : 256 * h.val + e.val < 1024) :
    widened x2 (ix2 k ⟨256 * h.val + e.val, hlt⟩) = x2 (ix2 k ⟨128 * h.val + e.val, by omega⟩) := by
  rw [widened_at]; unfold wideAt
  rw [if_pos (by show (256 * h.val + e.val) % 256 < 128; omega)]
  congr 2
  exact Fin.ext (by show 128 * ((256 * h.val + e.val) / 256) + (256 * h.val + e.val) % 256 % 128 = 128 * h.val + e.val; omega)

/-- A column of ones. -/
theorem widened_one (x2 : Vec Ideal S4352x512 .bf16) (k : Fin 4352) (h : Fin 4) (hlt : 256 * h.val + 128 < 1024) :
    widened x2 (ix2 k ⟨256 * h.val + 128, hlt⟩) = (1 : EReal) := by
  rw [widened_at]; unfold wideAt
  rw [if_neg (by show ¬ (256 * h.val + 128) % 256 < 128; omega)]

end Cert.KernelIdeal.Att
-- ==== Proof.AttIdeal.Softmax.lean ====
module

public import Idealize.ShloMosaic.Lib.Pointwise

@[expose] public section

noncomputable section

namespace Cert.Softmax

open Idealize.ShloMosaic

/-! # Softmax attention over the reals

Both programs weigh values by shifted exponentials and divide by the exponentials' sum. Whatever the shift, and in
either base, the quotient is one real number, `attend`. -/

variable {ι : Type} [Fintype ι]

/-- The values `v` weighed by the softmax of the scores `a`. -/
def attend (a v : ι → ℝ) : ℝ := (∑ k, Real.exp (a k) * v k) / ∑ k, Real.exp (a k)

/-- A sum of reals among the extended reals. -/
theorem coe_sum (f : ι → ℝ) : ((∑ k, f k : ℝ) : EReal) = ∑ k, (f k : EReal) := by
  classical
  induction (Finset.univ : Finset ι) using Finset.induction with
  | empty => simp
  | insert a s h ih => rw [Finset.sum_insert h, Finset.sum_insert h, EReal.coe_add, ih]

/-- Renaming the keys changes nothing. -/
theorem attend_equiv {κ : Type} [Fintype κ] (σ : κ ≃ ι) (a v : ι → ℝ) : attend (a ∘ σ) (v ∘ σ) = attend a v := by
  unfold attend
  rw [← σ.sum_comp (fun k => Real.exp (a k) * v k), ← σ.sum_comp (fun k => Real.exp (a k))]; rfl

/-- Shifting every score by one real changes nothing. -/
theorem attend_shift (a v : ι → ℝ) (d : ℝ) : attend (fun k => a k - d) v = attend a v := by
  unfold attend
  have h : ∀ k, Real.exp (a k - d) = Real.exp (-d) * Real.exp (a k) := fun k => by rw [← Real.exp_add]; congr 1; ring
  simp only [h, mul_assoc, ← Finset.mul_sum]
  exact mul_div_mul_left _ _ (Real.exp_pos _).ne'

/-- The exponentials' sum is positive where there is a key. -/
theorem sum_pos [Nonempty ι] (a : ι → ℝ) : 0 < ∑ k, Real.exp (a k) :=
  Finset.sum_pos (fun _ _ => Real.exp_pos _) Finset.univ_nonempty

/-- A power of two is an exponential. -/
theorem exp2_coe (x : ℝ) : Ideal.exp2 (x : EReal) = ((Real.exp (x * Real.log 2) : ℝ) : EReal) := by
  rw [Ideal.exp2_coe]; congr 1
  show (2 : ℝ) ^ x = _
  rw [Real.rpow_def_of_pos (by norm_num)]; congr 1; ring

/-- The kernel's quotient: powers of two of shifted scores weigh the values, and their sum (the powers times ones)
    divides. -/
theorem attend_exp2 [Nonempty ι] (s v : ι → ℝ) (d : ℝ) :
    (∑ k, Ideal.exp2 ((s k : EReal) - (d : EReal)) * (v k : EReal))
        * Ideal.div 1 (∑ k, Ideal.exp2 ((s k : EReal) - (d : EReal)) * 1)
      = ((attend (fun k => s k * Real.log 2) v : ℝ) : EReal) := by
  have hp := sum_pos fun k => (s k - d) * Real.log 2
  simp only [← EReal.coe_sub, exp2_coe, mul_one, ← EReal.coe_mul, ← coe_sum]
  rw [Ideal.div_coe hp.ne', one_mul, ← EReal.coe_mul]
  congr 1
  rw [← attend_shift _ _ (d * Real.log 2)]
  unfold attend
  simp only [← sub_mul]
  rw [mul_one_div]

/-- The reference's row: the difference of two softmaxes weighs the values. -/
theorem attend_sub [Nonempty ι] (a b v : ι → ℝ) (da db lam : ℝ) :
    (∑ k, (v k : EReal) *
        (Ideal.div (Ideal.exp ((a k : EReal) - (da : EReal))) (∑ k, Ideal.exp ((a k : EReal) - (da : EReal)))
          - (lam : EReal) * Ideal.div (Ideal.exp ((b k : EReal) - (db : EReal))) (∑ k, Ideal.exp ((b k : EReal) - (db : EReal)))))
      = ((attend a v - lam * attend b v : ℝ) : EReal) := by
  have hp := sum_pos fun k => a k - da
  have hq := sum_pos fun k => b k - db
  simp only [← EReal.coe_sub, Ideal.exp_coe, ← coe_sum, Ideal.div_coe hp.ne', Ideal.div_coe hq.ne', ← EReal.coe_mul]
  congr 1
  rw [← attend_shift a v da, ← attend_shift b v db]
  unfold attend
  rw [Finset.sum_div, Finset.sum_div, Finset.mul_sum, ← Finset.sum_sub_distrib]
  refine Finset.sum_congr rfl fun k _ => ?_
  ring

/-- The greatest of finitely many reals, folded from minus infinity, is a real. -/
theorem fold_max_real [Nonempty ι] (f : ι → ℝ) : ∃ r : ℝ, Finset.univ.fold max (⊥ : EReal) (fun k => (f k : EReal)) = r := by
  rw [show Finset.univ.fold max (⊥ : EReal) (fun k => (f k : EReal)) = Finset.univ.sup fun k => (f k : EReal) from rfl]
  obtain ⟨k, -, hk⟩ := Finset.exists_mem_eq_sup (Finset.univ : Finset ι) Finset.univ_nonempty fun k => (f k : EReal)
  exact ⟨f k, hk⟩

/-- The pattern of minus infinity. -/
theorem ofBits_bot : Ideal.ofBits .f32 0xFF800000#32 = (⊥ : EReal) := by simp [Ideal.ofBits, Ideal.ieee]

/-- The pattern of plus infinity. -/
theorem ofBits_top : Ideal.ofBits .f32 0x7F800000#32 = (⊤ : EReal) := by simp [Ideal.ofBits, Ideal.ieee]

/-- The pattern of one eighth. -/
theorem ofBits_eighth : Ideal.ofBits .f32 0x3E000000#32 = (((1 : ℝ) / 8 : ℝ) : EReal) := by
  simp [Ideal.ofBits, Ideal.ieee, -EReal.coe_mul]; norm_num

/-- The pattern of forty. -/
theorem ofBits_forty : Ideal.ofBits .f32 0x42200000#32 = ((40 : ℝ) : EReal) := by
  simp [Ideal.ofBits, Ideal.ieee, -EReal.coe_mul]; norm_num

/-- The greatest absolute value of finitely many numbers is at least zero. -/
theorem fold_abs_nonneg [Nonempty ι] (f : ι → EReal) : 0 ≤ Finset.univ.fold max (⊥ : EReal) (fun k => max (f k) (-f k)) := by
  rw [show Finset.univ.fold max (⊥ : EReal) (fun k => max (f k) (-f k)) = Finset.univ.sup fun k => max (f k) (-f k) from rfl]
  obtain ⟨k⟩ := ‹Nonempty ι›
  refine le_trans ?_ (Finset.le_sup (Finset.mem_univ k))
  rcases le_total 0 (f k) with h | h
  · exact le_max_of_le_left h
  · exact le_max_of_le_right (by rw [EReal.neg_nonneg]; exact h)

/-- An extended real between two reals is a real. -/
theorem real_of_between {x : EReal} {a b : ℝ} (ha : (a : EReal) ≤ x) (hb : x ≤ (b : EReal)) : ∃ r : ℝ, x = r :=
  ⟨x.toReal, (EReal.coe_toReal (fun h => by rw [h] at hb; exact absurd hb (by simp)) (fun h => by rw [h] at ha; exact absurd ha (by simp))).symm⟩

/-- Root-mean-square normalisation of a row `y` of 128, times a gain, times one minus the initial mixing weight. -/
def rmsOut (y : Fin 128 → EReal) (g li : EReal) (e : Fin 128) : EReal :=
  y e * Ideal.rsqrt (Ideal.div (∑ x : Fin 128, y x * y x) (Ideal.ofBits .f32 0x43000000#32) + Ideal.ofBits .f32 0x358637BD#32)
    * g * (1 - li)

/-- The mixing weight: the difference of two exponentials of inner products of parameters, plus its initial value. -/
def mixWeight (p : Fin 4 → Fin 64 → EReal) (li : EReal) : EReal :=
  Ideal.exp (∑ x : Fin 64, p 0 x * p 1 x) - Ideal.exp (∑ x : Fin 64, p 2 x * p 3 x) + li

/-- The mixing weight of real parameters, as a real. -/
def mixReal (p : Fin 4 → Fin 64 → ℝ) (li : ℝ) : ℝ :=
  Real.exp (∑ x : Fin 64, p 0 x * p 1 x) - Real.exp (∑ x : Fin 64, p 2 x * p 3 x) + li

/-- The mixing weight of real parameters is real. -/
theorem mixWeight_coe (p : Fin 4 → Fin 64 → ℝ) (li : ℝ) :
    mixWeight (fun i x => (p i x : EReal)) (li : EReal) = ((mixReal p li : ℝ) : EReal) := by
  unfold mixWeight mixReal
  simp only [← EReal.coe_mul, ← coe_sum, Ideal.exp_coe, ← EReal.coe_sub, ← EReal.coe_add]

/-- The same of extended reals that are reals. -/
theorem mixWeight_real (p : Fin 4 → Fin 64 → EReal) (li : EReal) (hp : ∀ i x, p i x = ((p i x).toReal : EReal)) (hl : li = (li.toReal : EReal)) :
    mixWeight p li = ((mixReal (fun i x => (p i x).toReal) li.toReal : ℝ) : EReal) := by
  rw [← mixWeight_coe, ← hl, ← funext fun i => funext fun x => hp i x]

end Cert.Softmax
-- ==== Proof.AttIdeal.KernelAt.lean ====
module

public import proofs.«01_k».proof.Proof.AttIdeal.Widened
public import proofs.«01_k».proof.Proof.AttIdeal.Softmax

@[expose] public section

set_option maxRecDepth 16384

noncomputable section

namespace Cert.KernelIdeal.Att

open Cert.KernelIdeal.Gen
open Idealize.ShloMosaic Cert.Softmax

/-! # The kernel's blocks, read at an index -/

/-- The weighted values over the weights' sum. -/
theorem share_at (o : FVec Ideal S256x256 .f32) (r : Fin 256) (e : Fin 128) :
    share o (ix2 r e) = o (ix2 r ⟨e.val, by omega⟩) * Ideal.div 1 (o (ix2 r 128)) := by
  pointwise [share]

/-- The difference of a head's two maps. -/
theorem mix_at (lam : FVec Ideal S1x1 .f32) (a b : FVec Ideal S256x128 .f32) (r : Fin 256) (e : Fin 128) :
    mix lam a b (ix2 r e) = a (ix2 r e) - lam (ix2 0 0) * b (ix2 r e) := by
  pointwise [mix]

/-- The normalisation, before the last factor. -/
theorem normed_at (g : Vec Ideal S1x128 .f32) (o : FVec Ideal S256x128 .f32) (r : Fin 256) (e : Fin 128) :
    normed g o (ix2 r e)
      = o (ix2 r e)
          * Ideal.rsqrt (Ideal.div (∑ x : Fin 128, o (ix2 r x) * o (ix2 r x)) (Ideal.ofBits .f32 0x43000000#32) + Ideal.ofBits .f32 0x358637BD#32)
          * g (ix2 0 e) := by
  pointwise [normed]

/-- Column `128 h + e` of four heads side by side is head `h`'s column `e`. -/
theorem sideBySide_at (li : Vec Ideal S1x1 .f32) (y : Fin 4 → FVec Ideal S256x128 .f32) (r : Fin 256) (h : Fin 4) (e : Fin 128)
    (hlt : 128 * h.val + e.val < 512) :
    sideBySide li y (ix2 r ⟨128 * h.val + e.val, hlt⟩) = y h (ix2 r e) * (1 - li (ix2 0 0)) := by
  have he := e.isLt
  fin_cases h <;> pointwise [sideBySide] <;> simp <;> split_ifs <;>
    first
      | omega
      | (congr 3; apply Fin.ext; show _ - _ = e.val; omega)

/-- The mixing weight of the kernel. -/
theorem lam_at (x3 : Vec Ideal S4x64 .f32) (x4 : Vec Ideal S1x1 .f32) :
    k0_pay140 (View.ld x3 (Rect.unit ![0, 0] S4x64.size inb_S4x64_S4x64_0_0)) (View.ld x4 (Rect.unit ![0, 0] S1x1.size inb_S1x1_S1x1_0_0)) (ix2 0 0)
      = mixWeight (fun i x => x3 (ix2 i x)) (x4 (ix2 0 0)) := by
  pointwise [k0_pay140, mixWeight]

/-- An output block's row: each head's difference of maps, normalised. -/
theorem block_at (x3 : Vec Ideal S4x64 .f32) (x4 : Vec Ideal S1x1 .f32) (x5 : Vec Ideal S1x128 .f32)
    (o : Fin 4 → Fin 2 → FVec Ideal S256x256 .f32) (r : Fin 256) (h : Fin 4) (e : Fin 128) (hlt : 128 * h.val + e.val < 512) :
    block x3 x4 x5 o (ix2 r ⟨128 * h.val + e.val, hlt⟩)
      = rmsOut (fun e => o h 0 (ix2 r ⟨e.val, by omega⟩) * Ideal.div 1 (o h 0 (ix2 r 128))
            - mixWeight (fun i x => x3 (ix2 i x)) (x4 (ix2 0 0)) * (o h 1 (ix2 r ⟨e.val, by omega⟩) * Ideal.div 1 (o h 1 (ix2 r 128))))
          (x5 (ix2 0 e)) (x4 (ix2 0 0)) e := by
  unfold block
  rw [sideBySide_at, normed_at]
  simp only [mix_at, share_at, lam_at]
  unfold rmsOut
  congr 2
  · pointwise
  · pointwise

/-- A score of a tile of the context. -/
theorem ctx_scores_at (x0 : Vec Ideal S256x512 .f32) (x1 : Vec Ideal S512x4352 .bf16) (h : Fin 4) (j : Fin 2) (r : Fin 256) (k : Fin 256) :
    scores (n := 256) (by decide) dot_S256x64_S64x256_S256x256_1_0_0_1_n_n shapeCasts_S64x256_S64x256 x0 x1 h j (ix2 r k)
      = ∑ x : Fin 64, x0 (ix2 r ⟨mapOff h j + x.val, by have := mapOff_le h j; omega⟩) * Named.named (F := Ideal) κ "log2e_over_8" (φ := .f32) 0x3E38AA3B#32
          * x1 (ix2 ⟨mapOff h j + x.val, by have := mapOff_le h j; omega⟩ ⟨k.val, by omega⟩) := by
  pointwise [scores, k0_pay141]

/-- A score of a tile of the latents. -/
theorem lat_scores_at (x0 : Vec Ideal S256x512 .f32) (x1 : Vec Ideal S512x4352 .bf16) (h : Fin 4) (j : Fin 2) (r : Fin 256) (k : Fin 4352) :
    scores (n := 4352) (by decide) dot_S256x64_S64x4352_S256x4352_1_0_0_1_n_n shapeCasts_S64x4352_S64x4352 x0 x1 h j (ix2 r k)
      = ∑ x : Fin 64, x0 (ix2 r ⟨mapOff h j + x.val, by have := mapOff_le h j; omega⟩) * Named.named (F := Ideal) κ "log2e_over_8" (φ := .f32) 0x3E38AA3B#32
          * x1 (ix2 ⟨mapOff h j + x.val, by have := mapOff_le h j; omega⟩ k) := by
  pointwise [scores, k0_pay141]

/-- The weighted values of a tile of the context. -/
theorem ctx_weigh_at (s sh : FVec Ideal S256x256 .f32) (xs : Vec Ideal S4352x1024 .bf16) (h : Fin 4) (r : Fin 256) (c : Fin 256) :
    weigh (n := 256) (by decide) dot_S256x256_S256x256_S256x256_1_0_0_1_n_n s sh xs h (ix2 r c)
      = ∑ x : Fin 256, Ideal.exp2 (s (ix2 r x) - sh (ix2 r x)) * xs (ix2 ⟨x.val, by omega⟩ ⟨256 * h.val + c.val, by omega⟩) := by
  pointwise [weigh]
  rfl

/-- The weighted values of a tile of the latents. -/
theorem lat_weigh_at (s sh : FVec Ideal S256x4352 .f32) (xs : Vec Ideal S4352x1024 .bf16) (h : Fin 4) (r : Fin 256) (c : Fin 256) :
    weigh (n := 4352) (by decide) dot_S256x4352_S4352x256_S256x256_1_0_0_1_n_n s sh xs h (ix2 r c)
      = ∑ x : Fin 4352, Ideal.exp2 (s (ix2 r x) - sh (ix2 r x)) * xs (ix2 x ⟨256 * h.val + c.val, by omega⟩) := by
  pointwise [weigh]
  rfl

/-- One map of one head: real scores shifted by a real weigh real values, and the weights' sum divides. -/
theorem head_at {n : ℕ} [NeZero n] (w : Fin n → Fin 256 → EReal) (s : Fin n → ℝ) (v : Fin n → Fin 128 → ℝ) (d : ℝ)
    (hv : ∀ k (e : Fin 128), w k ⟨e.val, by omega⟩ = (v k e : EReal)) (h1 : ∀ k, w k 128 = 1) (e : Fin 128) :
    (∑ k, Ideal.exp2 ((s k : EReal) - (d : EReal)) * w k ⟨e.val, by omega⟩)
        * Ideal.div 1 (∑ k, Ideal.exp2 ((s k : EReal) - (d : EReal)) * w k 128)
      = ((attend (fun k => s k * Real.log 2) (fun k => v k e) : ℝ) : EReal) := by
  simp only [hv, h1]
  exact attend_exp2 _ _ _

/-- The constant the kernel multiplies queries by is the reciprocal of 8 log 2. -/
theorem scale_eq : Named.named (F := Ideal) κ "log2e_over_8" (φ := .f32) 0x3E38AA3B#32 = (((8 * Real.log 2)⁻¹ : ℝ) : EReal) :=
  IdealRules.named_const.ideal_named_scalar _ _ _ _ rfl

/-- The real product of a query row and a key column, over eight. -/
def realScore (q : S256x512.Idx → ℝ) (k : S512x4352.Idx → ℝ) (h : Fin 4) (j : Fin 2) (r : Fin 256) (t : Fin 4352) : ℝ :=
  (∑ x : Fin 64, q (ix2 r ⟨mapOff h j + x.val, by have := mapOff_le h j; omega⟩) * k (ix2 ⟨mapOff h j + x.val, by have := mapOff_le h j; omega⟩ t)) * (1 / 8)

/-- A score in base two is a real, `realScore` over log 2. -/
theorem scores_real (q : S256x512.Idx → ℝ) (k : S512x4352.Idx → ℝ) (h : Fin 4) (j : Fin 2) (r : Fin 256) (t : Fin 4352) :
    (∑ x : Fin 64, ((q (ix2 r ⟨mapOff h j + x.val, by have := mapOff_le h j; omega⟩) : ℝ) : EReal) * Named.named (F := Ideal) κ "log2e_over_8" (φ := .f32) 0x3E38AA3B#32
          * ((k (ix2 ⟨mapOff h j + x.val, by have := mapOff_le h j; omega⟩ t) : ℝ) : EReal))
      = ((realScore q k h j r t / Real.log 2 : ℝ) : EReal) := by
  have hl : Real.log 2 ≠ 0 := (Real.log_pos (by norm_num)).ne'
  simp only [scale_eq, ← EReal.coe_mul, ← coe_sum]
  congr 1
  unfold realScore
  rw [Finset.sum_mul, Finset.sum_div]
  refine Finset.sum_congr rfl fun x _ => ?_
  field_simp

/-- What a shift of the exponents must do: give each row of real scores one real. -/
def RealShift {n : ℕ} (shift : FVec Ideal ⟨2, ![256, n]⟩ .f32 → FVec Ideal ⟨2, ![256, n]⟩ .f32) : Prop :=
  ∀ (s : FVec Ideal ⟨2, ![256, n]⟩ .f32) (a : Fin 256 → Fin n → ℝ), (∀ r k, s (ix2 r k) = (a r k : EReal)) →
    ∀ r, ∃ d : ℝ, ∀ k, shift s (ix2 r k) = (d : EReal)

/-- What a tile of the context leaves: the normalised difference of two softmax attentions over the batch's first 256 keys. -/
theorem ctxBlock_at (q : S256x512.Idx → ℝ) (k : S512x4352.Idx → ℝ) (v : S4352x512.Idx → ℝ)
    (x0 : Vec Ideal S256x512 .f32) (x1 : Vec Ideal S512x4352 .bf16) (x2 : Vec Ideal S4352x512 .bf16) (x3 : Vec Ideal S4x64 .f32)
    (x4 : Vec Ideal S1x1 .f32) (x5 : Vec Ideal S1x128 .f32) (lam : ℝ)
    (h0 : ∀ i, x0 i = (q i : EReal)) (h1 : ∀ i, x1 i = (k i : EReal)) (h2 : ∀ i, x2 i = (v i : EReal))
    (hl : mixWeight (fun i x => x3 (ix2 i x)) (x4 (ix2 0 0)) = (lam : EReal))
    (shift : FVec Ideal S256x256 .f32 → FVec Ideal S256x256 .f32) (hs : RealShift (n := 256) shift)
    (r : Fin 256) (h : Fin 4) (e : Fin 128) (hlt : 128 * h.val + e.val < 512) :
    ctxBlock x0 x1 x3 x4 x5 (widened x2) shift (ix2 r ⟨128 * h.val + e.val, hlt⟩)
      = rmsOut (fun e => ((attend (fun t : Fin 256 => realScore q k h 0 r ⟨t.val, by omega⟩) (fun t => v (ix2 ⟨t.val, by omega⟩ ⟨128 * h.val + e.val, by omega⟩))
            - lam * attend (fun t : Fin 256 => realScore q k h 1 r ⟨t.val, by omega⟩) (fun t => v (ix2 ⟨t.val, by omega⟩ ⟨128 * h.val + e.val, by omega⟩)) : ℝ) : EReal))
          (x5 (ix2 0 e)) (x4 (ix2 0 0)) e := by
  have hlog : Real.log 2 ≠ 0 := (Real.log_pos (by norm_num)).ne'
  have hsc : ∀ j r t, scores (n := 256) (by decide) dot_S256x64_S64x256_S256x256_1_0_0_1_n_n shapeCasts_S64x256_S64x256 x0 x1 h j (ix2 r t)
      = ((realScore q k h j r ⟨t.val, by omega⟩ / Real.log 2 : ℝ) : EReal) := fun j r t => by
    rw [ctx_scores_at]; simp only [h0, h1]; exact scores_real q k h j r ⟨t.val, by omega⟩
  unfold ctxBlock
  rw [block_at, hl]
  have key : ∀ j (e : Fin 128),
      weigh (n := 256) (by decide) dot_S256x256_S256x256_S256x256_1_0_0_1_n_n
          (scores (n := 256) (by decide) dot_S256x64_S64x256_S256x256_1_0_0_1_n_n shapeCasts_S64x256_S64x256 x0 x1 h j)
          (shift (scores (n := 256) (by decide) dot_S256x64_S64x256_S256x256_1_0_0_1_n_n shapeCasts_S64x256_S64x256 x0 x1 h j))
          (widened x2) h (ix2 r ⟨e.val, by omega⟩)
        * Ideal.div 1 (weigh (n := 256) (by decide) dot_S256x256_S256x256_S256x256_1_0_0_1_n_n
          (scores (n := 256) (by decide) dot_S256x64_S64x256_S256x256_1_0_0_1_n_n shapeCasts_S64x256_S64x256 x0 x1 h j)
          (shift (scores (n := 256) (by decide) dot_S256x64_S64x256_S256x256_1_0_0_1_n_n shapeCasts_S64x256_S64x256 x0 x1 h j))
          (widened x2) h (ix2 r 128))
        = ((attend (fun t : Fin 256 => realScore q k h j r ⟨t.val, by omega⟩) (fun t => v (ix2 ⟨t.val, by omega⟩ ⟨128 * h.val + e.val, by omega⟩)) : ℝ) : EReal) := by
    intro j e
    obtain ⟨d, hd⟩ := hs _ _ (hsc j) r
    rw [ctx_weigh_at, ctx_weigh_at]
    simp only [hsc, hd]
    refine (head_at (fun (t : Fin 256) (c : Fin 256) => widened x2 (ix2 ⟨t.val, by omega⟩ ⟨256 * h.val + c.val, by omega⟩)) _
      (fun t e => v (ix2 ⟨t.val, by omega⟩ ⟨128 * h.val + e.val, by omega⟩)) d (fun t e => ?_) (fun t => ?_) e).trans ?_
    · rw [widened_val, h2]
    · exact widened_one x2 _ h _
    · simp only [div_mul_cancel₀ _ hlog]
  simp only [key, ← EReal.coe_mul, ← EReal.coe_sub]

/-- What a tile of the latents leaves: the same over all 4352 keys. -/
theorem latBlock_at (q : S256x512.Idx → ℝ) (k : S512x4352.Idx → ℝ) (v : S4352x512.Idx → ℝ)
    (x0 : Vec Ideal S256x512 .f32) (x1 : Vec Ideal S512x4352 .bf16) (x2 : Vec Ideal S4352x512 .bf16) (x3 : Vec Ideal S4x64 .f32)
    (x4 : Vec Ideal S1x1 .f32) (x5 : Vec Ideal S1x128 .f32) (lam : ℝ)
    (h0 : ∀ i, x0 i = (q i : EReal)) (h1 : ∀ i, x1 i = (k i : EReal)) (h2 : ∀ i, x2 i = (v i : EReal))
    (hl : mixWeight (fun i x => x3 (ix2 i x)) (x4 (ix2 0 0)) = (lam : EReal))
    (shift : FVec Ideal S256x4352 .f32 → FVec Ideal S256x4352 .f32) (hs : RealShift (n := 4352) shift)
    (r : Fin 256) (h : Fin 4) (e : Fin 128) (hlt : 128 * h.val + e.val < 512) :
    latBlock x0 x1 x3 x4 x5 (widened x2) shift (ix2 r ⟨128 * h.val + e.val, hlt⟩)
      = rmsOut (fun e => ((attend (fun t : Fin 4352 => realScore q k h 0 r t) (fun t => v (ix2 t ⟨128 * h.val + e.val, by omega⟩))
            - lam * attend (fun t : Fin 4352 => realScore q k h 1 r t) (fun t => v (ix2 t ⟨128 * h.val + e.val, by omega⟩)) : ℝ) : EReal))
          (x5 (ix2 0 e)) (x4 (ix2 0 0)) e := by
  have hlog : Real.log 2 ≠ 0 := (Real.log_pos (by norm_num)).ne'
  have hsc : ∀ j r t, scores (n := 4352) (by decide) dot_S256x64_S64x4352_S256x4352_1_0_0_1_n_n shapeCasts_S64x4352_S64x4352 x0 x1 h j (ix2 r t)
      = ((realScore q k h j r t / Real.log 2 : ℝ) : EReal) := fun j r t => by
    rw [lat_scores_at]; simp only [h0, h1]; exact scores_real q k h j r t
  unfold latBlock
  rw [block_at, hl]
  have key : ∀ j (e : Fin 128),
      weigh (n := 4352) (by decide) dot_S256x4352_S4352x256_S256x256_1_0_0_1_n_n
          (scores (n := 4352) (by decide) dot_S256x64_S64x4352_S256x4352_1_0_0_1_n_n shapeCasts_S64x4352_S64x4352 x0 x1 h j)
          (shift (scores (n := 4352) (by decide) dot_S256x64_S64x4352_S256x4352_1_0_0_1_n_n shapeCasts_S64x4352_S64x4352 x0 x1 h j))
          (widened x2) h (ix2 r ⟨e.val, by omega⟩)
        * Ideal.div 1 (weigh (n := 4352) (by decide) dot_S256x4352_S4352x256_S256x256_1_0_0_1_n_n
          (scores (n := 4352) (by decide) dot_S256x64_S64x4352_S256x4352_1_0_0_1_n_n shapeCasts_S64x4352_S64x4352 x0 x1 h j)
          (shift (scores (n := 4352) (by decide) dot_S256x64_S64x4352_S256x4352_1_0_0_1_n_n shapeCasts_S64x4352_S64x4352 x0 x1 h j))
          (widened x2) h (ix2 r 128))
        = ((attend (fun t : Fin 4352 => realScore q k h j r t) (fun t => v (ix2 t ⟨128 * h.val + e.val, by omega⟩)) : ℝ) : EReal) := by
    intro j e
    obtain ⟨d, hd⟩ := hs _ _ (hsc j) r
    rw [lat_weigh_at, lat_weigh_at]
    simp only [hsc, hd]
    refine (head_at (fun (t : Fin 4352) (c : Fin 256) => widened x2 (ix2 t ⟨256 * h.val + c.val, by omega⟩)) _
      (fun t e => v (ix2 t ⟨128 * h.val + e.val, by omega⟩)) d (fun t e => ?_) (fun t => ?_) e).trans ?_
    · rw [widened_val, h2]
    · exact widened_one x2 _ h _
    · simp only [div_mul_cancel₀ _ hlog]
  simp only [key, ← EReal.coe_mul, ← EReal.coe_sub]

/-- A row maximum is a real shift, for any positive number of keys. -/
theorem ctx_rowMax_real : RealShift (n := 256) (rowMax reduces_S256x256_S256 broadcasts_S256x1_S256x256) := by
  intro s a ha r
  obtain ⟨d, hd⟩ := fold_max_real (a r)
  refine ⟨d, fun k => ?_⟩
  rw [← hd]
  pointwise [rowMax]
  simp only [ha, ofBits_bot]

/-- A row maximum is a real shift, for the latents' keys. -/
theorem lat_rowMax_real : RealShift (n := 4352) (rowMax reduces_S256x4352_S256 broadcasts_S256x1_S256x4352) := by
  intro s a ha r
  obtain ⟨d, hd⟩ := fold_max_real (a r)
  refine ⟨d, fun k => ?_⟩
  rw [← hd]
  pointwise [rowMax]
  simp only [ha, ofBits_bot]

/-- The bound the kernel computes: the product of the two gains' greatest absolute values, times a constant. -/
def boundAt (x6 x7 : Vec Ideal S1x64 .f32) : EReal :=
  Finset.univ.fold max (⊥ : EReal) (fun x : Fin 64 => max (x6 (ix2 0 x)) (-x6 (ix2 0 x)))
    * Finset.univ.fold max (⊥ : EReal) (fun x : Fin 64 => max (x7 (ix2 0 x)) (-x7 (ix2 0 x))) * Ideal.ofBits .f32 0x413B8CE4#32

/-- The bound at its one index. -/
theorem bound_at (x6 x7 : Vec Ideal S1x64 .f32) : bound x6 x7 (ix2 0 0) = boundAt x6 x7 := by
  pointwise [bound, k0_pay142]
  simp only [ofBits_bot]
  rfl

/-- The number the kernel compares with 40 is the bound. -/
theorem bound_scalar (x6 x7 : Vec Ideal S1x64 .f32) :
    k0_pay143 (View.ld x6 (Rect.unit ![0, 0] S1x64.size inb_S1x64_S1x64_0_0)) (View.ld x7 (Rect.unit ![0, 0] S1x64.size inb_S1x64_S1x64_0_0))
      = boundAt x6 x7 := by
  pointwise [k0_pay143, k0_pay142]
  simp only [ofBits_bot]
  rfl

/-- Where the kernel shifts by the bound, the bound is a real: it is at least zero and at most 40. -/
theorem bound_real (x6 x7 : Vec Ideal S1x64 .f32) (hb : boundBit x6 x7 = 1#1) : ∃ d : ℝ, boundAt x6 x7 = d := by
  refine real_of_between (a := 0) (b := 40) ?_ ?_
  · refine mul_nonneg (mul_nonneg (fold_abs_nonneg _) (fold_abs_nonneg _)) ?_
    simp [Ideal.ofBits, Ideal.ieee, -EReal.coe_mul]
  · unfold boundBit at hb
    rw [bound_scalar] at hb
    simp only [Ideal.scalar_cmpf_def, Ideal.cmp] at hb
    have h2 : boundAt x6 x7 ≤ Ideal.ofBits .f32 0x42200000#32 := by
      by_contra hn
      have : decide (boundAt x6 x7 ≤ Ideal.ofBits .f32 0x42200000#32) = false := decide_eq_false hn
      rw [show Scalar.ofBits .f32 0x42200000#32 = Ideal.ofBits .f32 0x42200000#32 from rfl, this] at hb
      exact absurd hb (by decide)
    rwa [ofBits_forty] at h2

/-- The bound is a real shift for the context's keys. -/
theorem ctx_bound_real (x6 x7 : Vec Ideal S1x64 .f32) (hb : boundBit x6 x7 = 1#1) :
    RealShift (n := 256) fun _ => broadcastTo S256x256 (bound x6 x7) broadcasts_S1x1_S256x256 := by
  intro s a ha r
  obtain ⟨d, hd⟩ := bound_real x6 x7 hb
  refine ⟨d, fun k => ?_⟩
  rw [← hd, ← bound_at]
  generalize bound x6 x7 = b
  pointwise

/-- The bound is a real shift for the latents' keys. -/
theorem lat_bound_real (x6 x7 : Vec Ideal S1x64 .f32) (hb : boundBit x6 x7 = 1#1) :
    RealShift (n := 4352) fun _ => broadcastTo S256x4352 (bound x6 x7) broadcasts_S1x1_S256x4352 := by
  intro s a ha r
  obtain ⟨d, hd⟩ := bound_real x6 x7 hb
  refine ⟨d, fun k => ?_⟩
  rw [← hd, ← bound_at]
  generalize bound x6 x7 = b
  pointwise

end Cert.KernelIdeal.Att
-- ==== Proof.AttIdeal.Spec.lean ====
module

public import proofs.«01_k».proof.Proof.AttIdeal.Softmax

@[expose] public section

noncomputable section

namespace Cert.Softmax

open Idealize.ShloMosaic

/-! # The layer's differential attention, over the reals

A batch holds 256 positions of context and then 4096 latents. A position of the context attends to the context, a latent
to every position. Each head has two maps of 64 columns; its output is the first map's softmax attention less `lam` times
the second's, normalised. -/

variable {α : Type}

/-- Queries or keys of the context and then of the latents: batch, position, head, map, column. -/
def joined5 (c : (⟨5, ![4, 256, 4, 2, 64]⟩ : Shape).Idx → α) (l : (⟨5, ![4, 4096, 4, 2, 64]⟩ : Shape).Idx → α)
    (b : Fin 4) (s : Fin 4352) (h : Fin 4) (j : Fin 2) (x : Fin 64) : α :=
  if hs : s.val < 256 then c (ix5 b ⟨s.val, hs⟩ h j x) else l (ix5 b ⟨s.val - 256, by omega⟩ h j x)

/-- Values of the context and then of the latents: batch, position, head, column. -/
def joined4 (c : (⟨4, ![4, 256, 4, 128]⟩ : Shape).Idx → α) (l : (⟨4, ![4, 4096, 4, 128]⟩ : Shape).Idx → α)
    (b : Fin 4) (s : Fin 4352) (h : Fin 4) (e : Fin 128) : α :=
  if hs : s.val < 256 then c (ix4 b ⟨s.val, hs⟩ h e) else l (ix4 b ⟨s.val - 256, by omega⟩ h e)

/-- The real arrays an attention reads: queries, keys and values of the context and of the latents, and the mixing weight. -/
structure Inputs where
  /-- The context's queries. -/
  qc : (⟨5, ![4, 256, 4, 2, 64]⟩ : Shape).Idx → ℝ
  /-- The latents' queries. -/
  q : (⟨5, ![4, 4096, 4, 2, 64]⟩ : Shape).Idx → ℝ
  /-- The context's keys. -/
  kc : (⟨5, ![4, 256, 4, 2, 64]⟩ : Shape).Idx → ℝ
  /-- The latents' keys. -/
  k : (⟨5, ![4, 4096, 4, 2, 64]⟩ : Shape).Idx → ℝ
  /-- The context's values. -/
  vc : (⟨4, ![4, 256, 4, 128]⟩ : Shape).Idx → ℝ
  /-- The latents' values. -/
  v : (⟨4, ![4, 4096, 4, 128]⟩ : Shape).Idx → ℝ
  /-- The mixing weight. -/
  lam : ℝ

variable (I : Inputs)

/-- The score of position `s`'s query and position `t`'s key, in head `h`'s map `j` of batch `b`. -/
def Inputs.score (b h : Fin 4) (j : Fin 2) (s t : Fin 4352) : ℝ :=
  (∑ x : Fin 64, joined5 I.qc I.q b s h j x * joined5 I.kc I.k b t h j x) * (1 / 8)

/-- One map's attention of a position: a position of the context sees 256 positions, a latent all 4352. -/
def Inputs.map (b h : Fin 4) (j : Fin 2) (s : Fin 4352) (e : Fin 128) : ℝ :=
  if s.val < 256 then
    attend (fun t : Fin 256 => I.score b h j s ⟨t.val, by omega⟩) (fun t => joined4 I.vc I.v b ⟨t.val, by omega⟩ h e)
  else attend (fun t : Fin 4352 => I.score b h j s t) (fun t => joined4 I.vc I.v b t h e)

/-- A head's output at a position, normalised, with gain `g` and initial mixing weight `li`. -/
def Inputs.out (g : Fin 128 → EReal) (li : EReal) (b : Fin 4) (s : Fin 4352) (h : Fin 4) (e : Fin 128) : EReal :=
  rmsOut (fun e => ((I.map b h 0 s e - I.lam * I.map b h 1 s e : ℝ) : EReal)) (g e) li e

/-- The position that comes `t`-th when the latents come first. -/
def rot : Fin 4352 ≃ Fin 4352 where
  toFun t := ⟨(t.val + 256) % 4352, Nat.mod_lt _ (by decide)⟩
  invFun t := ⟨(t.val + 4096) % 4352, Nat.mod_lt _ (by decide)⟩
  left_inv t := Fin.ext (by show ((t.val + 256) % 4352 + 4096) % 4352 = t.val; omega)
  right_inv t := Fin.ext (by show ((t.val + 4096) % 4352 + 256) % 4352 = t.val; omega)

/-- Queries or keys with the latents first. -/
theorem joined5_rot (c : (⟨5, ![4, 256, 4, 2, 64]⟩ : Shape).Idx → α) (l : (⟨5, ![4, 4096, 4, 2, 64]⟩ : Shape).Idx → α)
    (b : Fin 4) (s : Fin 4352) (h : Fin 4) (j : Fin 2) (x : Fin 64) :
    joined5 c l b (rot s) h j x
      = if hs : s.val < 4096 then l (ix5 b ⟨s.val, hs⟩ h j x) else c (ix5 b ⟨s.val - 4096, by omega⟩ h j x) := by
  unfold joined5
  have hr : (rot s).val = (s.val + 256) % 4352 := rfl
  by_cases hs : s.val < 4096
  · rw [dif_pos hs, dif_neg (by omega)]; exact congrArg (fun z => l (ix5 b z h j x)) (Fin.ext (by show (rot s).val - 256 = s.val; omega))
  · rw [dif_neg hs, dif_pos (by omega)]; exact congrArg (fun z => c (ix5 b z h j x)) (Fin.ext (by show (rot s).val = s.val - 4096; omega))

/-- Values with the latents first. -/
theorem joined4_rot (c : (⟨4, ![4, 256, 4, 128]⟩ : Shape).Idx → α) (l : (⟨4, ![4, 4096, 4, 128]⟩ : Shape).Idx → α)
    (b : Fin 4) (s : Fin 4352) (h : Fin 4) (e : Fin 128) :
    joined4 c l b (rot s) h e
      = if hs : s.val < 4096 then l (ix4 b ⟨s.val, hs⟩ h e) else c (ix4 b ⟨s.val - 4096, by omega⟩ h e) := by
  unfold joined4
  have hr : (rot s).val = (s.val + 256) % 4352 := rfl
  by_cases hs : s.val < 4096
  · rw [dif_pos hs, dif_neg (by omega)]; exact congrArg (fun z => l (ix4 b z h e)) (Fin.ext (by show (rot s).val - 256 = s.val; omega))
  · rw [dif_neg hs, dif_pos (by omega)]; exact congrArg (fun z => c (ix4 b z h e)) (Fin.ext (by show (rot s).val = s.val - 4096; omega))

/-- A product of real rows, over eight, among the extended reals. -/
theorem score_coe (a b : Fin 64 → ℝ) :
    (∑ x : Fin 64, (a x : EReal) * (b x : EReal)) * Ideal.ofBits .f32 0x3E000000#32 = (((∑ x : Fin 64, a x * b x) * (1 / 8) : ℝ) : EReal) := by
  simp only [ofBits_eighth, ← EReal.coe_mul, ← coe_sum]

/-- A softmax row's greatest score, folded from minus infinity and compared with it again, is real. -/
theorem max_real {n : ℕ} [NeZero n] (f : Fin n → ℝ) :
    ∃ r : ℝ, max (Ideal.ofBits .f32 0xFF800000#32) (Finset.univ.fold max (Ideal.ofBits .f32 0xFF800000#32) fun k => (f k : EReal)) = (r : EReal) := by
  obtain ⟨r, hr⟩ := fold_max_real f
  exact ⟨r, by rw [ofBits_bot, hr, max_eq_right bot_le]⟩

end Cert.Softmax
-- ==== Proof.AttIdeal.KernelSpec.lean ====
module

public import proofs.«01_k».proof.Proof.AttIdeal.HostAt
public import proofs.«01_k».proof.Proof.AttIdeal.KernelAt
public import proofs.«01_k».proof.Proof.AttIdeal.Frame
public import proofs.«01_k».proof.Proof.AttIdeal.Spec

@[expose] public section

set_option maxRecDepth 16384

noncomputable section

namespace Cert.KernelIdeal.Att

open Cert.KernelIdeal.Gen Cert.Softmax
open Idealize.ShloMosaic Idealize.ShloMosaic.TcCoe Idealize.SL.Sem

/-! # The kernel computes the attention over the reals -/

variable (I : Inputs)

/-- The batch a point works on. -/
abbrev batch (t : Fin cfg0.N) : Fin 4 := ⟨t.val / 17, by have := lt_68 t; omega⟩

/-- The position of row `r` of a point's tile. -/
abbrev pos (t : Fin cfg0.N) (r : Fin 256) : Fin 4352 := ⟨256 * (t.val % 17) + r.val, by omega⟩

/-- The queries of one tile. -/
def tileQ (t : Fin cfg0.N) (i : S256x512.Idx) : ℝ :=
  (fun (r : Fin 256) (a : Fin 512) => joined5 I.qc I.q (batch t) (pos t r) ⟨a.val / 128, by omega⟩ ⟨a.val / 64 % 2, by omega⟩ ⟨a.val % 64, by omega⟩) (i 0) (i 1)

/-- The transposed keys of one batch. -/
def tileK (t : Fin cfg0.N) (i : S512x4352.Idx) : ℝ :=
  (fun (a : Fin 512) (s : Fin 4352) => joined5 I.kc I.k (batch t) s ⟨a.val / 128, by omega⟩ ⟨a.val / 64 % 2, by omega⟩ ⟨a.val % 64, by omega⟩) (i 0) (i 1)

/-- The values of one batch. -/
def tileV (t : Fin cfg0.N) (i : S4352x512.Idx) : ℝ :=
  (fun (s : Fin 4352) (a : Fin 512) => joined4 I.vc I.v (batch t) s ⟨a.val / 128, by omega⟩ ⟨a.val % 128, by omega⟩) (i 0) (i 1)

/-- A query of a tile, by head, map and column. -/
theorem tileQ_at (t : Fin cfg0.N) (r : Fin 256) (h : Fin 4) (j : Fin 2) (x : Fin 64) (hlt : mapOff h j + x.val < 512) :
    tileQ I t (ix2 r ⟨mapOff h j + x.val, hlt⟩) = joined5 I.qc I.q (batch t) (pos t r) h j x := by
  show joined5 I.qc I.q (batch t) (pos t r) ⟨(mapOff h j + x.val) / 128, _⟩ ⟨(mapOff h j + x.val) / 64 % 2, _⟩ ⟨(mapOff h j + x.val) % 64, _⟩ = _
  congr 1 <;> exact Fin.ext (by simp only [mapOff]; omega)

/-- A key of a batch, by head, map and column. -/
theorem tileK_at (t : Fin cfg0.N) (s : Fin 4352) (h : Fin 4) (j : Fin 2) (x : Fin 64) (hlt : mapOff h j + x.val < 512) :
    tileK I t (ix2 ⟨mapOff h j + x.val, hlt⟩ s) = joined5 I.kc I.k (batch t) s h j x := by
  show joined5 I.kc I.k (batch t) s ⟨(mapOff h j + x.val) / 128, _⟩ ⟨(mapOff h j + x.val) / 64 % 2, _⟩ ⟨(mapOff h j + x.val) % 64, _⟩ = _
  congr 1 <;> exact Fin.ext (by simp only [mapOff]; omega)

/-- A value of a batch, by head and column. -/
theorem tileV_at (t : Fin cfg0.N) (s : Fin 4352) (h : Fin 4) (e : Fin 128) (hlt : 128 * h.val + e.val < 512) :
    tileV I t (ix2 s ⟨128 * h.val + e.val, hlt⟩) = joined4 I.vc I.v (batch t) s h e := by
  show joined4 I.vc I.v (batch t) s ⟨(128 * h.val + e.val) / 128, _⟩ ⟨(128 * h.val + e.val) % 128, _⟩ = _
  congr 1 <;> exact Fin.ext (by show _ = _; dsimp only; omega)

/-- A tile's scores are the layer's. -/
theorem realScore_eq (t : Fin cfg0.N) (h : Fin 4) (j : Fin 2) (r : Fin 256) (s : Fin 4352) :
    realScore (tileQ I t) (tileK I t) h j r s = I.score (batch t) h j (pos t r) s := by
  unfold realScore Inputs.score
  simp only [tileQ_at, tileK_at]

variable (m : (ℓ : Loc nD τ sig) → Buf (Elt Ideal) ℓ) (c : Dev nD)

/-- A tile's queries are the launch's. -/
theorem q_real (h0 : ∀ i, m ((c.tc : Thread nD τ).loc main_arg0) i = (I.qc i : EReal)) (h1 : ∀ i, m ((c.tc : Thread nD τ).loc main_arg1) i = (I.q i : EReal))
    (t : Fin cfg0.N) (i : S256x512.Idx) : (iblk m c 0 t : Vec Ideal S256x512 .f32) i = (tileQ I t i : EReal) := by
  have key : ∀ (r : Fin 256) (a : Fin 512), (V m c main_v1 : Vec Ideal S17408x512 .f32) (ix2 ⟨256 * t.val + r.val, by have := lt_68 t; omega⟩ a)
      = ((joined5 I.qc I.q (batch t) (pos t r) ⟨a.val / 128, by omega⟩ ⟨a.val / 64 % 2, by omega⟩ ⟨a.val % 64, by omega⟩ : ℝ) : EReal) := fun r a => by
    refine (q_at m c _ a).trans ?_
    have hb : (⟨(256 * t.val + r.val) / 4352, by have := lt_68 t; omega⟩ : Fin 4) = batch t := Fin.ext (by show (256 * t.val + r.val) / 4352 = t.val / 17; omega)
    have hp : (256 * t.val + r.val) % 4352 = 256 * (t.val % 17) + r.val := by omega
    simp only [hp, hb, h0, h1]
    unfold joined5
    split_ifs <;> rfl
  rw [blk_q]
  exact key (i 0) (i 1)

/-- A batch's keys are the launch's. -/
theorem k_real (h2 : ∀ i, m ((c.tc : Thread nD τ).loc main_arg2) i = (I.kc i : EReal)) (h3 : ∀ i, m ((c.tc : Thread nD τ).loc main_arg3) i = (I.k i : EReal))
    (t : Fin cfg0.N) (i : S512x4352.Idx) : (iblk m c 1 t : Vec Ideal S512x4352 .bf16) i = (tileK I t i : EReal) := by
  have key : ∀ (a : Fin 512) (s : Fin 4352), (V m c main_v5 : Vec Ideal S512x17408 .bf16) (ix2 a ⟨4352 * (t.val / 17) + s.val, by have := lt_68 t; omega⟩)
      = ((joined5 I.kc I.k (batch t) s ⟨a.val / 128, by omega⟩ ⟨a.val / 64 % 2, by omega⟩ ⟨a.val % 64, by omega⟩ : ℝ) : EReal) := fun a s => by
    refine (k_at m c _ a).trans ?_
    have hb : (⟨(4352 * (t.val / 17) + s.val) / 4352, by have := lt_68 t; omega⟩ : Fin 4) = batch t := Fin.ext (by show (4352 * (t.val / 17) + s.val) / 4352 = t.val / 17; omega)
    have hp : (4352 * (t.val / 17) + s.val) % 4352 = s.val := by omega
    simp only [hp, hb, h2, h3]
    unfold joined5
    split_ifs <;> rfl
  rw [blk_k]
  exact key (i 0) (i 1)

/-- A batch's values are the launch's. -/
theorem v_real (h4 : ∀ i, m ((c.tc : Thread nD τ).loc main_arg4) i = (I.vc i : EReal)) (h5 : ∀ i, m ((c.tc : Thread nD τ).loc main_arg5) i = (I.v i : EReal))
    (t : Fin cfg0.N) (i : S4352x512.Idx) : (iblk m c 2 t : Vec Ideal S4352x512 .bf16) i = (tileV I t i : EReal) := by
  have key : ∀ (s : Fin 4352) (a : Fin 512), (V m c main_v8 : Vec Ideal S17408x512 .bf16) (ix2 ⟨4352 * (t.val / 17) + s.val, by have := lt_68 t; omega⟩ a)
      = ((joined4 I.vc I.v (batch t) s ⟨a.val / 128, by omega⟩ ⟨a.val % 128, by omega⟩ : ℝ) : EReal) := fun s a => by
    refine (v_at m c _ a).trans ?_
    have hb : (⟨(4352 * (t.val / 17) + s.val) / 4352, by have := lt_68 t; omega⟩ : Fin 4) = batch t := Fin.ext (by show (4352 * (t.val / 17) + s.val) / 4352 = t.val / 17; omega)
    have hp : (4352 * (t.val / 17) + s.val) % 4352 = s.val := by omega
    simp only [hp, hb, h4, h5]
    unfold joined4
    split_ifs <;> rfl
  rw [blk_v]
  exact key (i 0) (i 1)

/-- What a point leaves: its tile of the layer's attention. -/
theorem outAt_at
    (h0 : ∀ i, m ((c.tc : Thread nD τ).loc main_arg0) i = (I.qc i : EReal)) (h1 : ∀ i, m ((c.tc : Thread nD τ).loc main_arg1) i = (I.q i : EReal))
    (h2 : ∀ i, m ((c.tc : Thread nD τ).loc main_arg2) i = (I.kc i : EReal)) (h3 : ∀ i, m ((c.tc : Thread nD τ).loc main_arg3) i = (I.k i : EReal))
    (h4 : ∀ i, m ((c.tc : Thread nD τ).loc main_arg4) i = (I.vc i : EReal)) (h5 : ∀ i, m ((c.tc : Thread nD τ).loc main_arg5) i = (I.v i : EReal))
    (hl : mixWeight (fun i x => m ((c.tc : Thread nD τ).loc main_arg6) (ix2 i x)) (m ((c.tc : Thread nD τ).loc main_arg7) (ix2 0 0)) = (I.lam : EReal))
    (t : Fin cfg0.N) (r : Fin 256) (h : Fin 4) (e : Fin 128) (hlt : 128 * h.val + e.val < 512) :
    outAt m c t (ix2 r ⟨128 * h.val + e.val, hlt⟩)
      = I.out (fun e => m ((c.tc : Thread nD τ).loc main_arg8) (ix1 e)) (m ((c.tc : Thread nD τ).loc main_arg7) (ix2 0 0)) (batch t) (pos t r) h e := by
  have e3 : (iblk m c 3 t : Vec Ideal S4x64 .f32) = m ((c.tc : Thread nD τ).loc main_arg6) := (blk_3 m c t).trans rfl
  have e4 : (iblk m c 4 t : Vec Ideal S1x1 .f32) = m ((c.tc : Thread nD τ).loc main_arg7) := (blk_4 m c t).trans rfl
  have e5 : ∀ e, (iblk m c 5 t : Vec Ideal S1x128 .f32) (ix2 0 e) = m ((c.tc : Thread nD τ).loc main_arg8) (ix1 e) := fun e => by
    rw [blk_5]; exact g_at m c e
  have hl' : mixWeight (fun i x => (iblk m c 3 t : Vec Ideal S4x64 .f32) (ix2 i x)) ((iblk m c 4 t : Vec Ideal S1x1 .f32) (ix2 0 0)) = (I.lam : EReal) := by
    rw [e3, e4]; exact hl
  unfold outAt held
  by_cases ht : t.val % 17 = 0
  · rw [if_pos ht]
    have hp : (pos t r).val < 256 := by show 256 * (t.val % 17) + r.val < 256; omega
    have key : ∀ shift, RealShift (n := 256) shift → ctxBlock (iblk m c 0 t) (iblk m c 1 t) (iblk m c 3 t) (iblk m c 4 t) (iblk m c 5 t) (widened (iblk m c 2 t)) shift
        (ix2 r ⟨128 * h.val + e.val, hlt⟩)
        = I.out (fun e => m ((c.tc : Thread nD τ).loc main_arg8) (ix1 e)) (m ((c.tc : Thread nD τ).loc main_arg7) (ix2 0 0)) (batch t) (pos t r) h e := fun shift hs => by
      refine (ctxBlock_at (tileQ I t) (tileK I t) (tileV I t) _ _ _ _ _ _ I.lam (q_real I m c h0 h1 t) (k_real I m c h2 h3 t) (v_real I m c h4 h5 t) hl' shift hs r h e hlt).trans ?_
      rw [e5, e4]
      simp only [realScore_eq, tileV_at]
      unfold Inputs.out Inputs.map
      simp only [hp, if_true]
    unfold firstOut
    split_ifs with hb
    · exact key _ (ctx_bound_real _ _ hb)
    · exact key _ ctx_rowMax_real
  · rw [if_neg ht]
    have hp : ¬ (pos t r).val < 256 := by show ¬ 256 * (t.val % 17) + r.val < 256; omega
    have key : ∀ shift, RealShift (n := 4352) shift → latBlock (iblk m c 0 t) (iblk m c 1 t) (iblk m c 3 t) (iblk m c 4 t) (iblk m c 5 t) (widened (iblk m c 2 t)) shift
        (ix2 r ⟨128 * h.val + e.val, hlt⟩)
        = I.out (fun e => m ((c.tc : Thread nD τ).loc main_arg8) (ix1 e)) (m ((c.tc : Thread nD τ).loc main_arg7) (ix2 0 0)) (batch t) (pos t r) h e := fun shift hs => by
      refine (latBlock_at (tileQ I t) (tileK I t) (tileV I t) _ _ _ _ _ _ I.lam (q_real I m c h0 h1 t) (k_real I m c h2 h3 t) (v_real I m c h4 h5 t) hl' shift hs r h e hlt).trans ?_
      rw [e5, e4]
      simp only [realScore_eq, tileV_at]
      unfold Inputs.out Inputs.map
      simp only [hp, if_false]
    unfold laterOut
    split_ifs with hb
    · exact key _ (lat_bound_real _ _ hb)
    · exact key _ lat_rowMax_real

end Cert.KernelIdeal.Att
-- ==== Proof.AttIdeal.RefStages.lean ====
module

public import proofs.«01_k».proof.Proof.Gen.ReferenceIdeal.Run
public import Idealize.ShloMosaic.Lib.Pointwise

@[expose] public section

set_option maxRecDepth 16384

noncomputable section

namespace Cert.ReferenceIdeal.Att

open Cert.ReferenceIdeal.Gen Idealize.ShloMosaic Idealize.ShloMosaic.TcCoe Idealize.SL.Sem

variable {F : FTy → Type} [FloatOps F]

/-! # The reference's stages, named

The reference runs one attention twice: the context's queries over the context's keys, and the latents' queries over
every key. The functions below name its stages, and `res_eq` says the printed result is their composition. -/

/-- The mixing weight `lam` from its four rows of parameters and its initial value. -/
def mixing (x6 : FVec F S4x64 .f32) (x7 : FVec F S1x1 .f32) : FVec F S_ .f32 :=
  addf
    (subf
      (Host.exp (Host.reduceAdd (mulf (shapeCast S64 (extractStridedSlice S1x64 ![0, 0] x6 slices_S4x64_S1x64_0_0) shapeCasts_S1x64_S64)
        (shapeCast S64 (extractStridedSlice S1x64 ![1, 0] x6 slices_S4x64_S1x64_1_0) shapeCasts_S1x64_S64)) (constant S_ .f32 0x00000000#32) reducesTo_S64_S_d0 h_S_))
      (Host.exp (Host.reduceAdd (mulf (shapeCast S64 (extractStridedSlice S1x64 ![2, 0] x6 slices_S4x64_S1x64_2_0) shapeCasts_S1x64_S64)
        (shapeCast S64 (extractStridedSlice S1x64 ![3, 0] x6 slices_S4x64_S1x64_3_0) shapeCasts_S1x64_S64)) (constant S_ .f32 0x00000000#32) reducesTo_S64_S_d0 h_S_)))
    (shapeCast S_ x7 shapeCasts_S1x1_S_)

/-- The scores of the context' queries: each map's products of queries and keys, over 8. -/
def ctxScores (q : FVec F S4x256x4x2x64 .f32) (k : FVec F S4x256x4x2x64 .f32) : FVec F S4x4x2x256x256 .f32 :=
  mulf (Host.dotGeneral dot_S4x256x4x2x64_S4x256x4x2x64_S4x4x2x256x256_4_4_1_1_023_023 none q k)
    (broadcastInDim S4x4x2x256x256 ![] bcast_S_S4x4x2x256x256 (constant S_ .f32 0x3E000000#32))

/-- Each row's maximum. -/
def ctxRowMax (s : FVec F S4x4x2x256x256 .f32) : FVec F S4x4x2x256 .f32 :=
  Host.reduce FloatOps.maximumf s (constant S_ .f32 0xFF800000#32) reducesTo_S4x4x2x256x256_S4x4x2x256_d4 h_S_

/-- One value per row (at least minus infinity), along the row. -/
def ctxAlong (M : FVec F S4x4x2x256 .f32) : FVec F S4x4x2x256x256 .f32 :=
  broadcastInDim S4x4x2x256x256 ![0, 1, 2, 3, 4] bcast_S4x4x2x256x1_S4x4x2x256x256_0_1_2_3_4
    (broadcastInDim S4x4x2x256x1 ![0, 1, 2, 3] bcast_S4x4x2x256_S4x4x2x256x1_0_1_2_3
      (maximumf (broadcastInDim S4x4x2x256 ![] bcast_S_S4x4x2x256 (constant S_ .f32 0xFF800000#32)) M))

/-- Exponentials over their row's sum. -/
def ctxShare (e : FVec F S4x4x2x256x256 .f32) : FVec F S4x4x2x256x256 .f32 :=
  Host.divf e
    (broadcastInDim S4x4x2x256x256 ![0, 1, 2, 3, 4] bcast_S4x4x2x256x1_S4x4x2x256x256_0_1_2_3_4
      (broadcastInDim S4x4x2x256x1 ![0, 1, 2, 3] bcast_S4x4x2x256_S4x4x2x256x1_0_1_2_3
        (Host.reduceAdd e (constant S_ .f32 0x00000000#32) reducesTo_S4x4x2x256x256_S4x4x2x256_d4 h_S_)))

/-- The softmax of the scores. -/
def ctxProbs (s : FVec F S4x4x2x256x256 .f32) : FVec F S4x4x2x256x256 .f32 :=
  ctxShare (Host.exp (subf s (ctxAlong (ctxRowMax s))))

/-- The difference of the two maps' probabilities, weighing the values. -/
def ctxMix (lam : FVec F S_ .f32) (pr : FVec F S4x4x2x256x256 .f32) (v : FVec F S4x256x4x128 .f32) : FVec F S4x256x4x128 .f32 :=
  transpose S4x256x4x128 [0, 3, 1, 2]
    (Host.dotGeneral dot_S4x256x4x128_S4x4x256x256_S4x4x128x256_1_3_3_2_02_01 none v
      (subf (shapeCast S4x4x256x256 (extractStridedSlice S4x4x1x256x256 ![0, 0, 0, 0, 0] pr slices_S4x4x2x256x256_S4x4x1x256x256_0_0_0_0_0) shapeCasts_S4x4x1x256x256_S4x4x256x256)
        (mulf (broadcastInDim S4x4x256x256 ![] bcast_S_S4x4x256x256 lam)
          (shapeCast S4x4x256x256 (extractStridedSlice S4x4x1x256x256 ![0, 0, 1, 0, 0] pr slices_S4x4x2x256x256_S4x4x1x256x256_0_0_1_0_0) shapeCasts_S4x4x1x256x256_S4x4x256x256))))
    transposes_S4x4x128x256_S4x256x4x128_0_3_1_2

/-- Root-mean-square normalisation, times the gain, times one minus the initial `lam`. -/
def ctxNorm (g : FVec F S128 .f32) (li : FVec F S1x1 .f32) (o : FVec F S4x256x4x128 .f32) : FVec F S4x256x4x128 .f32 :=
  mulf
    (mulf
      (mulf o
        (broadcastInDim S4x256x4x128 ![0, 1, 2, 3] bcast_S4x256x4x1_S4x256x4x128_0_1_2_3
          (Host.rsqrt (addf
            (Host.divf (broadcastInDim S4x256x4x1 ![0, 1, 2] bcast_S4x256x4_S4x256x4x1_0_1_2 (Host.reduceAdd (mulf o o) (constant S_ .f32 0x00000000#32) reducesTo_S4x256x4x128_S4x256x4_d3 h_S_))
              (broadcastInDim S4x256x4x1 ![] bcast_S_S4x256x4x1 (constant S_ .f32 0x43000000#32)))
            (broadcastInDim S4x256x4x1 ![] bcast_S_S4x256x4x1 (constant S_ .f32 0x358637BD#32))))))
      (broadcastInDim S4x256x4x128 ![0, 1, 2, 3] bcast_S1x1x1x128_S4x256x4x128_0_1_2_3 (broadcastInDim S1x1x1x128 ![3] bcast_S128_S1x1x1x128_3 g)))
    (broadcastInDim S4x256x4x128 ![] bcast_S_S4x256x4x128 (subf (constant S_ .f32 0x3F800000#32) (shapeCast S_ li shapeCasts_S1x1_S_)))

/-- The scores of the latents' queries: each map's products of queries and keys, over 8. -/
def latScores (q : FVec F S4x4096x4x2x64 .f32) (k : FVec F S4x4352x4x2x64 .f32) : FVec F S4x4x2x4096x4352 .f32 :=
  mulf (Host.dotGeneral dot_S4x4096x4x2x64_S4x4352x4x2x64_S4x4x2x4096x4352_4_4_1_1_023_023 none q k)
    (broadcastInDim S4x4x2x4096x4352 ![] bcast_S_S4x4x2x4096x4352 (constant S_ .f32 0x3E000000#32))

/-- Each row's maximum. -/
def latRowMax (s : FVec F S4x4x2x4096x4352 .f32) : FVec F S4x4x2x4096 .f32 :=
  Host.reduce FloatOps.maximumf s (constant S_ .f32 0xFF800000#32) reducesTo_S4x4x2x4096x4352_S4x4x2x4096_d4 h_S_

/-- One value per row (at least minus infinity), along the row. -/
def latAlong (M : FVec F S4x4x2x4096 .f32) : FVec F S4x4x2x4096x4352 .f32 :=
  broadcastInDim S4x4x2x4096x4352 ![0, 1, 2, 3, 4] bcast_S4x4x2x4096x1_S4x4x2x4096x4352_0_1_2_3_4
    (broadcastInDim S4x4x2x4096x1 ![0, 1, 2, 3] bcast_S4x4x2x4096_S4x4x2x4096x1_0_1_2_3
      (maximumf (broadcastInDim S4x4x2x4096 ![] bcast_S_S4x4x2x4096 (constant S_ .f32 0xFF800000#32)) M))

/-- Exponentials over their row's sum. -/
def latShare (e : FVec F S4x4x2x4096x4352 .f32) : FVec F S4x4x2x4096x4352 .f32 :=
  Host.divf e
    (broadcastInDim S4x4x2x4096x4352 ![0, 1, 2, 3, 4] bcast_S4x4x2x4096x1_S4x4x2x4096x4352_0_1_2_3_4
      (broadcastInDim S4x4x2x4096x1 ![0, 1, 2, 3] bcast_S4x4x2x4096_S4x4x2x4096x1_0_1_2_3
        (Host.reduceAdd e (constant S_ .f32 0x00000000#32) reducesTo_S4x4x2x4096x4352_S4x4x2x4096_d4 h_S_)))

/-- The softmax of the scores. -/
def latProbs (s : FVec F S4x4x2x4096x4352 .f32) : FVec F S4x4x2x4096x4352 .f32 :=
  latShare (Host.exp (subf s (latAlong (latRowMax s))))

/-- The difference of the two maps' probabilities, weighing the values. -/
def latMix (lam : FVec F S_ .f32) (pr : FVec F S4x4x2x4096x4352 .f32) (v : FVec F S4x4352x4x128 .f32) : FVec F S4x4096x4x128 .f32 :=
  transpose S4x4096x4x128 [0, 3, 1, 2]
    (Host.dotGeneral dot_S4x4352x4x128_S4x4x4096x4352_S4x4x128x4096_1_3_3_2_02_01 none v
      (subf (shapeCast S4x4x4096x4352 (extractStridedSlice S4x4x1x4096x4352 ![0, 0, 0, 0, 0] pr slices_S4x4x2x4096x4352_S4x4x1x4096x4352_0_0_0_0_0) shapeCasts_S4x4x1x4096x4352_S4x4x4096x4352)
        (mulf (broadcastInDim S4x4x4096x4352 ![] bcast_S_S4x4x4096x4352 lam)
          (shapeCast S4x4x4096x4352 (extractStridedSlice S4x4x1x4096x4352 ![0, 0, 1, 0, 0] pr slices_S4x4x2x4096x4352_S4x4x1x4096x4352_0_0_1_0_0) shapeCasts_S4x4x1x4096x4352_S4x4x4096x4352))))
    transposes_S4x4x128x4096_S4x4096x4x128_0_3_1_2

/-- Root-mean-square normalisation, times the gain, times one minus the initial `lam`. -/
def latNorm (g : FVec F S128 .f32) (li : FVec F S1x1 .f32) (o : FVec F S4x4096x4x128 .f32) : FVec F S4x4096x4x128 .f32 :=
  mulf
    (mulf
      (mulf o
        (broadcastInDim S4x4096x4x128 ![0, 1, 2, 3] bcast_S4x4096x4x1_S4x4096x4x128_0_1_2_3
          (Host.rsqrt (addf
            (Host.divf (broadcastInDim S4x4096x4x1 ![0, 1, 2] bcast_S4x4096x4_S4x4096x4x1_0_1_2 (Host.reduceAdd (mulf o o) (constant S_ .f32 0x00000000#32) reducesTo_S4x4096x4x128_S4x4096x4_d3 h_S_))
              (broadcastInDim S4x4096x4x1 ![] bcast_S_S4x4096x4x1 (constant S_ .f32 0x43000000#32)))
            (broadcastInDim S4x4096x4x1 ![] bcast_S_S4x4096x4x1 (constant S_ .f32 0x358637BD#32))))))
      (broadcastInDim S4x4096x4x128 ![0, 1, 2, 3] bcast_S1x1x1x128_S4x4096x4x128_0_1_2_3 (broadcastInDim S1x1x1x128 ![3] bcast_S128_S1x1x1x128_3 g)))
    (broadcastInDim S4x4096x4x128 ![] bcast_S_S4x4096x4x128 (subf (constant S_ .f32 0x3F800000#32) (shapeCast S_ li shapeCasts_S1x1_S_)))

/-- Every key, the latents' first. -/
def keysAll (k : FVec F S4x4096x4x2x64 .f32) (kc : FVec F S4x256x4x2x64 .f32) : FVec F S4x4352x4x2x64 .f32 :=
  Value.fn_main_v56 k kc

/-- Every value, the latents' first. -/
def valsAll (v : FVec F S4x4096x4x128 .f32) (vc : FVec F S4x256x4x128 .f32) : FVec F S4x4352x4x128 .f32 :=
  Value.fn_main_v57 v vc

/-- The printed result is the two attentions' rows, the context's first, as one array of rows of 512. -/
theorem res_eq (m : (ℓ : Loc nD τ sig) → Buf (Elt F) ℓ) (c : Dev nD) :
    Value.res_main_v98 m c
      = shapeCast S17408x512
          (concatenate S4x4352x4x128 1
            [⟨S4x256x4x128, ctxNorm (m ((c.tc : Thread nD τ).loc main_arg8)) (m ((c.tc : Thread nD τ).loc main_arg7))
                (ctxMix (mixing (m ((c.tc : Thread nD τ).loc main_arg6)) (m ((c.tc : Thread nD τ).loc main_arg7)))
                  (ctxProbs (ctxScores (m ((c.tc : Thread nD τ).loc main_arg0)) (m ((c.tc : Thread nD τ).loc main_arg2))))
                  (m ((c.tc : Thread nD τ).loc main_arg4)))⟩,
             ⟨S4x4096x4x128, latNorm (m ((c.tc : Thread nD τ).loc main_arg8)) (m ((c.tc : Thread nD τ).loc main_arg7))
                (latMix (mixing (m ((c.tc : Thread nD τ).loc main_arg6)) (m ((c.tc : Thread nD τ).loc main_arg7)))
                  (latProbs (latScores (m ((c.tc : Thread nD τ).loc main_arg1))
                    (keysAll (m ((c.tc : Thread nD τ).loc main_arg3)) (m ((c.tc : Thread nD τ).loc main_arg2)))))
                  (valsAll (m ((c.tc : Thread nD τ).loc main_arg5)) (m ((c.tc : Thread nD τ).loc main_arg4))))⟩]
            concatenates_S4x256x4x128_S4x4096x4x128_S4x4352x4x128_d1) shapeCasts_S4x4352x4x128_S17408x512 := rfl

end Cert.ReferenceIdeal.Att
-- ==== Proof.AttIdeal.RefAt.lean ====
module

public import proofs.«01_k».proof.Proof.AttIdeal.RefStages

@[expose] public section

set_option maxRecDepth 16384

noncomputable section

namespace Cert.ReferenceIdeal.Att

open Cert.ReferenceIdeal.Gen
open Idealize.ShloMosaic Idealize.ShloMosaic.TcCoe Idealize.SL.Sem

/-! # The reference's stages, read at an index -/

/-- The mixing weight. -/
theorem mixing_at (x6 : FVec Ideal S4x64 .f32) (x7 : FVec Ideal S1x1 .f32) (i : S_.Idx) :
    mixing x6 x7 i
      = Ideal.exp (∑ x : Fin 64, x6 (ix2 0 x) * x6 (ix2 1 x)) - Ideal.exp (∑ x : Fin 64, x6 (ix2 2 x) * x6 (ix2 3 x)) + x7 (ix2 0 0) := by
  pointwise [mixing]

/-- A host maximum over the last of five axes, at an index. -/
theorem hostMax {n0 n1 n2 n3 n4 : ℕ} {u : Shape} (s : FVec Ideal ⟨5, ![n0, n1, n2, n3, n4]⟩ .f32) (init : FVec Ideal u .f32)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce FloatOps.maximumf s init h hu (ix4 a b c d)
      = Finset.univ.fold max (init (Shape.Idx.first hu)) fun k : Fin n4 => s (ix5 a b c d k) := by
  pointwise

/-! ## The context -/

/-- A score of the context. -/
theorem ctxScores_at (q : FVec Ideal S4x256x4x2x64 .f32) (k : FVec Ideal S4x256x4x2x64 .f32) (b h : Fin 4) (j : Fin 2)
    (s : Fin 256) (t : Fin 256) :
    ctxScores q k (ix5 b h j s t) = (∑ x : Fin 64, q (ix5 b s h j x) * k (ix5 b t h j x)) * Ideal.ofBits .f32 0x3E000000#32 := by
  pointwise [ctxScores]

/-- A row's maximum. -/
theorem ctxRowMax_at (a : FVec Ideal S4x4x2x256x256 .f32) (b h : Fin 4) (j : Fin 2) (s : Fin 256) :
    ctxRowMax a (ix4 b h j s) = Finset.univ.fold max (Ideal.ofBits .f32 0xFF800000#32) fun k : Fin 256 => a (ix5 b h j s k) :=
  hostMax _ _ _ _ _ _ _ _

/-- One value per row, along the row. -/
theorem ctxAlong_at (M : FVec Ideal S4x4x2x256 .f32) (b h : Fin 4) (j : Fin 2) (s : Fin 256) (t : Fin 256) :
    ctxAlong M (ix5 b h j s t) = max (Ideal.ofBits .f32 0xFF800000#32) (M (ix4 b h j s)) := by
  pointwise [ctxAlong]

/-- Exponentials over their row's sum. -/
theorem ctxShare_at (a : FVec Ideal S4x4x2x256x256 .f32) (b h : Fin 4) (j : Fin 2) (s : Fin 256) (t : Fin 256) :
    ctxShare a (ix5 b h j s t) = Ideal.div (a (ix5 b h j s t)) (∑ k : Fin 256, a (ix5 b h j s k)) := by
  pointwise [ctxShare]

/-- Exponentials of shifted scores. -/
theorem ctxExp_at (a M : FVec Ideal S4x4x2x256x256 .f32) (b h : Fin 4) (j : Fin 2) (s : Fin 256) (t : Fin 256) :
    (Host.exp (subf a M) : FVec Ideal S4x4x2x256x256 .f32) (ix5 b h j s t) = Ideal.exp (a (ix5 b h j s t) - M (ix5 b h j s t)) := by
  pointwise

/-- A softmax's entry: the shifted exponential over the sum of its row. -/
theorem ctxProbs_at (a : FVec Ideal S4x4x2x256x256 .f32) (b h : Fin 4) (j : Fin 2) (s : Fin 256) (t : Fin 256) :
    ctxProbs a (ix5 b h j s t)
      = Ideal.div (Ideal.exp (a (ix5 b h j s t) - max (Ideal.ofBits .f32 0xFF800000#32) (ctxRowMax a (ix4 b h j s))))
          (∑ k : Fin 256, Ideal.exp (a (ix5 b h j s k) - max (Ideal.ofBits .f32 0xFF800000#32) (ctxRowMax a (ix4 b h j s)))) := by
  unfold ctxProbs; rw [ctxShare_at]; simp only [ctxExp_at, ctxAlong_at]

/-- The two maps' difference weighing the values. -/
theorem ctxMix_at (l : FVec Ideal S_ .f32) (p : FVec Ideal S4x4x2x256x256 .f32) (v : FVec Ideal S4x256x4x128 .f32)
    (b h : Fin 4) (s : Fin 256) (e : Fin 128) :
    ctxMix l p v (ix4 b s h e)
      = ∑ x : Fin 256, v (ix4 b x h e) * (p (ix5 b h 0 s x) - l ix0 * p (ix5 b h 1 s x)) := by
  pointwise [ctxMix]

/-- The normalisation and its two factors. -/
theorem ctxNorm_at (g : FVec Ideal S128 .f32) (li : FVec Ideal S1x1 .f32) (o : FVec Ideal S4x256x4x128 .f32)
    (b h : Fin 4) (s : Fin 256) (e : Fin 128) :
    ctxNorm g li o (ix4 b s h e)
      = o (ix4 b s h e) *
          Ideal.rsqrt (Ideal.div (∑ x : Fin 128, o (ix4 b s h x) * o (ix4 b s h x)) (Ideal.ofBits .f32 0x43000000#32) + Ideal.ofBits .f32 0x358637BD#32)
          * g (ix1 e) * (1 - li (ix2 0 0)) := by
  pointwise [ctxNorm]

/-! ## The latents -/

/-- A score of the latents. -/
theorem latScores_at (q : FVec Ideal S4x4096x4x2x64 .f32) (k : FVec Ideal S4x4352x4x2x64 .f32) (b h : Fin 4) (j : Fin 2)
    (s : Fin 4096) (t : Fin 4352) :
    latScores q k (ix5 b h j s t) = (∑ x : Fin 64, q (ix5 b s h j x) * k (ix5 b t h j x)) * Ideal.ofBits .f32 0x3E000000#32 := by
  pointwise [latScores]

/-- A row's maximum. -/
theorem latRowMax_at (a : FVec Ideal S4x4x2x4096x4352 .f32) (b h : Fin 4) (j : Fin 2) (s : Fin 4096) :
    latRowMax a (ix4 b h j s) = Finset.univ.fold max (Ideal.ofBits .f32 0xFF800000#32) fun k : Fin 4352 => a (ix5 b h j s k) :=
  hostMax _ _ _ _ _ _ _ _

/-- One value per row, along the row. -/
theorem latAlong_at (M : FVec Ideal S4x4x2x4096 .f32) (b h : Fin 4) (j : Fin 2) (s : Fin 4096) (t : Fin 4352) :
    latAlong M (ix5 b h j s t) = max (Ideal.ofBits .f32 0xFF800000#32) (M (ix4 b h j s)) := by
  pointwise [latAlong]

/-- Exponentials over their row's sum. -/
theorem latShare_at (a : FVec Ideal S4x4x2x4096x4352 .f32) (b h : Fin 4) (j : Fin 2) (s : Fin 4096) (t : Fin 4352) :
    latShare a (ix5 b h j s t) = Ideal.div (a (ix5 b h j s t)) (∑ k : Fin 4352, a (ix5 b h j s k)) := by
  pointwise [latShare]

/-- Exponentials of shifted scores. -/
theorem latExp_at (a M : FVec Ideal S4x4x2x4096x4352 .f32) (b h : Fin 4) (j : Fin 2) (s : Fin 4096) (t : Fin 4352) :
    (Host.exp (subf a M) : FVec Ideal S4x4x2x4096x4352 .f32) (ix5 b h j s t) = Ideal.exp (a (ix5 b h j s t) - M (ix5 b h j s t)) := by
  pointwise

/-- A softmax's entry: the shifted exponential over the sum of its row. -/
theorem latProbs_at (a : FVec Ideal S4x4x2x4096x4352 .f32) (b h : Fin 4) (j : Fin 2) (s : Fin 4096) (t : Fin 4352) :
    latProbs a (ix5 b h j s t)
      = Ideal.div (Ideal.exp (a (ix5 b h j s t) - max (Ideal.ofBits .f32 0xFF800000#32) (latRowMax a (ix4 b h j s))))
          (∑ k : Fin 4352, Ideal.exp (a (ix5 b h j s k) - max (Ideal.ofBits .f32 0xFF800000#32) (latRowMax a (ix4 b h j s)))) := by
  unfold latProbs; rw [latShare_at]; simp only [latExp_at, latAlong_at]

/-- The two maps' difference weighing the values. -/
theorem latMix_at (l : FVec Ideal S_ .f32) (p : FVec Ideal S4x4x2x4096x4352 .f32) (v : FVec Ideal S4x4352x4x128 .f32)
    (b h : Fin 4) (s : Fin 4096) (e : Fin 128) :
    latMix l p v (ix4 b s h e)
      = ∑ x : Fin 4352, v (ix4 b x h e) * (p (ix5 b h 0 s x) - l ix0 * p (ix5 b h 1 s x)) := by
  pointwise [latMix]

/-- The normalisation and its two factors. -/
theorem latNorm_at (g : FVec Ideal S128 .f32) (li : FVec Ideal S1x1 .f32) (o : FVec Ideal S4x4096x4x128 .f32)
    (b h : Fin 4) (s : Fin 4096) (e : Fin 128) :
    latNorm g li o (ix4 b s h e)
      = o (ix4 b s h e) *
          Ideal.rsqrt (Ideal.div (∑ x : Fin 128, o (ix4 b s h x) * o (ix4 b s h x)) (Ideal.ofBits .f32 0x43000000#32) + Ideal.ofBits .f32 0x358637BD#32)
          * g (ix1 e) * (1 - li (ix2 0 0)) := by
  pointwise [latNorm]

/-- The latents' keys and then the context's. -/
theorem keys_at (k : FVec Ideal S4x4096x4x2x64 .f32) (kc : FVec Ideal S4x256x4x2x64 .f32) (b : Fin 4) (s : Fin 4352) (h : Fin 4)
    (j : Fin 2) (x : Fin 64) :
    keysAll k kc (ix5 b s h j x)
      = if hs : s.val < 4096 then k (ix5 b ⟨s.val, hs⟩ h j x) else kc (ix5 b ⟨s.val - 4096, by omega⟩ h j x) := by
  pointwise [keysAll, Value.fn_main_v56]

/-- The latents' values and then the context's. -/
theorem vals_at (v : FVec Ideal S4x4096x4x128 .f32) (vc : FVec Ideal S4x256x4x128 .f32) (b : Fin 4) (s : Fin 4352) (h : Fin 4)
    (e : Fin 128) :
    valsAll v vc (ix4 b s h e)
      = if hs : s.val < 4096 then v (ix4 b ⟨s.val, hs⟩ h e) else vc (ix4 b ⟨s.val - 4096, by omega⟩ h e) := by
  pointwise [valsAll, Value.fn_main_v57]

/-- The result's row `r`, column `a`: batch, position, head and column of the head, from one attention or the other. -/
theorem res_at (m : (ℓ : Loc nD τ sig) → Buf (Elt Ideal) ℓ) (c : Dev nD) (r : Fin 17408) (a : Fin 512) :
    (Value.res_main_v98 m c : FVec Ideal S17408x512 .f32) (ix2 r a)
      = (if h : r.val % 4352 < 256 then
          ctxNorm (F := Ideal) (m ((c.tc : Thread nD τ).loc main_arg8)) (m ((c.tc : Thread nD τ).loc main_arg7))
            (ctxMix (mixing (m ((c.tc : Thread nD τ).loc main_arg6)) (m ((c.tc : Thread nD τ).loc main_arg7)))
              (ctxProbs (ctxScores (m ((c.tc : Thread nD τ).loc main_arg0)) (m ((c.tc : Thread nD τ).loc main_arg2))))
              (m ((c.tc : Thread nD τ).loc main_arg4)))
            (ix4 ⟨r.val / 4352, by omega⟩ ⟨r.val % 4352, h⟩ ⟨a.val / 128, by omega⟩ ⟨a.val % 128, by omega⟩)
        else
          latNorm (F := Ideal) (m ((c.tc : Thread nD τ).loc main_arg8)) (m ((c.tc : Thread nD τ).loc main_arg7))
            (latMix (mixing (m ((c.tc : Thread nD τ).loc main_arg6)) (m ((c.tc : Thread nD τ).loc main_arg7)))
              (latProbs (latScores (m ((c.tc : Thread nD τ).loc main_arg1))
                (keysAll (m ((c.tc : Thread nD τ).loc main_arg3)) (m ((c.tc : Thread nD τ).loc main_arg2)))))
              (valsAll (m ((c.tc : Thread nD τ).loc main_arg5)) (m ((c.tc : Thread nD τ).loc main_arg4))))
            (ix4 ⟨r.val / 4352, by omega⟩ ⟨r.val % 4352 - 256, by omega⟩ ⟨a.val / 128, by omega⟩ ⟨a.val % 128, by omega⟩) : EReal) := by
  rw [res_eq]
  pointwise

end Cert.ReferenceIdeal.Att
-- ==== Proof.AttIdeal.RefSpec.lean ====
module

public import proofs.«01_k».proof.Proof.AttIdeal.RefAt
public import proofs.«01_k».proof.Proof.AttIdeal.Spec

@[expose] public section

set_option maxRecDepth 16384

noncomputable section

namespace Cert.ReferenceIdeal.Att

open Cert.ReferenceIdeal.Gen Cert.Softmax
open Idealize.ShloMosaic Idealize.ShloMosaic.TcCoe Idealize.SL.Sem

/-! # The reference computes the attention over the reals -/

variable (I : Inputs)

/-- A context row's mix of maps. -/
theorem ctxMix_spec (q : FVec Ideal S4x256x4x2x64 .f32) (k : FVec Ideal S4x256x4x2x64 .f32) (v : FVec Ideal S4x256x4x128 .f32)
    (l : FVec Ideal S_ .f32) (hq : ∀ i, q i = (I.qc i : EReal)) (hk : ∀ i, k i = (I.kc i : EReal)) (hv : ∀ i, v i = (I.vc i : EReal))
    (hl : ∀ i, l i = (I.lam : EReal)) (b h : Fin 4) (s : Fin 4352) (hs : s.val < 256) (e : Fin 128) :
    ctxMix l (ctxProbs (ctxScores q k)) v (ix4 b ⟨s.val, hs⟩ h e) = ((I.map b h 0 s e - I.lam * I.map b h 1 s e : ℝ) : EReal) := by
  have hsc : ∀ j (t : Fin 256), ctxScores q k (ix5 b h j ⟨s.val, hs⟩ t) = ((I.score b h j s ⟨t.val, by omega⟩ : ℝ) : EReal) := fun j t => by
    rw [ctxScores_at]; simp only [hq, hk]
    rw [score_coe]; unfold Inputs.score joined5
    simp only [hs, t.isLt, dif_pos]
  obtain ⟨d0, h0⟩ := max_real fun t : Fin 256 => I.score b h 0 s ⟨t.val, by omega⟩
  obtain ⟨d1, h1⟩ := max_real fun t : Fin 256 => I.score b h 1 s ⟨t.val, by omega⟩
  rw [ctxMix_at]
  simp only [ctxProbs_at, ctxRowMax_at, hsc, h0, h1, hv, hl]
  refine (attend_sub _ _ (fun t : Fin 256 => I.vc (ix4 b t h e)) d0 d1 I.lam).trans ?_
  unfold Inputs.map
  simp only [hs, if_true]
  unfold joined4
  simp only [Fin.is_lt, dif_pos]

/-- A latent row's mix of maps. -/
theorem latMix_spec (q : FVec Ideal S4x4096x4x2x64 .f32) (k : FVec Ideal S4x4096x4x2x64 .f32) (kc : FVec Ideal S4x256x4x2x64 .f32)
    (v : FVec Ideal S4x4096x4x128 .f32) (vc : FVec Ideal S4x256x4x128 .f32) (l : FVec Ideal S_ .f32)
    (hq : ∀ i, q i = (I.q i : EReal)) (hk : ∀ i, k i = (I.k i : EReal)) (hkc : ∀ i, kc i = (I.kc i : EReal))
    (hv : ∀ i, v i = (I.v i : EReal)) (hvc : ∀ i, vc i = (I.vc i : EReal))
    (hl : ∀ i, l i = (I.lam : EReal)) (b h : Fin 4) (s : Fin 4352) (hs : ¬ s.val < 256) (e : Fin 128) :
    latMix l (latProbs (latScores q (keysAll k kc))) (valsAll v vc) (ix4 b ⟨s.val - 256, by omega⟩ h e)
      = ((I.map b h 0 s e - I.lam * I.map b h 1 s e : ℝ) : EReal) := by
  have hky : ∀ (t : Fin 4352) j x, keysAll k kc (ix5 b t h j x) = ((joined5 I.kc I.k b (rot t) h j x : ℝ) : EReal) := fun t j x => by
    rw [keys_at, joined5_rot]; split_ifs
    · exact hk _
    · exact hkc _
  have hva : ∀ (t : Fin 4352), valsAll v vc (ix4 b t h e) = ((joined4 I.vc I.v b (rot t) h e : ℝ) : EReal) := fun t => by
    rw [vals_at, joined4_rot]; split_ifs
    · exact hv _
    · exact hvc _
  have hsc : ∀ j (t : Fin 4352), latScores q (keysAll k kc) (ix5 b h j ⟨s.val - 256, by omega⟩ t) = ((I.score b h j s (rot t) : ℝ) : EReal) := fun j t => by
    rw [latScores_at]; simp only [hq, hky]
    rw [score_coe]; unfold Inputs.score
    congr 3; funext x
    rw [show joined5 I.qc I.q b s h j x = I.q (ix5 b ⟨s.val - 256, by omega⟩ h j x) from dif_neg hs]
  obtain ⟨d0, h0⟩ := max_real fun t : Fin 4352 => I.score b h 0 s (rot t)
  obtain ⟨d1, h1⟩ := max_real fun t : Fin 4352 => I.score b h 1 s (rot t)
  rw [latMix_at]
  simp only [latProbs_at, latRowMax_at, hsc, h0, h1, hva, hl]
  refine (attend_sub _ _ (fun t : Fin 4352 => joined4 I.vc I.v b (rot t) h e) d0 d1 I.lam).trans ?_
  unfold Inputs.map
  simp only [hs, if_false]
  rw [← attend_equiv rot (fun t => I.score b h 0 s t), ← attend_equiv rot (fun t => I.score b h 1 s t)]
  rfl

/-- The reference's result at row `r`, column `a`. -/
theorem res_spec (m : (ℓ : Loc nD τ sig) → Buf (Elt Ideal) ℓ) (c : Dev nD)
    (h0 : ∀ i, m ((c.tc : Thread nD τ).loc main_arg0) i = (I.qc i : EReal)) (h1 : ∀ i, m ((c.tc : Thread nD τ).loc main_arg1) i = (I.q i : EReal))
    (h2 : ∀ i, m ((c.tc : Thread nD τ).loc main_arg2) i = (I.kc i : EReal)) (h3 : ∀ i, m ((c.tc : Thread nD τ).loc main_arg3) i = (I.k i : EReal))
    (h4 : ∀ i, m ((c.tc : Thread nD τ).loc main_arg4) i = (I.vc i : EReal)) (h5 : ∀ i, m ((c.tc : Thread nD τ).loc main_arg5) i = (I.v i : EReal))
    (hl : mixWeight (fun i x => m ((c.tc : Thread nD τ).loc main_arg6) (ix2 i x)) (m ((c.tc : Thread nD τ).loc main_arg7) (ix2 0 0)) = (I.lam : EReal))
    (r : Fin 17408) (a : Fin 512) :
    (Value.res_main_v98 m c : FVec Ideal S17408x512 .f32) (ix2 r a)
      = I.out (fun e => m ((c.tc : Thread nD τ).loc main_arg8) (ix1 e)) (m ((c.tc : Thread nD τ).loc main_arg7) (ix2 0 0))
          ⟨r.val / 4352, by omega⟩ ⟨r.val % 4352, by omega⟩ ⟨a.val / 128, by omega⟩ ⟨a.val % 128, by omega⟩ := by
  rw [res_at]
  unfold Inputs.out rmsOut
  have hlam : ∀ i, (mixing (F := Ideal) (m ((c.tc : Thread nD τ).loc main_arg6)) (m ((c.tc : Thread nD τ).loc main_arg7)) : FVec Ideal S_ .f32) i = (I.lam : EReal) :=
    fun i => (mixing_at _ _ i).trans hl
  split_ifs with hs
  · rw [ctxNorm_at]
    simp only [fun e h => ctxMix_spec I _ _ _ _ h0 h2 h4 hlam ⟨r.val / 4352, by omega⟩ h ⟨r.val % 4352, by omega⟩ hs e]
  · rw [latNorm_at]
    simp only [fun e h => latMix_spec I _ _ _ _ _ _ h1 h3 h2 h5 h4 hlam ⟨r.val / 4352, by omega⟩ h ⟨r.val % 4352, by omega⟩ hs e]

end Cert.ReferenceIdeal.Att
-- ==== Proof.AttIdeal.Finite.lean ====
module

public import proofs.«01_k».proof.Defs
public import Idealize.ShloMosaic.Lib.ReduceAll
public import Idealize.ShloMosaic.Lib.Affine
public import proofs.«01_k».proof.Proof.AttIdeal.Softmax

@[expose] public section

set_option maxRecDepth 16384

noncomputable section

namespace Cert.Pre_finite

open Idealize.ShloMosaic

/-! # The precondition: every number of the eight arrays it reads is a real -/

/-- The shape relations the precondition states. -/
instance facts : Facts where
  bcast_S_S4x256x4x2x64 := ⟨by decide, fun i => i.elim0⟩
  reducesTo_S4x256x4x2x64_S_d0_1_2_3_4 := by decide
  h_S_ := by decide
  bcast_S_S4x4096x4x2x64 := ⟨by decide, fun i => i.elim0⟩
  reducesTo_S4x4096x4x2x64_S_d0_1_2_3_4 := by decide
  bcast_S_S4x256x4x128 := ⟨by decide, fun i => i.elim0⟩
  reducesTo_S4x256x4x128_S_d0_1_2_3 := by decide
  bcast_S_S4x4096x4x128 := ⟨by decide, fun i => i.elim0⟩
  reducesTo_S4x4096x4x128_S_d0_1_2_3 := by decide
  bcast_S_S4x64 := ⟨by decide, fun i => i.elim0⟩
  reducesTo_S4x64_S_d0_1 := by decide
  bcast_S_S1x1 := ⟨by decide, fun i => i.elim0⟩
  reducesTo_S1x1_S_d0_1 := by decide

/-- An array all of whose magnitudes are below infinity holds reals. -/
theorem real_of_all {s : Shape} {axes : List (Fin s.rank)} (x : FVec Ideal s .f32) (b : S_.BroadcastsInDim s (![] : Fin 0 → Fin s.rank))
    (h : s.ReducesTo axes S_) (hu : 0 < S_.numel) (j : S_.Idx)
    (e : Host.reduce IntOp.andi (cmpf .olt (Host.absf x) (broadcastInDim s ![] b (constant S_ .f32 0x7F800000#32))) (constantI S_ 1 1#1) h hu j = 1#1)
    (i : s.Idx) : x i = ((x i).toReal : EReal) := by
  have : Subsingleton S_.Idx := ⟨fun a b => funext fun k => k.elim0⟩
  have hi := Host.reduce_andi_all _ _ _ _ j e i
  have hlt : max (x i) (-(x i)) < Ideal.ofBits .f32 0x7F800000#32 := by
    by_contra hn
    have h0 : BitVec.ofBool (decide (max (x i) (-(x i)) < Ideal.ofBits .f32 0x7F800000#32)) = 1#1 := hi
    rw [decide_eq_false hn] at h0
    exact absurd h0 (by decide)
  rw [Cert.Softmax.ofBits_top, max_lt_iff] at hlt
  refine (EReal.coe_toReal hlt.1.ne ?_).symm
  intro hb
  rw [hb] at hlt
  exact absurd hlt.2 (by simp)

variable (a0 : FVec Ideal S4x256x4x2x64 .f32) (a1 : FVec Ideal S4x4096x4x2x64 .f32) (a2 : FVec Ideal S4x256x4x2x64 .f32)
  (a3 : FVec Ideal S4x4096x4x2x64 .f32) (a4 : FVec Ideal S4x256x4x128 .f32) (a5 : FVec Ideal S4x4096x4x128 .f32)
  (a6 : FVec Ideal S4x64 .f32) (a7 : FVec Ideal S1x1 .f32) (a8 : FVec Ideal S128 .f32) (a9 a10 : FVec Ideal S64 .f32)

/-- Where the precondition holds, the eight arrays it reads hold reals. -/
theorem reals (h : fn (F := Ideal) a0 a1 a2 a3 a4 a5 a6 a7 a8 a9 a10 = fun _ => 1#1) :
    (∀ i, a0 i = ((a0 i).toReal : EReal)) ∧ (∀ i, a1 i = ((a1 i).toReal : EReal)) ∧ (∀ i, a2 i = ((a2 i).toReal : EReal))
      ∧ (∀ i, a3 i = ((a3 i).toReal : EReal)) ∧ (∀ i, a4 i = ((a4 i).toReal : EReal)) ∧ (∀ i, a5 i = ((a5 i).toReal : EReal))
      ∧ (∀ i, a6 i = ((a6 i).toReal : EReal)) ∧ (∀ i, a7 i = ((a7 i).toReal : EReal)) := by
  have e := congrFun h (fun k => k.elim0)
  unfold fn fn_part1 fn_part2 at e
  have both : ∀ (x y : IVec S_ 1) (i : S_.Idx), andi x y i = 1#1 ↔ x i = 1#1 ∧ y i = 1#1 := fun x y i => IntOp.andi_eq_one
  simp only [both] at e
  obtain ⟨⟨⟨⟨⟨⟨⟨e0, e1⟩, e2⟩, e3⟩, e4⟩, e5⟩, e6⟩, e7⟩ := e
  exact ⟨real_of_all a0 _ _ _ _ e0, real_of_all a1 _ _ _ _ e1, real_of_all a2 _ _ _ _ e2, real_of_all a3 _ _ _ _ e3,
    real_of_all a4 _ _ _ _ e4, real_of_all a5 _ _ _ _ e5, real_of_all a6 _ _ _ _ e6, real_of_all a7 _ _ _ _ e7⟩

end Cert.Pre_finite
-- ==== Proof.AttIdeal.Algebraic.lean ====
module

public import proofs.«01_k».proof.Proof.AttIdeal.KernelSpec
public import proofs.«01_k».proof.Proof.AttIdeal.RefSpec
public import proofs.«01_k».proof.Proof.AttIdeal.Finite

@[expose] public section

set_option maxRecDepth 16384

noncomputable section

namespace Cert.KernelIdeal.Att

open Cert.KernelIdeal.Gen Cert.Softmax
open Idealize.ShloMosaic Idealize.ShloMosaic.TcCoe Idealize.SL.Sem Idealize.ShloMosaic.Pipeline

/-! # The two programs end with one result -/

variable (m : (ℓ : Loc nD τ sig) → Buf (Elt Ideal) ℓ) (c : Dev nD)

/-- Where every point leaves its rows of an array `G`, the array written is `G`. -/
theorem final (G : FVec Ideal S17408x512 .f32)
    (hG : ∀ (t : Fin cfg0.N) (r : Fin 256) (a : Fin 512), outAt m c t (ix2 r a) = G (ix2 ⟨256 * t.val + r.val, by have := lt_68 t; omega⟩ a)) :
    (dats m 0 c).arrAt 8 cfg0.N = G := by
  refine (dats m 0 c).arrAt_eq_of_cover 8 G (fun t _ => ?_) fun i => ?_
  · show outAt m c t = _
    funext y
    rw [View.read_apply]
    have e : outAt m c t y = G (ix2 ⟨256 * t.val + (y 0).val, by have := lt_68 t; have : (y 0).val < 256 := (y 0).isLt; omega⟩ (y 1)) :=
      (congrArg (outAt m c t) (eq_ix2 y)).trans (hG t (y 0) (y 1))
    refine e.trans ?_
    show G _ = G _
    congr 1; funext a; apply Fin.ext
    match a with
    | ⟨0, _⟩ => show 256 * t.val + (y 0).val = win0_8.index t 0 * 256 + 1 * (y 0).val; rw [(index_o t).1]; omega
    | ⟨1, _⟩ => show (y 1).val = win0_8.index t 1 * 512 + 1 * (y 1).val; rw [(index_o t).2]; omega
  · have h0 : (i 0 : Nat) < 17408 := (i 0).isLt
    have h1 : (i 1 : Nat) < 512 := (i 1).isLt
    have hN : cfg0.N = 68 := N_0
    let t : Fin cfg0.N := ⟨(i 0 : Nat) / 256, by rw [hN]; omega⟩
    have ht : t.val = (i 0 : Nat) / 256 := rfl
    refine ⟨t, (show ∀ t : Fin cfg0.N, (cfg0.win 8).flush t = true from by decide +kernel) t, ?_⟩
    show i ∈ ((View.whole main_v12).slice (win0_8.rect t)).set
    rw [View.set_slice_whole, Rect.mem_set_unit]
    intro a
    match a with
    | ⟨0, _⟩ => show win0_8.index t 0 * 256 ≤ (i 0 : Nat) ∧ (i 0 : Nat) < win0_8.index t 0 * 256 + 256
                rw [(index_o t).1]; omega
    | ⟨1, _⟩ => show win0_8.index t 1 * 512 ≤ (i 1 : Nat) ∧ (i 1 : Nat) < win0_8.index t 1 * 512 + 512
                rw [(index_o t).2]; omega

/-- On one core, where the eight arrays are real and the two memories agree, the array the kernel writes is the reference's result. -/
theorem results_agree (I : Inputs) (m' : (ℓ : Loc Cert.ReferenceIdeal.nD Cert.ReferenceIdeal.τ Cert.ReferenceIdeal.sig) → Buf (Elt Ideal) ℓ)
    (h0 : ∀ i, m ((c.tc : Thread nD τ).loc main_arg0) i = (I.qc i : EReal)) (h1 : ∀ i, m ((c.tc : Thread nD τ).loc main_arg1) i = (I.q i : EReal))
    (h2 : ∀ i, m ((c.tc : Thread nD τ).loc main_arg2) i = (I.kc i : EReal)) (h3 : ∀ i, m ((c.tc : Thread nD τ).loc main_arg3) i = (I.k i : EReal))
    (h4 : ∀ i, m ((c.tc : Thread nD τ).loc main_arg4) i = (I.vc i : EReal)) (h5 : ∀ i, m ((c.tc : Thread nD τ).loc main_arg5) i = (I.v i : EReal))
    (hl : mixWeight (fun i x => m ((c.tc : Thread nD τ).loc main_arg6) (ix2 i x)) (m ((c.tc : Thread nD τ).loc main_arg7) (ix2 0 0)) = (I.lam : EReal))
    (a0 : m' ((c.tc : Thread nD τ).loc Cert.ReferenceIdeal.main_arg0) = m ((c.tc : Thread nD τ).loc main_arg0))
    (a1 : m' ((c.tc : Thread nD τ).loc Cert.ReferenceIdeal.main_arg1) = m ((c.tc : Thread nD τ).loc main_arg1))
    (a2 : m' ((c.tc : Thread nD τ).loc Cert.ReferenceIdeal.main_arg2) = m ((c.tc : Thread nD τ).loc main_arg2))
    (a3 : m' ((c.tc : Thread nD τ).loc Cert.ReferenceIdeal.main_arg3) = m ((c.tc : Thread nD τ).loc main_arg3))
    (a4 : m' ((c.tc : Thread nD τ).loc Cert.ReferenceIdeal.main_arg4) = m ((c.tc : Thread nD τ).loc main_arg4))
    (a5 : m' ((c.tc : Thread nD τ).loc Cert.ReferenceIdeal.main_arg5) = m ((c.tc : Thread nD τ).loc main_arg5))
    (a6 : m' ((c.tc : Thread nD τ).loc Cert.ReferenceIdeal.main_arg6) = m ((c.tc : Thread nD τ).loc main_arg6))
    (a7 : m' ((c.tc : Thread nD τ).loc Cert.ReferenceIdeal.main_arg7) = m ((c.tc : Thread nD τ).loc main_arg7))
    (a8 : m' ((c.tc : Thread nD τ).loc Cert.ReferenceIdeal.main_arg8) = m ((c.tc : Thread nD τ).loc main_arg8)) :
    (dats m 0 c).arrAt 8 cfg0.N = (Cert.ReferenceIdeal.Value.res_main_v98 m' c : FVec Ideal S17408x512 .f32) := by
  refine final m c _ fun t r a => ?_
  have ha : a = ⟨128 * (a.val / 128) + a.val % 128, by omega⟩ := Fin.ext (by show a.val = 128 * (a.val / 128) + a.val % 128; omega)
  have hk := outAt_at I m c h0 h1 h2 h3 h4 h5 hl t r ⟨a.val / 128, by omega⟩ ⟨a.val % 128, by omega⟩ (by show 128 * (a.val / 128) + a.val % 128 < 512; omega)
  refine ((congrArg (fun a => outAt m c t (ix2 r a)) ha).trans hk).trans ?_
  refine Eq.trans ?_ (Cert.ReferenceIdeal.Att.res_spec I m' c (by rw [a0]; exact h0) (by rw [a1]; exact h1) (by rw [a2]; exact h2)
    (by rw [a3]; exact h3) (by rw [a4]; exact h4) (by rw [a5]; exact h5) (by rw [a6, a7]; exact hl) _ a).symm
  rw [a7, a8]
  have hb : batch t = ⟨(256 * t.val + r.val) / 4352, by have := lt_68 t; omega⟩ := Fin.ext (by show t.val / 17 = (256 * t.val + r.val) / 4352; omega)
  have hp : pos t r = ⟨(256 * t.val + r.val) % 4352, by omega⟩ := Fin.ext (by show 256 * (t.val % 17) + r.val = (256 * t.val + r.val) % 4352; omega)
  rw [hb, hp]

/-- The real arrays of one core's memory. -/
def inputs : Inputs where
  qc := fun i => (m ((c.tc : Thread nD τ).loc main_arg0) i : EReal).toReal
  q := fun i => (m ((c.tc : Thread nD τ).loc main_arg1) i : EReal).toReal
  kc := fun i => (m ((c.tc : Thread nD τ).loc main_arg2) i : EReal).toReal
  k := fun i => (m ((c.tc : Thread nD τ).loc main_arg3) i : EReal).toReal
  vc := fun i => (m ((c.tc : Thread nD τ).loc main_arg4) i : EReal).toReal
  v := fun i => (m ((c.tc : Thread nD τ).loc main_arg5) i : EReal).toReal
  lam := mixReal (fun i x => (m ((c.tc : Thread nD τ).loc main_arg6) (ix2 i x) : EReal).toReal) (m ((c.tc : Thread nD τ).loc main_arg7) (ix2 0 0) : EReal).toReal

/-- THE TWO RESULTS ARE ONE: on real arrays the kernel and the reference end with the same array. -/
theorem algebraic : Cert.algebraic_KernelIdeal_ReferenceIdeal_pre_finite := by
  intro m ρ m' ρ' hpre hagree
  refine ⟨fun c => Cert.ReferenceIdeal.Value.res_main_v98 m' c, ?_, Cert.ReferenceIdeal.Value.run (F := Ideal) m' ρ'⟩
  refine (θ_run defs _ _).mono (fun r h c => ⟨?_, h.2 c⟩) (θ_run_and (run_main m ρ) (frame_of m ρ (dats m) (A_eq m) (run_main m ρ)))
  refine ((h.1 c).1 8).trans ?_
  obtain ⟨r0, r1, r2, r3, r4, r5, r6, r7⟩ := Cert.Pre_finite.reals _ _ _ _ _ _ _ _ _ _ _ (hpre c)
  obtain ⟨a0, a1, a2, a3, a4, a5, a6, a7, a8, -, -⟩ := hagree c
  exact results_agree m c (inputs m c) m' r0 r1 r2 r3 r4 r5 (mixWeight_real _ _ (fun i x => r6 _) (r7 _)) a0 a1 a2 a3 a4 a5 a6 a7 a8

end Cert.KernelIdeal.Att
-- ==== Proof.MergeIdeal.Blocks.lean ====
module

public import proofs.«01_k».proof.Proof.Gen.MergeIdeal.Frame
public import Idealize.ShloMosaic.Lib.Pointwise

@[expose] public section

set_option maxRecDepth 16384

noncomputable section

namespace Cert.MergeIdeal.Rows

open Cert.MergeIdeal.Gen
open Idealize.ShloMosaic Idealize.ShloMosaic.TcCoe Idealize.SL.Sem

/-! # What each window's block is at a grid point

The 34 points are tiles of 512 rows, each two sub-tiles of 256 rows with a modulation of their own. -/

variable (m : (ℓ : Loc nD τ sig) → Buf (Elt Ideal) ℓ)

/-- There are 34 points. -/
theorem lt_34 (t : Fin cfg0.N) : t.val < 34 := lt_of_lt_of_eq t.isLt (show cfg0.N = 34 from N_0)

/-- Row `r` of point `t`. -/
def rowAt (t : Fin cfg0.N) (r : Fin 512) : Fin 17408 := ⟨512 * t.val + r.val, by have := lt_34 t; omega⟩

/-- The modulation of the 256 rows from `256 i` on: the context's shared one, or the batch's own. -/
def modOf (i : ℕ) : ℕ := if i % 17 < 1 then 4 else i / 17

/-- The row tiles' block indices at point `t`. -/
theorem index_rows : ∀ t : Fin grid0.N, (win0_0.index t 0 = t.val ∧ win0_0.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_15.index t 0 = t.val ∧ win0_15.index t 1 = 0) := by decide +kernel

/-- The modulations' block indices at point `t`. -/
theorem index_mod : ∀ t : Fin grid0.N, (win0_13.index t 0 = modOf (2 * t.val) ∧ win0_13.index t 1 = 0 ∧ win0_13.index t 2 = 0)
    ∧ (win0_14.index t 0 = modOf (2 * t.val + 1) ∧ win0_14.index t 1 = 0 ∧ win0_14.index t 2 = 0) := by decide +kernel

/-- The result's block index at point `t`. -/
theorem index_o (t : Fin grid0.N) : win0_15.index t 0 = t.val ∧ win0_15.index t 1 = 0 := (index_rows t).2.2.2.2.2.2

/-- Point `t`'s rows of the residual stream. -/
theorem blk_0 (c : Dev nD) (t : Fin cfg0.N) (r : Fin 512) (k : Fin 1024) :
    ((iblk m c 0 t : Vec Ideal S512x1024 .f32) (ix2 r k) : EReal) = m ((c.tc : Thread nD τ).loc main_arg0) (ix2 (rowAt t r) k) := by
  rw [← V_main_arg0 m c]
  unfold iblk
  rw [View.read_apply]
  show V m c main_arg0 _ = V m c main_arg0 _
  congr 1; funext a; apply Fin.ext
  match a with
  | ⟨0, _⟩ => show win0_0.index t 0 * 512 + 1 * r.val = 512 * t.val + r.val; rw [(index_rows t).1.1]; omega
  | ⟨1, _⟩ => show win0_0.index t 1 * 1024 + 1 * k.val = k.val; rw [(index_rows t).1.2]; omega

/-- Point `t`'s rows of the first branch. -/
theorem blk_2 (c : Dev nD) (t : Fin cfg0.N) (r : Fin 512) (k : Fin 512) :
    ((iblk m c 2 t : Vec Ideal S512x512 .f32) (ix2 r k) : EReal) = m ((c.tc : Thread nD τ).loc main_arg4) (ix2 (rowAt t r) k) := by
  rw [← V_main_arg4 m c]
  unfold iblk
  rw [View.read_apply]
  show V m c main_arg4 _ = V m c main_arg4 _
  congr 1; funext a; apply Fin.ext
  match a with
  | ⟨0, _⟩ => show win0_2.index t 0 * 512 + 1 * r.val = 512 * t.val + r.val; rw [(index_rows t).2.1.1]; omega
  | ⟨1, _⟩ => show win0_2.index t 1 * 512 + 1 * k.val = k.val; rw [(index_rows t).2.1.2]; omega

/-- Point `t`'s rows of the attention. -/
theorem blk_3 (c : Dev nD) (t : Fin cfg0.N) (r : Fin 512) (k : Fin 512) :
    ((iblk m c 3 t : Vec Ideal S512x512 .f32) (ix2 r k) : EReal) = m ((c.tc : Thread nD τ).loc main_arg5) (ix2 (rowAt t r) k) := by
  rw [← V_main_arg5 m c]
  unfold iblk
  rw [View.read_apply]
  show V m c main_arg5 _ = V m c main_arg5 _
  congr 1; funext a; apply Fin.ext
  match a with
  | ⟨0, _⟩ => show win0_3.index t 0 * 512 + 1 * r.val = 512 * t.val + r.val; rw [(index_rows t).2.2.1.1]; omega
  | ⟨1, _⟩ => show win0_3.index t 1 * 512 + 1 * k.val = k.val; rw [(index_rows t).2.2.1.2]; omega

/-- Point `t`'s rows of the forward scan. -/
theorem blk_4 (c : Dev nD) (t : Fin cfg0.N) (r : Fin 512) (k : Fin 512) :
    ((iblk m c 4 t : Vec Ideal S512x512 .f32) (ix2 r k) : EReal) = m ((c.tc : Thread nD τ).loc main_arg6) (ix2 (rowAt t r) k) := by
  rw [← V_main_arg6 m c]
  unfold iblk
  rw [View.read_apply]
  show V m c main_arg6 _ = V m c main_arg6 _
  congr 1; funext a; apply Fin.ext
  match a with
  | ⟨0, _⟩ => show win0_4.index t 0 * 512 + 1 * r.val = 512 * t.val + r.val; rw [(index_rows t).2.2.2.1.1]; omega
  | ⟨1, _⟩ => show win0_4.index t 1 * 512 + 1 * k.val = k.val; rw [(index_rows t).2.2.2.1.2]; omega

/-- Point `t`'s rows of the backward scan. -/
theorem blk_5 (c : Dev nD) (t : Fin cfg0.N) (r : Fin 512) (k : Fin 512) :
    ((iblk m c 5 t : Vec Ideal S512x512 .f32) (ix2 r k) : EReal) = m ((c.tc : Thread nD τ).loc main_arg7) (ix2 (rowAt t r) k) := by
  rw [← V_main_arg7 m c]
  unfold iblk
  rw [View.read_apply]
  show V m c main_arg7 _ = V m c main_arg7 _
  congr 1; funext a; apply Fin.ext
  match a with
  | ⟨0, _⟩ => show win0_5.index t 0 * 512 + 1 * r.val = 512 * t.val + r.val; rw [(index_rows t).2.2.2.2.1.1]; omega
  | ⟨1, _⟩ => show win0_5.index t 1 * 512 + 1 * k.val = k.val; rw [(index_rows t).2.2.2.2.1.2]; omega

/-- Point `t`'s rows of the bonus. -/
theorem blk_6 (c : Dev nD) (t : Fin cfg0.N) (r : Fin 512) (k : Fin 512) :
    ((iblk m c 6 t : Vec Ideal S512x512 .f32) (ix2 r k) : EReal) = m ((c.tc : Thread nD τ).loc main_arg8) (ix2 (rowAt t r) k) := by
  rw [← V_main_arg8 m c]
  unfold iblk
  rw [View.read_apply]
  show V m c main_arg8 _ = V m c main_arg8 _
  congr 1; funext a; apply Fin.ext
  match a with
  | ⟨0, _⟩ => show win0_6.index t 0 * 512 + 1 * r.val = 512 * t.val + r.val; rw [(index_rows t).2.2.2.2.2.1.1]; omega
  | ⟨1, _⟩ => show win0_6.index t 1 * 512 + 1 * k.val = k.val; rw [(index_rows t).2.2.2.2.2.1.2]; omega

/-- The first sub-tile's modulation. -/
theorem blk_13 (c : Dev nD) (t : Fin cfg0.N) (b : Fin 8) (hb : modOf (2 * t.val) = b.val) (n : Fin 3) (k : Fin 1024) :
    ((iblk m c 13 t : Vec Ideal S1x3x1024 .f32) (ix3 0 n k) : EReal) = m ((c.tc : Thread nD τ).loc main_arg1) (ix3 b n k) := by
  rw [← V_main_arg1 m c]
  unfold iblk
  rw [View.read_apply]
  show V m c main_arg1 _ = V m c main_arg1 _
  congr 1; funext a; apply Fin.ext
  match a with
  | ⟨0, _⟩ => show win0_13.index t 0 * 1 + 1 * 0 = b.val; rw [(index_mod t).1.1]; omega
  | ⟨1, _⟩ => show win0_13.index t 1 * 3 + 1 * n.val = n.val; rw [(index_mod t).1.2.1]; omega
  | ⟨2, _⟩ => show win0_13.index t 2 * 1024 + 1 * k.val = k.val; rw [(index_mod t).1.2.2]; omega

/-- The second sub-tile's modulation. -/
theorem blk_14 (c : Dev nD) (t : Fin cfg0.N) (b : Fin 8) (hb : modOf (2 * t.val + 1) = b.val) (n : Fin 3) (k : Fin 1024) :
    ((iblk m c 14 t : Vec Ideal S1x3x1024 .f32) (ix3 0 n k) : EReal) = m ((c.tc : Thread nD τ).loc main_arg1) (ix3 b n k) := by
  rw [← V_main_arg1 m c]
  unfold iblk
  rw [View.read_apply]
  show V m c main_arg1 _ = V m c main_arg1 _
  congr 1; funext a; apply Fin.ext
  match a with
  | ⟨0, _⟩ => show win0_14.index t 0 * 1 + 1 * 0 = b.val; rw [(index_mod t).2.1]; omega
  | ⟨1, _⟩ => show win0_14.index t 1 * 3 + 1 * n.val = n.val; rw [(index_mod t).2.2.1]; omega
  | ⟨2, _⟩ => show win0_14.index t 2 * 1024 + 1 * k.val = k.val; rw [(index_mod t).2.2.2]; omega

/-- The normalisation's gain, whole. -/
theorem blk_1 (c : Dev nD) (t : Fin cfg0.N) : (iblk m c 1 t : Vec Ideal S1x1024 .f32) = V m c main_v13 := by
  funext y; unfold iblk; rw [View.read_apply]
  show V m c main_v13 _ = V m c main_v13 _
  congr 1; funext a; apply Fin.ext
  match a with
  | ⟨0, _⟩ => show 0 * 1 + 1 * (y 0).val = (y 0).val; omega
  | ⟨1, _⟩ => show 0 * 1024 + 1 * (y 1).val = (y 1).val; omega

/-- The input projection's columns, whole. -/
theorem blk_7 (c : Dev nD) (t : Fin cfg0.N) : (iblk m c 7 t : Vec Ideal S1024x4096 .bf16) = V m c main_v10 := by
  funext y; unfold iblk; rw [View.read_apply]
  show V m c main_v10 _ = V m c main_v10 _
  congr 1; funext a; apply Fin.ext
  match a with
  | ⟨0, _⟩ => show 0 * 1024 + 1 * (y 0).val = (y 0).val; omega
  | ⟨1, _⟩ => show 0 * 4096 + 1 * (y 1).val = (y 1).val; omega

/-- The branches' projections, whole. -/
theorem blk_8 (c : Dev nD) (t : Fin cfg0.N) : (iblk m c 8 t : Vec Ideal S3x512x1024 .bf16) = V m c main_v11 := by
  funext y; unfold iblk; rw [View.read_apply]
  show V m c main_v11 _ = V m c main_v11 _
  congr 1; funext a; apply Fin.ext
  match a with
  | ⟨0, _⟩ => show 0 * 3 + 1 * (y 0).val = (y 0).val; omega
  | ⟨1, _⟩ => show 0 * 512 + 1 * (y 1).val = (y 1).val; omega
  | ⟨2, _⟩ => show 0 * 1024 + 1 * (y 2).val = (y 2).val; omega

/-- The output projection, whole. -/
theorem blk_9 (c : Dev nD) (t : Fin cfg0.N) : (iblk m c 9 t : Vec Ideal S1024x1024 .bf16) = V m c main_v12 := by
  funext y; unfold iblk; rw [View.read_apply]
  show V m c main_v12 _ = V m c main_v12 _
  congr 1; funext a; apply Fin.ext
  match a with
  | ⟨0, _⟩ => show 0 * 1024 + 1 * (y 0).val = (y 0).val; omega
  | ⟨1, _⟩ => show 0 * 1024 + 1 * (y 1).val = (y 1).val; omega

/-- The readout's gain, whole. -/
theorem blk_10 (c : Dev nD) (t : Fin cfg0.N) : (iblk m c 10 t : Vec Ideal S1x512 .f32) = V m c main_v14 := by
  funext y; unfold iblk; rw [View.read_apply]
  show V m c main_v14 _ = V m c main_v14 _
  congr 1; funext a; apply Fin.ext
  match a with
  | ⟨0, _⟩ => show 0 * 1 + 1 * (y 0).val = (y 0).val; omega
  | ⟨1, _⟩ => show 0 * 512 + 1 * (y 1).val = (y 1).val; omega

/-- The readout's offset, whole. -/
theorem blk_11 (c : Dev nD) (t : Fin cfg0.N) : (iblk m c 11 t : Vec Ideal S1x512 .f32) = V m c main_v15 := by
  funext y; unfold iblk; rw [View.read_apply]
  show V m c main_v15 _ = V m c main_v15 _
  congr 1; funext a; apply Fin.ext
  match a with
  | ⟨0, _⟩ => show 0 * 1 + 1 * (y 0).val = (y 0).val; omega
  | ⟨1, _⟩ => show 0 * 512 + 1 * (y 1).val = (y 1).val; omega

/-- The mask, whole. -/
theorem blk_12 (c : Dev nD) (t : Fin cfg0.N) : (iblk m c 12 t : Vec Ideal S256x256 .bf16) = V m c main_v8 := by
  funext y; unfold iblk; rw [View.read_apply]
  show V m c main_v8 _ = V m c main_v8 _
  congr 1; funext a; apply Fin.ext
  match a with
  | ⟨0, _⟩ => show 0 * 256 + 1 * (y 0).val = (y 0).val; omega
  | ⟨1, _⟩ => show 0 * 256 + 1 * (y 1).val = (y 1).val; omega

end Cert.MergeIdeal.Rows
-- ==== Proof.MergeIdeal.HostAt.lean ====
module

public import proofs.«01_k».proof.Proof.Gen.MergeIdeal.Frame
public import Idealize.ShloMosaic.Lib.Pointwise

@[expose] public section

set_option maxRecDepth 16384

noncomputable section

namespace Cert.MergeIdeal.Rows

open Cert.MergeIdeal.Gen
open Idealize.ShloMosaic Idealize.ShloMosaic.TcCoe Idealize.SL.Sem

/-! # The arrays the host prepares, read at an index -/

/-- The rounded-down quotient of the numbers below 256 by 64, as the host computes it: the truncating quotient, less one
where the signs differ and the remainder is not zero. -/
def quarter (s : Shape) (i c c0 c1 : IVec s 32) : IVec s 32 :=
  select (andi (cmpi .ne (signi i) (signi c)) (cmpi .ne (Host.remsi i c) c0)) (subi (Host.divsi i c) c1) (Host.divsi i c)

/-- The mask: where the two numbers' quotients by 64 agree. -/
def mask : FVec Ideal S256x256 .bf16 :=
  uitofp .bf16 (cmpi .eq
    (broadcastInDim S256x256 ![0, 1] bcast_S256x1_S256x256_0_1
      (quarter S256x1 (broadcastInDim S256x1 ![0] bcast_S256_S256x1_0 (iotaInDim S256 32 0)) (broadcastInDim S256x1 ![] bcast_S_S256x1 (constantI S_ 32 64#32))
        (broadcastInDim S256x1 ![] bcast_S_S256x1 (constantI S_ 32 0#32)) (broadcastInDim S256x1 ![] bcast_S_S256x1 (constantI S_ 32 1#32))))
    (broadcastInDim S256x256 ![0, 1] bcast_S1x256_S256x256_0_1
      (quarter S1x256 (broadcastInDim S1x256 ![1] bcast_S256_S1x256_1 (iotaInDim S256 32 0)) (broadcastInDim S1x256 ![] bcast_S_S1x256 (constantI S_ 32 64#32))
        (broadcastInDim S1x256 ![] bcast_S_S1x256 (constantI S_ 32 0#32)) (broadcastInDim S1x256 ![] bcast_S_S1x256 (constantI S_ 32 1#32)))))

/-- The sign of a number. -/
def signOf (i : BitVec 32) : BitVec 32 := if i = 0 then 0 else if i.msb = true then -1 else 1

/-- One number's quotient, as the host computes it. -/
def quarterOf (i c c0 c1 : BitVec 32) : BitVec 32 :=
  Scalar.select (IntOp.andi (IntOp.cmpi .ne (signOf i) (signOf c)) (IntOp.cmpi .ne (IntOp.remsi .host i c) c0))
    (IntOp.subi (IntOp.divsi .host i c) c1) (IntOp.divsi .host i c)

/-- The quotients number by number. -/
theorem quarter_at (s : Shape) (i c c0 c1 : IVec s 32) (j : s.Idx) : quarter s i c c0 c1 j = quarterOf (i j) (c j) (c0 j) (c1 j) := rfl

/-- The divisor 64 is neither zero nor minus one. -/
theorem no_corner (i : BitVec 32) : ¬ IntOp.SDivCorner i 64#32 := by
  unfold IntOp.SDivCorner
  simp

/-- Below 256 that is the quotient by 64. -/
theorem quarterOf_eq (x : Fin 256) : quarterOf (BitVec.ofNat 32 x.val) 64#32 0#32 1#32 = BitVec.ofNat 32 (x.val / 64) := by
  unfold quarterOf IntOp.divsi IntOp.remsi
  rw [if_neg (no_corner _), if_neg (no_corner _)]
  revert x
  decide +kernel

/-- The comparison of two quotients below four, as a number. -/
theorem eq_number (a b : Fin 4) :
    (FloatOps.uitofp .bf16 (IntOp.cmpi CmpIPredicate.eq (BitVec.ofNat 32 a.val) (BitVec.ofNat 32 b.val)) : Ideal .bf16) = if a = b then (1 : EReal) else 0 := by
  have h : IntOp.cmpi CmpIPredicate.eq (BitVec.ofNat 32 a.val) (BitVec.ofNat 32 b.val) = if a = b then 1#1 else 0#1 := by
    revert a b; decide +kernel
  rw [h]
  split_ifs
  · show (((1#1 : BitVec 1).toNat : ℝ) : EReal) = 1
    simp
  · show (((0#1 : BitVec 1).toNat : ℝ) : EReal) = 0
    simp

/-- The mask is one within a block of 64 and zero outside. -/
theorem mask_at (x d : Fin 256) : mask (ix2 x d) = if x.val / 64 = d.val / 64 then 1 else 0 := by
  refine Eq.trans (b := (FloatOps.uitofp .bf16 (IntOp.cmpi CmpIPredicate.eq (quarterOf (BitVec.ofNat 32 x.val) 64#32 0#32 1#32)
    (quarterOf (BitVec.ofNat 32 d.val) 64#32 0#32 1#32)) : Ideal .bf16)) ?_ ?_
  · pointwise [mask]
    rfl
  rw [quarterOf_eq, quarterOf_eq]
  refine (eq_number ⟨x.val / 64, by omega⟩ ⟨d.val / 64, by omega⟩).trans ?_
  simp only [Fin.mk.injEq]

variable (m : (ℓ : Loc nD τ sig) → Buf (Elt Ideal) ℓ)

/-- The mask is what the host lays out. -/
theorem V_mask (c : Dev nD) : V m c main_v8 = mask := by
  simp only [V, hostOps0, hostOps0_1, hostOps0_2, hostOps0_3, hostOps0_4, List.flatten_cons, List.flatten_nil, List.append_nil, List.cons_append, List.nil_append]
  after_results
  rfl

/-- A weight of the input projection's last 4096 columns. -/
theorem w_at (c : Dev nD) (k : Fin 1024) (j : Fin 4096) :
    (V m c main_v10 : FVec Ideal S1024x4096 .bf16) (ix2 k j) = m ((c.tc : Thread nD τ).loc main_arg3) (ix2 k ⟨4864 + j.val, by omega⟩) := by
  have h : (V m c main_v10 : FVec Ideal S1024x4096 .bf16) = extractStridedSlice S1024x4096 ![0, 4864] (truncf .bf16 (show FVec Ideal S1024x8960 .f32 from m ((c.tc : Thread nD τ).loc main_arg3)) bitsLt_bf16_f32) slices_S1024x8960_S1024x4096_0_4864 := by
    simp only [V, hostOps0, hostOps0_1, hostOps0_2, hostOps0_3, hostOps0_4, List.flatten_cons, List.flatten_nil, List.append_nil, List.cons_append, List.nil_append]
    after_results
  rw [h]
  pointwise

/-- A weight of a branch's projection. -/
theorem wbr_at (c : Dev nD) (n : Fin 3) (k : Fin 512) (d : Fin 1024) :
    (V m c main_v11 : FVec Ideal S3x512x1024 .bf16) (ix3 n k d) = m ((c.tc : Thread nD τ).loc main_arg11) (ix3 n k d) := by
  have h : (V m c main_v11 : FVec Ideal S3x512x1024 .bf16) = truncf .bf16 (show FVec Ideal S3x512x1024 .f32 from m ((c.tc : Thread nD τ).loc main_arg11)) bitsLt_bf16_f32 := by
    simp only [V, hostOps0, hostOps0_1, hostOps0_2, hostOps0_3, hostOps0_4, List.flatten_cons, List.flatten_nil, List.append_nil, List.cons_append, List.nil_append]
    after_results
  rw [h]
  pointwise

/-- A weight of the output projection. -/
theorem wout_at (c : Dev nD) (e d : Fin 1024) :
    (V m c main_v12 : FVec Ideal S1024x1024 .bf16) (ix2 e d) = m ((c.tc : Thread nD τ).loc main_arg12) (ix2 e d) := by
  have h : (V m c main_v12 : FVec Ideal S1024x1024 .bf16) = truncf .bf16 (show FVec Ideal S1024x1024 .f32 from m ((c.tc : Thread nD τ).loc main_arg12)) bitsLt_bf16_f32 := by
    simp only [V, hostOps0, hostOps0_1, hostOps0_2, hostOps0_3, hostOps0_4, List.flatten_cons, List.flatten_nil, List.append_nil, List.cons_append, List.nil_append]
    after_results
  rw [h]
  pointwise

/-- The normalisation's gain as one row. -/
theorem g_at (c : Dev nD) (k : Fin 1024) :
    (V m c main_v13 : FVec Ideal S1x1024 .f32) (ix2 0 k) = m ((c.tc : Thread nD τ).loc main_arg2) (ix1 k) := by
  have h : V m c main_v13 = shapeCast S1x1024 (m ((c.tc : Thread nD τ).loc main_arg2) : FVec Ideal S1024 .f32) shapeCasts_S1024_S1x1024 := by
    simp only [V, hostOps0, hostOps0_1, hostOps0_2, hostOps0_3, hostOps0_4, List.flatten_cons, List.flatten_nil, List.append_nil, List.cons_append, List.nil_append]
    after_results
    rfl
  rw [h]
  pointwise

/-- The readout's gain as one row. -/
theorem lg_at (c : Dev nD) (k : Fin 512) :
    (V m c main_v14 : FVec Ideal S1x512 .f32) (ix2 0 k) = m ((c.tc : Thread nD τ).loc main_arg9) (ix1 k) := by
  have h : V m c main_v14 = shapeCast S1x512 (m ((c.tc : Thread nD τ).loc main_arg9) : FVec Ideal S512 .f32) shapeCasts_S512_S1x512 := by
    simp only [V, hostOps0, hostOps0_1, hostOps0_2, hostOps0_3, hostOps0_4, List.flatten_cons, List.flatten_nil, List.append_nil, List.cons_append, List.nil_append]
    after_results
    rfl
  rw [h]
  pointwise

/-- The readout's offset as one row. -/
theorem lb_at (c : Dev nD) (k : Fin 512) :
    (V m c main_v15 : FVec Ideal S1x512 .f32) (ix2 0 k) = m ((c.tc : Thread nD τ).loc main_arg10) (ix1 k) := by
  have h : V m c main_v15 = shapeCast S1x512 (m ((c.tc : Thread nD τ).loc main_arg10) : FVec Ideal S512 .f32) shapeCasts_S512_S1x512 := by
    simp only [V, hostOps0, hostOps0_1, hostOps0_2, hostOps0_3, hostOps0_4, List.flatten_cons, List.flatten_nil, List.append_nil, List.cons_append, List.nil_append]
    after_results
    rfl
  rw [h]
  pointwise

end Cert.MergeIdeal.Rows
-- ==== Proof.MergeIdeal.Spec.lean ====
module

public import proofs.«01_k».proof.Proof.AttIdeal.Softmax

@[expose] public section

noncomputable section

namespace Cert.MergeSpec

open Idealize.ShloMosaic

/-! # The merge of one row, on the extended reals

One row of the residual stream, its modulation, the three branches' inputs at that row and the weights give the row of
the result. Nothing here mentions tiles: both programs are shown to compute `out`. -/

/-- One row's data and the weights. -/
structure Row where
  /-- the residual stream -/
  x : Fin 1024 → EReal
  /-- the modulation: shift, scale and gate -/
  mod : Fin 3 → Fin 1024 → EReal
  /-- the normalisation's gain -/
  g : Fin 1024 → EReal
  /-- the last 4096 columns of the input projection -/
  w : Fin 1024 → Fin 4096 → EReal
  /-- the first branch -/
  ya : Fin 512 → EReal
  /-- the attention's output -/
  att : Fin 512 → EReal
  /-- the forward scan -/
  yf : Fin 512 → EReal
  /-- the backward scan -/
  yb : Fin 512 → EReal
  /-- the scans' bonus -/
  bonus : Fin 512 → EReal
  /-- the readout's gain -/
  lg : Fin 512 → EReal
  /-- the readout's offset -/
  lb : Fin 512 → EReal
  /-- the branches' projections -/
  wbr : Fin 3 → Fin 512 → Fin 1024 → EReal
  /-- the output projection -/
  wout : Fin 1024 → Fin 1024 → EReal

/-- The logistic function. -/
def sigma (z : EReal) : EReal := Ideal.div 1 (1 + Ideal.exp (-z))

namespace Row
variable (R : Row)

/-- The normalised, modulated row. -/
def hidden (k : Fin 1024) : EReal :=
  R.x k * Ideal.rsqrt (Ideal.div (∑ i, R.x i * R.x i) (Ideal.ofBits .f32 0x44800000#32) + Ideal.ofBits .f32 0x358637BD#32) * R.g k
    * (1 + R.mod 1 k) + R.mod 0 k

/-- The projected row. -/
def proj (j : Fin 4096) : EReal := ∑ k, R.hidden k * R.w k j

/-- The sum of the two scans. -/
def y (c : Fin 512) : EReal := R.yf c + R.yb c

/-- The mean of `v` over the head `h`. -/
def headMean (v : Fin 512 → EReal) (h : Fin 8) : EReal :=
  Ideal.div (∑ x : Fin 64, v ⟨h.val * 64 + x.val, by omega⟩) (Ideal.ofBits .f32 0x42800000#32)

/-- The head of a column. -/
def head (c : Fin 512) : Fin 8 := ⟨c.val / 64, by omega⟩

/-- The scans' sum less its head's mean. -/
def centred (c : Fin 512) : EReal := R.y c - headMean R.y (head c)

/-- The scans' readout. -/
def readout (c : Fin 512) : EReal :=
  R.centred c * Ideal.rsqrt (headMean (fun c => R.centred c * R.centred c) (head c) + Ideal.ofBits .f32 0x3A27C5AC#32)
    * R.lg c + R.lb c + R.bonus c

/-- The three branches. -/
def branch (n : Fin 3) (c : Fin 512) : EReal :=
  match n with
  | 0 => R.ya c
  | 1 => R.att c * (R.proj ⟨c.val, by omega⟩ * sigma (R.proj ⟨c.val, by omega⟩))
  | 2 => R.readout c * (R.proj ⟨512 + c.val, by omega⟩ * sigma (R.proj ⟨512 + c.val, by omega⟩))

/-- The gate of branch `n` at column `d`. -/
def gate (n : Fin 3) (d : Fin 1024) : EReal := sigma (R.proj ⟨1024 + (n.val * 1024 + d.val), by omega⟩)

/-- The gated branches, summed. -/
def mixed (d : Fin 1024) : EReal := ∑ n, R.gate n d * ∑ c, R.branch n c * R.wbr n c d

/-- The row of the result. -/
def out (d : Fin 1024) : EReal := R.x d + R.mod 2 d * ∑ e, R.mixed e * R.wout e d

end Row
end Cert.MergeSpec
-- ==== Proof.MergeIdeal.Groups.lean ====
module

public import proofs.«01_k».proof.Proof.MergeIdeal.Spec
public import Idealize.ShloMosaic.Lib.Pointwise

@[expose] public section

noncomputable section

namespace Cert.MergeSpec

open Idealize.ShloMosaic

/-! # Head sums by a mask

The kernel sums the heads of 256 columns by one product with a block-diagonal mask of ones, after splitting each number
into a rounded part and what the rounding left. Read over the reals nothing is left, and the product is the sum of the
head's 64 columns. -/

/-- A number that is a real. -/
def IsReal (z : EReal) : Prop := ∃ r : ℝ, z = r

/-- The sum of two reals is a real. -/
theorem IsReal.add {a b : EReal} (ha : IsReal a) (hb : IsReal b) : IsReal (a + b) := by
  obtain ⟨r, rfl⟩ := ha; obtain ⟨s, rfl⟩ := hb; exact ⟨r + s, (EReal.coe_add r s).symm⟩

/-- The difference of two reals is a real. -/
theorem IsReal.sub {a b : EReal} (ha : IsReal a) (hb : IsReal b) : IsReal (a - b) := by
  obtain ⟨r, rfl⟩ := ha; obtain ⟨s, rfl⟩ := hb; exact ⟨r - s, (EReal.coe_sub r s).symm⟩

/-- The product of two reals is a real. -/
theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A finite sum of reals is a real. -/
theorem IsReal.sum {ι : Type} [Fintype ι] {f : ι → EReal} (h : ∀ i, IsReal (f i)) : IsReal (∑ i, f i) := by
  choose g hg using h
  refine ⟨∑ i, g i, ?_⟩
  rw [Cert.Softmax.coe_sum]
  exact Finset.sum_congr rfl fun i _ => hg i

/-- A real less itself is zero. -/
theorem IsReal.sub_self {a : EReal} (h : IsReal a) : a - a = 0 := by
  obtain ⟨r, rfl⟩ := h
  rw [← EReal.coe_sub, _root_.sub_self, EReal.coe_zero]

/-- The constant 64. -/
theorem ofBits_64 : Ideal.ofBits .f32 0x42800000#32 = ((64 : ℝ) : EReal) := by
  simp [Ideal.ofBits, Ideal.ieee, -EReal.coe_mul]; norm_num
/-- The constant one sixty-fourth. -/
theorem ofBits_64th : Ideal.ofBits .f32 0x3C800000#32 = (((1 : ℝ) / 64 : ℝ) : EReal) := by
  simp [Ideal.ofBits, Ideal.ieee, -EReal.coe_mul]; norm_num

/-- A real's quotient by 64 is a real. -/
theorem IsReal.div64 {a : EReal} (h : IsReal a) : IsReal (Ideal.div a (Ideal.ofBits .f32 0x42800000#32)) := by
  rw [ofBits_64, Ideal.div_coe (by norm_num)]
  exact h.mul ⟨_, rfl⟩

/-- Times one sixty-fourth is over 64. -/
theorem mul_64th (a : EReal) : a * Ideal.ofBits .f32 0x3C800000#32 = Ideal.div a (Ideal.ofBits .f32 0x42800000#32) := by
  rw [ofBits_64, ofBits_64th, Ideal.div_coe (by norm_num)]

/-- The kernel's head sum: the rounded part by the mask, plus what the rounding left by the mask. -/
def gsum (mask : Fin 256 → Fin 256 → EReal) (v : Fin 256 → EReal) (d : Fin 256) : EReal :=
  ∑ x, v x * mask x d + ∑ x, (v x - v x) * mask x d

/-- A sum over 256 columns, head by head. -/
theorem sum_heads (f : Fin 256 → EReal) : ∑ x, f x = ∑ h : Fin 4, ∑ i : Fin 64, f ⟨h.val * 64 + i.val, by omega⟩ := by
  rw [← (finProdFinEquiv (m := 4) (n := 64)).sum_comp, Fintype.sum_prod_type]
  refine Finset.sum_congr rfl fun h _ => Finset.sum_congr rfl fun i _ => congrArg f (Fin.ext ?_)
  show i.val + 64 * h.val = h.val * 64 + i.val
  omega

/-- With the block-diagonal mask and reals, the kernel's head sum is the sum of the head. -/
theorem gsum_eq (mask : Fin 256 → Fin 256 → EReal) (hm : ∀ x d, mask x d = if x.val / 64 = d.val / 64 then 1 else 0)
    (v : Fin 256 → EReal) (hv : ∀ x, IsReal (v x)) (d : Fin 256) :
    gsum mask v d = ∑ i : Fin 64, v ⟨d.val / 64 * 64 + i.val, by omega⟩ := by
  unfold gsum
  have h2 : ∑ x, (v x - v x) * mask x d = 0 := Finset.sum_eq_zero fun x _ => by rw [(hv x).sub_self, zero_mul]
  rw [h2, add_zero, sum_heads, Finset.sum_eq_single (⟨d.val / 64, by omega⟩ : Fin 4)]
  · refine Finset.sum_congr rfl fun i _ => ?_
    rw [hm, if_pos (by simp only; omega), mul_one]
  · intro h _ hne
    refine Finset.sum_eq_zero fun i _ => ?_
    rw [hm, if_neg, mul_zero]
    intro e
    exact hne (Fin.ext (by simp only at e ⊢; omega))
  · intro h; exact absurd (Finset.mem_univ _) h

/-- The device's logistic is the reference's. -/
theorem logistic_eq (z : EReal) : Ideal.logistic z = sigma z := rfl

end Cert.MergeSpec
-- ==== Proof.MergeIdeal.KernelAt.lean ====
module

public import proofs.«01_k».proof.Proof.Gen.MergeIdeal.Skeleton
public import proofs.«01_k».proof.Proof.MergeIdeal.Groups
public import Idealize.ShloMosaic.Lib.Pointwise

@[expose] public section

set_option maxRecDepth 16384

noncomputable section

namespace Cert.MergeIdeal.Rows

open Cert.MergeIdeal.Gen Cert.MergeSpec
open Idealize.ShloMosaic Idealize.ShloMosaic.TcCoe Idealize.SL.Sem

/-! # The kernel's values at one point of the grid, read at an index

A point holds 512 rows, two sub-tiles of 256 rows that each have their own modulation. -/

/-- The first sub-tile's normalised, modulated rows. -/
theorem pay2_at (x : Vec Ideal S512x1024 .f32) (g : Vec Ideal S1x1024 .f32) (md : Vec Ideal S1x3x1024 .f32) (r : Fin 256) (k : Fin 1024) :
    (k0_pay2 (F := Ideal) x g md (ix2 r k) : EReal)
      = x (ix2 ⟨r.val, by omega⟩ k) * Ideal.rsqrt (Ideal.div (∑ i : Fin 1024, x (ix2 ⟨r.val, by omega⟩ i) * x (ix2 ⟨r.val, by omega⟩ i)) (Ideal.ofBits .f32 0x44800000#32) + Ideal.ofBits .f32 0x358637BD#32)
          * g (ix2 0 k) * (1 + md (ix3 0 1 k)) + md (ix3 0 0 k) := by
  pointwise [k0_pay2]

/-- The second sub-tile's reciprocal root mean squares. -/
theorem pay6_at (x : Vec Ideal S512x1024 .f32) (r : Fin 256) (z : Fin 1) :
    (k0_pay6 (F := Ideal) x (ix2 r z) : EReal)
      = Ideal.rsqrt (Ideal.div (∑ i : Fin 1024, x (ix2 ⟨256 + r.val, by omega⟩ i) * x (ix2 ⟨256 + r.val, by omega⟩ i)) (Ideal.ofBits .f32 0x44800000#32) + Ideal.ofBits .f32 0x358637BD#32) := by
  pointwise [k0_pay6, k0_pay3]

/-- The gates of both sub-tiles. -/
theorem pay7_at (a b : Vec Ideal S1x3x1024 .f32) (r : Fin 512) (d : Fin 1024) :
    (k0_pay7 (F := Ideal) a b (ix2 r d) : EReal) = if h : r.val < 256 then a (ix3 0 2 d) else b (ix3 0 2 d) := by
  pointwise [k0_pay7]

/-- The projected rows of both sub-tiles. -/
theorem pay8_at (v26 : FVec Ideal S256x1024 .bf16) (v27 : FVec Ideal S256x1024 .f32) (v29 : FVec Ideal S1x1024 .f32) (v31 : FVec Ideal S3x1024 .f32)
    (v39 : FVec Ideal S256x1 .f32) (w : Vec Ideal S1024x4096 .bf16) (r : Fin 512) (d : Fin 4096) :
    (k0_pay8 (F := Ideal) v26 v27 v29 v31 v39 w (ix2 r d) : EReal)
      = ∑ x : Fin 1024, (if h : r.val < 256 then (v26 (ix2 ⟨r.val, h⟩ x) : EReal)
          else v27 (ix2 ⟨r.val - 256, by omega⟩ x) * v39 (ix2 ⟨r.val - 256, by omega⟩ 0) * v29 (ix2 0 x) * (1 + v31 (ix2 1 x)) + v31 (ix2 0 x)) * w (ix2 x d) := by
  pointwise [k0_pay8]

/-- The second sub-tile's rows. -/
theorem pay3_at (x : Vec Ideal S512x1024 .f32) (r : Fin 256) (k : Fin 1024) :
    (k0_pay3 (F := Ideal) x (ix2 r k) : EReal) = x (ix2 ⟨256 + r.val, by omega⟩ k) := by
  pointwise [k0_pay3]

/-- The normalisation's gain. -/
theorem pay4_at (g : Vec Ideal S1x1024 .f32) (k : Fin 1024) : (k0_pay4 (F := Ideal) g (ix2 0 k) : EReal) = g (ix2 0 k) := by
  pointwise [k0_pay4]

/-- The second sub-tile's modulation. -/
theorem pay5_at (md : Vec Ideal S1x3x1024 .f32) (n : Fin 3) (k : Fin 1024) : (k0_pay5 (F := Ideal) md (ix2 n k) : EReal) = md (ix3 0 n k) := by
  pointwise [k0_pay5]

/-- The mask. -/
theorem pay9_at (o : Vec Ideal S256x256 .bf16) (x d : Fin 256) : (k0_pay9 (F := Ideal) o (ix2 x d) : EReal) = o (ix2 x d) := by
  pointwise [k0_pay9]

/-- The scans' sum. -/
theorem pay10_at (a b : Vec Ideal S512x512 .f32) (r c : Fin 512) : (k0_pay10 (F := Ideal) a b (ix2 r c) : EReal) = a (ix2 r c) + b (ix2 r c) := by
  pointwise [k0_pay10]

/-- The head sums of the first 256 columns. -/
theorem pay11_at (o : Vec Ideal S256x256 .bf16) (a b : Vec Ideal S512x512 .f32) (r : Fin 512) (d : Fin 256) :
    (k0_pay11 (F := Ideal) o a b (ix2 r d) : EReal)
      = gsum (fun x d => o (ix2 x d)) (fun x => a (ix2 r ⟨x.val, by omega⟩) + b (ix2 r ⟨x.val, by omega⟩)) d := by
  pointwise [k0_pay11, k0_pay10, k0_pay9]
  rfl

/-- The scans' sum in the last 256 columns. -/
theorem pay12_at (a b : Vec Ideal S512x512 .f32) (r : Fin 512) (d : Fin 256) :
    (k0_pay12 (F := Ideal) a b (ix2 r d) : EReal) = a (ix2 r ⟨256 + d.val, by omega⟩) + b (ix2 r ⟨256 + d.val, by omega⟩) := by
  pointwise [k0_pay12, k0_pay10]

/-- The readout, from the scans' sum, the head sums of its first 256 columns and its last 256 columns. -/
theorem pay13_at (o : FVec Ideal S256x256 .bf16) (y : FVec Ideal S512x512 .f32) (s : FVec Ideal S512x256 .f32) (y' : FVec Ideal S512x256 .f32)
    (lg : Vec Ideal S1x512 .f32) (lb : Vec Ideal S1x512 .f32) (bonus : Vec Ideal S512x512 .f32) (r : Fin 512) (d : Fin 512) :
    (k0_pay13 (F := Ideal) o y s y' lg lb bonus (ix2 r d) : EReal)
      = (y (ix2 r d) - (if h : d.val < 256 then (s (ix2 r ⟨d.val, h⟩) : EReal) else gsum (fun x d => o (ix2 x d)) (fun x => y' (ix2 r x)) ⟨d.val - 256, by omega⟩)
            * Ideal.ofBits .f32 0x3C800000#32)
          * Ideal.rsqrt ((if h : d.val < 256 then
                gsum (fun x d => o (ix2 x d)) (fun x => (y (ix2 r ⟨x.val, by omega⟩) - s (ix2 r x) * Ideal.ofBits .f32 0x3C800000#32)
                  * (y (ix2 r ⟨x.val, by omega⟩) - s (ix2 r x) * Ideal.ofBits .f32 0x3C800000#32)) ⟨d.val, h⟩
              else
                gsum (fun x d => o (ix2 x d)) (fun x => (y (ix2 r ⟨256 + x.val, by omega⟩) - gsum (fun x d => o (ix2 x d)) (fun x => y' (ix2 r x)) x * Ideal.ofBits .f32 0x3C800000#32)
                  * (y (ix2 r ⟨256 + x.val, by omega⟩) - gsum (fun x d => o (ix2 x d)) (fun x => y' (ix2 r x)) x * Ideal.ofBits .f32 0x3C800000#32)) ⟨d.val - 256, by omega⟩)
              * Ideal.ofBits .f32 0x3C800000#32 + Ideal.ofBits .f32 0x3A27C5AC#32)
          * lg (ix2 0 d) + lb (ix2 0 d) + bonus (ix2 r d) := by
  pointwise [k0_pay13]
  rfl

/-- The gated result, from the gates, the projected rows and the three branches' inputs. -/
theorem pay14_at (gt : FVec Ideal S512x1024 .f32) (p : FVec Ideal S512x4096 .f32) (yn : FVec Ideal S512x512 .f32) (ya att : Vec Ideal S512x512 .f32)
    (w0 w1 w2 : Vec Ideal S1x512x1024 .bf16) (wo : Vec Ideal S1024x1024 .bf16) (r : Fin 512) (d : Fin 1024) :
    (k0_pay14 (F := Ideal) gt p yn ya att w0 w1 w2 wo (ix2 r d) : EReal)
      = gt (ix2 r d) * ∑ e : Fin 1024,
          (sigma (p (ix2 r ⟨1024 + e.val, by omega⟩)) * ∑ c : Fin 512, ya (ix2 r c) * w0 (ix3 0 c e)
            + sigma (p (ix2 r ⟨2048 + e.val, by omega⟩)) * ∑ c : Fin 512, att (ix2 r c) * (p (ix2 r ⟨c.val, by omega⟩) * sigma (p (ix2 r ⟨c.val, by omega⟩))) * w1 (ix3 0 c e)
            + sigma (p (ix2 r ⟨3072 + e.val, by omega⟩)) * ∑ c : Fin 512, yn (ix2 r c) * (p (ix2 r ⟨512 + c.val, by omega⟩) * sigma (p (ix2 r ⟨512 + c.val, by omega⟩))) * w2 (ix3 0 c e))
          * wo (ix2 e d) := by
  pointwise [k0_pay14]
  rfl

/-- The residual plus the gated result. -/
theorem pay1_at (x : Vec Ideal S512x1024 .f32) (o : FVec Ideal S512x1024 .f32) (r : Fin 512) (d : Fin 1024) :
    (k0_pay1 (F := Ideal) x o (ix2 r d) : EReal) = x (ix2 r d) + o (ix2 r d) := by
  pointwise [k0_pay1]

end Cert.MergeIdeal.Rows
-- ==== Proof.MergeIdeal.KernelRow.lean ====
module

public import proofs.«01_k».proof.Proof.Gen.MergeIdeal.Frame
public import proofs.«01_k».proof.Proof.MergeIdeal.KernelAt

@[expose] public section

set_option maxRecDepth 16384

noncomputable section

namespace Cert.MergeIdeal.Rows

open Cert.MergeIdeal.Gen Cert.MergeSpec
open Idealize.ShloMosaic Idealize.ShloMosaic.TcCoe Idealize.SL.Sem

/-! # One point's rows are the merge of each row -/

/-- Row `r` of the sixteen blocks at a point is the row `R`. -/
structure IsRow (x0 : Vec Ideal S512x1024 .f32) (x1 : Vec Ideal S1x1024 .f32) (x2 x3 x4 x5 x6 : Vec Ideal S512x512 .f32)
    (x7 : Vec Ideal S1024x4096 .bf16) (x8 : Vec Ideal S3x512x1024 .bf16) (x9 : Vec Ideal S1024x1024 .bf16) (x10 x11 : Vec Ideal S1x512 .f32)
    (x12 : Vec Ideal S256x256 .bf16) (x13 x14 : Vec Ideal S1x3x1024 .f32) (r : Fin 512) (R : Row) : Prop where
  x : ∀ k, (x0 (ix2 r k) : EReal) = R.x k
  g : ∀ k, (x1 (ix2 0 k) : EReal) = R.g k
  ya : ∀ k, (x2 (ix2 r k) : EReal) = R.ya k
  att : ∀ k, (x3 (ix2 r k) : EReal) = R.att k
  yf : ∀ k, (x4 (ix2 r k) : EReal) = R.yf k
  yb : ∀ k, (x5 (ix2 r k) : EReal) = R.yb k
  bonus : ∀ k, (x6 (ix2 r k) : EReal) = R.bonus k
  w : ∀ k j, (x7 (ix2 k j) : EReal) = R.w k j
  wbr : ∀ n k d, (x8 (ix3 n k d) : EReal) = R.wbr n k d
  wout : ∀ e d, (x9 (ix2 e d) : EReal) = R.wout e d
  lg : ∀ k, (x10 (ix2 0 k) : EReal) = R.lg k
  lb : ∀ k, (x11 (ix2 0 k) : EReal) = R.lb k
  mask : ∀ a b, (x12 (ix2 a b) : EReal) = if a.val / 64 = b.val / 64 then 1 else 0
  first : r.val < 256 → ∀ n k, (x13 (ix3 0 n k) : EReal) = R.mod n k
  second : ¬ r.val < 256 → ∀ n k, (x14 (ix3 0 n k) : EReal) = R.mod n k
  realf : ∀ k, IsReal (R.yf k)
  realb : ∀ k, IsReal (R.yb k)

section
variable {x0 : Vec Ideal S512x1024 .f32} {x1 : Vec Ideal S1x1024 .f32} {x2 x3 x4 x5 x6 : Vec Ideal S512x512 .f32}
  {x7 : Vec Ideal S1024x4096 .bf16} {x8 : Vec Ideal S3x512x1024 .bf16} {x9 : Vec Ideal S1024x1024 .bf16} {x10 x11 : Vec Ideal S1x512 .f32}
  {x12 : Vec Ideal S256x256 .bf16} {x13 x14 : Vec Ideal S1x3x1024 .f32} {r : Fin 512} {R : Row}
  (H : IsRow x0 x1 x2 x3 x4 x5 x6 x7 x8 x9 x10 x11 x12 x13 x14 r R)
include H

/-- The projected row. -/
theorem proj_row (j : Fin 4096) :
    (k0_pay8 (F := Ideal) (k0_pay2 x0 x1 x13) (k0_pay3 x0) (k0_pay4 x1) (k0_pay5 x14) (k0_pay6 x0) x7 (ix2 r j) : EReal) = R.proj j := by
  rw [pay8_at]
  refine Finset.sum_congr rfl fun k _ => ?_
  rw [H.w]
  congr 1
  unfold Row.hidden
  split_ifs with h
  · rw [pay2_at]
    simp only [Fin.eta, H.x, H.g, H.first h]
  · have e : (⟨256 + (r.val - 256), by omega⟩ : Fin 512) = r := Fin.ext (by simp only; omega)
    rw [pay3_at, pay6_at, pay4_at, pay5_at, pay5_at]
    simp only [e, H.x, H.g, H.second h]

/-- The gate. -/
theorem gate_row (d : Fin 1024) : (k0_pay7 (F := Ideal) x13 x14 (ix2 r d) : EReal) = R.mod 2 d := by
  rw [pay7_at]
  split_ifs with h
  · exact H.first h 2 d
  · exact H.second h 2 d

omit H in
/-- The scans' sum is real where both scans are. -/
theorem y_real (hf : ∀ k, IsReal (R.yf k)) (hb : ∀ k, IsReal (R.yb k)) (c : Fin 512) : IsReal (R.y c) := (hf c).add (hb c)

omit H in
/-- So is what is left of it without its head's mean. -/
theorem centred_real (hf : ∀ k, IsReal (R.yf k)) (hb : ∀ k, IsReal (R.yb k)) (c : Fin 512) : IsReal (R.centred c) :=
  (y_real hf hb c).sub (IsReal.sum fun _ => y_real hf hb _).div64

/-- A head sum of the first 256 columns, over 64, is the head's mean. -/
theorem mean_first (v : Fin 512 → EReal) (hv : ∀ c, IsReal (v c)) (d : Fin 256) :
    gsum (fun a b => x12 (ix2 a b)) (fun x => v ⟨x.val, by omega⟩) d * Ideal.ofBits .f32 0x3C800000#32
      = Row.headMean v (Row.head ⟨d.val, by omega⟩) := by
  rw [gsum_eq _ H.mask _ (fun x => hv _), mul_64th]
  rfl

/-- A head sum of the last 256 columns, over 64, is the head's mean. -/
theorem mean_last (v : Fin 512 → EReal) (hv : ∀ c, IsReal (v c)) (d : Fin 256) :
    gsum (fun a b => x12 (ix2 a b)) (fun x => v ⟨256 + x.val, by omega⟩) d * Ideal.ofBits .f32 0x3C800000#32
      = Row.headMean v (Row.head ⟨256 + d.val, by omega⟩) := by
  rw [gsum_eq _ H.mask _ (fun x => hv _), mul_64th]
  refine congrArg (fun q => Ideal.div q _) (Finset.sum_congr rfl fun i _ => congrArg v (Fin.ext ?_))
  simp only [Row.head]
  omega

/-- The readout. -/
theorem readout_row (c : Fin 512) :
    (k0_pay13 (F := Ideal) (k0_pay9 x12) (k0_pay10 x4 x5) (k0_pay11 x12 x4 x5) (k0_pay12 x4 x5) x10 x11 x6 (ix2 r c) : EReal) = R.readout c := by
  have hy := y_real (R := R) H.realf H.realb
  have hc := centred_real (R := R) H.realf H.realb
  have y10 : ∀ c, (k0_pay10 (F := Ideal) x4 x5 (ix2 r c) : EReal) = R.y c := fun c => by rw [pay10_at, H.yf, H.yb]; rfl
  have y12 : ∀ d : Fin 256, (k0_pay12 (F := Ideal) x4 x5 (ix2 r d) : EReal) = R.y ⟨256 + d.val, by omega⟩ := fun d => by rw [pay12_at, H.yf, H.yb]; rfl
  have s11 : ∀ d : Fin 256, (k0_pay11 (F := Ideal) x12 x4 x5 (ix2 r d) : EReal) * Ideal.ofBits .f32 0x3C800000#32
      = Row.headMean R.y (Row.head ⟨d.val, by omega⟩) := fun d => by
    rw [pay11_at, ← mean_first H R.y hy]
    simp only [H.yf, H.yb]
    rfl
  have first : ∀ x : Fin 256, R.y ⟨x.val, by omega⟩ - Row.headMean R.y (Row.head ⟨x.val, by omega⟩) = R.centred ⟨x.val, by omega⟩ := fun _ => rfl
  have last : ∀ x : Fin 256, R.y ⟨256 + x.val, by omega⟩ - Row.headMean R.y (Row.head ⟨256 + x.val, by omega⟩) = R.centred ⟨256 + x.val, by omega⟩ := fun _ => rfl
  rw [pay13_at]
  simp only [pay9_at, y10, y12, s11, mean_last H R.y hy, first, last, H.lg, H.lb, H.bonus]
  unfold Row.readout
  by_cases h : c.val < 256
  · simp only [dif_pos h]
    rw [s11 ⟨c.val, h⟩, mean_first H (fun c => R.centred c * R.centred c) (fun c => (hc c).mul (hc c)) ⟨c.val, h⟩]
    rfl
  · simp only [dif_neg h]
    have e : (⟨256 + (c.val - 256), by omega⟩ : Fin 512) = c := Fin.ext (by simp only; omega)
    rw [mean_last H R.y hy, mean_last H (fun c => R.centred c * R.centred c) (fun c => (hc c).mul (hc c)) ⟨c.val - 256, by omega⟩]
    simp only [e]
    rfl

omit H in
/-- The three branches' projections, read out of their block. -/
theorem branch_weights (x8 : Vec Ideal S3x512x1024 .bf16) (c : Fin 512) (d : Fin 1024) :
    (View.ld x8 r0_7 (ix3 0 c d) : EReal) = x8 (ix3 0 c d) ∧ (View.ld x8 r0_8 (ix3 0 c d) : EReal) = x8 (ix3 1 c d)
      ∧ (View.ld x8 r0_9 (ix3 0 c d) : EReal) = x8 (ix3 2 c d) := by
  refine ⟨?_, ?_, ?_⟩
  all_goals
    refine congrArg x8 (funext fun a => Fin.ext ?_)
    match a with
    | ⟨0, _⟩ => rfl
    | ⟨1, _⟩ => show 0 + 1 * c.val = c.val; omega
    | ⟨2, _⟩ => show 0 + 1 * d.val = d.val; omega

/-- The row of the result. -/
theorem out_row (d : Fin 1024) : (out0_15 x0 x1 x2 x3 x4 x5 x6 x7 x8 x9 x10 x11 x12 x13 x14 (ix2 r d) : EReal) = R.out d := by
  have z2 : (![0, 0] : Fin 2 → ℕ) = fun _ => 0 := by decide
  have z3 : (![0, 0, 0] : Fin 3 → ℕ) = fun _ => 0 := by decide
  unfold out0_15
  rw [View.canon_unit_zero z2]
  rw [View.ld_unit_zero z2 _ x0, View.ld_unit_zero z2 _ x1, View.ld_unit_zero z2 _ x2, View.ld_unit_zero z2 _ x3, View.ld_unit_zero z2 _ x4,
    View.ld_unit_zero z2 _ x5, View.ld_unit_zero z2 _ x6, View.ld_unit_zero z2 _ x7, View.ld_unit_zero z2 _ x9, View.ld_unit_zero z2 _ x10,
    View.ld_unit_zero z2 _ x11, View.ld_unit_zero z2 _ x12, View.ld_unit_zero z3 _ x13, View.ld_unit_zero z3 _ x14]
  rw [pay1_at, pay14_at, gate_row H, H.x]
  unfold Row.out
  refine congrArg (fun q => R.x d + R.mod 2 d * q) (Finset.sum_congr rfl fun e _ => ?_)
  rw [H.wout]
  refine congrArg (fun q => q * R.wout e d) ?_
  unfold Row.mixed
  rw [Fin.sum_univ_three]
  simp only [proj_row H, readout_row H, (branch_weights x8 _ _).1, (branch_weights x8 _ _).2.1, (branch_weights x8 _ _).2.2, H.wbr, H.ya, H.att]
  have i0 : (⟨1024 + e.val, by omega⟩ : Fin 4096) = ⟨1024 + ((0 : Fin 3).val * 1024 + e.val), by omega⟩ := Fin.ext (by show 1024 + e.val = 1024 + (0 * 1024 + e.val); omega)
  have i1 : (⟨2048 + e.val, by omega⟩ : Fin 4096) = ⟨1024 + ((1 : Fin 3).val * 1024 + e.val), by omega⟩ := Fin.ext (by show 2048 + e.val = 1024 + (1 * 1024 + e.val); omega)
  have i2 : (⟨3072 + e.val, by omega⟩ : Fin 4096) = ⟨1024 + ((2 : Fin 3).val * 1024 + e.val), by omega⟩ := Fin.ext (by show 3072 + e.val = 1024 + (2 * 1024 + e.val); omega)
  rw [i0, i1, i2]
  rfl

end
end Cert.MergeIdeal.Rows
-- ==== Proof.MergeIdeal.RefStages.lean ====
module

public import proofs.«01_k».proof.Proof.Gen.MergeReferenceIdeal.Run

@[expose] public section

set_option maxRecDepth 16384

noncomputable section

namespace Cert.MergeReferenceIdeal.Rows

open Cert.MergeReferenceIdeal.Gen
open Idealize.ShloMosaic Idealize.ShloMosaic.TcCoe Idealize.SL.Sem

variable {F : FTy → Type} [FloatOps F]

/-! # The reference's merge in stages

The functions below name the stages of the reference, and `res_eq` says the printed result is their composition. -/

/-- Rows of 1024, split into batches. -/
def wide (x : FVec F S17408x1024 .f32) : FVec F S4x4352x1024 .f32 := shapeCast S4x4352x1024 x shapeCasts_S17408x1024_S4x4352x1024

/-- Rows of 512, split into batches. -/
def narrow (x : FVec F S17408x512 .f32) : FVec F S4x4352x512 .f32 := shapeCast S4x4352x512 x shapeCasts_S17408x512_S4x4352x512

/-- The modulation of every position: the context's shared one, then each batch's own. -/
def mods (x : FVec F S8x3x1024 .f32) : FVec F S4x4352x3x1024 .f32 :=
  concatenate S4x4352x3x1024 1
    [⟨S4x256x3x1024, broadcastInDim S4x256x3x1024 ![2, 3] bcast_S3x1024_S4x256x3x1024_2_3
        (shapeCast S3x1024 (extractStridedSlice S1x3x1024 ![4, 0, 0] x slices_S8x3x1024_S1x3x1024_4_0_0) shapeCasts_S1x3x1024_S3x1024)⟩,
     ⟨S4x4096x3x1024, broadcastInDim S4x4096x3x1024 ![0, 1, 2, 3] bcast_S4x1x3x1024_S4x4096x3x1024_0_1_2_3
        (broadcastInDim S4x1x3x1024 ![0, 2, 3] bcast_S4x3x1024_S4x1x3x1024_0_2_3 (extractStridedSlice S4x3x1024 ![0, 0, 0] x slices_S8x3x1024_S4x3x1024_0_0_0))⟩]
    concatenates_S4x256x3x1024_S4x4096x3x1024_S4x4352x3x1024_d1

/-- The normalised rows, modulated by scale and shift. -/
def hidden (x : FVec F S4x4352x1024 .f32) (g : FVec F S1024 .f32) (md : FVec F S4x4352x3x1024 .f32) : FVec F S4x4352x1024 .f32 :=
  addf
    (mulf
      (mulf
        (mulf x
          (broadcastInDim S4x4352x1024 ![0, 1, 2] bcast_S4x4352x1_S4x4352x1024_0_1_2
            (Host.rsqrt (addf
              (Host.divf (broadcastInDim S4x4352x1 ![0, 1] bcast_S4x4352_S4x4352x1_0_1
                  (Host.reduceAdd (mulf x x) (constant S_ .f32 0x00000000#32) reducesTo_S4x4352x1024_S4x4352_d2 h_S_))
                (broadcastInDim S4x4352x1 ![] bcast_S_S4x4352x1 (constant S_ .f32 0x44800000#32)))
              (broadcastInDim S4x4352x1 ![] bcast_S_S4x4352x1 (constant S_ .f32 0x358637BD#32))))))
        (broadcastInDim S4x4352x1024 ![0, 1, 2] bcast_S1x1x1024_S4x4352x1024_0_1_2 (broadcastInDim S1x1x1024 ![2] bcast_S1024_S1x1x1024_2 g)))
      (addf (broadcastInDim S4x4352x1024 ![] bcast_S_S4x4352x1024 (constant S_ .f32 0x3F800000#32))
        (shapeCast S4x4352x1024 (extractStridedSlice S4x4352x1x1024 ![0, 0, 1, 0] md slices_S4x4352x3x1024_S4x4352x1x1024_0_0_1_0) shapeCasts_S4x4352x1x1024_S4x4352x1024)))
    (shapeCast S4x4352x1024 (extractStridedSlice S4x4352x1x1024 ![0, 0, 0, 0] md slices_S4x4352x3x1024_S4x4352x1x1024_0_0_0_0) shapeCasts_S4x4352x1x1024_S4x4352x1024)

/-- The last 4096 columns of the input projection. -/
def proj (h : FVec F S4x4352x1024 .f32) (w : FVec F S1024x8960 .f32) : FVec F S4x4352x4096 .f32 :=
  Host.dotGeneral dot_S4x4352x1024_S1024x4096_S4x4352x4096_2_0_01_1_n_n none h (extractStridedSlice S1024x4096 ![0, 4864] w slices_S1024x8960_S1024x4096_0_4864)

/-- One sixty-fourth of each head's sum, along the head. -/
def headMean (y : FVec F S4x4352x8x64 .f32) : FVec F S4x4352x8x1 .f32 :=
  Host.divf
    (broadcastInDim S4x4352x8x1 ![0, 1, 2] bcast_S4x4352x8_S4x4352x8x1_0_1_2
      (Host.reduceAdd y (constant S_ .f32 0x00000000#32) reducesTo_S4x4352x8x64_S4x4352x8_d3 h_S_))
    (broadcastInDim S4x4352x8x1 ![] bcast_S_S4x4352x8x1 (constant S_ .f32 0x42800000#32))

/-- One value per head, along the head. -/
def alongHead (v : FVec F S4x4352x8x1 .f32) : FVec F S4x4352x8x64 .f32 :=
  broadcastInDim S4x4352x8x64 ![0, 1, 2, 3] bcast_S4x4352x8x1_S4x4352x8x64_0_1_2_3 v

/-- Each head less its mean. -/
def centred (y : FVec F S4x4352x8x64 .f32) : FVec F S4x4352x8x64 .f32 := subf y (alongHead (headMean y))

/-- The heads of the sum of the two scans. -/
def heads (yf yb : FVec F S4x4352x512 .f32) : FVec F S4x4352x8x64 .f32 :=
  shapeCast S4x4352x8x64 (addf yf yb) shapeCasts_S4x4352x512_S4x4352x8x64

/-- The readout of the two scans: their sum, normalised head by head, with gain, offset and bonus. -/
def readout (y : FVec F S4x4352x8x64 .f32) (bonus : FVec F S4x4352x512 .f32) (lg lb : FVec F S512 .f32) : FVec F S4x4352x512 .f32 :=
  addf
    (addf
      (mulf
        (shapeCast S4x4352x512
          (mulf (centred y)
            (alongHead (Host.rsqrt (addf (headMean (mulf (centred y) (centred y)))
              (broadcastInDim S4x4352x8x1 ![] bcast_S_S4x4352x8x1 (constant S_ .f32 0x3A27C5AC#32))))))
          shapeCasts_S4x4352x8x64_S4x4352x512)
        (broadcastInDim S4x4352x512 ![0, 1, 2] bcast_S1x1x512_S4x4352x512_0_1_2 (broadcastInDim S1x1x512 ![2] bcast_S512_S1x1x512_2 lg)))
      (broadcastInDim S4x4352x512 ![0, 1, 2] bcast_S1x1x512_S4x4352x512_0_1_2 (broadcastInDim S1x1x512 ![2] bcast_S512_S1x1x512_2 lb)))
    bonus

/-- A value times its logistic. -/
def silu (z : FVec F S4x4352x512 .f32) : FVec F S4x4352x512 .f32 :=
  mulf z
    (Host.divf (broadcastInDim S4x4352x512 ![] bcast_S_S4x4352x512 (constant S_ .f32 0x3F800000#32))
      (addf (broadcastInDim S4x4352x512 ![] bcast_S_S4x4352x512 (constant S_ .f32 0x3F800000#32)) (Host.exp (Host.negf z))))

/-- The columns that gate the attention. -/
def zAtt (p : FVec F S4x4352x4096 .f32) : FVec F S4x4352x512 .f32 :=
  extractStridedSlice S4x4352x512 ![0, 0, 0] p slices_S4x4352x4096_S4x4352x512_0_0_0

/-- The columns that gate the scans. -/
def zScan (p : FVec F S4x4352x4096 .f32) : FVec F S4x4352x512 .f32 :=
  extractStridedSlice S4x4352x512 ![0, 0, 512] p slices_S4x4352x4096_S4x4352x512_0_0_512

/-- The gates of the three branches. -/
def gates (p : FVec F S4x4352x4096 .f32) : FVec F S4x4352x3x1024 .f32 :=
  Host.divf (broadcastInDim S4x4352x3x1024 ![] bcast_S_S4x4352x3x1024 (constant S_ .f32 0x3F800000#32))
    (addf (broadcastInDim S4x4352x3x1024 ![] bcast_S_S4x4352x3x1024 (constant S_ .f32 0x3F800000#32))
      (Host.exp (Host.negf (shapeCast S4x4352x3x1024 (extractStridedSlice S4x4352x3072 ![0, 0, 1024] p slices_S4x4352x4096_S4x4352x3072_0_0_1024) shapeCasts_S4x4352x3072_S4x4352x3x1024))))

/-- The three branches side by side. -/
def stacked (a b c : FVec F S4x4352x512 .f32) : FVec F S4x4352x3x512 .f32 :=
  concatenate S4x4352x3x512 2
    [⟨S4x4352x1x512, broadcastInDim S4x4352x1x512 ![0, 1, 3] bcast_S4x4352x512_S4x4352x1x512_0_1_3 a⟩,
     ⟨S4x4352x1x512, broadcastInDim S4x4352x1x512 ![0, 1, 3] bcast_S4x4352x512_S4x4352x1x512_0_1_3 b⟩,
     ⟨S4x4352x1x512, broadcastInDim S4x4352x1x512 ![0, 1, 3] bcast_S4x4352x512_S4x4352x1x512_0_1_3 c⟩]
    concatenates_S4x4352x1x512_S4x4352x1x512_S4x4352x1x512_S4x4352x3x512_d2

/-- Each branch through its own projection. -/
def ups (w : FVec F S3x512x1024 .f32) (s : FVec F S4x4352x3x512 .f32) : FVec F S4x4352x3x1024 .f32 :=
  transpose S4x4352x3x1024 [2, 3, 0, 1] (Host.dotGeneral dot_S3x512x1024_S4x4352x3x512_S3x1024x4x4352_1_3_2_01_0_2 none w s)
    transposes_S3x1024x4x4352_S4x4352x3x1024_2_3_0_1

/-- The gated branches, summed, through the output projection. -/
def merged (g u : FVec F S4x4352x3x1024 .f32) (w : FVec F S1024x1024 .f32) : FVec F S4x4352x1024 .f32 :=
  Host.dotGeneral dot_S4x4352x1024_S1024x1024_S4x4352x1024_2_0_01_1_n_n none
    (Host.reduceAdd (mulf g u) (constant S_ .f32 0x00000000#32) reducesTo_S4x4352x3x1024_S4x4352x1024_d2 h_S_) w

/-- The residual plus the gated result. -/
def residual (x : FVec F S4x4352x1024 .f32) (md : FVec F S4x4352x3x1024 .f32) (o : FVec F S4x4352x1024 .f32) : FVec F S17408x1024 .f32 :=
  shapeCast S17408x1024
    (addf x (mulf (shapeCast S4x4352x1024 (extractStridedSlice S4x4352x1x1024 ![0, 0, 2, 0] md slices_S4x4352x3x1024_S4x4352x1x1024_0_0_2_0) shapeCasts_S4x4352x1x1024_S4x4352x1024) o))
    shapeCasts_S4x4352x1024_S17408x1024

/-- The whole reference. -/
def whole (x0 : FVec F S17408x1024 .f32) (x1 : FVec F S8x3x1024 .f32) (x2 : FVec F S1024 .f32) (x3 : FVec F S1024x8960 .f32)
    (x4 x5 x6 x7 x8 : FVec F S17408x512 .f32) (x9 x10 : FVec F S512 .f32) (x11 : FVec F S3x512x1024 .f32) (x12 : FVec F S1024x1024 .f32) :
    FVec F S17408x1024 .f32 :=
  residual (wide x0) (mods x1)
    (merged (gates (proj (hidden (wide x0) x2 (mods x1)) x3))
      (ups x11 (stacked (narrow x4) (mulf (narrow x5) (silu (zAtt (proj (hidden (wide x0) x2 (mods x1)) x3))))
        (mulf (readout (heads (narrow x6) (narrow x7)) (narrow x8) x9 x10) (silu (zScan (proj (hidden (wide x0) x2 (mods x1)) x3))))))
      x12)

/-- The printed result is the composition of the stages. -/
theorem res_eq (m : (ℓ : Loc nD τ sig) → Buf (Elt F) ℓ) (c : Dev nD) :
    Value.res_main_v91 m c
      = whole (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := rfl

end Cert.MergeReferenceIdeal.Rows
-- ==== Proof.MergeIdeal.RefAt.lean ====
module

public import proofs.«01_k».proof.Proof.MergeIdeal.RefStages
public import proofs.«01_k».proof.Proof.MergeIdeal.Spec
public import Idealize.ShloMosaic.Lib.Pointwise

@[expose] public section

set_option maxRecDepth 16384

noncomputable section

namespace Cert.MergeReferenceIdeal.Rows

open Cert.MergeReferenceIdeal.Gen Cert.MergeSpec
open Idealize.ShloMosaic Idealize.ShloMosaic.TcCoe Idealize.SL.Sem

/-! # The reference's stages, read at an index -/

/-- A batch's row of 1024. -/
theorem wide_at (x : FVec Ideal S17408x1024 .f32) (b : Fin 4) (s : Fin 4352) (k : Fin 1024) :
    wide x (ix3 b s k) = x (ix2 ⟨b.val * 4352 + s.val, by omega⟩ k) := by
  pointwise [wide]

/-- A batch's row of 512. -/
theorem narrow_at (x : FVec Ideal S17408x512 .f32) (b : Fin 4) (s : Fin 4352) (k : Fin 512) :
    narrow x (ix3 b s k) = x (ix2 ⟨b.val * 4352 + s.val, by omega⟩ k) := by
  pointwise [narrow]

/-- A position's modulation. -/
theorem mods_at (x : FVec Ideal S8x3x1024 .f32) (b : Fin 4) (s : Fin 4352) (n : Fin 3) (k : Fin 1024) :
    mods x (ix4 b s n k) = if s.val < 256 then x (ix3 4 n k) else x (ix3 ⟨b.val, by omega⟩ n k) := by
  pointwise [mods]
  split_ifs <;> rfl

/-- The normalised, modulated rows. -/
theorem hidden_at (x : FVec Ideal S4x4352x1024 .f32) (g : FVec Ideal S1024 .f32) (md : FVec Ideal S4x4352x3x1024 .f32)
    (b : Fin 4) (s : Fin 4352) (k : Fin 1024) :
    hidden x g md (ix3 b s k)
      = x (ix3 b s k) * Ideal.rsqrt (Ideal.div (∑ i : Fin 1024, x (ix3 b s i) * x (ix3 b s i)) (Ideal.ofBits .f32 0x44800000#32) + Ideal.ofBits .f32 0x358637BD#32)
          * g (ix1 k) * (1 + md (ix4 b s 1 k)) + md (ix4 b s 0 k) := by
  pointwise [hidden]

/-- The projected rows. -/
theorem proj_at (h : FVec Ideal S4x4352x1024 .f32) (w : FVec Ideal S1024x8960 .f32) (b : Fin 4) (s : Fin 4352) (j : Fin 4096) :
    proj h w (ix3 b s j) = ∑ k : Fin 1024, h (ix3 b s k) * w (ix2 k ⟨4864 + j.val, by omega⟩) := by
  pointwise [proj]

/-- A head's mean. -/
theorem headMean_at (y : FVec Ideal S4x4352x8x64 .f32) (b : Fin 4) (s : Fin 4352) (h : Fin 8) (z : Fin 1) :
    headMean y (ix4 b s h z) = Ideal.div (∑ x : Fin 64, y (ix4 b s h x)) (Ideal.ofBits .f32 0x42800000#32) := by
  pointwise [headMean]

/-- One value per head, along the head. -/
theorem alongHead_at (v : FVec Ideal S4x4352x8x1 .f32) (b : Fin 4) (s : Fin 4352) (h : Fin 8) (x : Fin 64) :
    alongHead v (ix4 b s h x) = v (ix4 b s h 0) := by
  pointwise [alongHead]

/-- The heads of the scans' sum. -/
theorem heads_at (yf yb : FVec Ideal S4x4352x512 .f32) (b : Fin 4) (s : Fin 4352) (h : Fin 8) (x : Fin 64) :
    heads yf yb (ix4 b s h x) = yf (ix3 b s ⟨h.val * 64 + x.val, by omega⟩) + yb (ix3 b s ⟨h.val * 64 + x.val, by omega⟩) := by
  pointwise [heads]

/-- A head's values less their mean. -/
theorem centred_at (y : FVec Ideal S4x4352x8x64 .f32) (b : Fin 4) (s : Fin 4352) (h : Fin 8) (x : Fin 64) :
    centred y (ix4 b s h x) = y (ix4 b s h x) - headMean y (ix4 b s h 0) := by
  unfold centred
  refine Eq.trans (b := y (ix4 b s h x) - alongHead (headMean y) (ix4 b s h x)) (by pointwise) ?_
  rw [alongHead_at]

/-- The readout from its normalised heads. -/
theorem readout_at (y : FVec Ideal S4x4352x8x64 .f32) (bonus : FVec Ideal S4x4352x512 .f32) (lg lb : FVec Ideal S512 .f32)
    (b : Fin 4) (s : Fin 4352) (c : Fin 512) :
    readout y bonus lg lb (ix3 b s c)
      = centred y (ix4 b s ⟨c.val / 64, by omega⟩ ⟨c.val % 64, by omega⟩)
          * Ideal.rsqrt (headMean (mulf (centred y) (centred y)) (ix4 b s ⟨c.val / 64, by omega⟩ 0) + Ideal.ofBits .f32 0x3A27C5AC#32)
          * lg (ix1 c) + lb (ix1 c) + bonus (ix3 b s c) := by
  unfold readout
  generalize centred y = z
  generalize headMean (mulf z z) = q
  pointwise [alongHead]

/-- A value times its logistic. -/
theorem silu_at (z : FVec Ideal S4x4352x512 .f32) (b : Fin 4) (s : Fin 4352) (c : Fin 512) :
    silu z (ix3 b s c) = z (ix3 b s c) * sigma (z (ix3 b s c)) := by
  pointwise [silu]
  rfl

/-- The attention's gating columns. -/
theorem zAtt_at (p : FVec Ideal S4x4352x4096 .f32) (b : Fin 4) (s : Fin 4352) (c : Fin 512) :
    zAtt p (ix3 b s c) = p (ix3 b s ⟨c.val, by omega⟩) := by
  pointwise [zAtt]

/-- The scans' gating columns. -/
theorem zScan_at (p : FVec Ideal S4x4352x4096 .f32) (b : Fin 4) (s : Fin 4352) (c : Fin 512) :
    zScan p (ix3 b s c) = p (ix3 b s ⟨512 + c.val, by omega⟩) := by
  pointwise [zScan]

/-- A branch's gate. -/
theorem gates_at (p : FVec Ideal S4x4352x4096 .f32) (b : Fin 4) (s : Fin 4352) (n : Fin 3) (d : Fin 1024) :
    gates p (ix4 b s n d) = sigma (p (ix3 b s ⟨1024 + (n.val * 1024 + d.val), by omega⟩)) := by
  pointwise [gates]
  rfl

/-- The branches, one by one. -/
theorem stacked_at (a b' c' : FVec Ideal S4x4352x512 .f32) (b : Fin 4) (s : Fin 4352) (n : Fin 3) (c : Fin 512) :
    stacked a b' c' (ix4 b s n c) = match n with | 0 => a (ix3 b s c) | 1 => b' (ix3 b s c) | 2 => c' (ix3 b s c) := by
  fin_cases n <;> pointwise [stacked]

/-- A branch through its projection. -/
theorem ups_at (w : FVec Ideal S3x512x1024 .f32) (t : FVec Ideal S4x4352x3x512 .f32) (b : Fin 4) (s : Fin 4352) (n : Fin 3) (d : Fin 1024) :
    ups w t (ix4 b s n d) = ∑ c : Fin 512, w (ix3 n c d) * t (ix4 b s n c) := by
  pointwise [ups]

/-- The gated branches, summed, through the output projection. -/
theorem merged_at (g u : FVec Ideal S4x4352x3x1024 .f32) (w : FVec Ideal S1024x1024 .f32) (b : Fin 4) (s : Fin 4352) (d : Fin 1024) :
    merged g u w (ix3 b s d) = ∑ e : Fin 1024, (∑ n : Fin 3, g (ix4 b s n e) * u (ix4 b s n e)) * w (ix2 e d) := by
  pointwise [merged]

/-- The residual plus the gated result. -/
theorem residual_at (x : FVec Ideal S4x4352x1024 .f32) (md : FVec Ideal S4x4352x3x1024 .f32) (o : FVec Ideal S4x4352x1024 .f32)
    (r : Fin 17408) (d : Fin 1024) :
    residual x md o (ix2 r d)
      = x (ix3 ⟨r.val / 4352, by omega⟩ ⟨r.val % 4352, by omega⟩ d)
        + md (ix4 ⟨r.val / 4352, by omega⟩ ⟨r.val % 4352, by omega⟩ 2 d) * o (ix3 ⟨r.val / 4352, by omega⟩ ⟨r.val % 4352, by omega⟩ d) := by
  pointwise [residual]

end Cert.MergeReferenceIdeal.Rows
-- ==== Proof.MergeIdeal.RefRow.lean ====
module

public import proofs.«01_k».proof.Proof.MergeIdeal.RefAt

@[expose] public section

set_option maxRecDepth 16384

noncomputable section

namespace Cert.MergeReferenceIdeal.Rows

open Cert.MergeReferenceIdeal.Gen Cert.MergeSpec
open Idealize.ShloMosaic Idealize.ShloMosaic.TcCoe Idealize.SL.Sem

/-! # The reference's result is the merge of each row -/

/-- One row's data, out of the arguments. -/
def rowOf (x0 : FVec Ideal S17408x1024 .f32) (x1 : FVec Ideal S8x3x1024 .f32) (x2 : FVec Ideal S1024 .f32) (x3 : FVec Ideal S1024x8960 .f32)
    (x4 x5 x6 x7 x8 : FVec Ideal S17408x512 .f32) (x9 x10 : FVec Ideal S512 .f32) (x11 : FVec Ideal S3x512x1024 .f32)
    (x12 : FVec Ideal S1024x1024 .f32) (r : Fin 17408) : Row where
  x k := x0 (ix2 r k)
  mod n k := if r.val % 4352 < 256 then x1 (ix3 4 n k) else x1 (ix3 ⟨r.val / 4352, by omega⟩ n k)
  g k := x2 (ix1 k)
  w k j := x3 (ix2 k ⟨4864 + j.val, by omega⟩)
  ya c := x4 (ix2 r c)
  att c := x5 (ix2 r c)
  yf c := x6 (ix2 r c)
  yb c := x7 (ix2 r c)
  bonus c := x8 (ix2 r c)
  lg c := x9 (ix1 c)
  lb c := x10 (ix1 c)
  wbr n c d := x11 (ix3 n c d)
  wout e d := x12 (ix2 e d)

section
variable (R : Row) (r : Fin 17408)

/-- The batch of a row. -/
def bat (r : Fin 17408) : Fin 4 := ⟨r.val / 4352, by omega⟩
/-- The position of a row in its batch. -/
def pos (r : Fin 17408) : Fin 4352 := ⟨r.val % 4352, by omega⟩

/-- Splitting the rows into batches keeps each row. -/
theorem wide_row (x : FVec Ideal S17408x1024 .f32) (k : Fin 1024) : wide x (ix3 (bat r) (pos r) k) = x (ix2 r k) := by
  rw [wide_at]
  exact congrArg (fun q => x (ix2 q k)) (Fin.ext (by simp only [bat, pos]; omega))

/-- Splitting the rows into batches keeps each row. -/
theorem narrow_row (x : FVec Ideal S17408x512 .f32) (k : Fin 512) : narrow x (ix3 (bat r) (pos r) k) = x (ix2 r k) := by
  rw [narrow_at]
  exact congrArg (fun q => x (ix2 q k)) (Fin.ext (by simp only [bat, pos]; omega))

/-- The projected row, from the normalised one. -/
theorem proj_row (x : FVec Ideal S17408x1024 .f32) (x1 : FVec Ideal S8x3x1024 .f32) (g : FVec Ideal S1024 .f32) (w : FVec Ideal S1024x8960 .f32)
    (hx : R.x = fun k => x (ix2 r k))
    (hm : R.mod = fun n k => if r.val % 4352 < 256 then x1 (ix3 4 n k) else x1 (ix3 ⟨r.val / 4352, by omega⟩ n k))
    (hg : R.g = fun k => g (ix1 k)) (hw : R.w = fun k j => w (ix2 k ⟨4864 + j.val, by omega⟩)) (j : Fin 4096) :
    proj (hidden (wide x) g (mods x1)) w (ix3 (bat r) (pos r) j) = R.proj j := by
  rw [proj_at]
  refine Finset.sum_congr rfl fun k _ => ?_
  rw [hidden_at, mods_at, mods_at]
  simp only [wide_row, Row.hidden, hx, hm, hg, hw]
  rfl

/-- A column is its head and its place in the head. -/
theorem heads_row (yf yb : FVec Ideal S17408x512 .f32) (hf : R.yf = fun c => yf (ix2 r c)) (hb : R.yb = fun c => yb (ix2 r c))
    (h : Fin 8) (x : Fin 64) :
    heads (narrow yf) (narrow yb) (ix4 (bat r) (pos r) h x) = R.y ⟨h.val * 64 + x.val, by omega⟩ := by
  rw [heads_at, narrow_row, narrow_row, Row.y, hf, hb]

/-- The scans' sum less its head's mean. -/
theorem centred_row (yf yb : FVec Ideal S17408x512 .f32) (hf : R.yf = fun c => yf (ix2 r c)) (hb : R.yb = fun c => yb (ix2 r c))
    (h : Fin 8) (x : Fin 64) :
    centred (heads (narrow yf) (narrow yb)) (ix4 (bat r) (pos r) h x) = R.centred ⟨h.val * 64 + x.val, by omega⟩ := by
  rw [centred_at, heads_row R r yf yb hf hb, headMean_at, Row.centred]
  simp only [heads_row R r yf yb hf hb]
  have : Row.head ⟨h.val * 64 + x.val, by omega⟩ = h := Fin.ext (by simp only [Row.head]; omega)
  rw [this]
  rfl

/-- The scans' readout. -/
theorem readout_row (yf yb bonus : FVec Ideal S17408x512 .f32) (lg lb : FVec Ideal S512 .f32)
    (hf : R.yf = fun c => yf (ix2 r c)) (hb : R.yb = fun c => yb (ix2 r c)) (ho : R.bonus = fun c => bonus (ix2 r c))
    (hg : R.lg = fun c => lg (ix1 c)) (hl : R.lb = fun c => lb (ix1 c)) (c : Fin 512) :
    readout (heads (narrow yf) (narrow yb)) (narrow bonus) lg lb (ix3 (bat r) (pos r) c) = R.readout c := by
  rw [readout_at, narrow_row, headMean_at, centred_row R r yf yb hf hb, Row.readout, ho, hg, hl]
  have hc : (⟨c.val / 64 * 64 + c.val % 64, by omega⟩ : Fin 512) = c := Fin.ext (by simp only; omega)
  rw [hc]
  refine congrArg (fun q => R.centred c * Ideal.rsqrt (q + Ideal.ofBits .f32 0x3A27C5AC#32) * lg (ix1 c) + lb (ix1 c) + bonus (ix2 r c)) ?_
  unfold Row.headMean
  refine congrArg (fun q => Ideal.div q (Ideal.ofBits .f32 0x42800000#32)) (Finset.sum_congr rfl fun x _ => ?_)
  have h1 : mulf (centred (heads (narrow yf) (narrow yb))) (centred (heads (narrow yf) (narrow yb)))
      (ix4 (bat r) (pos r) ⟨c.val / 64, by omega⟩ x)
      = centred (heads (narrow yf) (narrow yb)) (ix4 (bat r) (pos r) ⟨c.val / 64, by omega⟩ x)
        * centred (heads (narrow yf) (narrow yb)) (ix4 (bat r) (pos r) ⟨c.val / 64, by omega⟩ x) := by
    generalize centred (heads (narrow yf) (narrow yb)) = z
    pointwise
  refine h1.trans ?_
  rw [centred_row R r yf yb hf hb]
  rfl

end

/-- The reference's result at a row is that row's merge. -/
theorem whole_at (x0 : FVec Ideal S17408x1024 .f32) (x1 : FVec Ideal S8x3x1024 .f32) (x2 : FVec Ideal S1024 .f32) (x3 : FVec Ideal S1024x8960 .f32)
    (x4 x5 x6 x7 x8 : FVec Ideal S17408x512 .f32) (x9 x10 : FVec Ideal S512 .f32) (x11 : FVec Ideal S3x512x1024 .f32)
    (x12 : FVec Ideal S1024x1024 .f32) (r : Fin 17408) (d : Fin 1024) :
    whole x0 x1 x2 x3 x4 x5 x6 x7 x8 x9 x10 x11 x12 (ix2 r d) = (rowOf x0 x1 x2 x3 x4 x5 x6 x7 x8 x9 x10 x11 x12 r).out d := by
  have hp := proj_row (rowOf x0 x1 x2 x3 x4 x5 x6 x7 x8 x9 x10 x11 x12 r) r x0 x1 x2 x3 rfl rfl rfl rfl
  have hr := readout_row (rowOf x0 x1 x2 x3 x4 x5 x6 x7 x8 x9 x10 x11 x12 r) r x6 x7 x8 x9 x10 rfl rfl rfl rfl rfl
  have hb : ∀ n c, stacked (narrow x4) (mulf (narrow x5) (silu (zAtt (proj (hidden (wide x0) x2 (mods x1)) x3))))
        (mulf (readout (heads (narrow x6) (narrow x7)) (narrow x8) x9 x10) (silu (zScan (proj (hidden (wide x0) x2 (mods x1)) x3))))
        (ix4 (bat r) (pos r) n c) = (rowOf x0 x1 x2 x3 x4 x5 x6 x7 x8 x9 x10 x11 x12 r).branch n c := by
    intro n c
    rw [stacked_at]
    match n with
    | 0 => exact narrow_row r x4 c
    | 1 =>
      refine Eq.trans (b := narrow x5 (ix3 (bat r) (pos r) c) * silu (zAtt (proj (hidden (wide x0) x2 (mods x1)) x3)) (ix3 (bat r) (pos r) c)) rfl ?_
      rw [silu_at, zAtt_at, hp, narrow_row]
      rfl
    | 2 =>
      refine Eq.trans (b := readout (heads (narrow x6) (narrow x7)) (narrow x8) x9 x10 (ix3 (bat r) (pos r) c)
        * silu (zScan (proj (hidden (wide x0) x2 (mods x1)) x3)) (ix3 (bat r) (pos r) c)) rfl ?_
      rw [silu_at, zScan_at, hp, hr]
      rfl
  unfold whole
  rw [residual_at]
  change wide x0 (ix3 (bat r) (pos r) d) + mods x1 (ix4 (bat r) (pos r) 2 d) * merged _ _ _ (ix3 (bat r) (pos r) d) = _
  rw [merged_at, wide_row, mods_at]
  simp only [gates_at, hp, ups_at, hb]
  unfold Row.out Row.mixed Row.gate
  simp only [mul_comm ((rowOf x0 x1 x2 x3 x4 x5 x6 x7 x8 x9 x10 x11 x12 r).branch _ _)]
  rfl

end Cert.MergeReferenceIdeal.Rows
-- ==== Proof.MergeIdeal.Finite.lean ====
module

public import proofs.«01_k».proof.Defs
public import proofs.«01_k».proof.Proof.AttIdeal.Finite
public import proofs.«01_k».proof.Proof.MergeIdeal.Groups

@[expose] public section

set_option maxRecDepth 16384

noncomputable section

namespace Cert.Pre_scans_finite

open Idealize.ShloMosaic Cert.MergeSpec

/-! # The second precondition: both scans hold reals -/

/-- The shape relations the precondition states. -/
instance facts : Facts where
  bcast_S_S17408x512 := ⟨by decide, fun i => i.elim0⟩
  reducesTo_S17408x512_S_d0_1 := by decide
  h_S_ := by decide

variable (a0 : FVec Ideal S17408x1024 .f32) (a1 : FVec Ideal S8x3x1024 .f32) (a2 : FVec Ideal S1024 .f32) (a3 : FVec Ideal S1024x8960 .f32)
  (a4 a5 a6 a7 a8 : FVec Ideal S17408x512 .f32) (a9 a10 : FVec Ideal S512 .f32) (a11 : FVec Ideal S3x512x1024 .f32)
  (a12 : FVec Ideal S1024x1024 .f32)

/-- Where the precondition holds, both scans hold reals. -/
theorem reals (h : fn (F := Ideal) a0 a1 a2 a3 a4 a5 a6 a7 a8 a9 a10 a11 a12 = fun _ => 1#1) :
    (∀ i, IsReal (a6 i)) ∧ (∀ i, IsReal (a7 i)) := by
  have e := congrFun h (fun k => k.elim0)
  unfold fn at e
  have both : ∀ (x y : IVec S_ 1) (i : S_.Idx), andi x y i = 1#1 ↔ x i = 1#1 ∧ y i = 1#1 := fun x y i => IntOp.andi_eq_one
  simp only [both] at e
  exact ⟨fun i => ⟨_, Cert.Pre_finite.real_of_all a6 _ _ _ _ e.1 i⟩, fun i => ⟨_, Cert.Pre_finite.real_of_all a7 _ _ _ _ e.2 i⟩⟩

end Cert.Pre_scans_finite
-- ==== Proof.MergeIdeal.Algebraic.lean ====
module

public import proofs.«01_k».proof.Proof.MergeIdeal.Blocks
public import proofs.«01_k».proof.Proof.MergeIdeal.HostAt
public import proofs.«01_k».proof.Proof.MergeIdeal.KernelRow
public import proofs.«01_k».proof.Proof.MergeIdeal.RefRow
public import proofs.«01_k».proof.Proof.MergeIdeal.Finite

@[expose] public section

set_option maxRecDepth 16384

noncomputable section

namespace Cert.MergeIdeal.Rows

open Cert.MergeIdeal.Gen Cert.MergeSpec
open Idealize.ShloMosaic Idealize.ShloMosaic.TcCoe Idealize.SL.Sem Idealize.ShloMosaic.Pipeline

/-! # The merge's two programs end with one result -/

variable (m : (ℓ : Loc nD τ sig) → Buf (Elt Ideal) ℓ) (c : Dev nD)

/-- Every point writes its block back. -/
theorem flush_all : ∀ t : Fin cfg0.N, (cfg0.win 15).flush t = true := by decide +kernel

/-- A row lies in the block of its tile. -/
theorem covers (t : Fin grid0.N) (i : S17408x1024.Idx) (ht : t.val = (i 0 : Nat) / 512) (a : Fin 2) :
    win0_15.index t a * S512x1024.size a ≤ (i a : Nat) ∧ (i a : Nat) < win0_15.index t a * S512x1024.size a + S512x1024.size a := by
  have h1 : (i 1 : Nat) < 1024 := (i 1).isLt
  match a with
  | ⟨0, _⟩ => show win0_15.index t 0 * 512 ≤ (i 0 : Nat) ∧ (i 0 : Nat) < win0_15.index t 0 * 512 + 512
              rw [(index_o t).1]; omega
  | ⟨1, _⟩ => show win0_15.index t 1 * 1024 ≤ (i 1 : Nat) ∧ (i 1 : Nat) < win0_15.index t 1 * 1024 + 1024
              rw [(index_o t).2]; omega

/-- Where every point leaves its rows of an array `G`, the array written is `G`. -/
theorem final (G : FVec Ideal S17408x1024 .f32)
    (hG : ∀ (t : Fin cfg0.N) (r : Fin 512) (a : Fin 1024), ((dats m 0 c).after 15 t : Vec Ideal S512x1024 .f32) (ix2 r a) = G (ix2 (rowAt t r) a)) :
    (dats m 0 c).arrAt 15 cfg0.N = G := by
  refine (dats m 0 c).arrAt_eq_of_cover 15 G (fun t _ => ?_) fun i => ?_
  · funext y
    rw [View.read_apply]
    have e : ((dats m 0 c).after 15 t : Vec Ideal S512x1024 .f32) y = G (ix2 (rowAt t (y 0)) (y 1)) :=
      (congrArg ((dats m 0 c).after 15 t : Vec Ideal S512x1024 .f32) (ValueIdx.eq_ix2 y)).trans (hG t (y 0) (y 1))
    refine e.trans ?_
    show G _ = G _
    congr 1; funext a; apply Fin.ext
    match a with
    | ⟨0, _⟩ => show 512 * t.val + (y 0).val = win0_15.index t 0 * 512 + 1 * (y 0).val; rw [(index_o t).1]; omega
    | ⟨1, _⟩ => show (y 1).val = win0_15.index t 1 * 1024 + 1 * (y 1).val; rw [(index_o t).2]; omega
  · have h0 : (i 0 : Nat) < 17408 := (i 0).isLt
    obtain ⟨t, ht⟩ : ∃ t : Fin cfg0.N, t.val = (i 0 : Nat) / 512 := ⟨⟨(i 0 : Nat) / 512, by rw [show cfg0.N = 34 from N_0]; omega⟩, rfl⟩
    refine ⟨t, flush_all t, ?_⟩
    show i ∈ ((View.whole main_v16).slice (win0_15.rect t)).set
    rw [View.set_slice_whole, Rect.mem_set_unit]
    exact covers t i ht

/-- The row of the arguments that point `t`'s row `r` is. -/
def rowOfArgs (q : Fin 17408) : Row :=
  Cert.MergeReferenceIdeal.Rows.rowOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) q

/-- The modulation of a row is its sub-tile's. -/
theorem mod_of (q : Fin 17408) (b : Fin 8) (hb : modOf (q.val / 256) = b.val) (n : Fin 3) (k : Fin 1024) :
    (m ((c.tc : Thread nD τ).loc main_arg1) (ix3 b n k) : EReal) = (rowOfArgs m c q).mod n k := by
  show (m ((c.tc : Thread nD τ).loc main_arg1) (ix3 b n k) : EReal)
    = if q.val % 4352 < 256 then (m ((c.tc : Thread nD τ).loc main_arg1) (ix3 4 n k) : EReal) else m ((c.tc : Thread nD τ).loc main_arg1) (ix3 ⟨q.val / 4352, by omega⟩ n k)
  unfold modOf at hb
  have hq := q.isLt
  split_ifs with h
  · have : b = 4 := Fin.ext (by rw [if_pos (by omega)] at hb; exact hb.symm)
    rw [this]
  · have : b = ⟨q.val / 4352, by omega⟩ := Fin.ext (by rw [if_neg (by omega)] at hb; show b.val = q.val / 4352; omega)
    rw [this]

/-- A modulation's number is below eight. -/
theorem modOf_lt (q : Fin 17408) : modOf (q.val / 256) < 8 := by
  unfold modOf
  have := q.isLt
  split_ifs <;> omega

/-- Point `t`'s blocks hold row `512 t + r` of the arguments. -/
theorem isRow (hf : ∀ i, IsReal (m ((c.tc : Thread nD τ).loc main_arg6) i)) (hb : ∀ i, IsReal (m ((c.tc : Thread nD τ).loc main_arg7) i))
    (t : Fin cfg0.N) (r : Fin 512) :
    IsRow (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) r (rowOfArgs m c (rowAt t r)) where
  x k := blk_0 m c t r k
  g k := by rw [blk_1]; exact g_at m c k
  ya k := blk_2 m c t r k
  att k := blk_3 m c t r k
  yf k := blk_4 m c t r k
  yb k := blk_5 m c t r k
  bonus k := blk_6 m c t r k
  w k j := by rw [blk_7]; exact w_at m c k j
  wbr n k d := by rw [blk_8]; exact wbr_at m c n k d
  wout e d := by rw [blk_9]; exact wout_at m c e d
  lg k := by rw [blk_10]; exact lg_at m c k
  lb k := by rw [blk_11]; exact lb_at m c k
  mask a b := by rw [blk_12, V_mask]; exact mask_at a b
  first h n k := by
    have e : modOf (2 * t.val) = modOf ((rowAt t r).val / 256) := congrArg modOf (by simp only [rowAt]; omega)
    exact (blk_13 m c t ⟨_, modOf_lt (rowAt t r)⟩ e n k).trans (mod_of m c (rowAt t r) ⟨_, modOf_lt (rowAt t r)⟩ rfl n k)
  second h n k := by
    have e : modOf (2 * t.val + 1) = modOf ((rowAt t r).val / 256) := congrArg modOf (by simp only [rowAt]; have := r.isLt; omega)
    exact (blk_14 m c t ⟨_, modOf_lt (rowAt t r)⟩ e n k).trans (mod_of m c (rowAt t r) ⟨_, modOf_lt (rowAt t r)⟩ rfl n k)
  realf k := hf _
  realb k := hb _

/-- On one core, where both scans are real and the two memories agree, the array the kernel writes is the reference's result. -/
theorem results_agree (m' : (ℓ : Loc Cert.MergeReferenceIdeal.nD Cert.MergeReferenceIdeal.τ Cert.MergeReferenceIdeal.sig) → Buf (Elt Ideal) ℓ)
    (hf : ∀ i, IsReal (m ((c.tc : Thread nD τ).loc main_arg6) i)) (hb : ∀ i, IsReal (m ((c.tc : Thread nD τ).loc main_arg7) i))
    (a0 : m' ((c.tc : Thread nD τ).loc Cert.MergeReferenceIdeal.main_arg0) = m ((c.tc : Thread nD τ).loc main_arg0))
    (a1 : m' ((c.tc : Thread nD τ).loc Cert.MergeReferenceIdeal.main_arg1) = m ((c.tc : Thread nD τ).loc main_arg1))
    (a2 : m' ((c.tc : Thread nD τ).loc Cert.MergeReferenceIdeal.main_arg2) = m ((c.tc : Thread nD τ).loc main_arg2))
    (a3 : m' ((c.tc : Thread nD τ).loc Cert.MergeReferenceIdeal.main_arg3) = m ((c.tc : Thread nD τ).loc main_arg3))
    (a4 : m' ((c.tc : Thread nD τ).loc Cert.MergeReferenceIdeal.main_arg4) = m ((c.tc : Thread nD τ).loc main_arg4))
    (a5 : m' ((c.tc : Thread nD τ).loc Cert.MergeReferenceIdeal.main_arg5) = m ((c.tc : Thread nD τ).loc main_arg5))
    (a6 : m' ((c.tc : Thread nD τ).loc Cert.MergeReferenceIdeal.main_arg6) = m ((c.tc : Thread nD τ).loc main_arg6))
    (a7 : m' ((c.tc : Thread nD τ).loc Cert.MergeReferenceIdeal.main_arg7) = m ((c.tc : Thread nD τ).loc main_arg7))
    (a8 : m' ((c.tc : Thread nD τ).loc Cert.MergeReferenceIdeal.main_arg8) = m ((c.tc : Thread nD τ).loc main_arg8))
    (a9 : m' ((c.tc : Thread nD τ).loc Cert.MergeReferenceIdeal.main_arg9) = m ((c.tc : Thread nD τ).loc main_arg9))
    (a10 : m' ((c.tc : Thread nD τ).loc Cert.MergeReferenceIdeal.main_arg10) = m ((c.tc : Thread nD τ).loc main_arg10))
    (a11 : m' ((c.tc : Thread nD τ).loc Cert.MergeReferenceIdeal.main_arg11) = m ((c.tc : Thread nD τ).loc main_arg11))
    (a12 : m' ((c.tc : Thread nD τ).loc Cert.MergeReferenceIdeal.main_arg12) = m ((c.tc : Thread nD τ).loc main_arg12)) :
    (dats m 0 c).arrAt 15 cfg0.N = (Cert.MergeReferenceIdeal.Value.res_main_v91 m' c : FVec Ideal S17408x1024 .f32) := by
  refine final m c _ fun t r a => ?_
  rw [after0_15]
  refine (out_row (isRow m c hf hb t r) a).trans ?_
  rw [Cert.MergeReferenceIdeal.Rows.res_eq, a0, a1, a2, a3, a4, a5, a6, a7, a8, a9, a10, a11, a12]
  exact (Cert.MergeReferenceIdeal.Rows.whole_at _ _ _ _ _ _ _ _ _ _ _ _ _ (rowAt t r) a).symm

/-- THE TWO RESULTS ARE ONE: where both scans are real the kernel and the reference end with the same array. -/
theorem algebraic : Cert.algebraic_MergeIdeal_MergeReferenceIdeal_pre_scans_finite := by
  intro m ρ m' ρ' hpre hagree
  refine ⟨fun c => Cert.MergeReferenceIdeal.Value.res_main_v91 m' c, ?_, Cert.MergeReferenceIdeal.Value.run (F := Ideal) m' ρ'⟩
  refine (θ_run defs _ _).mono (fun r h c => ⟨?_, h.2 c⟩) (θ_run_and (run_main m ρ) (frame_of m ρ (dats m) (A_eq m) (run_main m ρ)))
  refine ((h.1 c).1 15).trans ?_
  obtain ⟨hf, hb⟩ := Cert.Pre_scans_finite.reals _ _ _ _ _ _ _ _ _ _ _ _ _ (hpre c)
  obtain ⟨a0, a1, a2, a3, a4, a5, a6, a7, a8, a9, a10, a11, a12⟩ := hagree c
  exact results_agree m c m' hf hb a0 a1 a2 a3 a4 a5 a6 a7 a8 a9 a10 a11 a12

end Cert.MergeIdeal.Rows
-- ==== Proof.FrontIdeal.Frame.lean ====
module

public import proofs.«01_k».proof.Proof.Gen.FrontIdeal.Frame.RunA
public import Idealize.ShloMosaic.Lib.Claim

@[expose] public section

set_option maxRecDepth 16384

noncomputable section

namespace Cert.FrontIdeal.Rows

open Cert.FrontIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The frame of the projections' call at extended reals

The grid has one dimension and the body no condition: one run of the body serves every point. -/

/-- The body's run at point `t`, from the blocks the point holds. -/
def runAt (c : Dev nD) (t : Fin cfg0.N) :=
  kernelRun0_A c (grid0.coords t)
      (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t) (hs0_11 t)
      (ms0_12 t) (hs0_12 t) (ms0_13 t) (hs0_13 t) (ms0_14 t) (hs0_14 t) (ms0_15 t) (hs0_15 t) (ms0_16 t) (hs0_16 t) (ms0_17 t) (hs0_17 t)
      (ms0_18 t) (hs0_18 t) (ms0_19 t) (hs0_19 t) (ms0_20 t) (hs0_20 t) (ms0_21 t) (hs0_21 t) (ms0_22 t) (hs0_22 t) (ms0_23 t) (hs0_23 t)
      (ms0_24 t) (hs0_24 t) (ms0_25 t) (hs0_25 t) (ms0_26 t) (hs0_26 t) (ms0_27 t) (hs0_27 t) (ms0_28 t) (hs0_28 t) (ms0_29 t) (hs0_29 t)
      (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (iblk m c 17 t) (iblk m c 18 t) (iblk m c 19 t) (iblk m c 20 t) (iblk m c 21 t) (iblk m c 22 t)

/-- What the body leaves of the first branch at point `t`. -/
def out23 (c : Dev nD) (t : Fin cfg0.N) : Vec F S256x512 .bf16 :=
  VO0_23.read (Elt F) (VO0_23.writes (Elt F) VO0_23.junk (runAt m c t).1)

/-- The stores of the first branch fill the block. -/
theorem cover23 (c : Dev nD) (t : Fin cfg0.N) (y : S256x512.Idx) :
    ∃ pc ∈ (runAt m c t).1, y ∈ pc.1.set :=
  View.cover_of_tiledL (runAt m c t).1 S256x512.size (by sl_kernel_rfl) y

/-- What the body leaves of the queries at point `t`. -/
def out24 (c : Dev nD) (t : Fin cfg0.N) : Vec F S256x512 .f32 :=
  VO0_24.read (Elt F) (VO0_24.writes (Elt F) VO0_24.junk (runAt m c t).2.1)

/-- The stores of the queries fill the block. -/
theorem cover24 (c : Dev nD) (t : Fin cfg0.N) (y : S256x512.Idx) :
    ∃ pc ∈ (runAt m c t).2.1, y ∈ pc.1.set :=
  View.cover_of_tiledL (runAt m c t).2.1 S256x512.size (by sl_kernel_rfl) y

/-- What the body leaves of the keys at point `t`. -/
def out25 (c : Dev nD) (t : Fin cfg0.N) : Vec F S512x256 .bf16 :=
  VO0_25.read (Elt F) (VO0_25.writes (Elt F) VO0_25.junk (runAt m c t).2.2.1)

/-- The stores of the keys fill the block. -/
theorem cover25 (c : Dev nD) (t : Fin cfg0.N) (y : S512x256.Idx) :
    ∃ pc ∈ (runAt m c t).2.2.1, y ∈ pc.1.set :=
  View.cover_of_tiledL (runAt m c t).2.2.1 S512x256.size (by sl_kernel_rfl) y

/-- What the body leaves of the values at point `t`. -/
def out26 (c : Dev nD) (t : Fin cfg0.N) : Vec F S256x512 .bf16 :=
  VO0_26.read (Elt F) (VO0_26.writes (Elt F) VO0_26.junk (runAt m c t).2.2.2.1)

/-- The stores of the values fill the block. -/
theorem cover26 (c : Dev nD) (t : Fin cfg0.N) (y : S256x512.Idx) :
    ∃ pc ∈ (runAt m c t).2.2.2.1, y ∈ pc.1.set :=
  View.cover_of_tiledL (runAt m c t).2.2.2.1 S256x512.size (by sl_kernel_rfl) y

/-- What the body leaves of the bonus at point `t`. -/
def out27 (c : Dev nD) (t : Fin cfg0.N) : Vec F S256x512 .f32 :=
  VO0_27.read (Elt F) (VO0_27.writes (Elt F) VO0_27.junk (runAt m c t).2.2.2.2.1)

/-- The stores of the bonus fill the block. -/
theorem cover27 (c : Dev nD) (t : Fin cfg0.N) (y : S256x512.Idx) :
    ∃ pc ∈ (runAt m c t).2.2.2.2.1, y ∈ pc.1.set :=
  View.cover_of_tiledL (runAt m c t).2.2.2.2.1 S256x512.size (by sl_kernel_rfl) y

/-- What the body leaves of the scan's operands at point `t`. -/
def out28 (c : Dev nD) (t : Fin cfg0.N) : Vec F S2x256x4096 .bf16 :=
  VO0_28.read (Elt F) (VO0_28.writes (Elt F) VO0_28.junk (runAt m c t).2.2.2.2.2.1)

/-- The stores of the scan's operands fill the block. -/
theorem cover28 (c : Dev nD) (t : Fin cfg0.N) (y : S2x256x4096.Idx) :
    ∃ pc ∈ (runAt m c t).2.2.2.2.2.1, y ∈ pc.1.set :=
  View.cover_of_tiledBy (runAt m c t).2.2.2.2.2.1 ![1, 64, 256] (by sl_kernel_rfl) y

/-- What the body leaves of the decays' totals at point `t`. -/
def out29 (c : Dev nD) (t : Fin cfg0.N) : Vec F S2x32x512 .f32 :=
  VO0_29.read (Elt F) (VO0_29.writes (Elt F) VO0_29.junk (runAt m c t).2.2.2.2.2.2.1)

/-- The stores of the decays' totals fill the block. -/
theorem cover29 (c : Dev nD) (t : Fin cfg0.N) (y : S2x32x512.Idx) :
    ∃ pc ∈ (runAt m c t).2.2.2.2.2.2.1, y ∈ pc.1.set :=
  View.cover_of_tiledL (runAt m c t).2.2.2.2.2.2.1 S1x8x512.size (by sl_kernel_rfl) y

/-- What each array holds as the region finds it, and each window's buffer after the body at point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => out23 m c t
    | ⟨24, _⟩ => out24 m c t
    | ⟨25, _⟩ => out25 m c t
    | ⟨26, _⟩ => out26 m c t
    | ⟨27, _⟩ => out27 m c t
    | ⟨28, _⟩ => out28 m c t
    | ⟨29, _⟩ => out29 m c t
    | ⟨_ + 30, h⟩ => absurd h (Nat.not_lt.2 (Nat.le_add_left _ _))
  Φ _ := Pipeline.ΦA spec0 c
  q w := Pipeline.shareOf spec0 w
  owed _ := 0

/-- The arrays are as the region finds them. -/
theorem A_eq (c : Dev nD) (w : Fin cfg0.W) : (dats m 0 c).A w = V m c (Pipeline.arrRef spec0 w) := by dsimp only [dats]

/-- Window 0 after the body. -/
theorem after_0 (c : Dev nD) (t : Fin cfg0.N) : (dats m 0 c).after 0 t = iblk m c 0 t := by dsimp only [dats]
/-- Window 1 after the body. -/
theorem after_1 (c : Dev nD) (t : Fin cfg0.N) : (dats m 0 c).after 1 t = iblk m c 1 t := by dsimp only [dats]
/-- Window 2 after the body. -/
theorem after_2 (c : Dev nD) (t : Fin cfg0.N) : (dats m 0 c).after 2 t = iblk m c 2 t := by dsimp only [dats]
/-- Window 3 after the body. -/
theorem after_3 (c : Dev nD) (t : Fin cfg0.N) : (dats m 0 c).after 3 t = iblk m c 3 t := by dsimp only [dats]
/-- Window 4 after the body. -/
theorem after_4 (c : Dev nD) (t : Fin cfg0.N) : (dats m 0 c).after 4 t = iblk m c 4 t := by dsimp only [dats]
/-- Window 5 after the body. -/
theorem after_5 (c : Dev nD) (t : Fin cfg0.N) : (dats m 0 c).after 5 t = iblk m c 5 t := by dsimp only [dats]
/-- Window 6 after the body. -/
theorem after_6 (c : Dev nD) (t : Fin cfg0.N) : (dats m 0 c).after 6 t = iblk m c 6 t := by dsimp only [dats]
/-- Window 7 after the body. -/
theorem after_7 (c : Dev nD) (t : Fin cfg0.N) : (dats m 0 c).after 7 t = iblk m c 7 t := by dsimp only [dats]
/-- Window 8 after the body. -/
theorem after_8 (c : Dev nD) (t : Fin cfg0.N) : (dats m 0 c).after 8 t = iblk m c 8 t := by dsimp only [dats]
/-- Window 9 after the body. -/
theorem after_9 (c : Dev nD) (t : Fin cfg0.N) : (dats m 0 c).after 9 t = iblk m c 9 t := by dsimp only [dats]
/-- Window 10 after the body. -/
theorem after_10 (c : Dev nD) (t : Fin cfg0.N) : (dats m 0 c).after 10 t = iblk m c 10 t := by dsimp only [dats]
/-- Window 11 after the body. -/
theorem after_11 (c : Dev nD) (t : Fin cfg0.N) : (dats m 0 c).after 11 t = iblk m c 11 t := by dsimp only [dats]
/-- Window 12 after the body. -/
theorem after_12 (c : Dev nD) (t : Fin cfg0.N) : (dats m 0 c).after 12 t = iblk m c 12 t := by dsimp only [dats]
/-- Window 13 after the body. -/
theorem after_13 (c : Dev nD) (t : Fin cfg0.N) : (dats m 0 c).after 13 t = iblk m c 13 t := by dsimp only [dats]
/-- Window 14 after the body. -/
theorem after_14 (c : Dev nD) (t : Fin cfg0.N) : (dats m 0 c).after 14 t = iblk m c 14 t := by dsimp only [dats]
/-- Window 15 after the body. -/
theorem after_15 (c : Dev nD) (t : Fin cfg0.N) : (dats m 0 c).after 15 t = iblk m c 15 t := by dsimp only [dats]
/-- Window 16 after the body. -/
theorem after_16 (c : Dev nD) (t : Fin cfg0.N) : (dats m 0 c).after 16 t = iblk m c 16 t := by dsimp only [dats]
/-- Window 17 after the body. -/
theorem after_17 (c : Dev nD) (t : Fin cfg0.N) : (dats m 0 c).after 17 t = iblk m c 17 t := by dsimp only [dats]
/-- Window 18 after the body. -/
theorem after_18 (c : Dev nD) (t : Fin cfg0.N) : (dats m 0 c).after 18 t = iblk m c 18 t := by dsimp only [dats]
/-- Window 19 after the body. -/
theorem after_19 (c : Dev nD) (t : Fin cfg0.N) : (dats m 0 c).after 19 t = iblk m c 19 t := by dsimp only [dats]
/-- Window 20 after the body. -/
theorem after_20 (c : Dev nD) (t : Fin cfg0.N) : (dats m 0 c).after 20 t = iblk m c 20 t := by dsimp only [dats]
/-- Window 21 after the body. -/
theorem after_21 (c : Dev nD) (t : Fin cfg0.N) : (dats m 0 c).after 21 t = iblk m c 21 t := by dsimp only [dats]
/-- Window 22 after the body. -/
theorem after_22 (c : Dev nD) (t : Fin cfg0.N) : (dats m 0 c).after 22 t = iblk m c 22 t := by dsimp only [dats]
/-- Window 23 after the body. -/
theorem after_23 (c : Dev nD) (t : Fin cfg0.N) : (dats m 0 c).after 23 t = out23 m c t := by dsimp only [dats]
/-- Window 24 after the body. -/
theorem after_24 (c : Dev nD) (t : Fin cfg0.N) : (dats m 0 c).after 24 t = out24 m c t := by dsimp only [dats]
/-- Window 25 after the body. -/
theorem after_25 (c : Dev nD) (t : Fin cfg0.N) : (dats m 0 c).after 25 t = out25 m c t := by dsimp only [dats]
/-- Window 26 after the body. -/
theorem after_26 (c : Dev nD) (t : Fin cfg0.N) : (dats m 0 c).after 26 t = out26 m c t := by dsimp only [dats]
/-- Window 27 after the body. -/
theorem after_27 (c : Dev nD) (t : Fin cfg0.N) : (dats m 0 c).after 27 t = out27 m c t := by dsimp only [dats]
/-- Window 28 after the body. -/
theorem after_28 (c : Dev nD) (t : Fin cfg0.N) : (dats m 0 c).after 28 t = out28 m c t := by dsimp only [dats]
/-- Window 29 after the body. -/
theorem after_29 (c : Dev nD) (t : Fin cfg0.N) : (dats m 0 c).after 29 t = out29 m c t := by dsimp only [dats]

/-- Window 0 before the body holds its block. -/
theorem before_0 (c : Dev nD) (t : Fin cfg0.N) (d) : (dats m 0 c).before 0 t d = iblk m c 0 t :=
  before0_0_of m (dats m 0 c) (A_eq m c 0) (after_0 m c) t d
/-- Window 1 before the body holds its block. -/
theorem before_1 (c : Dev nD) (t : Fin cfg0.N) (d) : (dats m 0 c).before 1 t d = iblk m c 1 t :=
  before0_1_of m (dats m 0 c) (A_eq m c 1) (after_1 m c) t d
/-- Window 2 before the body holds its block. -/
theorem before_2 (c : Dev nD) (t : Fin cfg0.N) (d) : (dats m 0 c).before 2 t d = iblk m c 2 t :=
  before0_2_of m (dats m 0 c) (A_eq m c 2) (after_2 m c) t d
/-- Window 3 before the body holds its block. -/
theorem before_3 (c : Dev nD) (t : Fin cfg0.N) (d) : (dats m 0 c).before 3 t d = iblk m c 3 t :=
  before0_3_of m (dats m 0 c) (A_eq m c 3) (after_3 m c) t d
/-- Window 4 before the body holds its block. -/
theorem before_4 (c : Dev nD) (t : Fin cfg0.N) (d) : (dats m 0 c).before 4 t d = iblk m c 4 t :=
  before0_4_of m (dats m 0 c) (A_eq m c 4) (after_4 m c) t d
/-- Window 5 before the body holds its block. -/
theorem before_5 (c : Dev nD) (t : Fin cfg0.N) (d) : (dats m 0 c).before 5 t d = iblk m c 5 t :=
  before0_5_of m (dats m 0 c) (A_eq m c 5) (after_5 m c) t d
/-- Window 6 before the body holds its block. -/
theorem before_6 (c : Dev nD) (t : Fin cfg0.N) (d) : (dats m 0 c).before 6 t d = iblk m c 6 t :=
  before0_6_of m (dats m 0 c) (A_eq m c 6) (after_6 m c) t d
/-- Window 7 before the body holds its block. -/
theorem before_7 (c : Dev nD) (t : Fin cfg0.N) (d) : (dats m 0 c).before 7 t d = iblk m c 7 t :=
  before0_7_of m (dats m 0 c) (A_eq m c 7) (after_7 m c) t d
/-- Window 8 before the body holds its block. -/
theorem before_8 (c : Dev nD) (t : Fin cfg0.N) (d) : (dats m 0 c).before 8 t d = iblk m c 8 t :=
  before0_8_of m (dats m 0 c) (A_eq m c 8) (after_8 m c) t d
/-- Window 9 before the body holds its block. -/
theorem before_9 (c : Dev nD) (t : Fin cfg0.N) (d) : (dats m 0 c).before 9 t d = iblk m c 9 t :=
  before0_9_of m (dats m 0 c) (A_eq m c 9) (after_9 m c) t d
/-- Window 10 before the body holds its block. -/
theorem before_10 (c : Dev nD) (t : Fin cfg0.N) (d) : (dats m 0 c).before 10 t d = iblk m c 10 t :=
  before0_10_of m (dats m 0 c) (A_eq m c 10) (after_10 m c) t d
/-- Window 11 before the body holds its block. -/
theorem before_11 (c : Dev nD) (t : Fin cfg0.N) (d) : (dats m 0 c).before 11 t d = iblk m c 11 t :=
  before0_11_of m (dats m 0 c) (A_eq m c 11) (after_11 m c) t d
/-- Window 12 before the body holds its block. -/
theorem before_12 (c : Dev nD) (t : Fin cfg0.N) (d) : (dats m 0 c).before 12 t d = iblk m c 12 t :=
  before0_12_of m (dats m 0 c) (A_eq m c 12) (after_12 m c) t d
/-- Window 13 before the body holds its block. -/
theorem before_13 (c : Dev nD) (t : Fin cfg0.N) (d) : (dats m 0 c).before 13 t d = iblk m c 13 t :=
  before0_13_of m (dats m 0 c) (A_eq m c 13) (after_13 m c) t d
/-- Window 14 before the body holds its block. -/
theorem before_14 (c : Dev nD) (t : Fin cfg0.N) (d) : (dats m 0 c).before 14 t d = iblk m c 14 t :=
  before0_14_of m (dats m 0 c) (A_eq m c 14) (after_14 m c) t d
/-- Window 15 before the body holds its block. -/
theorem before_15 (c : Dev nD) (t : Fin cfg0.N) (d) : (dats m 0 c).before 15 t d = iblk m c 15 t :=
  before0_15_of m (dats m 0 c) (A_eq m c 15) (after_15 m c) t d
/-- Window 16 before the body holds its block. -/
theorem before_16 (c : Dev nD) (t : Fin cfg0.N) (d) : (dats m 0 c).before 16 t d = iblk m c 16 t :=
  before0_16_of m (dats m 0 c) (A_eq m c 16) (after_16 m c) t d
/-- Window 17 before the body holds its block. -/
theorem before_17 (c : Dev nD) (t : Fin cfg0.N) (d) : (dats m 0 c).before 17 t d = iblk m c 17 t :=
  before0_17_of m (dats m 0 c) (A_eq m c 17) (after_17 m c) t d
/-- Window 18 before the body holds its block. -/
theorem before_18 (c : Dev nD) (t : Fin cfg0.N) (d) : (dats m 0 c).before 18 t d = iblk m c 18 t :=
  before0_18_of m (dats m 0 c) (A_eq m c 18) (after_18 m c) t d
/-- Window 19 before the body holds its block. -/
theorem before_19 (c : Dev nD) (t : Fin cfg0.N) (d) : (dats m 0 c).before 19 t d = iblk m c 19 t :=
  before0_19_of m (dats m 0 c) (A_eq m c 19) (after_19 m c) t d
/-- Window 20 before the body holds its block. -/
theorem before_20 (c : Dev nD) (t : Fin cfg0.N) (d) : (dats m 0 c).before 20 t d = iblk m c 20 t :=
  before0_20_of m (dats m 0 c) (A_eq m c 20) (after_20 m c) t d
/-- Window 21 before the body holds its block. -/
theorem before_21 (c : Dev nD) (t : Fin cfg0.N) (d) : (dats m 0 c).before 21 t d = iblk m c 21 t :=
  before0_21_of m (dats m 0 c) (A_eq m c 21) (after_21 m c) t d
/-- Window 22 before the body holds its block. -/
theorem before_22 (c : Dev nD) (t : Fin cfg0.N) (d) : (dats m 0 c).before 22 t d = iblk m c 22 t :=
  before0_22_of m (dats m 0 c) (A_eq m c 22) (after_22 m c) t d

/-- What the body at point `t` is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d)))

/-- What it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t))

set_option maxHeartbeats 4000000 in
/-- The body at point `t` runs from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11,
      before_12, before_13, before_14, before_15, before_16, before_17, before_18, before_19, before_20, before_21, before_22]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11,
      after_12, after_13, after_14, after_15, after_16, after_17, after_18, after_19, after_20, after_21, after_22, after_23,
      after_24, after_25, after_26, after_27, after_28, after_29]
  unfold out23 out24 out25 out26 out27 out28 out29
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
      ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩,
      ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply ((runAt m c t).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  iintro ⟨H0, H1, H2, H3, H4, H5, H6, H7, H8, H9, H10, H11, H12, H13, H14,
      H15, H16, H17, H18, H19, H20, H21, H22, ⟨%e23, H23⟩, ⟨%e24, H24⟩, ⟨%e25, H25⟩, ⟨%e26, H26⟩, ⟨%e27, H27⟩, ⟨%e28, H28⟩, ⟨%e29, H29⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]
  · unfold owns; iexists _; isplitr
    swap; · iexact H23
    ipureintro; exact View.read_writes_of_cover _ _ _ _ _ (cover23 m c t)
  isplitl [H24]
  · unfold owns; iexists _; isplitr
    swap; · iexact H24
    ipureintro; exact View.read_writes_of_cover _ _ _ _ _ (cover24 m c t)
  isplitl [H25]
  · unfold owns; iexists _; isplitr
    swap; · iexact H25
    ipureintro; exact View.read_writes_of_cover _ _ _ _ _ (cover25 m c t)
  isplitl [H26]
  · unfold owns; iexists _; isplitr
    swap; · iexact H26
    ipureintro; exact View.read_writes_of_cover _ _ _ _ _ (cover26 m c t)
  isplitl [H27]
  · unfold owns; iexists _; isplitr
    swap; · iexact H27
    ipureintro; exact View.read_writes_of_cover _ _ _ _ _ (cover27 m c t)
  isplitl [H28]
  · unfold owns; iexists _; isplitr
    swap; · iexact H28
    ipureintro; exact View.read_writes_of_cover _ _ _ _ _ (cover28 m c t)
  unfold owns; iexists _; isplitr
  swap; · iexact H29
  ipureintro; exact View.read_writes_of_cover _ _ _ _ _ (cover29 m c t)

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs to an end, leaves every array as the data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The program runs to an end, every argument is left as it was, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (frame_of m ρ (dats m) (A_eq m) (run_main m ρ)) ((θ_run defs _ _).mono (fun _ h => h.2) (run_main_quiescent m ρ))

end Cert.FrontIdeal.Rows

end
-- ==== Proof.FrontIdeal.Pieces.lean ====
module

public import proofs.«01_k».proof.Proof.FrontIdeal.Frame
public import Idealize.ShloMosaic.Lib.WholeRead
public import Idealize.ShloMosaic.Lib.Pointwise

@[expose] public section

set_option maxRecDepth 16384

noncomputable section

namespace Cert.FrontIdeal.Rows

open Cert.FrontIdeal.Gen
open Idealize.ShloMosaic Idealize.ShloMosaic.TcCoe Idealize.SL.Sem

/-! # What a point stores, from its windows' blocks -/

/-- A load of a whole block reads it. -/
theorem load_whole {F : FTy → Type} {s : Shape} {e : EltTy} {ms : Memref sig .tc .vmem s e} (h : Memref.IsWhole ms) (X : s.Idx → Elt F e)
    {off : Fin s.rank → Nat} (hz : off = fun _ => 0) (inb : ∀ a, off a + s.size a ≤ s.size a) :
    View.readAt (Elt F) ms.view (Rect.unit off s.size inb).toLoadRect (h.unread X) = X :=
  funext fun x => (Memref.IsWhole.readAt_unread h X _ x).trans (congrFun (View.ld_unit_zero hz inb X) x)

/-- The offset of a whole block. -/
theorem z2 : (![0, 0] : Fin 2 → ℕ) = fun _ => 0 := by decide

/-- The offset of a whole stack of matrices. -/
theorem z3 : (![0, 0, 0] : Fin 3 → ℕ) = fun _ => 0 := by decide

/-- A load of a whole matrix reads it. -/
theorem load2 {F : FTy → Type} {d : Fin 2 → ℕ} {e : EltTy} {ms : Memref sig .tc .vmem ⟨2, d⟩ e} (h : ms.IsWhole) (X : Shape.Idx ⟨2, d⟩ → Elt F e)
    (inb : ∀ a, (![0, 0] : Fin 2 → ℕ) a + d a ≤ d a) :
    View.readAt (Elt F) ms.view (Rect.unit (s := ⟨2, d⟩) ![0, 0] d inb).toLoadRect (h.unread X) = X := load_whole h X z2 inb

/-- A load of a whole stack of matrices reads it. -/
theorem load3 {F : FTy → Type} {d : Fin 3 → ℕ} {e : EltTy} {ms : Memref sig .tc .vmem ⟨3, d⟩ e} (h : ms.IsWhole) (X : Shape.Idx ⟨3, d⟩ → Elt F e)
    (inb : ∀ a, (![0, 0, 0] : Fin 3 → ℕ) a + d a ≤ d a) :
    View.readAt (Elt F) ms.view (Rect.unit (s := ⟨3, d⟩) ![0, 0, 0] d inb).toLoadRect (h.unread X) = X := load_whole h X z3 inb

variable (m : (ℓ : Loc nD τ sig) → Buf (Elt Ideal) ℓ) (c : Dev nD) (t : Fin cfg0.N)

/-- The point's modulation. -/
def modAt : FVec Ideal S3x1024 .f32 := k0_pay8 (iblk m c 4 t)

/-- The point's rows, normalised and modulated. -/
def tileAt : FVec Ideal S256x1024 .bf16 := k0_pay11 (modAt m c t) (k0_pay10 (iblk m c 3 t) (iblk m c 0 t))

/-- The neighbouring rows above, which none of the four results reads. -/
def aboveAt : FVec Ideal S16x1024 .bf16 := k0_pay12 (modAt m c t) (k0_pay9 (iblk m c 3 t)) (iblk m c 1 t)

/-- The neighbouring rows below, which none of the four results reads. -/
def belowAt : FVec Ideal S16x1024 .f32 := k0_pay13 (k0_pay9 (iblk m c 3 t)) (iblk m c 2 t)

/-- The neighbours' scale. -/
def scaleAt : FVec Ideal S1x1024 .f32 := k0_pay14 (modAt m c t)

/-- The point's projected rows. -/
def projAt : FVec Ideal S256x4864 .f32 := k0_pay16 (modAt m c t) (tileAt m c t) (aboveAt m c t) (belowAt m c t) (scaleAt m c t) (iblk m c 5 t)

/-- The first branch's gate columns. -/
def uAt : FVec Ideal S256x512 .f32 := k0_pay24 (modAt m c t) (tileAt m c t) (aboveAt m c t) (belowAt m c t) (scaleAt m c t) (iblk m c 5 t)

/-- The gate's inner hyperbolic tangent. -/
def innerAt : FVec Ideal S256x512 .f32 := k0_pay29 (modAt m c t) (tileAt m c t) (aboveAt m c t) (belowAt m c t) (scaleAt m c t) (iblk m c 5 t)

/-- The columns that the chunks mix. -/
def vAt : FVec Ideal S256x512 .f32 := k0_pay25 (modAt m c t) (tileAt m c t) (aboveAt m c t) (belowAt m c t) (scaleAt m c t) (iblk m c 5 t)

/-- The first branch's output gate columns. -/
def zAt : FVec Ideal S256x512 .f32 := k0_pay26 (modAt m c t) (tileAt m c t) (aboveAt m c t) (belowAt m c t) (scaleAt m c t) (iblk m c 5 t)

/-- A group's matrix. -/
def matAt (g : Fin 4) : Vec Ideal S1x128x128 .bf16 := fun y => (iblk m c 8 t : Vec Ideal S4x128x128 .bf16) (ix3 g (y 1) (y 2))

/-- A group's offsets. -/
def offAt (g : Fin 4) : Vec Ideal S128x1 .f32 := fun y => (iblk m c 9 t : Vec Ideal S128x4 .f32) (ix2 (y 0) g)

/-- A load of one group's matrix reads it. -/
theorem loadMat {ms : Memref sig .tc .vmem S4x128x128 .bf16} (h : ms.IsWhole) (g : ℕ) (hg : g < 4) (inb : ∀ a, (![g, 0, 0] : Fin 3 → ℕ) a + S1x128x128.size a ≤ S4x128x128.size a) :
    View.readAt (Elt Ideal) ms.view (Rect.unit (s := S4x128x128) ![g, 0, 0] S1x128x128.size inb).toLoadRect (h.unread (iblk m c 8 t)) = matAt m c t ⟨g, hg⟩ := by
  funext y
  refine (Memref.IsWhole.readAt_unread h _ _ y).trans ?_
  unfold matAt
  refine congrArg (iblk m c 8 t : Vec Ideal S4x128x128 .bf16) ?_
  funext a; apply Fin.ext
  have h0 : (y 0).val < 1 := (y 0).isLt
  match a with
  | ⟨0, _⟩ => show g + 1 * (y 0).val = g; omega
  | ⟨1, _⟩ => show 0 + 1 * (y 1).val = (y 1).val; omega
  | ⟨2, _⟩ => show 0 + 1 * (y 2).val = (y 2).val; omega

/-- A load of one group's offsets reads them. -/
theorem loadOff {ms : Memref sig .tc .vmem S128x4 .f32} (h : ms.IsWhole) (g : ℕ) (hg : g < 4) (inb : ∀ a, (![0, g] : Fin 2 → ℕ) a + S128x1.size a ≤ S128x4.size a) :
    View.readAt (Elt Ideal) ms.view (Rect.unit (s := S128x4) ![0, g] S128x1.size inb).toLoadRect (h.unread (iblk m c 9 t)) = offAt m c t ⟨g, hg⟩ := by
  funext y
  refine (Memref.IsWhole.readAt_unread h _ _ y).trans ?_
  unfold offAt
  refine congrArg (iblk m c 9 t : Vec Ideal S128x4 .f32) ?_
  funext a; apply Fin.ext
  have h0 : (y 1).val < 1 := (y 1).isLt
  match a with
  | ⟨0, _⟩ => show 0 + 1 * (y 0).val = (y 0).val; omega
  | ⟨1, _⟩ => show g + 1 * (y 1).val = g; omega

/-- The values stored. -/
theorem out26_eq : out26 m c t = k0_pay56 (projAt m c t) := by
  unfold out26
  rw [View.read_writes_junk_eq_canon]
  unfold runAt kernelRun0_A
  dsimp only
  rw [View.canon_unit_zero z2]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, load2, load3]
  rfl

/-- The queries stored. -/
theorem out24_eq : out24 m c t = k0_pay48 (k0_pay40 (iblk m c 13 t)) (k0_pay42 (projAt m c t) (k0_pay23 (iblk m c 22 t)) (iblk m c 10 t) (iblk m c 12 t))
    (k0_pay43 (projAt m c t) (k0_pay23 (iblk m c 22 t)) (iblk m c 10 t)) (k0_pay44 (projAt m c t) (k0_pay23 (iblk m c 22 t)) (iblk m c 10 t)) 32#32
    k0_pay45 k0_pay46 k0_pay47 := by
  unfold out24
  rw [View.read_writes_junk_eq_canon]
  unfold runAt kernelRun0_A
  dsimp only
  rw [View.canon_unit_zero z2]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, load2, load3]
  rfl

/-- The keys stored. -/
theorem out25_eq : out25 m c t = k0_pay55 (k0_pay40 (iblk m c 13 t)) (k0_pay50 (k0_pay23 (iblk m c 22 t)) (k0_pay37 (projAt m c t)) (k0_pay38 (iblk m c 11 t)) (k0_pay39 (iblk m c 12 t)))
    (k0_pay51 (k0_pay23 (iblk m c 22 t)) (k0_pay37 (projAt m c t)) (k0_pay38 (iblk m c 11 t))) (k0_pay52 (k0_pay23 (iblk m c 22 t)) (k0_pay37 (projAt m c t)) (k0_pay38 (iblk m c 11 t))) 32#32
    k0_pay53 k0_pay54 := by
  unfold out25
  rw [View.read_writes_junk_eq_canon]
  unfold runAt kernelRun0_A
  dsimp only
  rw [View.canon_unit_zero z2]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, load2, load3]
  rfl

/-- The columns that the chunks mix, normalised. -/
def mixedAt : FVec Ideal S256x512 .f32 := k0_pay32 (vAt m c t) (k0_pay27 (iblk m c 6 t)) (k0_pay28 (iblk m c 7 t))

/-- The first branch stored. -/
theorem out23_eq : out23 m c t = k0_pay36 (zAt m c t) (k0_pay31 (uAt m c t) (innerAt m c t) k0_pay30) (mixedAt m c t)
    (k0_pay34 (mixedAt m c t) (k0_pay33 (vAt m c t) (k0_pay27 (iblk m c 6 t)) (k0_pay28 (iblk m c 7 t)) (matAt m c t 0)) (offAt m c t 0) (matAt m c t 1) (offAt m c t 1)
      (matAt m c t 2) (offAt m c t 2) (matAt m c t 3) (offAt m c t 3))
    (k0_pay35 (mixedAt m c t) (matAt m c t 0)) (offAt m c t 0) (matAt m c t 1) (offAt m c t 1) (matAt m c t 2) (offAt m c t 2) (matAt m c t 3) (offAt m c t 3) := by
  unfold out23
  rw [View.read_writes_junk_eq_canon]
  unfold runAt kernelRun0_A
  dsimp only
  rw [View.canon_unit_zero z2]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, load2, load3]
  have e0 := fun h => loadMat m c t (ms := ms0_8 t) h 0 (by omega) inb_S4x128x128_S1x128x128_0_0_0
  have e1 := fun h => loadMat m c t (ms := ms0_8 t) h 1 (by omega) inb_S4x128x128_S1x128x128_1_0_0
  have e2 := fun h => loadMat m c t (ms := ms0_8 t) h 2 (by omega) inb_S4x128x128_S1x128x128_2_0_0
  have e3 := fun h => loadMat m c t (ms := ms0_8 t) h 3 (by omega) inb_S4x128x128_S1x128x128_3_0_0
  have f0 := fun h => loadOff m c t (ms := ms0_9 t) h 0 (by omega) inb_S128x4_S128x1_0_0
  have f1 := fun h => loadOff m c t (ms := ms0_9 t) h 1 (by omega) inb_S128x4_S128x1_0_1
  have f2 := fun h => loadOff m c t (ms := ms0_9 t) h 2 (by omega) inb_S128x4_S128x1_0_2
  have f3 := fun h => loadOff m c t (ms := ms0_9 t) h 3 (by omega) inb_S128x4_S128x1_0_3
  simp only [e0, e1, e2, e3, f0, f1, f2, f3]
  rfl

end Cert.FrontIdeal.Rows
-- ==== Proof.FrontIdeal.HostAt.lean ====
module

public import proofs.«01_k».proof.Proof.Gen.FrontIdeal.Frame.Runs
public import proofs.«01_k».proof.Proof.MergeIdeal.HostAt
public import Idealize.ShloMosaic.Lib.Pointwise

@[expose] public section

set_option maxRecDepth 16384

noncomputable section

namespace Cert.FrontIdeal.Rows

open Cert.FrontIdeal.Gen
open Idealize.ShloMosaic Idealize.ShloMosaic.TcCoe Idealize.SL.Sem

/-! # The arrays the host prepares, read at an index -/

variable (m : (ℓ : Loc nD τ sig) → Buf (Elt Ideal) ℓ) (c : Dev nD)

/-- The mask is the merge's. -/
theorem V_mask : (V m c main_v18 : FVec Ideal S256x256 .bf16) = Cert.MergeIdeal.Rows.mask := by
  simp only [V, hostOps0, hostOps0_1, hostOps0_2, hostOps0_3, hostOps0_4, List.flatten_cons, List.flatten_nil, List.append_nil, List.cons_append, List.nil_append]
  after_results
  rfl

/-- A weight of the input projection's first 4864 columns. -/
theorem w_at (k : Fin 1024) (j : Fin 4864) :
    ((V m c main_v60 : FVec Ideal S1x1024x4864 .bf16) (ix3 0 k j) : EReal) = m ((c.tc : Thread nD τ).loc main_arg3) (ix2 k ⟨j.val, by omega⟩) := by
  have h : (V m c main_v60 : FVec Ideal S1x1024x4864 .bf16) = broadcastInDim S1x1024x4864 ![1, 2] bcast_S1024x4864_S1x1024x4864_1_2
      (extractStridedSlice S1024x4864 ![0, 0] (truncf .bf16 (show FVec Ideal S1024x8960 .f32 from m ((c.tc : Thread nD τ).loc main_arg3)) bitsLt_bf16_f32) slices_S1024x8960_S1024x4864_0_0) := by
    simp only [V, hostOps0, hostOps0_1, hostOps0_2, hostOps0_3, hostOps0_4, List.flatten_cons, List.flatten_nil, List.append_nil, List.cons_append, List.nil_append]
    after_results
  rw [h]
  pointwise

/-- The normalisation's gain as one row. -/
theorem g_at (k : Fin 1024) : ((V m c main_v61 : FVec Ideal S1x1024 .f32) (ix2 0 k) : EReal) = m ((c.tc : Thread nD τ).loc main_arg2) (ix1 k) := by
  have h : V m c main_v61 = shapeCast S1x1024 (m ((c.tc : Thread nD τ).loc main_arg2) : FVec Ideal S1024 .f32) shapeCasts_S1024_S1x1024 := by
    simp only [V, hostOps0, hostOps0_1, hostOps0_2, hostOps0_3, hostOps0_4, List.flatten_cons, List.flatten_nil, List.append_nil, List.cons_append, List.nil_append]
    after_results
    rfl
  rw [h]
  pointwise

/-- The layer norm's gain as one row. -/
theorem lg_at (k : Fin 512) : ((V m c main_v19 : FVec Ideal S1x512 .f32) (ix2 0 k) : EReal) = m ((c.tc : Thread nD τ).loc main_arg4) (ix1 k) := by
  have h : V m c main_v19 = shapeCast S1x512 (m ((c.tc : Thread nD τ).loc main_arg4) : FVec Ideal S512 .f32) shapeCasts_S512_S1x512 := by
    simp only [V, hostOps0, hostOps0_1, hostOps0_2, hostOps0_3, hostOps0_4, List.flatten_cons, List.flatten_nil, List.append_nil, List.cons_append, List.nil_append]
    after_results
    rfl
  rw [h]
  pointwise

/-- The layer norm's offset as one row. -/
theorem lb_at (k : Fin 512) : ((V m c main_v20 : FVec Ideal S1x512 .f32) (ix2 0 k) : EReal) = m ((c.tc : Thread nD τ).loc main_arg5) (ix1 k) := by
  have h : V m c main_v20 = shapeCast S1x512 (m ((c.tc : Thread nD τ).loc main_arg5) : FVec Ideal S512 .f32) shapeCasts_S512_S1x512 := by
    simp only [V, hostOps0, hostOps0_1, hostOps0_2, hostOps0_3, hostOps0_4, List.flatten_cons, List.flatten_nil, List.append_nil, List.cons_append, List.nil_append]
    after_results
    rfl
  rw [h]
  pointwise

/-- The chunks' matrices. -/
theorem ws_at (n : Fin 4) (a b : Fin 128) :
    ((V m c main_v21 : FVec Ideal S4x128x128 .bf16) (ix3 n a b) : EReal) = m ((c.tc : Thread nD τ).loc main_arg6) (ix3 n a b) := by
  have h : (V m c main_v21 : FVec Ideal S4x128x128 .bf16) = truncf .bf16 (show FVec Ideal S4x128x128 .f32 from m ((c.tc : Thread nD τ).loc main_arg6)) bitsLt_bf16_f32 := by
    simp only [V, hostOps0, hostOps0_1, hostOps0_2, hostOps0_3, hostOps0_4, List.flatten_cons, List.flatten_nil, List.append_nil, List.cons_append, List.nil_append]
    after_results
  rw [h]
  pointwise

/-- The chunks' offsets, transposed. -/
theorem bs_at (a : Fin 128) (n : Fin 4) :
    ((V m c main_v22 : FVec Ideal S128x4 .f32) (ix2 a n) : EReal) = m ((c.tc : Thread nD τ).loc main_arg7) (ix2 n a) := by
  have h : (V m c main_v22 : FVec Ideal S128x4 .f32) = transpose S128x4 [1, 0] (show FVec Ideal S4x128 .f32 from m ((c.tc : Thread nD τ).loc main_arg7)) transposes_S4x128_S128x4_1_0 := by
    simp only [V, hostOps0, hostOps0_1, hostOps0_2, hostOps0_3, hostOps0_4, List.flatten_cons, List.flatten_nil, List.append_nil, List.cons_append, List.nil_append]
    after_results
  rw [h]
  pointwise

/-- A gain of 64, repeated for eight heads. -/
def tiled (g : FVec Ideal S64 .f32) : FVec Ideal S1x512 .f32 :=
  broadcastInDim S1x512 ![1] bcast_S512_S1x512_1
    (shapeCast S512 (broadcastInDim S8x64 ![0, 1] bcast_S1x64_S8x64_0_1 (shapeCast S1x64 g shapeCasts_S64_S1x64)) shapeCasts_S8x64_S512)

/-- The repeated gain at a column. -/
theorem tiled_at (g : FVec Ideal S64 .f32) (k : Fin 512) : tiled g (ix2 0 k) = g (ix1 ⟨k.val % 64, by omega⟩) := by
  pointwise [tiled]

/-- The queries' gain at a column. -/
theorem qn_at (k : Fin 512) : ((V m c main_v26 : FVec Ideal S1x512 .f32) (ix2 0 k) : EReal) = m ((c.tc : Thread nD τ).loc main_arg8) (ix1 ⟨k.val % 64, by omega⟩) := by
  have h : V m c main_v26 = tiled (m ((c.tc : Thread nD τ).loc main_arg8)) := by
    simp only [V, hostOps0, hostOps0_1, hostOps0_2, hostOps0_3, hostOps0_4, List.flatten_cons, List.flatten_nil, List.append_nil, List.cons_append, List.nil_append]
    after_results
    rfl
  rw [h, tiled_at]

/-- The keys' gain at a column. -/
theorem kn_at (k : Fin 512) : ((V m c main_v30 : FVec Ideal S1x512 .f32) (ix2 0 k) : EReal) = m ((c.tc : Thread nD τ).loc main_arg9) (ix1 ⟨k.val % 64, by omega⟩) := by
  have h : V m c main_v30 = tiled (m ((c.tc : Thread nD τ).loc main_arg9)) := by
    simp only [V, hostOps0, hostOps0_1, hostOps0_2, hostOps0_3, hostOps0_4, List.flatten_cons, List.flatten_nil, List.append_nil, List.cons_append, List.nil_append]
    after_results
    rfl
  rw [h, tiled_at]

/-- A rotation's table: a constant for the context, four groups of sixteen for the latents, twice. -/
def rope (z : BitVec 32) (a b d e : FVec Ideal S4096x16 .f32) : FVec Ideal S4352x128 .f32 :=
  concatenate S4352x128 1
    [⟨S4352x64, concatenate S4352x64 0 [⟨S256x64, broadcastInDim S256x64 ![] bcast_S_S256x64 (constant S_ .f32 z)⟩,
        ⟨S4096x64, concatenate S4096x64 1 [⟨S4096x16, a⟩, ⟨S4096x16, b⟩, ⟨S4096x16, d⟩, ⟨S4096x16, e⟩] concatenates_S4096x16_S4096x16_S4096x16_S4096x16_S4096x64_d1⟩] concatenates_S256x64_S4096x64_S4352x64_d0⟩,
     ⟨S4352x64, concatenate S4352x64 0 [⟨S256x64, broadcastInDim S256x64 ![] bcast_S_S256x64 (constant S_ .f32 z)⟩,
        ⟨S4096x64, concatenate S4096x64 1 [⟨S4096x16, a⟩, ⟨S4096x16, b⟩, ⟨S4096x16, d⟩, ⟨S4096x16, e⟩] concatenates_S4096x16_S4096x16_S4096x16_S4096x16_S4096x64_d1⟩] concatenates_S256x64_S4096x64_S4352x64_d0⟩]
    concatenates_S4352x64_S4352x64_S4352x128_d1

/-- The four groups, one after the other. -/
theorem four_at (a b d e : FVec Ideal S4096x16 .f32) (s : Fin 4096) (l : Fin 64) :
    concatenate S4096x64 1 [⟨S4096x16, a⟩, ⟨S4096x16, b⟩, ⟨S4096x16, d⟩, ⟨S4096x16, e⟩] concatenates_S4096x16_S4096x16_S4096x16_S4096x16_S4096x64_d1 (ix2 s l)
      = if h : l.val < 16 then a (ix2 s ⟨l.val, h⟩) else if h' : l.val - 16 < 16 then b (ix2 s ⟨l.val - 16, h'⟩)
        else if h'' : l.val - 16 - 16 < 16 then d (ix2 s ⟨l.val - 16 - 16, h''⟩) else e (ix2 s ⟨l.val - 16 - 16 - 16, by omega⟩) := by
  pointwise

/-- The four groups at a column. -/
theorem groups_at (a b d e : FVec Ideal S4096x16 .f32) (s : Fin 4096) (l : Fin 64) :
    concatenate S4096x64 1 [⟨S4096x16, a⟩, ⟨S4096x16, b⟩, ⟨S4096x16, d⟩, ⟨S4096x16, e⟩] concatenates_S4096x16_S4096x16_S4096x16_S4096x16_S4096x64_d1 (ix2 s l)
      = if l.val < 32 then (if l.val % 32 < 16 then a (ix2 s ⟨l.val % 16, by omega⟩) else b (ix2 s ⟨l.val % 16, by omega⟩))
        else (if l.val % 32 < 16 then d (ix2 s ⟨l.val % 16, by omega⟩) else e (ix2 s ⟨l.val % 16, by omega⟩)) := by
  rw [four_at]
  have hl := l.isLt
  split_ifs <;> first | (exfalso; omega) | (congr 2; exact Fin.ext (by simp only; omega))

/-- The context above the latents at a column. -/
theorem stacked_at (z : BitVec 32) (t : FVec Ideal S4096x64 .f32) (s : Fin 4352) (l : Fin 64) :
    concatenate S4352x64 0 [⟨S256x64, broadcastInDim S256x64 ![] bcast_S_S256x64 (constant (F := Ideal) S_ .f32 z)⟩, ⟨S4096x64, t⟩] concatenates_S256x64_S4096x64_S4352x64_d0 (ix2 s l)
      = if h : s.val < 256 then Ideal.ofBits .f32 z else t (ix2 ⟨s.val - 256, by omega⟩ l) := by
  pointwise

/-- The table at a column. -/
theorem rope_at (z : BitVec 32) (a b d e : FVec Ideal S4096x16 .f32) (s : Fin 4352) (l : Fin 128) :
    rope z a b d e (ix2 s l)
      = if h : s.val < 256 then Ideal.ofBits .f32 z else
          if l.val % 64 < 32 then
            (if l.val % 32 < 16 then a (ix2 ⟨s.val - 256, by omega⟩ ⟨l.val % 16, by omega⟩) else b (ix2 ⟨s.val - 256, by omega⟩ ⟨l.val % 16, by omega⟩))
          else (if l.val % 32 < 16 then d (ix2 ⟨s.val - 256, by omega⟩ ⟨l.val % 16, by omega⟩) else e (ix2 ⟨s.val - 256, by omega⟩ ⟨l.val % 16, by omega⟩)) := by
  have key : rope z a b d e (ix2 s l) = concatenate S4352x64 0 [⟨S256x64, broadcastInDim S256x64 ![] bcast_S_S256x64 (constant (F := Ideal) S_ .f32 z)⟩,
        ⟨S4096x64, concatenate S4096x64 1 [⟨S4096x16, a⟩, ⟨S4096x16, b⟩, ⟨S4096x16, d⟩, ⟨S4096x16, e⟩] concatenates_S4096x16_S4096x16_S4096x16_S4096x16_S4096x64_d1⟩] concatenates_S256x64_S4096x64_S4352x64_d0
          (ix2 s ⟨l.val % 64, by omega⟩) := by
    unfold rope
    generalize concatenate S4352x64 0 [⟨S256x64, broadcastInDim S256x64 ![] bcast_S_S256x64 (constant (F := Ideal) S_ .f32 z)⟩,
        ⟨S4096x64, concatenate S4096x64 1 [⟨S4096x16, a⟩, ⟨S4096x16, b⟩, ⟨S4096x16, d⟩, ⟨S4096x16, e⟩] concatenates_S4096x16_S4096x16_S4096x16_S4096x16_S4096x64_d1⟩] concatenates_S256x64_S4096x64_S4352x64_d0 = t
    pointwise
    have hl := l.isLt
    split_ifs <;> (congr 2; exact Fin.ext (by simp only; omega))
  rw [key, stacked_at]
  have h1 : l.val % 64 % 32 = l.val % 32 := by omega
  have h2 : l.val % 64 % 16 = l.val % 16 := by omega
  simp only [groups_at, h1, h2]

/-- The cosines' table. -/
theorem V_cos : (V m c main_v3 : FVec Ideal S4352x128 .f32) = rope 0x3F800000#32 (m ((c.tc : Thread nD τ).loc main_arg10)) (m ((c.tc : Thread nD τ).loc main_arg10))
    (m ((c.tc : Thread nD τ).loc main_arg12)) (m ((c.tc : Thread nD τ).loc main_arg12)) := by
  simp only [V, hostOps0, hostOps0_1, hostOps0_2, hostOps0_3, hostOps0_4, List.flatten_cons, List.flatten_nil, List.append_nil, List.cons_append, List.nil_append]
  after_results
  rfl

/-- The signed sines' table. -/
theorem V_sin : (V m c main_v9 : FVec Ideal S4352x128 .f32) = rope 0x00000000#32 (Host.negf (show FVec Ideal S4096x16 .f32 from m ((c.tc : Thread nD τ).loc main_arg11))) (m ((c.tc : Thread nD τ).loc main_arg11))
    (Host.negf (show FVec Ideal S4096x16 .f32 from m ((c.tc : Thread nD τ).loc main_arg13))) (m ((c.tc : Thread nD τ).loc main_arg13)) := by
  simp only [V, hostOps0, hostOps0_1, hostOps0_2, hostOps0_3, hostOps0_4, List.flatten_cons, List.flatten_nil, List.append_nil, List.cons_append, List.nil_append]
  after_results
  rfl

end Cert.FrontIdeal.Rows
-- ==== Proof.FrontIdeal.Spec.lean ====
module

public import proofs.«01_k».proof.Proof.MergeIdeal.Groups

@[expose] public section

noncomputable section

namespace Cert.FrontSpec

open Idealize.ShloMosaic Cert.MergeSpec

/-! # The projections, on the extended reals

Nothing here mentions tiles: both programs are shown to compute `branch`, `queries`, `keys` and `values`. -/

/-- A normalised, modulated row. -/
def hidden (x : Fin 1024 → EReal) (g : Fin 1024 → EReal) (md : Fin 3 → Fin 1024 → EReal) (k : Fin 1024) : EReal :=
  x k * Ideal.rsqrt (Ideal.div (∑ i, x i * x i) (Ideal.ofBits .f32 0x44800000#32) + Ideal.ofBits .f32 0x358637BD#32) * g k * (1 + md 1 k) + md 0 k

/-- The Gaussian error unit's usual approximation. -/
def gelu (z : EReal) : EReal :=
  z * (Ideal.ofBits .f32 0x3F000000#32 * (1 + Ideal.tanh (Ideal.ofBits .f32 0x3F4C422A#32 * (z + Ideal.ofBits .f32 0x3D372713#32 * (z * z * z)))))

/-- The mean of 512 columns. -/
def mean (v : Fin 512 → EReal) : EReal := Ideal.div (∑ i, v i) (Ideal.ofBits .f32 0x44000000#32)

/-- The layer norm. -/
def layerNorm (v g b : Fin 512 → EReal) (c : Fin 512) : EReal :=
  (v c - mean v) * Ideal.rsqrt (mean (fun i => (v i - mean v) * (v i - mean v)) + Ideal.ofBits .f32 0x3727C5AC#32) * g c + b c

/-- A head's values, normalised. -/
def headNorm (v : Fin 512 → EReal) (g : Fin 64 → EReal) (c : Fin 512) : EReal :=
  v c * Ideal.rsqrt (Ideal.div (∑ x : Fin 64, v ⟨c.val / 64 * 64 + x.val, by omega⟩ * v ⟨c.val / 64 * 64 + x.val, by omega⟩) (Ideal.ofBits .f32 0x42800000#32)
    + Ideal.ofBits .f32 0x358637BD#32) * g ⟨c.val % 64, by omega⟩

/-- The rotation: a column of a half's first quarter with the one sixteen further on, of its second with the one sixteen before. -/
def rotate (y : Fin 512 → EReal) (co si : Fin 2 → Fin 16 → EReal) (c : Fin 512) : EReal :=
  if h : c.val % 32 < 16 then
    y c * co ⟨c.val % 64 / 32, by omega⟩ ⟨c.val % 16, by omega⟩ - y ⟨c.val + 16, by omega⟩ * si ⟨c.val % 64 / 32, by omega⟩ ⟨c.val % 16, by omega⟩
  else
    y ⟨c.val - 16, by omega⟩ * si ⟨c.val % 64 / 32, by omega⟩ ⟨c.val % 16, by omega⟩ + y c * co ⟨c.val % 64 / 32, by omega⟩ ⟨c.val % 16, by omega⟩

/-- The arguments. -/
structure Args where
  /-- the residual stream -/
  x : Fin 17408 → Fin 1024 → EReal
  /-- the modulations -/
  mod : Fin 8 → Fin 3 → Fin 1024 → EReal
  /-- the normalisation's gain -/
  g : Fin 1024 → EReal
  /-- the input projection -/
  w : Fin 1024 → Fin 8960 → EReal
  /-- the layer norm's gain -/
  lg : Fin 512 → EReal
  /-- the layer norm's offset -/
  lb : Fin 512 → EReal
  /-- the chunks' matrices -/
  ws : Fin 4 → Fin 128 → Fin 128 → EReal
  /-- the chunks' offsets -/
  bs : Fin 4 → Fin 128 → EReal
  /-- the queries' gain -/
  qn : Fin 64 → EReal
  /-- the keys' gain -/
  kn : Fin 64 → EReal
  /-- the cosines, by rows then by columns -/
  co : Fin 2 → Fin 4096 → Fin 16 → EReal
  /-- the sines, by rows then by columns -/
  si : Fin 2 → Fin 4096 → Fin 16 → EReal

namespace Args
variable (A : Args)

/-- A position's modulation: the context's shared one, or its batch's. -/
def md (q : Fin 17408) (n : Fin 3) (k : Fin 1024) : EReal :=
  if q.val % 4352 < 256 then A.mod 4 n k else A.mod ⟨q.val / 4352, by omega⟩ n k

/-- The projected rows. -/
def p (q : Fin 17408) (j : Fin 8960) : EReal := ∑ k, hidden (A.x q) A.g (A.md q) k * A.w k j

/-- The rows that the chunks mix. -/
def va (q : Fin 17408) (c : Fin 512) : EReal := layerNorm (fun c => gelu (A.p q ⟨3840 + c.val, by omega⟩)) A.lg A.lb c

/-- A chunk's mixture. -/
def mix (q : Fin 17408) (c : Fin 512) : EReal :=
  ∑ r : Fin 128, A.ws ⟨c.val / 128, by omega⟩ ⟨q.val % 128, by omega⟩ r * A.va ⟨q.val / 128 * 128 + r.val, by omega⟩ c
    + A.bs ⟨c.val / 128, by omega⟩ ⟨q.val % 128, by omega⟩

/-- The first branch. -/
def branch (q : Fin 17408) (c : Fin 512) : EReal :=
  gelu (A.p q ⟨3328 + c.val, by omega⟩) * A.mix q c * (A.p q ⟨4352 + c.val, by omega⟩ * sigma (A.p q ⟨4352 + c.val, by omega⟩))

/-- Heads of the columns from `o` on: the context's normalised, the latents' rotated as well. -/
def heads (o : Fin 8000) (g : Fin 64 → EReal) (q : Fin 17408) (c : Fin 512) : EReal :=
  if h : q.val % 4352 < 256 then headNorm (fun c => A.p q ⟨o.val + c.val, by omega⟩) g c
  else rotate (headNorm (fun c => A.p q ⟨o.val + c.val, by omega⟩) g) (fun n => A.co n ⟨q.val % 4352 - 256, by omega⟩)
    (fun n => A.si n ⟨q.val % 4352 - 256, by omega⟩) c

/-- The queries. -/
def queries (q : Fin 17408) (c : Fin 512) : EReal := A.heads 2304 A.qn q c

/-- The keys. -/
def keys (q : Fin 17408) (c : Fin 512) : EReal := A.heads 0 A.kn q c

/-- The values. -/
def values (q : Fin 17408) (c : Fin 512) : EReal := A.p q ⟨512 + c.val, by omega⟩

end Args
end Cert.FrontSpec
-- ==== Proof.FrontIdeal.Blocks.lean ====
module

public import proofs.«01_k».proof.Proof.FrontIdeal.Frame
public import proofs.«01_k».proof.Proof.FrontIdeal.HostAt
public import proofs.«01_k».proof.Proof.FrontIdeal.Spec
public import proofs.«01_k».proof.Proof.MergeIdeal.Blocks

@[expose] public section

set_option maxRecDepth 16384

noncomputable section

namespace Cert.FrontIdeal.Rows

open Cert.FrontIdeal.Gen Cert.FrontSpec
open Cert.MergeIdeal.Rows (modOf)
open Idealize.ShloMosaic Idealize.ShloMosaic.TcCoe Idealize.SL.Sem

/-! # What each window's block is at a grid point

The 68 points are tiles of 256 rows; the first of each 17 is the context. -/

variable (m : (ℓ : Loc nD τ sig) → Buf (Elt Ideal) ℓ) (c : Dev nD)

/-- There are 68 points. -/
theorem lt_68 (t : Fin cfg0.N) : t.val < 68 := lt_of_lt_of_eq t.isLt (show cfg0.N = 68 from N_0)

/-- Row `r` of point `t`. -/
def rowAt (t : Fin cfg0.N) (r : Fin 256) : Fin 17408 := ⟨256 * t.val + r.val, by have := lt_68 t; omega⟩

/-- The row tiles' block indices at point `t`. -/
theorem index_rows : ∀ t : Fin grid0.N, (win0_0.index t 0 = t.val ∧ win0_0.index t 1 = 0) ∧ (win0_23.index t 0 = t.val ∧ win0_23.index t 1 = 0)
    ∧ (win0_24.index t 0 = t.val ∧ win0_24.index t 1 = 0) ∧ (win0_25.index t 0 = 0 ∧ win0_25.index t 1 = t.val)
    ∧ (win0_26.index t 0 = t.val ∧ win0_26.index t 1 = 0) := by decide +kernel

/-- The modulation's block index at point `t`. -/
theorem index_mod : ∀ t : Fin grid0.N, win0_4.index t 0 = modOf t.val ∧ win0_4.index t 1 = 0 ∧ win0_4.index t 2 = 0 := by decide +kernel

/-- The tables' block indices at point `t`. -/
theorem index_tables : ∀ t : Fin grid0.N, (win0_12.index t 0 = t.val % 17 ∧ win0_12.index t 1 = 0) ∧ (win0_13.index t 0 = t.val % 17 ∧ win0_13.index t 1 = 0) := by
  decide +kernel

/-- The arguments. -/
def args : Args where
  x q k := m ((c.tc : Thread nD τ).loc main_arg0) (ix2 q k)
  mod n i k := m ((c.tc : Thread nD τ).loc main_arg1) (ix3 n i k)
  g k := m ((c.tc : Thread nD τ).loc main_arg2) (ix1 k)
  w k j := m ((c.tc : Thread nD τ).loc main_arg3) (ix2 k j)
  lg k := m ((c.tc : Thread nD τ).loc main_arg4) (ix1 k)
  lb k := m ((c.tc : Thread nD τ).loc main_arg5) (ix1 k)
  ws n a b := m ((c.tc : Thread nD τ).loc main_arg6) (ix3 n a b)
  bs n a := m ((c.tc : Thread nD τ).loc main_arg7) (ix2 n a)
  qn k := m ((c.tc : Thread nD τ).loc main_arg8) (ix1 k)
  kn k := m ((c.tc : Thread nD τ).loc main_arg9) (ix1 k)
  co n s j := if n.val = 0 then m ((c.tc : Thread nD τ).loc main_arg10) (ix2 s j) else m ((c.tc : Thread nD τ).loc main_arg12) (ix2 s j)
  si n s j := if n.val = 0 then m ((c.tc : Thread nD τ).loc main_arg11) (ix2 s j) else m ((c.tc : Thread nD τ).loc main_arg13) (ix2 s j)

variable (t : Fin cfg0.N)

/-- Point `t`'s rows of the residual stream. -/
theorem blk_0 (r : Fin 256) (k : Fin 1024) : ((iblk m c 0 t : Vec Ideal S256x1024 .f32) (ix2 r k) : EReal) = (args m c).x (rowAt t r) k := by
  show _ = m ((c.tc : Thread nD τ).loc main_arg0) (ix2 (rowAt t r) k)
  rw [← V_main_arg0 m c]
  unfold iblk
  rw [View.read_apply]
  show V m c main_arg0 _ = V m c main_arg0 _
  congr 1; funext a; apply Fin.ext
  match a with
  | ⟨0, _⟩ => show win0_0.index t 0 * 256 + 1 * r.val = 256 * t.val + r.val; rw [(index_rows t).1.1]; omega
  | ⟨1, _⟩ => show win0_0.index t 1 * 1024 + 1 * k.val = k.val; rw [(index_rows t).1.2]; omega

/-- A tile's modulation is its rows'. -/
theorem blk_4 (r : Fin 256) (n : Fin 3) (k : Fin 1024) : ((iblk m c 4 t : Vec Ideal S1x3x1024 .f32) (ix3 0 n k) : EReal) = (args m c).md (rowAt t r) n k := by
  have ht := lt_68 t
  have h8 : modOf t.val < 8 := by unfold modOf; split_ifs <;> omega
  have h : ((iblk m c 4 t : Vec Ideal S1x3x1024 .f32) (ix3 0 n k) : EReal) = m ((c.tc : Thread nD τ).loc main_arg1) (ix3 ⟨modOf t.val, h8⟩ n k) := by
    rw [← V_main_arg1 m c]
    unfold iblk
    rw [View.read_apply]
    show V m c main_arg1 _ = V m c main_arg1 _
    congr 1; funext a; apply Fin.ext
    match a with
    | ⟨0, _⟩ => show win0_4.index t 0 * 1 + 1 * 0 = modOf t.val; rw [(index_mod t).1]; omega
    | ⟨1, _⟩ => show win0_4.index t 1 * 3 + 1 * n.val = n.val; rw [(index_mod t).2.1]; omega
    | ⟨2, _⟩ => show win0_4.index t 2 * 1024 + 1 * k.val = k.val; rw [(index_mod t).2.2]; omega
  refine h.trans ?_
  show (args m c).mod ⟨modOf t.val, h8⟩ n k = _
  unfold Args.md
  have hr := r.isLt
  have hq : (rowAt t r).val = 256 * t.val + r.val := rfl
  split_ifs with hs
  · exact congrArg (fun b => (args m c).mod b n k) (Fin.ext (by show modOf t.val = 4; unfold modOf; rw [if_pos (by omega)]))
  · exact congrArg (fun b => (args m c).mod b n k) (Fin.ext (by show modOf t.val = (rowAt t r).val / 4352; unfold modOf; rw [if_neg (by omega)]; omega))

/-- The normalisation's gain. -/
theorem blk_3 (k : Fin 1024) : ((iblk m c 3 t : Vec Ideal S1x1024 .f32) (ix2 0 k) : EReal) = (args m c).g k := by
  refine Eq.trans ?_ (g_at m c k)
  refine congrFun (?_ : (iblk m c 3 t : Vec Ideal S1x1024 .f32) = V m c main_v61) _
  funext y; unfold iblk; rw [View.read_apply]
  show V m c main_v61 _ = V m c main_v61 _
  congr 1; funext a; apply Fin.ext
  match a with
  | ⟨0, _⟩ => show 0 * 1 + 1 * (y 0).val = (y 0).val; omega
  | ⟨1, _⟩ => show 0 * 1024 + 1 * (y 1).val = (y 1).val; omega

/-- The input projection's columns. -/
theorem blk_5 (k : Fin 1024) (j : Fin 4864) : ((iblk m c 5 t : Vec Ideal S1x1024x4864 .bf16) (ix3 0 k j) : EReal) = (args m c).w k ⟨j.val, by omega⟩ := by
  refine Eq.trans ?_ (w_at m c k j)
  refine congrFun (?_ : (iblk m c 5 t : Vec Ideal S1x1024x4864 .bf16) = V m c main_v60) _
  funext y; unfold iblk; rw [View.read_apply]
  show V m c main_v60 _ = V m c main_v60 _
  congr 1; funext a; apply Fin.ext
  match a with
  | ⟨0, _⟩ => show 0 * 1 + 1 * (y 0).val = (y 0).val; omega
  | ⟨1, _⟩ => show 0 * 1024 + 1 * (y 1).val = (y 1).val; omega
  | ⟨2, _⟩ => show 0 * 4864 + 1 * (y 2).val = (y 2).val; omega

/-- The layer norm's gain. -/
theorem blk_6 (k : Fin 512) : ((iblk m c 6 t : Vec Ideal S1x512 .f32) (ix2 0 k) : EReal) = (args m c).lg k := by
  refine Eq.trans ?_ (lg_at m c k)
  refine congrFun (?_ : (iblk m c 6 t : Vec Ideal S1x512 .f32) = V m c main_v19) _
  funext y; unfold iblk; rw [View.read_apply]
  show V m c main_v19 _ = V m c main_v19 _
  congr 1; funext a; apply Fin.ext
  match a with
  | ⟨0, _⟩ => show 0 * 1 + 1 * (y 0).val = (y 0).val; omega
  | ⟨1, _⟩ => show 0 * 512 + 1 * (y 1).val = (y 1).val; omega

/-- The layer norm's offset. -/
theorem blk_7 (k : Fin 512) : ((iblk m c 7 t : Vec Ideal S1x512 .f32) (ix2 0 k) : EReal) = (args m c).lb k := by
  refine Eq.trans ?_ (lb_at m c k)
  refine congrFun (?_ : (iblk m c 7 t : Vec Ideal S1x512 .f32) = V m c main_v20) _
  funext y; unfold iblk; rw [View.read_apply]
  show V m c main_v20 _ = V m c main_v20 _
  congr 1; funext a; apply Fin.ext
  match a with
  | ⟨0, _⟩ => show 0 * 1 + 1 * (y 0).val = (y 0).val; omega
  | ⟨1, _⟩ => show 0 * 512 + 1 * (y 1).val = (y 1).val; omega

/-- The chunks' matrices. -/
theorem blk_8 (n : Fin 4) (a b : Fin 128) : ((iblk m c 8 t : Vec Ideal S4x128x128 .bf16) (ix3 n a b) : EReal) = (args m c).ws n a b := by
  refine Eq.trans ?_ (ws_at m c n a b)
  refine congrFun (?_ : (iblk m c 8 t : Vec Ideal S4x128x128 .bf16) = V m c main_v21) _
  funext y; unfold iblk; rw [View.read_apply]
  show V m c main_v21 _ = V m c main_v21 _
  congr 1; funext a; apply Fin.ext
  match a with
  | ⟨0, _⟩ => show 0 * 4 + 1 * (y 0).val = (y 0).val; omega
  | ⟨1, _⟩ => show 0 * 128 + 1 * (y 1).val = (y 1).val; omega
  | ⟨2, _⟩ => show 0 * 128 + 1 * (y 2).val = (y 2).val; omega

/-- The chunks' offsets. -/
theorem blk_9 (a : Fin 128) (n : Fin 4) : ((iblk m c 9 t : Vec Ideal S128x4 .f32) (ix2 a n) : EReal) = (args m c).bs n a := by
  refine Eq.trans ?_ (bs_at m c a n)
  refine congrFun (?_ : (iblk m c 9 t : Vec Ideal S128x4 .f32) = V m c main_v22) _
  funext y; unfold iblk; rw [View.read_apply]
  show V m c main_v22 _ = V m c main_v22 _
  congr 1; funext a; apply Fin.ext
  match a with
  | ⟨0, _⟩ => show 0 * 128 + 1 * (y 0).val = (y 0).val; omega
  | ⟨1, _⟩ => show 0 * 4 + 1 * (y 1).val = (y 1).val; omega

/-- The queries' gain, per column. -/
theorem blk_10 (k : Fin 512) : ((iblk m c 10 t : Vec Ideal S1x512 .f32) (ix2 0 k) : EReal) = (args m c).qn ⟨k.val % 64, by omega⟩ := by
  refine Eq.trans ?_ (qn_at m c k)
  refine congrFun (?_ : (iblk m c 10 t : Vec Ideal S1x512 .f32) = V m c main_v26) _
  funext y; unfold iblk; rw [View.read_apply]
  show V m c main_v26 _ = V m c main_v26 _
  congr 1; funext a; apply Fin.ext
  match a with
  | ⟨0, _⟩ => show 0 * 1 + 1 * (y 0).val = (y 0).val; omega
  | ⟨1, _⟩ => show 0 * 512 + 1 * (y 1).val = (y 1).val; omega

/-- The keys' gain, per column. -/
theorem blk_11 (k : Fin 512) : ((iblk m c 11 t : Vec Ideal S1x512 .f32) (ix2 0 k) : EReal) = (args m c).kn ⟨k.val % 64, by omega⟩ := by
  refine Eq.trans ?_ (kn_at m c k)
  refine congrFun (?_ : (iblk m c 11 t : Vec Ideal S1x512 .f32) = V m c main_v30) _
  funext y; unfold iblk; rw [View.read_apply]
  show V m c main_v30 _ = V m c main_v30 _
  congr 1; funext a; apply Fin.ext
  match a with
  | ⟨0, _⟩ => show 0 * 1 + 1 * (y 0).val = (y 0).val; omega
  | ⟨1, _⟩ => show 0 * 512 + 1 * (y 1).val = (y 1).val; omega

/-- The mask. -/
theorem blk_22 (x d : Fin 256) : ((iblk m c 22 t : Vec Ideal S256x256 .bf16) (ix2 x d) : EReal) = if x.val / 64 = d.val / 64 then (1 : EReal) else 0 := by
  refine Eq.trans ?_ (Cert.MergeIdeal.Rows.mask_at x d)
  refine congrFun (?_ : (iblk m c 22 t : Vec Ideal S256x256 .bf16) = Cert.MergeIdeal.Rows.mask) _
  rw [← V_mask m c]
  funext y; unfold iblk; rw [View.read_apply]
  show V m c main_v18 _ = V m c main_v18 _
  congr 1; funext a; apply Fin.ext
  match a with
  | ⟨0, _⟩ => show 0 * 256 + 1 * (y 0).val = (y 0).val; omega
  | ⟨1, _⟩ => show 0 * 256 + 1 * (y 1).val = (y 1).val; omega

/-- The tile's cosines: a table's rows, wrapping with the batch. -/
theorem blk_12 (r : Fin 256) (l : Fin 128) :
    ((iblk m c 12 t : Vec Ideal S256x128 .f32) (ix2 r l) : EReal) = (V m c main_v3 : FVec Ideal S4352x128 .f32) (ix2 ⟨(rowAt t r).val % 4352, by omega⟩ l) := by
  unfold iblk
  rw [View.read_apply]
  show V m c main_v3 _ = V m c main_v3 _
  congr 1; funext a; apply Fin.ext
  have hr := r.isLt
  match a with
  | ⟨0, _⟩ => show win0_12.index t 0 * 256 + 1 * r.val = (256 * t.val + r.val) % 4352; rw [(index_tables t).1.1]; omega
  | ⟨1, _⟩ => show win0_12.index t 1 * 128 + 1 * l.val = l.val; rw [(index_tables t).1.2]; omega

/-- The tile's signed sines. -/
theorem blk_13 (r : Fin 256) (l : Fin 128) :
    ((iblk m c 13 t : Vec Ideal S256x128 .f32) (ix2 r l) : EReal) = (V m c main_v9 : FVec Ideal S4352x128 .f32) (ix2 ⟨(rowAt t r).val % 4352, by omega⟩ l) := by
  unfold iblk
  rw [View.read_apply]
  show V m c main_v9 _ = V m c main_v9 _
  congr 1; funext a; apply Fin.ext
  have hr := r.isLt
  match a with
  | ⟨0, _⟩ => show win0_13.index t 0 * 256 + 1 * r.val = (256 * t.val + r.val) % 4352; rw [(index_tables t).2.1]; omega
  | ⟨1, _⟩ => show win0_13.index t 1 * 128 + 1 * l.val = l.val; rw [(index_tables t).2.2]; omega

end Cert.FrontIdeal.Rows
-- ==== Proof.FrontIdeal.KernelAt.lean ====
module

public import proofs.«01_k».proof.Proof.Gen.FrontIdeal.Skeleton
public import proofs.«01_k».proof.Proof.FrontIdeal.Spec
public import Idealize.ShloMosaic.Lib.Pointwise

@[expose] public section

set_option maxRecDepth 16384

noncomputable section

namespace Cert.FrontIdeal.Rows

open Cert.FrontIdeal.Gen Cert.FrontSpec Cert.MergeSpec
open Idealize.ShloMosaic Idealize.ShloMosaic.TcCoe Idealize.SL.Sem

/-! # The kernel's values at one point of the grid, read at an index

A point holds 256 rows, two chunks of 128 rows. -/

/-- The modulation's three rows. -/
theorem pay8_at (md : Vec Ideal S1x3x1024 .f32) (n : Fin 3) (k : Fin 1024) : (k0_pay8 (F := Ideal) md (ix2 n k) : EReal) = md (ix3 0 n k) := by
  pointwise [k0_pay8]

/-- The normalised rows. -/
theorem pay10_at (g : Vec Ideal S1x1024 .f32) (x : Vec Ideal S256x1024 .f32) (r : Fin 256) (k : Fin 1024) :
    (k0_pay10 (F := Ideal) g x (ix2 r k) : EReal)
      = x (ix2 r k) * Ideal.rsqrt (Ideal.div (∑ i : Fin 1024, x (ix2 r i) * x (ix2 r i)) (Ideal.ofBits .f32 0x44800000#32) + Ideal.ofBits .f32 0x358637BD#32)
          * g (ix2 0 k) := by
  pointwise [k0_pay10, k0_pay9]

/-- The modulated rows. -/
theorem pay11_at (md : FVec Ideal S3x1024 .f32) (x : FVec Ideal S256x1024 .f32) (r : Fin 256) (k : Fin 1024) :
    (k0_pay11 (F := Ideal) md x (ix2 r k) : EReal) = x (ix2 r k) * (1 + md (ix2 1 k)) + md (ix2 0 k) := by
  pointwise [k0_pay11]

/-- The projected rows: of the tile's rows alone, whatever stands in the two halos. -/
theorem pay16_at (v19 : FVec Ideal S3x1024 .f32) (h : FVec Ideal S256x1024 .bf16) (v65 : FVec Ideal S16x1024 .bf16) (v78 : FVec Ideal S16x1024 .f32)
    (v81 : FVec Ideal S1x1024 .f32) (w : Vec Ideal S1x1024x4864 .bf16) (r : Fin 256) (j : Fin 4864) :
    (k0_pay16 (F := Ideal) v19 h v65 v78 v81 w (ix2 r j) : EReal) = ∑ k : Fin 1024, (h (ix2 r k) : EReal) * w (ix3 0 k j) := by
  pointwise [k0_pay16, k0_pay15]

/-- The columns from 3328 on. -/
theorem pay24_at (v19 : FVec Ideal S3x1024 .f32) (h : FVec Ideal S256x1024 .bf16) (v65 : FVec Ideal S16x1024 .bf16) (v78 : FVec Ideal S16x1024 .f32)
    (v81 : FVec Ideal S1x1024 .f32) (w : Vec Ideal S1x1024x4864 .bf16) (r : Fin 256) (j : Fin 512) :
    (k0_pay24 (F := Ideal) v19 h v65 v78 v81 w (ix2 r j) : EReal) = k0_pay16 (F := Ideal) v19 h v65 v78 v81 w (ix2 r ⟨3328 + j.val, by omega⟩) := by
  pointwise [k0_pay24]

/-- The columns from 3840 on. -/
theorem pay25_at (v19 : FVec Ideal S3x1024 .f32) (h : FVec Ideal S256x1024 .bf16) (v65 : FVec Ideal S16x1024 .bf16) (v78 : FVec Ideal S16x1024 .f32)
    (v81 : FVec Ideal S1x1024 .f32) (w : Vec Ideal S1x1024x4864 .bf16) (r : Fin 256) (j : Fin 512) :
    (k0_pay25 (F := Ideal) v19 h v65 v78 v81 w (ix2 r j) : EReal) = k0_pay16 (F := Ideal) v19 h v65 v78 v81 w (ix2 r ⟨3840 + j.val, by omega⟩) := by
  pointwise [k0_pay25]

/-- The columns from 4352 on. -/
theorem pay26_at (v19 : FVec Ideal S3x1024 .f32) (h : FVec Ideal S256x1024 .bf16) (v65 : FVec Ideal S16x1024 .bf16) (v78 : FVec Ideal S16x1024 .f32)
    (v81 : FVec Ideal S1x1024 .f32) (w : Vec Ideal S1x1024x4864 .bf16) (r : Fin 256) (j : Fin 512) :
    (k0_pay26 (F := Ideal) v19 h v65 v78 v81 w (ix2 r j) : EReal) = k0_pay16 (F := Ideal) v19 h v65 v78 v81 w (ix2 r ⟨4352 + j.val, by omega⟩) := by
  pointwise [k0_pay26]

/-- The columns from 0 on. -/
theorem pay37_at (p : FVec Ideal S256x4864 .f32) (r : Fin 256) (j : Fin 512) :
    (k0_pay37 (F := Ideal) p (ix2 r j) : EReal) = p (ix2 r ⟨j.val, by omega⟩) := by
  pointwise [k0_pay37]

/-- The values. -/
theorem pay56_at (p : FVec Ideal S256x4864 .f32) (r : Fin 256) (j : Fin 512) :
    (k0_pay56 (F := Ideal) p (ix2 r j) : EReal) = p (ix2 r ⟨512 + j.val, by omega⟩) := by
  pointwise [k0_pay56]

/-- A one-row array, kept. -/
theorem pay27_at (x : Vec Ideal S1x512 .f32) (k : Fin 512) : (k0_pay27 (F := Ideal) x (ix2 0 k) : EReal) = x (ix2 0 k) := by
  pointwise [k0_pay27]
/-- A one-row array, kept. -/
theorem pay28_at (x : Vec Ideal S1x512 .f32) (k : Fin 512) : (k0_pay28 (F := Ideal) x (ix2 0 k) : EReal) = x (ix2 0 k) := by
  pointwise [k0_pay28]
/-- A one-row array, kept. -/
theorem pay38_at (x : Vec Ideal S1x512 .f32) (k : Fin 512) : (k0_pay38 (F := Ideal) x (ix2 0 k) : EReal) = x (ix2 0 k) := by
  pointwise [k0_pay38]
/-- The mask, kept. -/
theorem pay23_at (o : Vec Ideal S256x256 .bf16) (x d : Fin 256) : (k0_pay23 (F := Ideal) o (ix2 x d) : EReal) = o (ix2 x d) := by
  pointwise [k0_pay23]

/-- The order in which the kernel cubes does not matter. -/
theorem gelu_eq (z : EReal) :
    z * (Ideal.ofBits .f32 0x3F000000#32 * (1 + Ideal.tanh (Ideal.ofBits .f32 0x3F4C422A#32 * (z + Ideal.ofBits .f32 0x3D372713#32 * (z * (z * z)))))) = gelu z := by
  unfold gelu
  rw [mul_assoc z z z]

/-- The gate's first factor. -/
theorem pay31_at (v19 : FVec Ideal S3x1024 .f32) (h : FVec Ideal S256x1024 .bf16) (v65 : FVec Ideal S16x1024 .bf16) (v78 : FVec Ideal S16x1024 .f32)
    (v81 : FVec Ideal S1x1024 .f32) (w : Vec Ideal S1x1024x4864 .bf16) (r : Fin 256) (j : Fin 512) :
    (k0_pay31 (F := Ideal) (k0_pay24 v19 h v65 v78 v81 w) (k0_pay29 v19 h v65 v78 v81 w) k0_pay30 (ix2 r j) : EReal)
      = gelu (k0_pay24 (F := Ideal) v19 h v65 v78 v81 w (ix2 r j)) := by
  rw [← gelu_eq]
  unfold k0_pay31 k0_pay29 k0_pay30
  generalize k0_pay24 (F := Ideal) v19 h v65 v78 v81 w = u
  pointwise

/-- The rows that the chunks mix. -/
theorem pay32_at (u : FVec Ideal S256x512 .f32) (g b : FVec Ideal S1x512 .f32) (r : Fin 256) (c : Fin 512) :
    (k0_pay32 (F := Ideal) u g b (ix2 r c) : EReal)
      = layerNorm (fun c => gelu (u (ix2 r c))) (fun c => g (ix2 0 c)) (fun c => b (ix2 0 c)) c := by
  unfold layerNorm mean
  simp only [← gelu_eq]
  pointwise [k0_pay32]

end Cert.FrontIdeal.Rows
-- ==== Proof.FrontIdeal.RopeAt.lean ====
module

public import proofs.«01_k».proof.Proof.FrontIdeal.KernelAt

@[expose] public section

set_option maxRecDepth 16384

noncomputable section

namespace Cert.FrontIdeal.Rows

open Cert.FrontIdeal.Gen Cert.FrontSpec Cert.MergeSpec
open Idealize.ShloMosaic Idealize.ShloMosaic.TcCoe Idealize.SL.Sem

/-! # The queries' and keys' values at one point of the grid, read at an index -/

/-- A rotation by 496 of 512 lanes reads the lane sixteen further on. -/
theorem forward_at (y : FVec Ideal S256x512 .f32) (r : Fin 256) (c : Fin 512) :
    (dynamicRotate 1 496#32 none y rotates_S256x512_d1 : FVec Ideal S256x512 .f32) (ix2 r c) = y (ix2 r ⟨(c.val + 16) % 512, by omega⟩) := by
  unfold dynamicRotate
  refine congrArg y (funext fun b => ?_)
  match b with
  | ⟨0, _⟩ => rfl
  | ⟨1, _⟩ =>
    refine Fin.ext ?_
    show (c.val + 512 - (496 + 0) % 512) % 512 = (c.val + 16) % 512
    omega
/-- A rotation by 16 of 512 lanes reads the lane sixteen before. -/
theorem backward_at (y : FVec Ideal S256x512 .f32) (r : Fin 256) (c : Fin 512) :
    (dynamicRotate 1 16#32 none y rotates_S256x512_d1 : FVec Ideal S256x512 .f32) (ix2 r c) = y (ix2 r ⟨(c.val + 496) % 512, by omega⟩) := by
  unfold dynamicRotate
  refine congrArg y (funext fun b => ?_)
  match b with
  | ⟨0, _⟩ => rfl
  | ⟨1, _⟩ =>
    refine Fin.ext ?_
    show (c.val + 512 - (16 + 0) % 512) % 512 = (c.val + 496) % 512
    omega

/-- The lanes of a half's first quarter. -/
def flags : IVec S256x512 1 :=
  cmpi .slt (select (andi (xori k0_pay47 (broadcastTo S256x512 (broadcast S256x512 (Scalar.cmpi .slt 32#32 0#32)) broadcasts_S256x512_S256x512)) k0_pay46)
    (addi k0_pay45 (broadcast S256x512 32#32)) k0_pay45) (broadcast S256x512 16#32)

/-- A lane of the first quarter is flagged, another is not. -/
theorem flags_at (r : Fin 256) (c : Fin 512) : flags (ix2 r c) = if c.val % 32 < 16 then 1#1 else 0#1 := by
  pointwise [flags, k0_pay45, k0_pay46, k0_pay47]
  revert c
  decide +kernel

/-- The rotated queries: every lane by its cosine, plus its partner by the signed sine. -/
theorem pay48_at (si yc a b : FVec Ideal S256x512 .f32) (r : Fin 256) (c : Fin 512) :
    (k0_pay48 (F := Ideal) si yc a b 32#32 k0_pay45 k0_pay46 k0_pay47 (ix2 r c) : EReal)
      = yc (ix2 r c) + (if c.val % 32 < 16 then (a (ix2 r c) : EReal) else b (ix2 r c)) * si (ix2 r c) := by
  have h : k0_pay48 (F := Ideal) si yc a b 32#32 k0_pay45 k0_pay46 k0_pay47
      = addf yc (mulf (select flags a b) si) := rfl
  rw [h]
  have hf := flags_at r c
  generalize flags = f at hf
  pointwise
  rw [hf]
  split_ifs <;> rfl

/-- The rotated keys, transposed. -/
theorem pay55_at (si yc a b : FVec Ideal S256x512 .f32) (r : Fin 256) (c : Fin 512) :
    (k0_pay55 (F := Ideal) si yc a b 32#32 k0_pay53 k0_pay54 (ix2 c r) : EReal)
      = yc (ix2 r c) + (if c.val % 32 < 16 then (a (ix2 r c) : EReal) else b (ix2 r c)) * si (ix2 r c) := by
  have h : k0_pay55 (F := Ideal) si yc a b 32#32 k0_pay53 k0_pay54
      = truncf .bf16 (transpose S512x256 [1, 0] (addf yc (mulf (select flags a b) si)) transposes_S256x512_p1_0_S512x256) bitsLt_bf16_f32 := rfl
  rw [h]
  have hf := flags_at r c
  generalize flags = f at hf
  pointwise
  rw [hf]
  split_ifs <;> rfl

/-- A table, four times side by side. -/
theorem pay39_at (t : Vec Ideal S256x128 .f32) (r : Fin 256) (c : Fin 512) :
    (k0_pay39 (F := Ideal) t (ix2 r c) : EReal) = t (ix2 r ⟨c.val % 128, by omega⟩) := by
  pointwise [k0_pay39]
  have hc := c.isLt
  split_ifs <;> (congr 2; exact Fin.ext (by simp only; omega))

/-- A table, four times side by side. -/
theorem pay40_at (t : Vec Ideal S256x128 .f32) (r : Fin 256) (c : Fin 512) :
    (k0_pay40 (F := Ideal) t (ix2 r c) : EReal) = t (ix2 r ⟨c.val % 128, by omega⟩) := pay39_at t r c

/-- The head sums of 512 columns, by two products with the mask. -/
def hsum (o : Fin 256 → Fin 256 → EReal) (v : Fin 512 → EReal) (c : Fin 512) : EReal :=
  if h : c.val < 256 then ∑ x : Fin 256, v ⟨x.val, by omega⟩ * o x ⟨c.val, h⟩
  else ∑ x : Fin 256, v ⟨256 + x.val, by omega⟩ * o x ⟨c.val - 256, by omega⟩

/-- The normalised queries. -/
theorem pay41_at (p : FVec Ideal S256x4864 .f32) (o : FVec Ideal S256x256 .bf16) (g : Vec Ideal S1x512 .f32) (r : Fin 256) (c : Fin 512) :
    (k0_pay41 (F := Ideal) p o g (ix2 r c) : EReal)
      = p (ix2 r ⟨2304 + c.val, by omega⟩) * Ideal.rsqrt (hsum (fun x d => o (ix2 x d))
          (fun c => p (ix2 r ⟨2304 + c.val, by omega⟩) * p (ix2 r ⟨2304 + c.val, by omega⟩)) c * Ideal.ofBits .f32 0x3C800000#32 + Ideal.ofBits .f32 0x358637BD#32)
        * g (ix2 0 c) := by
  unfold hsum
  pointwise [k0_pay41]

/-- The normalised keys. -/
theorem pay49_at (o : FVec Ideal S256x256 .bf16) (p : FVec Ideal S256x512 .f32) (g : FVec Ideal S1x512 .f32) (r : Fin 256) (c : Fin 512) :
    (k0_pay49 (F := Ideal) o p g (ix2 r c) : EReal)
      = p (ix2 r c) * Ideal.rsqrt (hsum (fun x d => o (ix2 x d)) (fun c => p (ix2 r c) * p (ix2 r c)) c * Ideal.ofBits .f32 0x3C800000#32
          + Ideal.ofBits .f32 0x358637BD#32) * g (ix2 0 c) := by
  unfold hsum
  pointwise [k0_pay49]

/-- With the block-diagonal mask, two products sum each head. -/
theorem hsum_eq (o : Fin 256 → Fin 256 → EReal) (ho : ∀ x d, o x d = if x.val / 64 = d.val / 64 then 1 else 0) (v : Fin 512 → EReal) (c : Fin 512) :
    hsum o v c = ∑ i : Fin 64, v ⟨c.val / 64 * 64 + i.val, by omega⟩ := by
  have key : ∀ (u : Fin 256 → EReal) (d : Fin 256), ∑ x, u x * o x d = ∑ i : Fin 64, u ⟨d.val / 64 * 64 + i.val, by omega⟩ := by
    intro u d
    rw [sum_heads, Finset.sum_eq_single (⟨d.val / 64, by omega⟩ : Fin 4)]
    · refine Finset.sum_congr rfl fun i _ => ?_
      rw [ho, if_pos (by simp only; omega), mul_one]
    · intro h _ hne
      refine Finset.sum_eq_zero fun i _ => ?_
      rw [ho, if_neg, mul_zero]
      intro e
      exact hne (Fin.ext (by simp only at e ⊢; omega))
    · intro h; exact absurd (Finset.mem_univ _) h
  unfold hsum
  split_ifs with h
  · rw [key (fun x => v ⟨x.val, by omega⟩)]
  · rw [key (fun x => v ⟨256 + x.val, by omega⟩)]
    refine Finset.sum_congr rfl fun i _ => congrArg v (Fin.ext ?_)
    have hc := c.isLt
    simp only
    omega

/-- So the kernel normalises each head. -/
theorem headNorm_eq (o : Fin 256 → Fin 256 → EReal) (ho : ∀ x d, o x d = if x.val / 64 = d.val / 64 then 1 else 0) (v : Fin 512 → EReal)
    (g : Fin 64 → EReal) (c : Fin 512) :
    v c * Ideal.rsqrt (hsum o (fun c => v c * v c) c * Ideal.ofBits .f32 0x3C800000#32 + Ideal.ofBits .f32 0x358637BD#32) * g ⟨c.val % 64, by omega⟩
      = headNorm v g c := by
  rw [hsum_eq o ho, mul_64th]
  rfl

end Cert.FrontIdeal.Rows
-- ==== Proof.FrontIdeal.MixAt.lean ====
module

public import proofs.«01_k».proof.Proof.FrontIdeal.KernelAt

@[expose] public section

set_option maxRecDepth 16384

noncomputable section

namespace Cert.FrontIdeal.Rows

open Cert.FrontIdeal.Gen Cert.FrontSpec Cert.MergeSpec
open Idealize.ShloMosaic Idealize.ShloMosaic.TcCoe Idealize.SL.Sem

/-! # The chunks' mixtures at one point of the grid, read at an index -/

/-- One of four functions by the group a column lies in. -/
def pick (f0 f1 f2 f3 : Fin 128 → EReal) (c : Fin 512) : EReal :=
  if h : c.val < 128 then f0 ⟨c.val, h⟩
  else if h' : c.val - 128 < 128 then f1 ⟨c.val - 128, h'⟩
  else if h'' : c.val - 128 - 128 < 128 then f2 ⟨c.val - 128 - 128, h''⟩
  else f3 ⟨c.val - 128 - 128 - 128, by omega⟩

/-- Four functions that are the parts of one. -/
theorem pick_eq (f0 f1 f2 f3 : Fin 128 → EReal) (G : Fin 512 → EReal) (h0 : ∀ x, f0 x = G ⟨x.val, by omega⟩) (h1 : ∀ x, f1 x = G ⟨128 + x.val, by omega⟩)
    (h2 : ∀ x, f2 x = G ⟨256 + x.val, by omega⟩) (h3 : ∀ x, f3 x = G ⟨384 + x.val, by omega⟩) (c : Fin 512) : pick f0 f1 f2 f3 c = G c := by
  unfold pick
  have hc := c.isLt
  split_ifs
  · rw [h0]
  · rw [h1]; exact congrArg G (Fin.ext (by simp only; omega))
  · rw [h2]; exact congrArg G (Fin.ext (by simp only; omega))
  · rw [h3]; exact congrArg G (Fin.ext (by simp only; omega))

/-- The first chunk's first group. -/
theorem pay33_at (u : FVec Ideal S256x512 .f32) (g b : FVec Ideal S1x512 .f32) (w : Vec Ideal S1x128x128 .bf16) (p c : Fin 128) :
    (k0_pay33 (F := Ideal) u g b w (ix2 p c) : EReal)
      = ∑ x : Fin 128, (w (ix3 0 p x) : EReal) * k0_pay32 (F := Ideal) u g b (ix2 ⟨x.val, by omega⟩ ⟨c.val, by omega⟩) := by
  pointwise [k0_pay33]

/-- The second chunk's first group. -/
theorem pay35_at (va : FVec Ideal S256x512 .f32) (w : Vec Ideal S1x128x128 .bf16) (p c : Fin 128) :
    (k0_pay35 (F := Ideal) va w (ix2 p c) : EReal)
      = ∑ x : Fin 128, (w (ix3 0 p x) : EReal) * va (ix2 ⟨128 + x.val, by omega⟩ ⟨c.val, by omega⟩) := by
  pointwise [k0_pay35]

/-- The first chunk. -/
theorem pay34_at (va : FVec Ideal S256x512 .f32) (s0 : FVec Ideal S128x128 .f32) (b0 : Vec Ideal S128x1 .f32) (w1 : Vec Ideal S1x128x128 .bf16)
    (b1 : Vec Ideal S128x1 .f32) (w2 : Vec Ideal S1x128x128 .bf16) (b2 : Vec Ideal S128x1 .f32) (w3 : Vec Ideal S1x128x128 .bf16) (b3 : Vec Ideal S128x1 .f32)
    (p : Fin 128) (c : Fin 512) :
    (k0_pay34 (F := Ideal) va s0 b0 w1 b1 w2 b2 w3 b3 (ix2 p c) : EReal)
      = pick (fun c => s0 (ix2 p c) + b0 (ix2 p 0))
          (fun c => ∑ x : Fin 128, (w1 (ix3 0 p x) : EReal) * va (ix2 ⟨x.val, by omega⟩ ⟨128 + c.val, by omega⟩) + b1 (ix2 p 0))
          (fun c => ∑ x : Fin 128, (w2 (ix3 0 p x) : EReal) * va (ix2 ⟨x.val, by omega⟩ ⟨256 + c.val, by omega⟩) + b2 (ix2 p 0))
          (fun c => ∑ x : Fin 128, (w3 (ix3 0 p x) : EReal) * va (ix2 ⟨x.val, by omega⟩ ⟨384 + c.val, by omega⟩) + b3 (ix2 p 0)) c := by
  unfold pick
  pointwise [k0_pay34]

/-- The first branch. -/
theorem pay36_at (u gate : FVec Ideal S256x512 .f32) (va : FVec Ideal S256x512 .f32) (top : FVec Ideal S128x512 .f32) (s0 : FVec Ideal S128x128 .f32)
    (b0 : Vec Ideal S128x1 .f32) (w1 : Vec Ideal S1x128x128 .bf16) (b1 : Vec Ideal S128x1 .f32) (w2 : Vec Ideal S1x128x128 .bf16) (b2 : Vec Ideal S128x1 .f32)
    (w3 : Vec Ideal S1x128x128 .bf16) (b3 : Vec Ideal S128x1 .f32) (r : Fin 256) (c : Fin 512) :
    (k0_pay36 (F := Ideal) u gate va top s0 b0 w1 b1 w2 b2 w3 b3 (ix2 r c) : EReal)
      = gate (ix2 r c)
          * (if h : r.val < 128 then (top (ix2 ⟨r.val, h⟩ c) : EReal) else
              pick (fun c => s0 (ix2 ⟨r.val - 128, by omega⟩ c) + b0 (ix2 ⟨r.val - 128, by omega⟩ 0))
                (fun c => ∑ x : Fin 128, (w1 (ix3 0 ⟨r.val - 128, by omega⟩ x) : EReal) * va (ix2 ⟨128 + x.val, by omega⟩ ⟨128 + c.val, by omega⟩) + b1 (ix2 ⟨r.val - 128, by omega⟩ 0))
                (fun c => ∑ x : Fin 128, (w2 (ix3 0 ⟨r.val - 128, by omega⟩ x) : EReal) * va (ix2 ⟨128 + x.val, by omega⟩ ⟨256 + c.val, by omega⟩) + b2 (ix2 ⟨r.val - 128, by omega⟩ 0))
                (fun c => ∑ x : Fin 128, (w3 (ix3 0 ⟨r.val - 128, by omega⟩ x) : EReal) * va (ix2 ⟨128 + x.val, by omega⟩ ⟨384 + c.val, by omega⟩) + b3 (ix2 ⟨r.val - 128, by omega⟩ 0)) c)
          * (u (ix2 r c) * sigma (u (ix2 r c))) := by
  unfold pick
  pointwise [k0_pay36]
  rfl

end Cert.FrontIdeal.Rows
-- ==== Proof.FrontIdeal.KernelRow.lean ====
module

public import proofs.«01_k».proof.Proof.FrontIdeal.Pieces
public import proofs.«01_k».proof.Proof.FrontIdeal.Blocks
public import proofs.«01_k».proof.Proof.FrontIdeal.KernelAt
public import proofs.«01_k».proof.Proof.FrontIdeal.RopeAt
public import proofs.«01_k».proof.Proof.FrontIdeal.MixAt

@[expose] public section

set_option maxRecDepth 16384

noncomputable section

namespace Cert.FrontIdeal.Rows

open Cert.FrontIdeal.Gen Cert.FrontSpec Cert.MergeSpec
open Idealize.ShloMosaic Idealize.ShloMosaic.TcCoe Idealize.SL.Sem

/-! # What a point stores, row by row -/

variable (m : (ℓ : Loc nD τ sig) → Buf (Elt Ideal) ℓ) (c : Dev nD) (t : Fin cfg0.N)

/-- The normalised, modulated rows. -/
theorem tile_row (r : Fin 256) (k : Fin 1024) :
    (tileAt m c t (ix2 r k) : EReal) = hidden ((args m c).x (rowAt t r)) (args m c).g ((args m c).md (rowAt t r)) k := by
  unfold tileAt modAt
  rw [pay11_at, pay10_at, pay8_at, pay8_at, blk_4 m c t r, blk_4 m c t r, blk_3 m c t]
  simp only [blk_0 m c t]
  rfl

/-- The projected rows. -/
theorem proj_row (r : Fin 256) (j : Fin 4864) : (projAt m c t (ix2 r j) : EReal) = (args m c).p (rowAt t r) ⟨j.val, by omega⟩ := by
  unfold projAt
  rw [pay16_at]
  exact Finset.sum_congr rfl fun k _ => congrArg₂ (· * ·) (tile_row m c t r k) (blk_5 m c t k j)

/-- The values stored. -/
theorem values_row (r : Fin 256) (j : Fin 512) : (out26 m c t (ix2 r j) : EReal) = (args m c).values (rowAt t r) j := by
  rw [out26_eq, pay56_at, proj_row]
  rfl

/-- The tile's cosines at a column. -/
theorem cos_row (r : Fin 256) (j : Fin 512) :
    ((iblk m c 12 t : Vec Ideal S256x128 .f32) (ix2 r ⟨j.val % 128, by omega⟩) : EReal)
      = if h : (rowAt t r).val % 4352 < 256 then (1 : EReal)
        else (args m c).co ⟨j.val % 64 / 32, by omega⟩ ⟨(rowAt t r).val % 4352 - 256, by omega⟩ ⟨j.val % 16, by omega⟩ := by
  rw [blk_12, V_cos, rope_at]
  have h1 : j.val % 128 % 64 = j.val % 64 := by omega
  have h2 : j.val % 128 % 32 = j.val % 32 := by omega
  have h3 : j.val % 128 % 16 = j.val % 16 := by omega
  simp only [h1, h2, h3, ite_self]
  by_cases h : (rowAt t r).val % 4352 < 256
  · rw [dif_pos h, dif_pos h]
    exact Ideal.ofBits_one_f32
  · rw [dif_neg h, dif_neg h]
    show _ = if j.val % 64 / 32 = 0 then _ else _
    by_cases h4 : j.val % 64 < 32
    · rw [if_pos h4, if_pos (by omega)]
    · rw [if_neg h4, if_neg (by omega)]

/-- The tile's signed sines at a column. -/
theorem sin_row (r : Fin 256) (j : Fin 512) :
    ((iblk m c 13 t : Vec Ideal S256x128 .f32) (ix2 r ⟨j.val % 128, by omega⟩) : EReal)
      = if h : (rowAt t r).val % 4352 < 256 then (0 : EReal)
        else if j.val % 32 < 16 then -(args m c).si ⟨j.val % 64 / 32, by omega⟩ ⟨(rowAt t r).val % 4352 - 256, by omega⟩ ⟨j.val % 16, by omega⟩
        else (args m c).si ⟨j.val % 64 / 32, by omega⟩ ⟨(rowAt t r).val % 4352 - 256, by omega⟩ ⟨j.val % 16, by omega⟩ := by
  rw [blk_13, V_sin, rope_at]
  have h1 : j.val % 128 % 64 = j.val % 64 := by omega
  have h2 : j.val % 128 % 32 = j.val % 32 := by omega
  have h3 : j.val % 128 % 16 = j.val % 16 := by omega
  simp only [h1, h2, h3]
  by_cases h : (rowAt t r).val % 4352 < 256
  · rw [dif_pos h, dif_pos h]
    exact Ideal.ofBits_zero .f32
  · rw [dif_neg h, dif_neg h]
    by_cases h4 : j.val % 64 < 32
    · have e : ∀ (s : Fin 4096) (i : Fin 16), (args m c).si ⟨j.val % 64 / 32, by omega⟩ s i = m ((c.tc : Thread nD τ).loc main_arg11) (ix2 s i) := fun s i => if_pos (show j.val % 64 / 32 = 0 by omega)
      rw [if_pos h4, e]
      rfl
    · have e : ∀ (s : Fin 4096) (i : Fin 16), (args m c).si ⟨j.val % 64 / 32, by omega⟩ s i = m ((c.tc : Thread nD τ).loc main_arg13) (ix2 s i) := fun s i => if_neg (show ¬ j.val % 64 / 32 = 0 by omega)
      rw [if_neg h4, e]
      rfl

/-- A column by its cosine plus its partner by the signed sine is the rotation; on the context, whose cosine is one and whose sine is zero, it is the column. -/
theorem rotated (Y : Fin 512 → EReal) (r : Fin 256) (j : Fin 512) :
    Y j * (iblk m c 12 t : Vec Ideal S256x128 .f32) (ix2 r ⟨j.val % 128, by omega⟩)
        + (if j.val % 32 < 16 then Y ⟨(j.val + 16) % 512, by omega⟩ else Y ⟨(j.val + 496) % 512, by omega⟩)
          * (iblk m c 13 t : Vec Ideal S256x128 .f32) (ix2 r ⟨j.val % 128, by omega⟩)
      = if h : (rowAt t r).val % 4352 < 256 then Y j
        else rotate Y (fun n => (args m c).co n ⟨(rowAt t r).val % 4352 - 256, by omega⟩) (fun n => (args m c).si n ⟨(rowAt t r).val % 4352 - 256, by omega⟩) j := by
  refine (congrArg₂ (· + ·) (congrArg (Y j * ·) (cos_row m c t r j)) (congrArg (_ * ·) (sin_row m c t r j))).trans ?_
  show Y j * _ + _ * _ = _
  by_cases h : (rowAt t r).val % 4352 < 256
  · rw [dif_pos h, dif_pos h, dif_pos h, mul_one, mul_zero, add_zero]
  · rw [dif_neg h, dif_neg h, dif_neg h]
    unfold rotate
    have hj := j.isLt
    by_cases h1 : j.val % 32 < 16
    · rw [if_pos h1, if_pos h1, dif_pos h1, mul_neg, ← sub_eq_add_neg]
      have e : (⟨(j.val + 16) % 512, by omega⟩ : Fin 512) = ⟨j.val + 16, by omega⟩ := Fin.ext (by simp only; omega)
      rw [e]
    · rw [if_neg h1, if_neg h1, dif_neg h1, add_comm]
      have e : (⟨(j.val + 496) % 512, by omega⟩ : Fin 512) = ⟨j.val - 16, by omega⟩ := Fin.ext (by simp only; omega)
      rw [e]

/-- The normalised queries. -/
theorem normedQ (r : Fin 256) (j : Fin 512) :
    (k0_pay41 (projAt m c t) (k0_pay23 (iblk m c 22 t)) (iblk m c 10 t) (ix2 r j) : EReal)
      = headNorm (fun c' => (args m c).p (rowAt t r) ⟨2304 + c'.val, by omega⟩) (args m c).qn j := by
  rw [pay41_at, blk_10 m c t]
  simp only [proj_row]
  exact headNorm_eq _ (fun x d => (pay23_at _ x d).trans (blk_22 m c t x d)) (fun c' : Fin 512 => (args m c).p (rowAt t r) ⟨2304 + c'.val, by omega⟩) (args m c).qn j

/-- The normalised keys. -/
theorem normedK (r : Fin 256) (j : Fin 512) :
    (k0_pay49 (k0_pay23 (iblk m c 22 t)) (k0_pay37 (projAt m c t)) (k0_pay38 (iblk m c 11 t)) (ix2 r j) : EReal)
      = headNorm (fun c' => (args m c).p (rowAt t r) ⟨0 + c'.val, by omega⟩) (args m c).kn j := by
  rw [pay49_at, pay38_at, blk_11 m c t]
  have e : ∀ j' : Fin 512, (k0_pay37 (projAt m c t) (ix2 r j') : EReal) = (args m c).p (rowAt t r) ⟨0 + j'.val, by omega⟩ := fun j' => by
    rw [pay37_at, proj_row]
    exact congrArg _ (Fin.ext (by simp only; omega))
  simp only [e]
  exact headNorm_eq _ (fun x d => (pay23_at _ x d).trans (blk_22 m c t x d)) (fun c' : Fin 512 => (args m c).p (rowAt t r) ⟨0 + c'.val, by omega⟩) (args m c).kn j

/-- The queries stored. -/
theorem queries_row (r : Fin 256) (j : Fin 512) : (out24 m c t (ix2 r j) : EReal) = (args m c).queries (rowAt t r) j := by
  rw [out24_eq, pay48_at, pay40_at]
  unfold k0_pay42 k0_pay43 k0_pay44
  dsimp only
  rw [forward_at, backward_at, normedQ, normedQ]
  refine (congrArg (· + _) (congrArg₂ (· * ·) (normedQ m c t r j) (pay39_at _ r j))).trans ?_
  exact rotated m c t _ r j

/-- The keys stored. -/
theorem keys_row (r : Fin 256) (j : Fin 512) : (out25 m c t (ix2 j r) : EReal) = (args m c).keys (rowAt t r) j := by
  rw [out25_eq, pay55_at, pay40_at]
  unfold k0_pay50 k0_pay51 k0_pay52
  dsimp only
  rw [forward_at, backward_at, normedK, normedK]
  refine (congrArg (· + _) (congrArg₂ (· * ·) (normedK m c t r j) (pay39_at _ r j))).trans ?_
  exact rotated m c t _ r j

/-- The gate's columns. -/
theorem u_row (r : Fin 256) (j : Fin 512) : (k0_pay31 (uAt m c t) (innerAt m c t) k0_pay30 (ix2 r j) : EReal) = gelu ((args m c).p (rowAt t r) ⟨3328 + j.val, by omega⟩) := by
  unfold uAt innerAt
  rw [pay31_at, pay24_at]
  exact congrArg gelu (proj_row m c t r _)

/-- The output gate's columns. -/
theorem z_row (r : Fin 256) (j : Fin 512) : (zAt m c t (ix2 r j) : EReal) = (args m c).p (rowAt t r) ⟨4352 + j.val, by omega⟩ := by
  unfold zAt
  rw [pay26_at]
  exact proj_row m c t r _

/-- The rows that the chunks mix. -/
theorem va_row (r : Fin 256) (j : Fin 512) : (mixedAt m c t (ix2 r j) : EReal) = (args m c).va (rowAt t r) j := by
  unfold mixedAt
  rw [pay32_at]
  have e : ∀ j' : Fin 512, (vAt m c t (ix2 r j') : EReal) = (args m c).p (rowAt t r) ⟨3840 + j'.val, by omega⟩ := fun j' => by
    unfold vAt
    rw [pay25_at]
    exact proj_row m c t r _
  simp only [e, pay27_at, pay28_at, blk_6 m c t, blk_7 m c t]
  rfl

/-- A chunk's mixture, of a group: the chunk starts at row `o` of the tile. -/
theorem chunk_row (o : ℕ) (ho : o = 0 ∨ o = 128) (p : Fin 128) (g : Fin 4) (x : Fin 128) (j : Fin 512) (hj : j.val = g.val * 128 + x.val) (S : EReal)
    (hS : S = ∑ i : Fin 128, (matAt m c t g (ix3 0 p i) : EReal) * mixedAt m c t (ix2 ⟨o + i.val, by omega⟩ j)) :
    S + offAt m c t g (ix2 p 0) = (args m c).mix (rowAt t ⟨o + p.val, by omega⟩) j := by
  rw [hS]
  unfold Args.mix
  have hq : (rowAt t ⟨o + p.val, by omega⟩).val = 256 * t.val + (o + p.val) := rfl
  have hp : (⟨(rowAt t ⟨o + p.val, by omega⟩).val % 128, by omega⟩ : Fin 128) = p := Fin.ext (by simp only [hq]; omega)
  have hg : (⟨j.val / 128, by omega⟩ : Fin 4) = g := Fin.ext (by simp only; omega)
  rw [hp, hg]
  refine congrArg₂ (· + ·) (Finset.sum_congr rfl fun i _ => congrArg₂ (· * ·) (blk_8 m c t g p i) ?_) (blk_9 m c t p g)
  refine (va_row m c t _ j).trans ?_
  exact congrArg (fun q => (args m c).va q j) (Fin.ext (by show 256 * t.val + (o + i.val) = (rowAt t ⟨o + p.val, by omega⟩).val / 128 * 128 + i.val; rw [hq]; omega))

/-- The first branch stored. -/
theorem branch_row (r : Fin 256) (j : Fin 512) : (out23 m c t (ix2 r j) : EReal) = (args m c).branch (rowAt t r) j := by
  rw [out23_eq, pay36_at, u_row, z_row]
  unfold Args.branch
  refine congrArg₂ (· * ·) (congrArg₂ (· * ·) rfl ?_) rfl
  by_cases h : r.val < 128
  · rw [dif_pos h, pay34_at]
    have hr : rowAt t ⟨0 + r.val, by omega⟩ = rowAt t r := Fin.ext (by simp only [rowAt]; omega)
    refine (pick_eq _ _ _ _ (fun j => (args m c).mix (rowAt t ⟨0 + r.val, by omega⟩) j) ?_ ?_ ?_ ?_ j).trans (congrArg (fun q => (args m c).mix q j) hr)
    · intro x
      refine chunk_row m c t 0 (Or.inl rfl) ⟨r.val, h⟩ 0 x ⟨x.val, by omega⟩ (by show x.val = 0 * 128 + x.val; omega) _ ?_
      rw [pay33_at]
      exact Finset.sum_congr rfl fun i _ => congrArg₂ (· * ·) rfl (congrArg (fun i' : Fin 256 => (mixedAt m c t (ix2 i' ⟨x.val, by omega⟩) : EReal)) (Fin.ext (by simp only; omega)))
    · intro x
      refine chunk_row m c t 0 (Or.inl rfl) ⟨r.val, h⟩ 1 x ⟨128 + x.val, by omega⟩ (by show 128 + x.val = 1 * 128 + x.val; omega) _ ?_
      exact Finset.sum_congr rfl fun i _ => congrArg₂ (· * ·) rfl (congrArg (fun i' : Fin 256 => (mixedAt m c t (ix2 i' ⟨128 + x.val, by omega⟩) : EReal)) (Fin.ext (by simp only; omega)))
    · intro x
      refine chunk_row m c t 0 (Or.inl rfl) ⟨r.val, h⟩ 2 x ⟨256 + x.val, by omega⟩ (by show 256 + x.val = 2 * 128 + x.val; omega) _ ?_
      exact Finset.sum_congr rfl fun i _ => congrArg₂ (· * ·) rfl (congrArg (fun i' : Fin 256 => (mixedAt m c t (ix2 i' ⟨256 + x.val, by omega⟩) : EReal)) (Fin.ext (by simp only; omega)))
    · intro x
      refine chunk_row m c t 0 (Or.inl rfl) ⟨r.val, h⟩ 3 x ⟨384 + x.val, by omega⟩ (by show 384 + x.val = 3 * 128 + x.val; omega) _ ?_
      exact Finset.sum_congr rfl fun i _ => congrArg₂ (· * ·) rfl (congrArg (fun i' : Fin 256 => (mixedAt m c t (ix2 i' ⟨384 + x.val, by omega⟩) : EReal)) (Fin.ext (by simp only; omega)))
  · rw [dif_neg h]
    have hr : rowAt t ⟨128 + (r.val - 128), by omega⟩ = rowAt t r := Fin.ext (by simp only [rowAt]; omega)
    refine (pick_eq _ _ _ _ (fun j => (args m c).mix (rowAt t ⟨128 + (r.val - 128), by omega⟩) j) ?_ ?_ ?_ ?_ j).trans (congrArg (fun q => (args m c).mix q j) hr)
    · intro x
      exact chunk_row m c t 128 (Or.inr rfl) ⟨r.val - 128, by omega⟩ 0 x ⟨x.val, by omega⟩ (by show x.val = 0 * 128 + x.val; omega) _ (pay35_at _ _ _ _)
    · intro x
      exact chunk_row m c t 128 (Or.inr rfl) ⟨r.val - 128, by omega⟩ 1 x ⟨128 + x.val, by omega⟩ (by show 128 + x.val = 1 * 128 + x.val; omega) _ rfl
    · intro x
      exact chunk_row m c t 128 (Or.inr rfl) ⟨r.val - 128, by omega⟩ 2 x ⟨256 + x.val, by omega⟩ (by show 256 + x.val = 2 * 128 + x.val; omega) _ rfl
    · intro x
      exact chunk_row m c t 128 (Or.inr rfl) ⟨r.val - 128, by omega⟩ 3 x ⟨384 + x.val, by omega⟩ (by show 384 + x.val = 3 * 128 + x.val; omega) _ rfl

end Cert.FrontIdeal.Rows
-- ==== Proof.FrontIdeal.RefStages.lean ====
module

public import proofs.«01_k».proof.Proof.Gen.FrontReferenceIdeal.Run

@[expose] public section

set_option maxRecDepth 16384

noncomputable section

namespace Cert.FrontReferenceIdeal.Rows

open Cert.FrontReferenceIdeal.Gen
open Idealize.ShloMosaic Idealize.ShloMosaic.TcCoe Idealize.SL.Sem

variable {F : FTy → Type} [FloatOps F]

/-! # The reference's projections in stages

The functions below name the stages of the reference; each of the four results is their composition. -/

/-- Rows of 1024, split into batches. -/
def wide (x : FVec F S17408x1024 .f32) : FVec F S4x4352x1024 .f32 := shapeCast S4x4352x1024 x shapeCasts_S17408x1024_S4x4352x1024

/-- The modulation of every position: the context's shared one, then each batch's own. -/
def mods (x : FVec F S8x3x1024 .f32) : FVec F S4x4352x3x1024 .f32 :=
  concatenate S4x4352x3x1024 1
    [⟨S4x256x3x1024, broadcastInDim S4x256x3x1024 ![2, 3] bcast_S3x1024_S4x256x3x1024_2_3
        (shapeCast S3x1024 (extractStridedSlice S1x3x1024 ![4, 0, 0] x slices_S8x3x1024_S1x3x1024_4_0_0) shapeCasts_S1x3x1024_S3x1024)⟩,
     ⟨S4x4096x3x1024, broadcastInDim S4x4096x3x1024 ![0, 1, 2, 3] bcast_S4x1x3x1024_S4x4096x3x1024_0_1_2_3
        (broadcastInDim S4x1x3x1024 ![0, 2, 3] bcast_S4x3x1024_S4x1x3x1024_0_2_3 (extractStridedSlice S4x3x1024 ![0, 0, 0] x slices_S8x3x1024_S4x3x1024_0_0_0))⟩]
    concatenates_S4x256x3x1024_S4x4096x3x1024_S4x4352x3x1024_d1

/-- The normalised rows, modulated by scale and shift. -/
def hidden (x : FVec F S4x4352x1024 .f32) (g : FVec F S1024 .f32) (md : FVec F S4x4352x3x1024 .f32) : FVec F S4x4352x1024 .f32 :=
  addf
    (mulf
      (mulf
        (mulf x
          (broadcastInDim S4x4352x1024 ![0, 1, 2] bcast_S4x4352x1_S4x4352x1024_0_1_2
            (Host.rsqrt (addf
              (Host.divf (broadcastInDim S4x4352x1 ![0, 1] bcast_S4x4352_S4x4352x1_0_1
                  (Host.reduceAdd (mulf x x) (constant S_ .f32 0x00000000#32) reducesTo_S4x4352x1024_S4x4352_d2 h_S_))
                (broadcastInDim S4x4352x1 ![] bcast_S_S4x4352x1 (constant S_ .f32 0x44800000#32)))
              (broadcastInDim S4x4352x1 ![] bcast_S_S4x4352x1 (constant S_ .f32 0x358637BD#32))))))
        (broadcastInDim S4x4352x1024 ![0, 1, 2] bcast_S1x1x1024_S4x4352x1024_0_1_2 (broadcastInDim S1x1x1024 ![2] bcast_S1024_S1x1x1024_2 g)))
      (addf (broadcastInDim S4x4352x1024 ![] bcast_S_S4x4352x1024 (constant S_ .f32 0x3F800000#32))
        (shapeCast S4x4352x1024 (extractStridedSlice S4x4352x1x1024 ![0, 0, 1, 0] md slices_S4x4352x3x1024_S4x4352x1x1024_0_0_1_0) shapeCasts_S4x4352x1x1024_S4x4352x1024)))
    (shapeCast S4x4352x1024 (extractStridedSlice S4x4352x1x1024 ![0, 0, 0, 0] md slices_S4x4352x3x1024_S4x4352x1x1024_0_0_0_0) shapeCasts_S4x4352x1x1024_S4x4352x1024)

/-- The input projection. -/
def proj (h : FVec F S4x4352x1024 .f32) (w : FVec F S1024x8960 .f32) : FVec F S4x4352x8960 .f32 :=
  Host.dotGeneral dot_S4x4352x1024_S1024x8960_S4x4352x8960_2_0_01_1_n_n none h w

/-- A constant everywhere. -/
def fill (b : BitVec 32) : FVec F S4x4352x512 .f32 := broadcastInDim S4x4352x512 ![] bcast_S_S4x4352x512 (constant S_ .f32 b)

/-- A constant for every position. -/
def fill1 (b : BitVec 32) : FVec F S4x4352x1 .f32 := broadcastInDim S4x4352x1 ![] bcast_S_S4x4352x1 (constant S_ .f32 b)

/-- The Gaussian error unit's usual approximation. -/
def gelu (z : FVec F S4x4352x512 .f32) : FVec F S4x4352x512 .f32 :=
  mulf z (mulf (fill 0x3F000000#32) (addf (fill 0x3F800000#32)
    (Host.tanh (mulf (fill 0x3F4C422A#32) (addf z (mulf (fill 0x3D372713#32) (mulf (mulf z z) z)))))))

/-- A value times its logistic. -/
def silu (z : FVec F S4x4352x512 .f32) : FVec F S4x4352x512 .f32 :=
  mulf z (Host.divf (fill 0x3F800000#32) (addf (fill 0x3F800000#32) (Host.exp (Host.negf z))))

/-- Each position's mean. -/
def mean (z : FVec F S4x4352x512 .f32) : FVec F S4x4352x1 .f32 :=
  Host.divf (broadcastInDim S4x4352x1 ![0, 1] bcast_S4x4352_S4x4352x1_0_1
    (Host.reduceAdd z (constant S_ .f32 0x00000000#32) reducesTo_S4x4352x512_S4x4352_d2 h_S_)) (fill1 0x44000000#32)

/-- One value per position, along the position. -/
def along (v : FVec F S4x4352x1 .f32) : FVec F S4x4352x512 .f32 :=
  broadcastInDim S4x4352x512 ![0, 1, 2] bcast_S4x4352x1_S4x4352x512_0_1_2 v

/-- One value per column, at every position. -/
def columns (v : FVec F S512 .f32) : FVec F S4x4352x512 .f32 :=
  broadcastInDim S4x4352x512 ![0, 1, 2] bcast_S1x1x512_S4x4352x512_0_1_2 (broadcastInDim S1x1x512 ![2] bcast_S512_S1x1x512_2 v)

/-- The layer norm, from the centred values. -/
def normed (z d : FVec F S4x4352x512 .f32) (g b : FVec F S512 .f32) : FVec F S4x4352x512 .f32 :=
  addf (mulf (mulf z (along (Host.rsqrt (addf (mean (mulf d d)) (fill1 0x3727C5AC#32))))) (columns g)) (columns b)

/-- The layer norm. -/
def layerNorm (z : FVec F S4x4352x512 .f32) (g b : FVec F S512 .f32) : FVec F S4x4352x512 .f32 :=
  normed (subf z (along (mean z))) (subf z (along (mean z))) g b

/-- The products of each chunk of 128 positions with its group's matrix, plus the offsets. -/
def chunked (z : FVec F S4x4352x512 .f32) (ws : FVec F S4x128x128 .f32) (bs : FVec F S4x128 .f32) : FVec F S4x4352x512 .f32 :=
  shapeCast S4x4352x512
    (addf
      (transpose S4x34x128x4x128 [1, 2, 4, 0, 3]
        (Host.dotGeneral dot_S4x34x128x4x128_S4x128x128_S4x4x34x128x128_2_2_014_1_3_0 none (shapeCast S4x34x128x4x128 z shapeCasts_S4x4352x512_S4x34x128x4x128) ws)
        transposes_S4x4x34x128x128_S4x34x128x4x128_1_2_4_0_3)
      (broadcastInDim S4x34x128x4x128 ![0, 1, 2, 3, 4] bcast_S1x1x128x4x1_S4x34x128x4x128_0_1_2_3_4
        (broadcastInDim S1x1x128x4x1 ![2, 3] bcast_S128x4_S1x1x128x4x1_2_3 (transpose S128x4 [1, 0] bs transposes_S4x128_S128x4_1_0))))
    shapeCasts_S4x34x128x4x128_S4x4352x512

/-- The first branch, from its three groups of columns. -/
def gmlp (u va za : FVec F S4x4352x512 .f32) (g b : FVec F S512 .f32) (ws : FVec F S4x128x128 .f32) (bs : FVec F S4x128 .f32) : FVec F S17408x512 .bf16 :=
  truncf .bf16 (shapeCast S17408x512 (mulf (mulf (gelu u) (chunked (layerNorm (gelu va) g b) ws bs)) (silu za)) shapeCasts_S4x4352x512_S17408x512) bitsLt_bf16_f32

/-- The columns of the first branch's gate. -/
def colsU (p : FVec F S4x4352x8960 .f32) : FVec F S4x4352x512 .f32 := extractStridedSlice S4x4352x512 ![0, 0, 3328] p slices_S4x4352x8960_S4x4352x512_0_0_3328

/-- The columns that the chunks mix. -/
def colsVa (p : FVec F S4x4352x8960 .f32) : FVec F S4x4352x512 .f32 := extractStridedSlice S4x4352x512 ![0, 0, 3840] p slices_S4x4352x8960_S4x4352x512_0_0_3840

/-- The columns of the first branch's output gate. -/
def colsZa (p : FVec F S4x4352x8960 .f32) : FVec F S4x4352x512 .f32 := extractStridedSlice S4x4352x512 ![0, 0, 4352] p slices_S4x4352x8960_S4x4352x512_0_0_4352

/-- The query columns, by head. -/
def colsQ (p : FVec F S4x4352x8960 .f32) : FVec F S4x4352x4x2x64 .f32 :=
  shapeCast S4x4352x4x2x64 (extractStridedSlice S4x4352x512 ![0, 0, 2304] p slices_S4x4352x8960_S4x4352x512_0_0_2304) shapeCasts_S4x4352x512_S4x4352x4x2x64

/-- The key columns, by head. -/
def colsK (p : FVec F S4x4352x8960 .f32) : FVec F S4x4352x4x2x64 .f32 :=
  shapeCast S4x4352x4x2x64 (extractStridedSlice S4x4352x512 ![0, 0, 0] p slices_S4x4352x8960_S4x4352x512_0_0_0) shapeCasts_S4x4352x512_S4x4352x4x2x64

/-- Each head normalised. -/
def headNorm (z : FVec F S4x4352x4x2x64 .f32) (g : FVec F S64 .f32) : FVec F S4x4352x4x2x64 .f32 :=
  mulf (mulf z (broadcastInDim S4x4352x4x2x64 ![0, 1, 2, 3, 4] bcast_S4x4352x4x2x1_S4x4352x4x2x64_0_1_2_3_4
      (Host.rsqrt (addf (Host.divf
          (broadcastInDim S4x4352x4x2x1 ![0, 1, 2, 3] bcast_S4x4352x4x2_S4x4352x4x2x1_0_1_2_3
            (Host.reduceAdd (mulf z z) (constant S_ .f32 0x00000000#32) reducesTo_S4x4352x4x2x64_S4x4352x4x2_d4 h_S_))
          (broadcastInDim S4x4352x4x2x1 ![] bcast_S_S4x4352x4x2x1 (constant S_ .f32 0x42800000#32)))
        (broadcastInDim S4x4352x4x2x1 ![] bcast_S_S4x4352x4x2x1 (constant S_ .f32 0x358637BD#32))))))
    (broadcastInDim S4x4352x4x2x64 ![0, 1, 2, 3, 4] bcast_S1x1x1x1x64_S4x4352x4x2x64_0_1_2_3_4 (broadcastInDim S1x1x1x1x64 ![4] bcast_S64_S1x1x1x1x64_4 g))

/-- A rotation's table, along batches and heads. -/
def table (t : FVec F S4096x16 .f32) : FVec F S4x4096x4x2x16 .f32 :=
  broadcastInDim S4x4096x4x2x16 ![0, 1, 2, 3, 4] bcast_S1x4096x1x1x16_S4x4096x4x2x16_0_1_2_3_4
    (broadcastInDim S1x4096x1x1x16 ![1, 2, 3, 4] bcast_S4096x1x1x16_S1x4096x1x1x16_1_2_3_4 (broadcastInDim S4096x1x1x16 ![0, 3] bcast_S4096x16_S4096x1x1x16_0_3 t))

/-- The rotation of one half of a head, from its two quarters. -/
def rotated (a b : FVec F S4x4096x4x2x16 .f32) (co si : FVec F S4096x16 .f32) : FVec F S4x4096x4x2x32 .f32 :=
  concatenate S4x4096x4x2x32 4
    [⟨S4x4096x4x2x16, subf (mulf a (table co)) (mulf b (table si))⟩, ⟨S4x4096x4x2x16, addf (mulf a (table si)) (mulf b (table co))⟩]
    concatenates_S4x4096x4x2x16_S4x4096x4x2x16_S4x4096x4x2x32_d4

/-- The rotation of one half of a head. -/
def rotate (z : FVec F S4x4096x4x2x32 .f32) (co si : FVec F S4096x16 .f32) : FVec F S4x4096x4x2x32 .f32 :=
  rotated (extractStridedSlice S4x4096x4x2x16 ![0, 0, 0, 0, 0] z slices_S4x4096x4x2x32_S4x4096x4x2x16_0_0_0_0_0)
    (extractStridedSlice S4x4096x4x2x16 ![0, 0, 0, 0, 16] z slices_S4x4096x4x2x32_S4x4096x4x2x16_0_0_0_0_16) co si

/-- The rotation of a head: its first half by rows, its second half by columns. -/
def axial (z : FVec F S4x4096x4x2x64 .f32) (rc rs cc cs : FVec F S4096x16 .f32) : FVec F S4x4096x4x2x64 .f32 :=
  concatenate S4x4096x4x2x64 4
    [⟨S4x4096x4x2x32, rotate (extractStridedSlice S4x4096x4x2x32 ![0, 0, 0, 0, 0] z slices_S4x4096x4x2x64_S4x4096x4x2x32_0_0_0_0_0) rc rs⟩,
     ⟨S4x4096x4x2x32, rotate (extractStridedSlice S4x4096x4x2x32 ![0, 0, 0, 0, 32] z slices_S4x4096x4x2x64_S4x4096x4x2x32_0_0_0_0_32) cc cs⟩]
    concatenates_S4x4096x4x2x32_S4x4096x4x2x32_S4x4096x4x2x64_d4

/-- The heads: the context as it is, the latents rotated. -/
def heads (z : FVec F S4x4352x4x2x64 .f32) (rc rs cc cs : FVec F S4096x16 .f32) : FVec F S17408x512 .f32 :=
  shapeCast S17408x512
    (concatenate S4x4352x4x2x64 1
      [⟨S4x256x4x2x64, extractStridedSlice S4x256x4x2x64 ![0, 0, 0, 0, 0] z slices_S4x4352x4x2x64_S4x256x4x2x64_0_0_0_0_0⟩,
       ⟨S4x4096x4x2x64, axial (extractStridedSlice S4x4096x4x2x64 ![0, 256, 0, 0, 0] z slices_S4x4352x4x2x64_S4x4096x4x2x64_0_256_0_0_0) rc rs cc cs⟩]
      concatenates_S4x256x4x2x64_S4x4096x4x2x64_S4x4352x4x2x64_d1)
    shapeCasts_S4x4352x4x2x64_S17408x512

/-- The keys, one column per position. -/
def flipped (z : FVec F S17408x512 .f32) : FVec F S512x17408 .bf16 :=
  truncf .bf16 (transpose S512x17408 [1, 0] z transposes_S17408x512_S512x17408_1_0) bitsLt_bf16_f32

/-- The values. -/
def values (p : FVec F S4x4352x8960 .f32) : FVec F S17408x512 .bf16 :=
  truncf .bf16 (shapeCast S17408x512 (extractStridedSlice S4x4352x512 ![0, 0, 512] p slices_S4x4352x8960_S4x4352x512_0_0_512) shapeCasts_S4x4352x512_S17408x512) bitsLt_bf16_f32

variable (m : (ℓ : Loc nD τ sig) → Buf (Elt F) ℓ) (c : Dev nD)

/-- The projected rows of the arguments. -/
def projected : FVec F S4x4352x8960 .f32 :=
  proj (hidden (wide (m ((c.tc : Thread nD τ).loc main_arg0))) (m ((c.tc : Thread nD τ).loc main_arg2)) (mods (m ((c.tc : Thread nD τ).loc main_arg1))))
    (m ((c.tc : Thread nD τ).loc main_arg3))

/-- The first branch of the arguments. -/
def branch : FVec F S17408x512 .bf16 :=
  gmlp (colsU (projected m c)) (colsVa (projected m c)) (colsZa (projected m c)) (m ((c.tc : Thread nD τ).loc main_arg4)) (m ((c.tc : Thread nD τ).loc main_arg5))
    (m ((c.tc : Thread nD τ).loc main_arg6)) (m ((c.tc : Thread nD τ).loc main_arg7))

/-- The queries of the arguments. -/
def queries : FVec F S17408x512 .f32 :=
  heads (headNorm (colsQ (projected m c)) (m ((c.tc : Thread nD τ).loc main_arg8))) (m ((c.tc : Thread nD τ).loc main_arg10)) (m ((c.tc : Thread nD τ).loc main_arg11))
    (m ((c.tc : Thread nD τ).loc main_arg12)) (m ((c.tc : Thread nD τ).loc main_arg13))

/-- The keys of the arguments. -/
def keys : FVec F S512x17408 .bf16 :=
  flipped (heads (headNorm (colsK (projected m c)) (m ((c.tc : Thread nD τ).loc main_arg9))) (m ((c.tc : Thread nD τ).loc main_arg10)) (m ((c.tc : Thread nD τ).loc main_arg11))
    (m ((c.tc : Thread nD τ).loc main_arg12)) (m ((c.tc : Thread nD τ).loc main_arg13)))

/-- The reference ends with the compositions of the stages. -/
theorem run (ρ : Dev nD → PrngReg) :
    θ_run defs (onTc (τ := τ) (main (F := F))) ⟨m, fun _ => 0, ρ⟩ fun r => ∀ c : Dev nD,
      r.2.mem ((c.tc : Thread nD τ).loc main_v107) = branch m c
      ∧ r.2.mem ((c.tc : Thread nD τ).loc main_v162) = queries m c
      ∧ r.2.mem ((c.tc : Thread nD τ).loc main_v219) = keys m c
      ∧ r.2.mem ((c.tc : Thread nD τ).loc main_v221) = values (projected m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) := by
  exact Value.run (F := F) m ρ

end Cert.FrontReferenceIdeal.Rows
-- ==== Proof.FrontIdeal.RefAt.lean ====
module

public import proofs.«01_k».proof.Proof.FrontIdeal.RefStages
public import proofs.«01_k».proof.Proof.FrontIdeal.Spec
public import Idealize.ShloMosaic.Lib.Pointwise

@[expose] public section

set_option maxRecDepth 16384

noncomputable section

namespace Cert.FrontReferenceIdeal.Rows

open Cert.FrontReferenceIdeal.Gen Cert.MergeSpec
open Idealize.ShloMosaic Idealize.ShloMosaic.TcCoe Idealize.SL.Sem

/-! # The reference's stages, read at an index -/

/-- A batch's row of 1024. -/
theorem wide_at (x : FVec Ideal S17408x1024 .f32) (b : Fin 4) (s : Fin 4352) (k : Fin 1024) :
    wide x (ix3 b s k) = x (ix2 ⟨b.val * 4352 + s.val, by omega⟩ k) := by
  pointwise [wide]

/-- A position's modulation. -/
theorem mods_at (x : FVec Ideal S8x3x1024 .f32) (b : Fin 4) (s : Fin 4352) (n : Fin 3) (k : Fin 1024) :
    mods x (ix4 b s n k) = if s.val < 256 then x (ix3 4 n k) else x (ix3 ⟨b.val, by omega⟩ n k) := by
  pointwise [mods]
  split_ifs <;> rfl

/-- The normalised, modulated rows. -/
theorem hidden_at (x : FVec Ideal S4x4352x1024 .f32) (g : FVec Ideal S1024 .f32) (md : FVec Ideal S4x4352x3x1024 .f32)
    (b : Fin 4) (s : Fin 4352) (k : Fin 1024) :
    hidden x g md (ix3 b s k) = Cert.FrontSpec.hidden (fun k => x (ix3 b s k)) (fun k => g (ix1 k)) (fun n k => md (ix4 b s n k)) k := by
  pointwise [hidden]
  rfl

/-- The projected rows. -/
theorem proj_at (h : FVec Ideal S4x4352x1024 .f32) (w : FVec Ideal S1024x8960 .f32) (b : Fin 4) (s : Fin 4352) (j : Fin 8960) :
    proj h w (ix3 b s j) = ∑ k : Fin 1024, h (ix3 b s k) * w (ix2 k j) := by
  pointwise [proj]

/-- The error unit. -/
theorem gelu_at (z : FVec Ideal S4x4352x512 .f32) (b : Fin 4) (s : Fin 4352) (c : Fin 512) :
    gelu z (ix3 b s c) = Cert.FrontSpec.gelu (z (ix3 b s c)) := by
  pointwise [gelu, fill]
  rfl

/-- A value times its logistic. -/
theorem silu_at (z : FVec Ideal S4x4352x512 .f32) (b : Fin 4) (s : Fin 4352) (c : Fin 512) :
    silu z (ix3 b s c) = z (ix3 b s c) * sigma (z (ix3 b s c)) := by
  pointwise [silu, fill]
  rfl

/-- A position's mean. -/
theorem mean_at (z : FVec Ideal S4x4352x512 .f32) (b : Fin 4) (s : Fin 4352) (o : Fin 1) :
    mean z (ix3 b s o) = Cert.FrontSpec.mean (fun c => z (ix3 b s c)) := by
  pointwise [mean, fill1]
  rfl

/-- One value per position, along the position. -/
theorem along_at (v : FVec Ideal S4x4352x1 .f32) (b : Fin 4) (s : Fin 4352) (c : Fin 512) : along v (ix3 b s c) = v (ix3 b s 0) := by
  pointwise [along]

/-- A position less its mean. -/
theorem centred_at (z : FVec Ideal S4x4352x512 .f32) (b : Fin 4) (s : Fin 4352) (c : Fin 512) :
    subf z (along (mean z)) (ix3 b s c) = z (ix3 b s c) - Cert.FrontSpec.mean (fun c => z (ix3 b s c)) := by
  refine Eq.trans (b := z (ix3 b s c) - along (mean z) (ix3 b s c)) (by pointwise) ?_
  rw [along_at, mean_at]

/-- The layer norm from the centred values. -/
theorem normed_at (z d : FVec Ideal S4x4352x512 .f32) (g e : FVec Ideal S512 .f32) (b : Fin 4) (s : Fin 4352) (c : Fin 512) :
    normed z d g e (ix3 b s c) = z (ix3 b s c) * Ideal.rsqrt (mean (mulf d d) (ix3 b s 0) + Ideal.ofBits .f32 0x3727C5AC#32) * g (ix1 c) + e (ix1 c) := by
  unfold normed
  generalize mean (mulf d d) = q
  pointwise [along, columns, fill1]

/-- The layer norm. -/
theorem layerNorm_at (z : FVec Ideal S4x4352x512 .f32) (g e : FVec Ideal S512 .f32) (b : Fin 4) (s : Fin 4352) (c : Fin 512) :
    layerNorm z g e (ix3 b s c) = Cert.FrontSpec.layerNorm (fun c => z (ix3 b s c)) (fun c => g (ix1 c)) (fun c => e (ix1 c)) c := by
  unfold layerNorm
  rw [normed_at, centred_at, mean_at]
  have h : (fun c => mulf (subf z (along (mean z))) (subf z (along (mean z))) (ix3 b s c))
      = fun c => (z (ix3 b s c) - Cert.FrontSpec.mean (fun c => z (ix3 b s c))) * (z (ix3 b s c) - Cert.FrontSpec.mean (fun c => z (ix3 b s c))) := by
    funext i
    refine Eq.trans (b := subf z (along (mean z)) (ix3 b s i) * subf z (along (mean z)) (ix3 b s i)) rfl ?_
    rw [centred_at]
  rw [h]
  rfl

/-- A chunk's mixture. -/
theorem chunked_at (z : FVec Ideal S4x4352x512 .f32) (ws : FVec Ideal S4x128x128 .f32) (bs : FVec Ideal S4x128 .f32) (b : Fin 4) (s : Fin 4352) (c : Fin 512) :
    chunked z ws bs (ix3 b s c)
      = ∑ r : Fin 128, z (ix3 b ⟨s.val / 128 * 128 + r.val, by omega⟩ c) * ws (ix3 ⟨c.val / 128, by omega⟩ ⟨s.val % 128, by omega⟩ r)
          + bs (ix2 ⟨c.val / 128, by omega⟩ ⟨s.val % 128, by omega⟩) := by
  pointwise [chunked]

/-- The first branch. -/
theorem gmlp_at (u va za : FVec Ideal S4x4352x512 .f32) (g e : FVec Ideal S512 .f32) (ws : FVec Ideal S4x128x128 .f32) (bs : FVec Ideal S4x128 .f32) (q : Fin 17408) (c : Fin 512) :
    gmlp u va za g e ws bs (ix2 q c)
      = gelu u (ix3 ⟨q.val / 4352, by omega⟩ ⟨q.val % 4352, by omega⟩ c) * chunked (layerNorm (gelu va) g e) ws bs (ix3 ⟨q.val / 4352, by omega⟩ ⟨q.val % 4352, by omega⟩ c)
          * silu za (ix3 ⟨q.val / 4352, by omega⟩ ⟨q.val % 4352, by omega⟩ c) := by
  unfold gmlp
  generalize chunked (layerNorm (gelu va) g e) ws bs = x
  generalize gelu u = y
  generalize silu za = z
  pointwise

/-- The branch's gate. -/
theorem colsU_at (p : FVec Ideal S4x4352x8960 .f32) (b : Fin 4) (s : Fin 4352) (c : Fin 512) : colsU p (ix3 b s c) = p (ix3 b s ⟨3328 + c.val, by omega⟩) := by
  pointwise [colsU]

/-- The columns that the chunks mix. -/
theorem colsVa_at (p : FVec Ideal S4x4352x8960 .f32) (b : Fin 4) (s : Fin 4352) (c : Fin 512) : colsVa p (ix3 b s c) = p (ix3 b s ⟨3840 + c.val, by omega⟩) := by
  pointwise [colsVa]

/-- The branch's output gate. -/
theorem colsZa_at (p : FVec Ideal S4x4352x8960 .f32) (b : Fin 4) (s : Fin 4352) (c : Fin 512) : colsZa p (ix3 b s c) = p (ix3 b s ⟨4352 + c.val, by omega⟩) := by
  pointwise [colsZa]

/-- The query columns. -/
theorem colsQ_at (p : FVec Ideal S4x4352x8960 .f32) (b : Fin 4) (s : Fin 4352) (h : Fin 4) (n : Fin 2) (x : Fin 64) :
    colsQ p (ix5 b s h n x) = p (ix3 b s ⟨2304 + (h.val * 128 + n.val * 64 + x.val), by omega⟩) := by
  pointwise [colsQ]

/-- The key columns. -/
theorem colsK_at (p : FVec Ideal S4x4352x8960 .f32) (b : Fin 4) (s : Fin 4352) (h : Fin 4) (n : Fin 2) (x : Fin 64) :
    colsK p (ix5 b s h n x) = p (ix3 b s ⟨h.val * 128 + n.val * 64 + x.val, by omega⟩) := by
  pointwise [colsK]

/-- A head normalised. -/
theorem headNorm_at (z : FVec Ideal S4x4352x4x2x64 .f32) (g : FVec Ideal S64 .f32) (b : Fin 4) (s : Fin 4352) (h : Fin 4) (n : Fin 2) (x : Fin 64) :
    headNorm z g (ix5 b s h n x)
      = z (ix5 b s h n x) * Ideal.rsqrt (Ideal.div (∑ i : Fin 64, z (ix5 b s h n i) * z (ix5 b s h n i)) (Ideal.ofBits .f32 0x42800000#32) + Ideal.ofBits .f32 0x358637BD#32) * g (ix1 x) := by
  pointwise [headNorm]

/-- A rotated half of a head. -/
theorem rotate_at (z : FVec Ideal S4x4096x4x2x32 .f32) (co si : FVec Ideal S4096x16 .f32) (b : Fin 4) (s : Fin 4096) (h : Fin 4) (n : Fin 2) (x : Fin 32) :
    rotate z co si (ix5 b s h n x)
      = if hx : x.val < 16 then z (ix5 b s h n x) * co (ix2 s ⟨x.val, hx⟩) - z (ix5 b s h n ⟨16 + x.val, by omega⟩) * si (ix2 s ⟨x.val, hx⟩)
        else z (ix5 b s h n ⟨x.val - 16, by omega⟩) * si (ix2 s ⟨x.val - 16, by omega⟩) + z (ix5 b s h n ⟨16 + (x.val - 16), by omega⟩) * co (ix2 s ⟨x.val - 16, by omega⟩) := by
  pointwise [rotate, rotated, table]

/-- A rotated head. -/
theorem axial_at (z : FVec Ideal S4x4096x4x2x64 .f32) (rc rs cc cs : FVec Ideal S4096x16 .f32) (b : Fin 4) (s : Fin 4096) (h : Fin 4) (n : Fin 2) (x : Fin 64) :
    axial z rc rs cc cs (ix5 b s h n x)
      = if hx : x.val < 32 then rotate (extractStridedSlice S4x4096x4x2x32 ![0, 0, 0, 0, 0] z slices_S4x4096x4x2x64_S4x4096x4x2x32_0_0_0_0_0) rc rs (ix5 b s h n ⟨x.val, hx⟩)
        else rotate (extractStridedSlice S4x4096x4x2x32 ![0, 0, 0, 0, 32] z slices_S4x4096x4x2x64_S4x4096x4x2x32_0_0_0_0_32) cc cs (ix5 b s h n ⟨x.val - 32, by omega⟩) := by
  unfold axial
  generalize rotate (extractStridedSlice S4x4096x4x2x32 ![0, 0, 0, 0, 0] z slices_S4x4096x4x2x64_S4x4096x4x2x32_0_0_0_0_0) rc rs = p
  generalize rotate (extractStridedSlice S4x4096x4x2x32 ![0, 0, 0, 0, 32] z slices_S4x4096x4x2x64_S4x4096x4x2x32_0_0_0_0_32) cc cs = q
  pointwise

/-- The first half of a head. -/
theorem firstHalf_at (z : FVec Ideal S4x4096x4x2x64 .f32) (b : Fin 4) (s : Fin 4096) (h : Fin 4) (n : Fin 2) (x : Fin 32) :
    extractStridedSlice S4x4096x4x2x32 ![0, 0, 0, 0, 0] z slices_S4x4096x4x2x64_S4x4096x4x2x32_0_0_0_0_0 (ix5 b s h n x) = z (ix5 b s h n ⟨x.val, by omega⟩) := by
  pointwise

/-- The second half of a head. -/
theorem secondHalf_at (z : FVec Ideal S4x4096x4x2x64 .f32) (b : Fin 4) (s : Fin 4096) (h : Fin 4) (n : Fin 2) (x : Fin 32) :
    extractStridedSlice S4x4096x4x2x32 ![0, 0, 0, 0, 32] z slices_S4x4096x4x2x64_S4x4096x4x2x32_0_0_0_0_32 (ix5 b s h n x) = z (ix5 b s h n ⟨32 + x.val, by omega⟩) := by
  pointwise

/-- A latent position of the heads. -/
theorem latents_at (z : FVec Ideal S4x4352x4x2x64 .f32) (b : Fin 4) (s : Fin 4096) (h : Fin 4) (n : Fin 2) (x : Fin 64) :
    extractStridedSlice S4x4096x4x2x64 ![0, 256, 0, 0, 0] z slices_S4x4352x4x2x64_S4x4096x4x2x64_0_256_0_0_0 (ix5 b s h n x) = z (ix5 b ⟨256 + s.val, by omega⟩ h n x) := by
  pointwise

/-- The heads at a position. -/
theorem heads_at (z : FVec Ideal S4x4352x4x2x64 .f32) (rc rs cc cs : FVec Ideal S4096x16 .f32) (q : Fin 17408) (c : Fin 512) :
    heads z rc rs cc cs (ix2 q c)
      = if h : q.val % 4352 < 256 then z (ix5 ⟨q.val / 4352, by omega⟩ ⟨q.val % 4352, by omega⟩ ⟨c.val / 128, by omega⟩ ⟨c.val / 64 % 2, by omega⟩ ⟨c.val % 64, by omega⟩)
        else axial (extractStridedSlice S4x4096x4x2x64 ![0, 256, 0, 0, 0] z slices_S4x4352x4x2x64_S4x4096x4x2x64_0_256_0_0_0) rc rs cc cs
          (ix5 ⟨q.val / 4352, by omega⟩ ⟨q.val % 4352 - 256, by omega⟩ ⟨c.val / 128, by omega⟩ ⟨c.val / 64 % 2, by omega⟩ ⟨c.val % 64, by omega⟩) := by
  unfold heads
  generalize axial (extractStridedSlice S4x4096x4x2x64 ![0, 256, 0, 0, 0] z slices_S4x4352x4x2x64_S4x4096x4x2x64_0_256_0_0_0) rc rs cc cs = p
  pointwise

/-- The keys, transposed. -/
theorem flipped_at (z : FVec Ideal S17408x512 .f32) (c : Fin 512) (q : Fin 17408) : flipped z (ix2 c q) = z (ix2 q c) := by
  pointwise [flipped]

/-- The values. -/
theorem values_at (p : FVec Ideal S4x4352x8960 .f32) (q : Fin 17408) (c : Fin 512) :
    values p (ix2 q c) = p (ix3 ⟨q.val / 4352, by omega⟩ ⟨q.val % 4352, by omega⟩ ⟨512 + c.val, by omega⟩) := by
  pointwise [values]

end Cert.FrontReferenceIdeal.Rows
-- ==== Proof.FrontIdeal.RefRow.lean ====
module

public import proofs.«01_k».proof.Proof.FrontIdeal.RefAt

@[expose] public section

set_option maxRecDepth 16384

noncomputable section

namespace Cert.FrontReferenceIdeal.Rows

open Cert.FrontReferenceIdeal.Gen Cert.MergeSpec
open Cert.FrontSpec (Args)
open Idealize.ShloMosaic Idealize.ShloMosaic.TcCoe Idealize.SL.Sem

/-! # The reference's stages are the projections' functions -/

/-- The row of a batch's position. -/
def rowOf (b : Fin 4) (s : Fin 4352) : Fin 17408 := ⟨b.val * 4352 + s.val, by omega⟩

/-- A row from its batch and its position. -/
theorem rowOf_eq (b : Fin 4) (s : Fin 4352) (q : Fin 17408) (hb : b.val = q.val / 4352) (hs : s.val = q.val % 4352) : rowOf b s = q :=
  Fin.ext (by simp only [rowOf]; omega)

/-- Two columns of one row. -/
theorem cell (Y : Fin 17408 → Fin 512 → EReal) (q q' : Fin 17408) (k c : Fin 512) (hq : q = q') (hk : k.val = c.val) : Y q k = Y q' c := by
  rw [hq, Fin.ext hk]

/-- A cell of a table. -/
theorem entry (rc : FVec Ideal S4096x16 .f32) (s s' : Fin 4096) (j j' : Fin 16) (hs : s.val = s'.val) (hj : j.val = j'.val) :
    (rc (ix2 s j) : EReal) = rc (ix2 s' j') := by
  rw [Fin.ext hs, Fin.ext hj]

section
variable (x0 : FVec Ideal S17408x1024 .f32) (x1 : FVec Ideal S8x3x1024 .f32) (x2 : FVec Ideal S1024 .f32) (x3 : FVec Ideal S1024x8960 .f32)
  (x4 x5 : FVec Ideal S512 .f32) (x6 : FVec Ideal S4x128x128 .f32) (x7 : FVec Ideal S4x128 .f32) (x8 x9 : FVec Ideal S64 .f32)
  (x10 x11 x12 x13 : FVec Ideal S4096x16 .f32)

/-- The arguments. -/
def argsOf : Args where
  x q k := x0 (ix2 q k)
  mod n i k := x1 (ix3 n i k)
  g k := x2 (ix1 k)
  w k j := x3 (ix2 k j)
  lg k := x4 (ix1 k)
  lb k := x5 (ix1 k)
  ws n a b := x6 (ix3 n a b)
  bs n a := x7 (ix2 n a)
  qn k := x8 (ix1 k)
  kn k := x9 (ix1 k)
  co n s j := if n.val = 0 then x10 (ix2 s j) else x12 (ix2 s j)
  si n s j := if n.val = 0 then x11 (ix2 s j) else x13 (ix2 s j)

/-- The projected rows. -/
theorem p_row (b : Fin 4) (s : Fin 4352) (j : Fin 8960) :
    (proj (hidden (wide x0) x2 (mods x1)) x3 (ix3 b s j) : EReal) = (argsOf x0 x1 x2 x3 x4 x5 x6 x7 x8 x9 x10 x11 x12 x13).p (rowOf b s) j := by
  rw [proj_at]
  unfold Args.p
  refine Finset.sum_congr rfl fun k _ => ?_
  rw [hidden_at]
  have h1 : (fun k => (wide x0 (ix3 b s k) : EReal)) = (argsOf x0 x1 x2 x3 x4 x5 x6 x7 x8 x9 x10 x11 x12 x13).x (rowOf b s) := funext fun k => wide_at x0 b s k
  have h2 : (fun n k => (mods x1 (ix4 b s n k) : EReal)) = (argsOf x0 x1 x2 x3 x4 x5 x6 x7 x8 x9 x10 x11 x12 x13).md (rowOf b s) := by
    funext n k
    rw [mods_at]
    unfold Args.md
    have hs := s.isLt
    have e : (rowOf b s).val = b.val * 4352 + s.val := rfl
    split_ifs
    · rfl
    · exfalso; omega
    · exfalso; omega
    · exact congrArg (fun n' => (x1 (ix3 n' n k) : EReal)) (Fin.ext (by simp only; omega))
  rw [h1, h2]
  rfl

end

/-- A head normalised. -/
theorem headNorm_row (z : FVec Ideal S4x4352x4x2x64 .f32) (g : FVec Ideal S64 .f32) (Y : Fin 17408 → Fin 512 → EReal)
    (hz : ∀ b s h n x, (z (ix5 b s h n x) : EReal) = Y (rowOf b s) ⟨h.val * 128 + n.val * 64 + x.val, by omega⟩)
    (b : Fin 4) (s : Fin 4352) (h : Fin 4) (n : Fin 2) (x : Fin 64) :
    (headNorm z g (ix5 b s h n x) : EReal) = Cert.FrontSpec.headNorm (Y (rowOf b s)) (fun k => g (ix1 k)) ⟨h.val * 128 + n.val * 64 + x.val, by omega⟩ := by
  rw [headNorm_at]
  simp only [hz]
  unfold Cert.FrontSpec.headNorm
  have hx := x.isLt
  have e : ∀ i : Fin 64, (⟨(h.val * 128 + n.val * 64 + x.val) / 64 * 64 + i.val, by omega⟩ : Fin 512) = ⟨h.val * 128 + n.val * 64 + i.val, by omega⟩ :=
    fun i => Fin.ext (by simp only; omega)
  have e' : (⟨(h.val * 128 + n.val * 64 + x.val) % 64, by omega⟩ : Fin 64) = x := Fin.ext (by simp only; omega)
  simp only [e, e']

/-- The heads of a row: the context's as they are, the latents' rotated. -/
theorem heads_row (z : FVec Ideal S4x4352x4x2x64 .f32) (rc rs cc cs : FVec Ideal S4096x16 .f32) (Y : Fin 17408 → Fin 512 → EReal)
    (hz : ∀ b s h n x, (z (ix5 b s h n x) : EReal) = Y (rowOf b s) ⟨h.val * 128 + n.val * 64 + x.val, by omega⟩) (q : Fin 17408) (c : Fin 512) :
    (heads z rc rs cc cs (ix2 q c) : EReal)
      = if h : q.val % 4352 < 256 then Y q c
        else Cert.FrontSpec.rotate (Y q) (fun n j => if n.val = 0 then rc (ix2 ⟨q.val % 4352 - 256, by omega⟩ j) else cc (ix2 ⟨q.val % 4352 - 256, by omega⟩ j))
          (fun n j => if n.val = 0 then rs (ix2 ⟨q.val % 4352 - 256, by omega⟩ j) else cs (ix2 ⟨q.val % 4352 - 256, by omega⟩ j)) c := by
  rw [heads_at]
  by_cases hq : q.val % 4352 < 256
  · rw [dif_pos hq, dif_pos hq, hz]
    exact cell Y _ _ _ _ (rowOf_eq _ _ _ rfl rfl) (by simp only; omega)
  · rw [dif_neg hq, dif_neg hq, axial_at]
    unfold Cert.FrontSpec.rotate
    have hs := c.isLt
    by_cases h1 : c.val % 64 < 32 <;> by_cases h2 : c.val % 32 < 16
    · rw [dif_pos (by exact h1), rotate_at, dif_pos (by show c.val % 64 < 16; omega), dif_pos h2]
      simp only [firstHalf_at, latents_at, hz]
      rw [if_pos (by omega), if_pos (by omega)]
      exact congrArg₂ (· - ·)
        (congrArg₂ (· * ·) (cell Y _ _ _ _ (rowOf_eq _ _ _ rfl (by simp only; omega)) (by simp only; omega)) (entry rc _ _ _ _ rfl (by simp only; omega)))
        (congrArg₂ (· * ·) (cell Y _ _ _ _ (rowOf_eq _ _ _ rfl (by simp only; omega)) (by simp only; omega)) (entry rs _ _ _ _ rfl (by simp only; omega)))
    · rw [dif_pos (by exact h1), rotate_at, dif_neg (by show ¬ c.val % 64 < 16; omega), dif_neg h2]
      simp only [firstHalf_at, latents_at, hz]
      rw [if_pos (by omega), if_pos (by omega)]
      exact congrArg₂ (· + ·)
        (congrArg₂ (· * ·) (cell Y _ _ _ _ (rowOf_eq _ _ _ rfl (by simp only; omega)) (by simp only; omega)) (entry rs _ _ _ _ rfl (by simp only; omega)))
        (congrArg₂ (· * ·) (cell Y _ _ _ _ (rowOf_eq _ _ _ rfl (by simp only; omega)) (by simp only; omega)) (entry rc _ _ _ _ rfl (by simp only; omega)))
    · rw [dif_neg (by exact h1), rotate_at, dif_pos (by show c.val % 64 - 32 < 16; omega), dif_pos h2]
      simp only [secondHalf_at, latents_at, hz]
      rw [if_neg (by omega), if_neg (by omega)]
      exact congrArg₂ (· - ·)
        (congrArg₂ (· * ·) (cell Y _ _ _ _ (rowOf_eq _ _ _ rfl (by simp only; omega)) (by simp only; omega)) (entry cc _ _ _ _ rfl (by simp only; omega)))
        (congrArg₂ (· * ·) (cell Y _ _ _ _ (rowOf_eq _ _ _ rfl (by simp only; omega)) (by simp only; omega)) (entry cs _ _ _ _ rfl (by simp only; omega)))
    · rw [dif_neg (by exact h1), rotate_at, dif_neg (by show ¬ c.val % 64 - 32 < 16; omega), dif_neg h2]
      simp only [secondHalf_at, latents_at, hz]
      rw [if_neg (by omega), if_neg (by omega)]
      exact congrArg₂ (· + ·)
        (congrArg₂ (· * ·) (cell Y _ _ _ _ (rowOf_eq _ _ _ rfl (by simp only; omega)) (by simp only; omega)) (entry cs _ _ _ _ rfl (by simp only; omega)))
        (congrArg₂ (· * ·) (cell Y _ _ _ _ (rowOf_eq _ _ _ rfl (by simp only; omega)) (by simp only; omega)) (entry cc _ _ _ _ rfl (by simp only; omega)))

section
variable (x0 : FVec Ideal S17408x1024 .f32) (x1 : FVec Ideal S8x3x1024 .f32) (x2 : FVec Ideal S1024 .f32) (x3 : FVec Ideal S1024x8960 .f32)
  (x4 x5 : FVec Ideal S512 .f32) (x6 : FVec Ideal S4x128x128 .f32) (x7 : FVec Ideal S4x128 .f32) (x8 x9 : FVec Ideal S64 .f32)
  (x10 x11 x12 x13 : FVec Ideal S4096x16 .f32)

/-- The values. -/
theorem values_row (q : Fin 17408) (c : Fin 512) :
    (values (proj (hidden (wide x0) x2 (mods x1)) x3) (ix2 q c) : EReal) = (argsOf x0 x1 x2 x3 x4 x5 x6 x7 x8 x9 x10 x11 x12 x13).values q c := by
  rw [values_at, p_row x0 x1 x2 x3 x4 x5 x6 x7 x8 x9 x10 x11 x12 x13, rowOf_eq _ _ q rfl rfl]
  rfl

/-- The queries. -/
theorem queries_row (q : Fin 17408) (c : Fin 512) :
    (heads (headNorm (colsQ (proj (hidden (wide x0) x2 (mods x1)) x3)) x8) x10 x11 x12 x13 (ix2 q c) : EReal)
      = (argsOf x0 x1 x2 x3 x4 x5 x6 x7 x8 x9 x10 x11 x12 x13).queries q c := by
  rw [heads_row _ x10 x11 x12 x13 (fun q => Cert.FrontSpec.headNorm (fun c => (argsOf x0 x1 x2 x3 x4 x5 x6 x7 x8 x9 x10 x11 x12 x13).p q ⟨2304 + c.val, by omega⟩) (fun k => x8 (ix1 k)))
    (headNorm_row _ x8 (fun q c => (argsOf x0 x1 x2 x3 x4 x5 x6 x7 x8 x9 x10 x11 x12 x13).p q ⟨2304 + c.val, by omega⟩) fun b s h n x => by
      rw [colsQ_at, p_row x0 x1 x2 x3 x4 x5 x6 x7 x8 x9 x10 x11 x12 x13])]
  rfl

/-- The keys. -/
theorem keys_row (q : Fin 17408) (c : Fin 512) :
    (flipped (heads (headNorm (colsK (proj (hidden (wide x0) x2 (mods x1)) x3)) x9) x10 x11 x12 x13) (ix2 c q) : EReal)
      = (argsOf x0 x1 x2 x3 x4 x5 x6 x7 x8 x9 x10 x11 x12 x13).keys q c := by
  rw [flipped_at, heads_row _ x10 x11 x12 x13 (fun q => Cert.FrontSpec.headNorm (fun c => (argsOf x0 x1 x2 x3 x4 x5 x6 x7 x8 x9 x10 x11 x12 x13).p q ⟨0 + c.val, by omega⟩) (fun k => x9 (ix1 k)))
    (headNorm_row _ x9 (fun q c => (argsOf x0 x1 x2 x3 x4 x5 x6 x7 x8 x9 x10 x11 x12 x13).p q ⟨0 + c.val, by omega⟩) fun b s h n x => by
      rw [colsK_at, p_row x0 x1 x2 x3 x4 x5 x6 x7 x8 x9 x10 x11 x12 x13]
      exact congrArg _ (Fin.ext (by simp only; omega)))]
  rfl

/-- The rows that the chunks mix. -/
theorem va_row (b : Fin 4) (s : Fin 4352) (c : Fin 512) :
    (layerNorm (gelu (colsVa (proj (hidden (wide x0) x2 (mods x1)) x3))) x4 x5 (ix3 b s c) : EReal)
      = (argsOf x0 x1 x2 x3 x4 x5 x6 x7 x8 x9 x10 x11 x12 x13).va (rowOf b s) c := by
  rw [layerNorm_at]
  simp only [gelu_at, colsVa_at, p_row x0 x1 x2 x3 x4 x5 x6 x7 x8 x9 x10 x11 x12 x13]
  rfl

/-- The first branch. -/
theorem branch_row (q : Fin 17408) (c : Fin 512) :
    (gmlp (colsU (proj (hidden (wide x0) x2 (mods x1)) x3)) (colsVa (proj (hidden (wide x0) x2 (mods x1)) x3)) (colsZa (proj (hidden (wide x0) x2 (mods x1)) x3))
        x4 x5 x6 x7 (ix2 q c) : EReal)
      = (argsOf x0 x1 x2 x3 x4 x5 x6 x7 x8 x9 x10 x11 x12 x13).branch q c := by
  rw [gmlp_at, gelu_at, silu_at, colsU_at, colsZa_at, chunked_at]
  simp only [va_row x0 x1 x2 x3 x4 x5 x6 x7 x8 x9 x10 x11 x12 x13, p_row x0 x1 x2 x3 x4 x5 x6 x7 x8 x9 x10 x11 x12 x13]
  rw [rowOf_eq _ _ q rfl rfl]
  unfold Args.branch Args.mix
  have hq : q.val % 4352 % 128 = q.val % 128 := by omega
  refine congrArg₂ (· * ·) (congrArg₂ (· * ·) rfl (congrArg₂ (· + ·) (Finset.sum_congr rfl fun r _ => ?_) ?_)) rfl
  · rw [mul_comm]
    refine congrArg₂ (· * ·) (congrArg (fun p => (x6 (ix3 ⟨c.val / 128, by omega⟩ p r) : EReal)) (Fin.ext hq)) ?_
    exact congrArg (fun q => (argsOf x0 x1 x2 x3 x4 x5 x6 x7 x8 x9 x10 x11 x12 x13).va q c) (Fin.ext (by simp only [rowOf]; omega))
  · exact congrArg (fun p => (x7 (ix2 ⟨c.val / 128, by omega⟩ p) : EReal)) (Fin.ext hq)

end

section
variable (m : (ℓ : Loc nD τ sig) → Buf (Elt Ideal) ℓ) (c : Dev nD)

/-- The arguments in a memory. -/
def argsIn : Args :=
  argsOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13))

/-- The first branch of a memory's arguments. -/
theorem branch_in (q : Fin 17408) (a : Fin 512) : (branch m c (ix2 q a) : EReal) = (argsIn m c).branch q a :=
  branch_row _ _ _ _ _ _ _ _ _ _ _ _ _ _ q a

/-- The queries of a memory's arguments. -/
theorem queries_in (q : Fin 17408) (a : Fin 512) : (queries m c (ix2 q a) : EReal) = (argsIn m c).queries q a :=
  queries_row _ _ _ _ _ _ _ _ _ _ _ _ _ _ q a

/-- The keys of a memory's arguments. -/
theorem keys_in (q : Fin 17408) (a : Fin 512) : (keys m c (ix2 a q) : EReal) = (argsIn m c).keys q a :=
  keys_row _ _ _ _ _ _ _ _ _ _ _ _ _ _ q a

/-- The values of a memory's arguments. -/
theorem values_in (q : Fin 17408) (a : Fin 512) : (values (projected m c) (ix2 q a) : EReal) = (argsIn m c).values q a :=
  values_row _ _ _ _ _ _ _ _ _ _ _ _ _ _ q a

end

end Cert.FrontReferenceIdeal.Rows
-- ==== Proof.FrontIdeal.Algebraic.lean ====
module

public import proofs.«01_k».proof.Proof.FrontIdeal.KernelRow
public import proofs.«01_k».proof.Proof.FrontIdeal.RefRow
public import proofs.«01_k».proof.Defs

@[expose] public section

set_option maxRecDepth 16384

noncomputable section

namespace Cert.FrontIdeal.Rows

open Cert.FrontIdeal.Gen Cert.FrontSpec
open Idealize.ShloMosaic Idealize.ShloMosaic.TcCoe Idealize.SL.Sem Idealize.ShloMosaic.Pipeline

/-! # The projections' two programs end with the same four results -/

variable (m : (ℓ : Loc nD τ sig) → Buf (Elt Ideal) ℓ) (c : Dev nD)

/-- Every point writes its blocks back. -/
theorem flush_all : ∀ t : Fin cfg0.N, (cfg0.win 23).flush t = true ∧ (cfg0.win 24).flush t = true ∧ (cfg0.win 25).flush t = true ∧ (cfg0.win 26).flush t = true := by
  decide +kernel

/-- The tile of a row. -/
theorem tileOf (q : ℕ) (hq : q < 17408) : ∃ t : Fin cfg0.N, t.val = q / 256 := ⟨⟨q / 256, by rw [show cfg0.N = 68 from N_0]; omega⟩, rfl⟩

/-- The array of the first branch is `G` where every point leaves its rows of `G`. -/
theorem final23 (G : FVec Ideal S17408x512 .bf16) (hG : ∀ (t : Fin cfg0.N) (r : Fin 256) (a : Fin 512), out23 m c t (ix2 r a) = G (ix2 (rowAt t r) a)) :
    (dats m 0 c).arrAt 23 cfg0.N = G := by
  refine (dats m 0 c).arrAt_eq_of_cover 23 G (fun t _ => ?_) fun i => ?_
  · funext y
    rw [View.read_apply]
    have e : ((dats m 0 c).after 23 t : Vec Ideal S256x512 .bf16) y = G (ix2 (rowAt t (y 0)) (y 1)) :=
      (congrFun (after_23 m c t) y).trans ((congrArg (out23 m c t) (ValueIdx.eq_ix2 y)).trans (hG t (y 0) (y 1)))
    refine e.trans ?_
    show G _ = G _
    congr 1; funext a; apply Fin.ext
    match a with
    | ⟨0, _⟩ => show 256 * t.val + (y 0).val = win0_23.index t 0 * 256 + 1 * (y 0).val; rw [(index_rows t).2.1.1]; omega
    | ⟨1, _⟩ => show (y 1).val = win0_23.index t 1 * 512 + 1 * (y 1).val; rw [(index_rows t).2.1.2]; omega
  · obtain ⟨t, ht⟩ := tileOf (i 0).val (i 0).isLt
    refine ⟨t, (flush_all t).1, ?_⟩
    show i ∈ ((View.whole main_v62_0).slice (win0_23.rect t)).set
    rw [View.set_slice_whole, Rect.mem_set_unit]
    intro a
    have h1 : (i 1 : Nat) < 512 := (i 1).isLt
    match a with
    | ⟨0, _⟩ => show win0_23.index t 0 * 256 ≤ (i 0 : Nat) ∧ (i 0 : Nat) < win0_23.index t 0 * 256 + 256; rw [(index_rows t).2.1.1]; omega
    | ⟨1, _⟩ => show win0_23.index t 1 * 512 ≤ (i 1 : Nat) ∧ (i 1 : Nat) < win0_23.index t 1 * 512 + 512; rw [(index_rows t).2.1.2]; omega

/-- The array of the queries is `G` where every point leaves its rows of `G`. -/
theorem final24 (G : FVec Ideal S17408x512 .f32) (hG : ∀ (t : Fin cfg0.N) (r : Fin 256) (a : Fin 512), out24 m c t (ix2 r a) = G (ix2 (rowAt t r) a)) :
    (dats m 0 c).arrAt 24 cfg0.N = G := by
  refine (dats m 0 c).arrAt_eq_of_cover 24 G (fun t _ => ?_) fun i => ?_
  · funext y
    rw [View.read_apply]
    have e : ((dats m 0 c).after 24 t : Vec Ideal S256x512 .f32) y = G (ix2 (rowAt t (y 0)) (y 1)) :=
      (congrFun (after_24 m c t) y).trans ((congrArg (out24 m c t) (ValueIdx.eq_ix2 y)).trans (hG t (y 0) (y 1)))
    refine e.trans ?_
    show G _ = G _
    congr 1; funext a; apply Fin.ext
    match a with
    | ⟨0, _⟩ => show 256 * t.val + (y 0).val = win0_24.index t 0 * 256 + 1 * (y 0).val; rw [(index_rows t).2.2.1.1]; omega
    | ⟨1, _⟩ => show (y 1).val = win0_24.index t 1 * 512 + 1 * (y 1).val; rw [(index_rows t).2.2.1.2]; omega
  · obtain ⟨t, ht⟩ := tileOf (i 0).val (i 0).isLt
    refine ⟨t, (flush_all t).2.1, ?_⟩
    show i ∈ ((View.whole main_v62_1).slice (win0_24.rect t)).set
    rw [View.set_slice_whole, Rect.mem_set_unit]
    intro a
    have h1 : (i 1 : Nat) < 512 := (i 1).isLt
    match a with
    | ⟨0, _⟩ => show win0_24.index t 0 * 256 ≤ (i 0 : Nat) ∧ (i 0 : Nat) < win0_24.index t 0 * 256 + 256; rw [(index_rows t).2.2.1.1]; omega
    | ⟨1, _⟩ => show win0_24.index t 1 * 512 ≤ (i 1 : Nat) ∧ (i 1 : Nat) < win0_24.index t 1 * 512 + 512; rw [(index_rows t).2.2.1.2]; omega

/-- The array of the keys, one column per row, is `G` where every point leaves its columns of `G`. -/
theorem final25 (G : FVec Ideal S512x17408 .bf16) (hG : ∀ (t : Fin cfg0.N) (r : Fin 256) (a : Fin 512), out25 m c t (ix2 a r) = G (ix2 a (rowAt t r))) :
    (dats m 0 c).arrAt 25 cfg0.N = G := by
  refine (dats m 0 c).arrAt_eq_of_cover 25 G (fun t _ => ?_) fun i => ?_
  · funext y
    rw [View.read_apply]
    have e : ((dats m 0 c).after 25 t : Vec Ideal S512x256 .bf16) y = G (ix2 (y 0) (rowAt t (y 1))) :=
      (congrFun (after_25 m c t) y).trans ((congrArg (out25 m c t) (ValueIdx.eq_ix2 y)).trans (hG t (y 1) (y 0)))
    refine e.trans ?_
    show G _ = G _
    congr 1; funext a; apply Fin.ext
    match a with
    | ⟨0, _⟩ => show (y 0).val = win0_25.index t 0 * 512 + 1 * (y 0).val; rw [(index_rows t).2.2.2.1.1]; omega
    | ⟨1, _⟩ => show 256 * t.val + (y 1).val = win0_25.index t 1 * 256 + 1 * (y 1).val; rw [(index_rows t).2.2.2.1.2]; omega
  · obtain ⟨t, ht⟩ := tileOf (i 1).val (i 1).isLt
    refine ⟨t, (flush_all t).2.2.1, ?_⟩
    show i ∈ ((View.whole main_v62_2).slice (win0_25.rect t)).set
    rw [View.set_slice_whole, Rect.mem_set_unit]
    intro a
    have h1 : (i 0 : Nat) < 512 := (i 0).isLt
    match a with
    | ⟨0, _⟩ => show win0_25.index t 0 * 512 ≤ (i 0 : Nat) ∧ (i 0 : Nat) < win0_25.index t 0 * 512 + 512; rw [(index_rows t).2.2.2.1.1]; omega
    | ⟨1, _⟩ => show win0_25.index t 1 * 256 ≤ (i 1 : Nat) ∧ (i 1 : Nat) < win0_25.index t 1 * 256 + 256; rw [(index_rows t).2.2.2.1.2]; omega

/-- The array of the values is `G` where every point leaves its rows of `G`. -/
theorem final26 (G : FVec Ideal S17408x512 .bf16) (hG : ∀ (t : Fin cfg0.N) (r : Fin 256) (a : Fin 512), out26 m c t (ix2 r a) = G (ix2 (rowAt t r) a)) :
    (dats m 0 c).arrAt 26 cfg0.N = G := by
  refine (dats m 0 c).arrAt_eq_of_cover 26 G (fun t _ => ?_) fun i => ?_
  · funext y
    rw [View.read_apply]
    have e : ((dats m 0 c).after 26 t : Vec Ideal S256x512 .bf16) y = G (ix2 (rowAt t (y 0)) (y 1)) :=
      (congrFun (after_26 m c t) y).trans ((congrArg (out26 m c t) (ValueIdx.eq_ix2 y)).trans (hG t (y 0) (y 1)))
    refine e.trans ?_
    show G _ = G _
    congr 1; funext a; apply Fin.ext
    match a with
    | ⟨0, _⟩ => show 256 * t.val + (y 0).val = win0_26.index t 0 * 256 + 1 * (y 0).val; rw [(index_rows t).2.2.2.2.1]; omega
    | ⟨1, _⟩ => show (y 1).val = win0_26.index t 1 * 512 + 1 * (y 1).val; rw [(index_rows t).2.2.2.2.2]; omega
  · obtain ⟨t, ht⟩ := tileOf (i 0).val (i 0).isLt
    refine ⟨t, (flush_all t).2.2.2, ?_⟩
    show i ∈ ((View.whole main_v62_3).slice (win0_26.rect t)).set
    rw [View.set_slice_whole, Rect.mem_set_unit]
    intro a
    have h1 : (i 1 : Nat) < 512 := (i 1).isLt
    match a with
    | ⟨0, _⟩ => show win0_26.index t 0 * 256 ≤ (i 0 : Nat) ∧ (i 0 : Nat) < win0_26.index t 0 * 256 + 256; rw [(index_rows t).2.2.2.2.1]; omega
    | ⟨1, _⟩ => show win0_26.index t 1 * 512 ≤ (i 1 : Nat) ∧ (i 1 : Nat) < win0_26.index t 1 * 512 + 512; rw [(index_rows t).2.2.2.2.2]; omega

/-- On one core, where the two memories agree, the four arrays the kernel writes are the reference's results. -/
theorem results_agree (m' : (ℓ : Loc Cert.FrontReferenceIdeal.nD Cert.FrontReferenceIdeal.τ Cert.FrontReferenceIdeal.sig) → Buf (Elt Ideal) ℓ)
    (a0 : m' ((c.tc : Thread nD τ).loc Cert.FrontReferenceIdeal.main_arg0) = m ((c.tc : Thread nD τ).loc main_arg0))
    (a1 : m' ((c.tc : Thread nD τ).loc Cert.FrontReferenceIdeal.main_arg1) = m ((c.tc : Thread nD τ).loc main_arg1))
    (a2 : m' ((c.tc : Thread nD τ).loc Cert.FrontReferenceIdeal.main_arg2) = m ((c.tc : Thread nD τ).loc main_arg2))
    (a3 : m' ((c.tc : Thread nD τ).loc Cert.FrontReferenceIdeal.main_arg3) = m ((c.tc : Thread nD τ).loc main_arg3))
    (a4 : m' ((c.tc : Thread nD τ).loc Cert.FrontReferenceIdeal.main_arg4) = m ((c.tc : Thread nD τ).loc main_arg4))
    (a5 : m' ((c.tc : Thread nD τ).loc Cert.FrontReferenceIdeal.main_arg5) = m ((c.tc : Thread nD τ).loc main_arg5))
    (a6 : m' ((c.tc : Thread nD τ).loc Cert.FrontReferenceIdeal.main_arg6) = m ((c.tc : Thread nD τ).loc main_arg6))
    (a7 : m' ((c.tc : Thread nD τ).loc Cert.FrontReferenceIdeal.main_arg7) = m ((c.tc : Thread nD τ).loc main_arg7))
    (a8 : m' ((c.tc : Thread nD τ).loc Cert.FrontReferenceIdeal.main_arg8) = m ((c.tc : Thread nD τ).loc main_arg8))
    (a9 : m' ((c.tc : Thread nD τ).loc Cert.FrontReferenceIdeal.main_arg9) = m ((c.tc : Thread nD τ).loc main_arg9))
    (a10 : m' ((c.tc : Thread nD τ).loc Cert.FrontReferenceIdeal.main_arg10) = m ((c.tc : Thread nD τ).loc main_arg10))
    (a11 : m' ((c.tc : Thread nD τ).loc Cert.FrontReferenceIdeal.main_arg11) = m ((c.tc : Thread nD τ).loc main_arg11))
    (a12 : m' ((c.tc : Thread nD τ).loc Cert.FrontReferenceIdeal.main_arg12) = m ((c.tc : Thread nD τ).loc main_arg12))
    (a13 : m' ((c.tc : Thread nD τ).loc Cert.FrontReferenceIdeal.main_arg13) = m ((c.tc : Thread nD τ).loc main_arg13)) :
    (dats m 0 c).arrAt 23 cfg0.N = (Cert.FrontReferenceIdeal.Rows.branch m' c : FVec Ideal S17408x512 .bf16)
    ∧ (dats m 0 c).arrAt 24 cfg0.N = (Cert.FrontReferenceIdeal.Rows.queries m' c : FVec Ideal S17408x512 .f32)
    ∧ (dats m 0 c).arrAt 25 cfg0.N = (Cert.FrontReferenceIdeal.Rows.keys m' c : FVec Ideal S512x17408 .bf16)
    ∧ (dats m 0 c).arrAt 26 cfg0.N = (Cert.FrontReferenceIdeal.Rows.values (Cert.FrontReferenceIdeal.Rows.projected m' c) : FVec Ideal S17408x512 .bf16) := by
  have e : Cert.FrontReferenceIdeal.Rows.argsIn m' c = args m c := by
    unfold Cert.FrontReferenceIdeal.Rows.argsIn
    rw [a0, a1, a2, a3, a4, a5, a6, a7, a8, a9, a10, a11, a12, a13]
    rfl
  refine ⟨final23 m c _ fun t r a => ?_, final24 m c _ fun t r a => ?_, final25 m c _ fun t r a => ?_, final26 m c _ fun t r a => ?_⟩
  · exact (branch_row m c t r a).trans (((Cert.FrontReferenceIdeal.Rows.branch_in m' c _ a).trans (congrArg (fun A => Args.branch A (rowAt t r) a) e)).symm)
  · exact (queries_row m c t r a).trans (((Cert.FrontReferenceIdeal.Rows.queries_in m' c _ a).trans (congrArg (fun A => Args.queries A (rowAt t r) a) e)).symm)
  · exact (keys_row m c t r a).trans (((Cert.FrontReferenceIdeal.Rows.keys_in m' c _ a).trans (congrArg (fun A => Args.keys A (rowAt t r) a) e)).symm)
  · exact (values_row m c t r a).trans (((Cert.FrontReferenceIdeal.Rows.values_in m' c _ a).trans (congrArg (fun A => Args.values A (rowAt t r) a) e)).symm)

/-- THE RESULTS ARE ONE: the kernel and the reference end with the same first branch, queries, keys and values. -/
theorem algebraic : Cert.algebraic_FrontIdeal_FrontReferenceIdeal := by
  intro m ρ m' ρ' _ hagree
  refine ⟨fun c => Cert.FrontReferenceIdeal.Rows.branch m' c, fun c => Cert.FrontReferenceIdeal.Rows.queries m' c, fun c => Cert.FrontReferenceIdeal.Rows.keys m' c,
    fun c => Cert.FrontReferenceIdeal.Rows.values (Cert.FrontReferenceIdeal.Rows.projected m' c), ?_, Cert.FrontReferenceIdeal.Rows.run (F := Ideal) m' ρ'⟩
  refine (θ_run defs _ _).mono (fun r h c => ?_) (θ_run_and (run_main m ρ) (frame m ρ))
  obtain ⟨a0, a1, a2, a3, a4, a5, a6, a7, a8, a9, a10, a11, a12, a13, _⟩ := hagree c
  obtain ⟨e0, e1, e2, e3⟩ := results_agree m c m' a0 a1 a2 a3 a4 a5 a6 a7 a8 a9 a10 a11 a12 a13
  exact ⟨((h.1 c).1 23).trans e0, ((h.1 c).1 24).trans e1, ((h.1 c).1 25).trans e2, ((h.1 c).1 26).trans e3, h.2.1 c⟩

end Cert.FrontIdeal.Rows
-- ==== Proof.ModIdeal.Spec.lean ====
module

public import proofs.«01_k».proof.Proof.MergeIdeal.Spec
public import Idealize.ShloMosaic.Lib.Pointwise

@[expose] public section

noncomputable section

namespace Cert.ModSpec

open Idealize.ShloMosaic Cert.MergeSpec

/-! # The modulation

Eight rows of conditions: one per batch entry, the context's, and three of zeros that fill the block. -/

/-- A row of conditions, from the batch's (`c`) and the context's (`x`). -/
def condRow (c : Fin 4 → Fin 1024 → EReal) (x : Fin 1024 → EReal) (r : Fin 8) (k : Fin 1024) : EReal :=
  if h : r.val < 4 then c ⟨r.val, h⟩ k else if r.val < 5 then x k else 0

/-- A value times its logistic. -/
def act (z : EReal) : EReal := z * sigma z

/-- The value at zero is zero. -/
theorem act_zero : act 0 = 0 := zero_mul _

/-- One modulation: the activated row through the layer's weights, plus the layer's bias. -/
def mod (c : Fin 4 → Fin 1024 → EReal) (x : Fin 1024 → EReal) (w : Fin 1024 → EReal) (b : EReal) (r : Fin 8) : EReal :=
  (∑ k : Fin 1024, act (condRow c x r k) * w k) + b

end Cert.ModSpec

end
-- ==== Proof.ModIdeal.KernelAt.lean ====
module

public import proofs.«01_k».proof.Proof.Gen.ModIdeal.Frame
public import proofs.«01_k».proof.Proof.ModIdeal.Spec

@[expose] public section

set_option maxRecDepth 16384

noncomputable section

namespace Cert.ModIdeal.Rows

open Cert.ModIdeal.Gen Cert.ModSpec
open Idealize.ShloMosaic Idealize.ShloMosaic.TcCoe Idealize.SL.Sem

/-! # The kernel's modulation at a grid point

The 12 points are four layers by three column blocks of 1024. -/

variable (m : (ℓ : Loc nD τ sig) → Buf (Elt Ideal) ℓ) (c : Dev nD)

/-- There are 12 points. -/
theorem lt_12 (t : Fin cfg0.N) : t.val < 12 := lt_of_lt_of_eq t.isLt (show cfg0.N = 12 from N_0)

/-- Point `t`'s layer. -/
def layer (t : Fin cfg0.N) : Fin 4 := ⟨t.val / 3, by have := lt_12 t; omega⟩

/-- Column `j` of point `t`. -/
def col (t : Fin cfg0.N) (j : Fin 1024) : Fin 3072 := ⟨1024 * (t.val % 3) + j.val, by omega⟩

/-- The block indices at point `t`. -/
theorem index_at : ∀ t : Fin grid0.N, (win0_0.index t 0 = 0 ∧ win0_0.index t 1 = 0)
    ∧ (win0_1.index t 0 = t.val / 3 ∧ win0_1.index t 1 = 0 ∧ win0_1.index t 2 = t.val % 3)
    ∧ (win0_2.index t 0 = t.val / 3 ∧ win0_2.index t 1 = 0 ∧ win0_2.index t 2 = t.val % 3)
    ∧ (win0_3.index t 0 = t.val / 3 ∧ win0_3.index t 1 = 0 ∧ win0_3.index t 2 = t.val % 3) := by decide +kernel

/-- The conditions' rows as the host lays them out. -/
def rows (x : FVec Ideal S4x1024 .f32) (y : FVec Ideal S1024 .f32) : FVec Ideal S8x1024 .f32 :=
  concatenate S8x1024 0 [⟨S4x1024, x⟩, ⟨S1x1024, broadcastInDim S1x1024 ![1] bcast_S1024_S1x1024_1 y⟩,
    ⟨S3x1024, broadcastInDim S3x1024 ![] bcast_S_S3x1024 (constant S_ .f32 0x00000000#32)⟩] concatenates_S4x1024_S1x1024_S3x1024_S8x1024_d0

/-- One of the conditions' rows. -/
theorem rows_at (x : FVec Ideal S4x1024 .f32) (y : FVec Ideal S1024 .f32) (r : Fin 8) (k : Fin 1024) :
    rows x y (ix2 r k) = condRow (fun r k => x (ix2 r k)) (fun k => y (ix1 k)) r k := by
  unfold condRow
  fin_cases r <;> pointwise [rows]

/-- The array of the conditions is what the host lays out. -/
theorem V_rows : (V m c main_v2 : FVec Ideal S8x1024 .f32) = rows (m ((c.tc : Thread nD τ).loc main_arg0)) (m ((c.tc : Thread nD τ).loc main_arg1)) := by
  simp only [V, hostOps0]
  after_results
  rfl

/-- The biases as rows. -/
theorem V_bias (l : Fin 4) (j : Fin 3072) :
    (V m c main_v3 : FVec Ideal S4x1x3072 .f32) (ix3 l 0 j) = m ((c.tc : Thread nD τ).loc main_arg3) (ix2 l j) := by
  have h : (V m c main_v3 : FVec Ideal S4x1x3072 .f32) = shapeCast S4x1x3072 (m ((c.tc : Thread nD τ).loc main_arg3) : FVec Ideal S4x3072 .f32) shapeCasts_S4x3072_S4x1x3072 := by
    simp only [V, hostOps0]
    after_results
    rfl
  rw [h]
  pointwise

/-- Every point reads the conditions' rows whole. -/
theorem blk_0 (t : Fin cfg0.N) (r : Fin 8) (k : Fin 1024) :
    ((iblk m c 0 t : Vec Ideal S8x1024 .f32) (ix2 r k) : EReal)
      = condRow (fun r k => m ((c.tc : Thread nD τ).loc main_arg0) (ix2 r k)) (fun k => m ((c.tc : Thread nD τ).loc main_arg1) (ix1 k)) r k := by
  refine Eq.trans ?_ ((congrFun (V_rows m c) (ix2 r k)).trans (rows_at _ _ r k))
  unfold iblk
  rw [View.read_apply]
  show V m c main_v2 _ = V m c main_v2 _
  congr 1; funext a; apply Fin.ext
  match a with
  | ⟨0, _⟩ => show win0_0.index t 0 * 8 + 1 * r.val = r.val; rw [(index_at t).1.1]; omega
  | ⟨1, _⟩ => show win0_0.index t 1 * 1024 + 1 * k.val = k.val; rw [(index_at t).1.2]; omega

/-- Point `t`'s weights. -/
theorem blk_1 (t : Fin cfg0.N) (k j : Fin 1024) :
    ((iblk m c 1 t : Vec Ideal S1x1024x1024 .f32) (ix3 0 k j) : EReal) = m ((c.tc : Thread nD τ).loc main_arg2) (ix3 (layer t) k (col t j)) := by
  rw [← V_main_arg2 m c]
  unfold iblk
  rw [View.read_apply]
  show V m c main_arg2 _ = V m c main_arg2 _
  congr 1; funext a; apply Fin.ext
  match a with
  | ⟨0, _⟩ => show win0_1.index t 0 * 1 + 1 * 0 = t.val / 3; rw [(index_at t).2.1.1]; omega
  | ⟨1, _⟩ => show win0_1.index t 1 * 1024 + 1 * k.val = k.val; rw [(index_at t).2.1.2.1]; omega
  | ⟨2, _⟩ => show win0_1.index t 2 * 1024 + 1 * j.val = 1024 * (t.val % 3) + j.val; rw [(index_at t).2.1.2.2]; omega

/-- Point `t`'s biases. -/
theorem blk_2 (t : Fin cfg0.N) (j : Fin 1024) :
    ((iblk m c 2 t : Vec Ideal S1x1x1024 .f32) (ix3 0 0 j) : EReal) = m ((c.tc : Thread nD τ).loc main_arg3) (ix2 (layer t) (col t j)) := by
  refine Eq.trans ?_ (V_bias m c (layer t) (col t j))
  unfold iblk
  rw [View.read_apply]
  show V m c main_v3 _ = V m c main_v3 _
  congr 1; funext a; apply Fin.ext
  match a with
  | ⟨0, _⟩ => show win0_2.index t 0 * 1 + 1 * 0 = t.val / 3; rw [(index_at t).2.2.1.1]; omega
  | ⟨1, _⟩ => show win0_2.index t 1 * 1 + 1 * 0 = 0; rw [(index_at t).2.2.1.2.1]
  | ⟨2, _⟩ => show win0_2.index t 2 * 1024 + 1 * j.val = 1024 * (t.val % 3) + j.val; rw [(index_at t).2.2.1.2.2]; omega

/-- What the body stores. -/
theorem pay_at (x : Vec Ideal S8x1024 .f32) (w : Vec Ideal S1x1024x1024 .f32) (b : Vec Ideal S1x1x1024 .f32) (r : Fin 8) (j : Fin 1024) :
    (k0_pay1 (F := Ideal) x w b (ix3 0 r j) : EReal) = (∑ k : Fin 1024, act (x (ix2 r k)) * w (ix3 0 k j)) + b (ix3 0 0 j) := by
  pointwise [k0_pay1]
  rfl

/-- What the body leaves in the result's block. -/
theorem out_of (x : Vec Ideal S8x1024 .f32) (w : Vec Ideal S1x1024x1024 .f32) (b : Vec Ideal S1x1x1024 .f32) (r : Fin 8) (j : Fin 1024) :
    (out0_3 (F := Ideal) x w b (ix3 0 r j) : EReal) = (∑ k : Fin 1024, act (x (ix2 r k)) * w (ix3 0 k j)) + b (ix3 0 0 j) := by
  have z2 : (![0, 0] : Fin 2 → ℕ) = fun _ => 0 := by decide
  have z3 : (![0, 0, 0] : Fin 3 → ℕ) = fun _ => 0 := by decide
  unfold out0_3
  rw [View.canon_unit_zero z3, View.ld_unit_zero z2 _ x, View.ld_unit_zero z3 _ w, View.ld_unit_zero z3 _ b, pay_at]

/-- What point `t` leaves in the result's block is the modulation. -/
theorem out_at (t : Fin cfg0.N) (r : Fin 8) (j : Fin 1024) :
    (out0_3 (iblk m c 0 t) (iblk m c 1 t) (iblk m c 2 t) (ix3 0 r j) : EReal)
      = mod (fun r k => m ((c.tc : Thread nD τ).loc main_arg0) (ix2 r k)) (fun k => m ((c.tc : Thread nD τ).loc main_arg1) (ix1 k))
          (fun k => m ((c.tc : Thread nD τ).loc main_arg2) (ix3 (layer t) k (col t j))) (m ((c.tc : Thread nD τ).loc main_arg3) (ix2 (layer t) (col t j))) r := by
  refine (out_of _ _ _ r j).trans ?_
  rw [blk_2]
  unfold mod
  simp only [blk_0, blk_1]

end Cert.ModIdeal.Rows

end
-- ==== Proof.ModIdeal.RefAt.lean ====
module

public import proofs.«01_k».proof.Proof.Gen.ModReferenceIdeal.Run
public import proofs.«01_k».proof.Proof.ModIdeal.Spec

@[expose] public section

set_option maxRecDepth 16384

noncomputable section

namespace Cert.ModReferenceIdeal.Rows

open Cert.ModReferenceIdeal.Gen Cert.ModSpec
open Idealize.ShloMosaic Idealize.ShloMosaic.TcCoe Idealize.SL.Sem

/-! # The reference's modulation -/

/-- The batch's activated conditions. -/
def acts (x : FVec Ideal S4x1024 .f32) : FVec Ideal S4x1024 .f32 :=
  mulf x (Host.divf (broadcastInDim S4x1024 ![] bcast_S_S4x1024 (constant S_ .f32 0x3F800000#32))
    (addf (broadcastInDim S4x1024 ![] bcast_S_S4x1024 (constant S_ .f32 0x3F800000#32)) (Host.exp (Host.negf x))))

/-- The context's activated condition. -/
def actc (x : FVec Ideal S1024 .f32) : FVec Ideal S1024 .f32 :=
  mulf x (Host.divf (broadcastInDim S1024 ![] bcast_S_S1024 (constant S_ .f32 0x3F800000#32))
    (addf (broadcastInDim S1024 ![] bcast_S_S1024 (constant S_ .f32 0x3F800000#32)) (Host.exp (Host.negf x))))

/-- The eight activated rows. -/
def rows (a : FVec Ideal S4x1024 .f32) (b : FVec Ideal S1024 .f32) : FVec Ideal S8x1024 .f32 :=
  concatenate S8x1024 0 [⟨S4x1024, a⟩, ⟨S1x1024, broadcastInDim S1x1024 ![1] bcast_S1024_S1x1024_1 b⟩,
    ⟨S3x1024, broadcastInDim S3x1024 ![] bcast_S_S3x1024 (constant S_ .f32 0x00000000#32)⟩] concatenates_S4x1024_S1x1024_S3x1024_S8x1024_d0

/-- The rows through every layer's weights, plus its bias. -/
def through (a : FVec Ideal S8x1024 .f32) (w : FVec Ideal S4x1024x3072 .f32) (b : FVec Ideal S4x3072 .f32) : FVec Ideal S4x8x3072 .f32 :=
  addf (transpose S4x8x3072 [0, 2, 1] (Host.dotGeneral dot_S4x1024x3072_S8x1024_S4x3072x8_1_1_02_0_n_n none w a) transposes_S4x3072x8_S4x8x3072_0_2_1)
    (broadcastInDim S4x8x3072 ![0, 1, 2] bcast_S4x1x3072_S4x8x3072_0_1_2 (broadcastInDim S4x1x3072 ![0, 2] bcast_S4x3072_S4x1x3072_0_2 b))

/-- The reference's result. -/
def whole (x0 : FVec Ideal S4x1024 .f32) (x1 : FVec Ideal S1024 .f32) (x2 : FVec Ideal S4x1024x3072 .f32) (x3 : FVec Ideal S4x3072 .f32) :
    FVec Ideal S4x8x3072 .f32 := through (rows (acts x0) (actc x1)) x2 x3

/-- A batch entry's activated condition. -/
theorem acts_at (x : FVec Ideal S4x1024 .f32) (r : Fin 4) (k : Fin 1024) : acts x (ix2 r k) = act (x (ix2 r k)) := by
  pointwise [acts]
  rfl

/-- The context's activated condition. -/
theorem actc_at (x : FVec Ideal S1024 .f32) (k : Fin 1024) : actc x (ix1 k) = act (x (ix1 k)) := by
  pointwise [actc]
  rfl

/-- An activated row. -/
theorem rows_at (a : FVec Ideal S4x1024 .f32) (b : FVec Ideal S1024 .f32) (r : Fin 8) (k : Fin 1024) :
    rows a b (ix2 r k) = condRow (fun r k => a (ix2 r k)) (fun k => b (ix1 k)) r k := by
  unfold condRow
  fin_cases r <;> pointwise [rows]

/-- A value of the result, from the activated rows. -/
theorem through_at (a : FVec Ideal S8x1024 .f32) (w : FVec Ideal S4x1024x3072 .f32) (b : FVec Ideal S4x3072 .f32) (l : Fin 4) (r : Fin 8) (j : Fin 3072) :
    through a w b (ix3 l r j) = (∑ k : Fin 1024, w (ix3 l k j) * a (ix2 r k)) + b (ix2 l j) := by
  pointwise [through]

/-- Activating a condition's row is activating its source. -/
theorem act_cond (c : Fin 4 → Fin 1024 → EReal) (x : Fin 1024 → EReal) (r : Fin 8) (k : Fin 1024) :
    act (condRow c x r k) = condRow (fun r k => act (c r k)) (fun k => act (x k)) r k := by
  unfold condRow
  split_ifs
  · rfl
  · rfl
  · exact act_zero

/-- A value of the reference's result is the modulation. -/
theorem whole_at (x0 : FVec Ideal S4x1024 .f32) (x1 : FVec Ideal S1024 .f32) (x2 : FVec Ideal S4x1024x3072 .f32) (x3 : FVec Ideal S4x3072 .f32)
    (l : Fin 4) (r : Fin 8) (j : Fin 3072) :
    whole x0 x1 x2 x3 (ix3 l r j)
      = mod (fun r k => x0 (ix2 r k)) (fun k => x1 (ix1 k)) (fun k => x2 (ix3 l k j)) (x3 (ix2 l j)) r := by
  unfold whole mod
  rw [through_at]
  refine congrArg (fun q => q + (x3 (ix2 l j) : EReal)) (Finset.sum_congr rfl fun k _ => ?_)
  rw [rows_at, act_cond]
  simp only [acts_at, actc_at]
  exact mul_comm _ _

/-- The reference's run, its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9)
        = whole (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ModReferenceIdeal.Value.run (F := Ideal) m ρ

end Cert.ModReferenceIdeal.Rows

end
-- ==== Proof.ModIdeal.Algebraic.lean ====
module

public import proofs.«01_k».proof.Defs
public import proofs.«01_k».proof.Proof.ModIdeal.KernelAt
public import proofs.«01_k».proof.Proof.ModIdeal.RefAt

@[expose] public section

set_option maxRecDepth 16384

noncomputable section

namespace Cert.ModIdeal.Rows

open Cert.ModIdeal.Gen Cert.ModSpec
open Idealize.ShloMosaic Idealize.ShloMosaic.TcCoe Idealize.SL.Sem Idealize.ShloMosaic.Pipeline

/-! # The modulation's two programs end with one result -/

variable (m : (ℓ : Loc nD τ sig) → Buf (Elt Ideal) ℓ) (c : Dev nD)

/-- Every point writes its block back. -/
theorem flush_all : ∀ t : Fin cfg0.N, (cfg0.win 3).flush t = true := by decide +kernel

/-- A value lies in the block of its layer and its column's block. -/
theorem covers (t : Fin grid0.N) (i : S4x8x3072.Idx) (ht : t.val = 3 * (i 0 : Nat) + (i 2 : Nat) / 1024) (a : Fin 3) :
    win0_3.index t a * S1x8x1024.size a ≤ (i a : Nat) ∧ (i a : Nat) < win0_3.index t a * S1x8x1024.size a + S1x8x1024.size a := by
  have h0 : (i 0 : Nat) < 4 := (i 0).isLt
  have h1 : (i 1 : Nat) < 8 := (i 1).isLt
  have h2 : (i 2 : Nat) < 3072 := (i 2).isLt
  match a with
  | ⟨0, _⟩ => show win0_3.index t 0 * 1 ≤ (i 0 : Nat) ∧ (i 0 : Nat) < win0_3.index t 0 * 1 + 1
              rw [(index_at t).2.2.2.1]; omega
  | ⟨1, _⟩ => show win0_3.index t 1 * 8 ≤ (i 1 : Nat) ∧ (i 1 : Nat) < win0_3.index t 1 * 8 + 8
              rw [(index_at t).2.2.2.2.1]; omega
  | ⟨2, _⟩ => show win0_3.index t 2 * 1024 ≤ (i 2 : Nat) ∧ (i 2 : Nat) < win0_3.index t 2 * 1024 + 1024
              rw [(index_at t).2.2.2.2.2]; omega

/-- An index of a block has first coordinate zero. -/
theorem block_index (y : S1x8x1024.Idx) : y = ix3 0 (y 1) (y 2) := by
  have h : (y 0 : Nat) < 1 := (y 0).isLt
  refine (ValueIdx.eq_ix3 y).trans ?_
  exact congrArg (fun q : Fin 1 => (ix3 q (y 1) (y 2) : S1x8x1024.Idx)) (Fin.ext (by show (y 0 : Nat) = 0; omega))

/-- Where point `t`'s block lies in the result. -/
theorem place (t : Fin cfg0.N) (y : S1x8x1024.Idx) (a : Fin 3) :
    ((ix3 (layer t) (y 1) (col t (y 2)) : S4x8x3072.Idx) a : Nat) = win0_3.index t a * S1x8x1024.size a + 1 * (y a : Nat) := by
  have h0 : (y 0 : Nat) < 1 := (y 0).isLt
  match a with
  | ⟨0, _⟩ => show t.val / 3 = win0_3.index t 0 * 1 + 1 * (y 0 : Nat); rw [(index_at t).2.2.2.1]; omega
  | ⟨1, _⟩ => show (y 1 : Nat) = win0_3.index t 1 * 8 + 1 * (y 1 : Nat); rw [(index_at t).2.2.2.2.1]; omega
  | ⟨2, _⟩ => show 1024 * (t.val % 3) + (y 2 : Nat) = win0_3.index t 2 * 1024 + 1 * (y 2 : Nat); rw [(index_at t).2.2.2.2.2]; omega

/-- Where every point leaves its block of an array `G`, the array written is `G`. -/
theorem final (G : FVec Ideal S4x8x3072 .f32)
    (hG : ∀ (t : Fin cfg0.N) (r : Fin 8) (j : Fin 1024), ((dats m 0 c).after 3 t : Vec Ideal S1x8x1024 .f32) (ix3 0 r j) = G (ix3 (layer t) r (col t j))) :
    (dats m 0 c).arrAt 3 cfg0.N = G := by
  refine (dats m 0 c).arrAt_eq_of_cover 3 G (fun t _ => ?_) fun i => ?_
  · funext y
    rw [View.read_apply]
    have e : ((dats m 0 c).after 3 t : Vec Ideal S1x8x1024 .f32) y = G (ix3 (layer t) (y 1) (col t (y 2))) :=
      (congrArg ((dats m 0 c).after 3 t : Vec Ideal S1x8x1024 .f32) (block_index y)).trans (hG t (y 1) (y 2))
    refine e.trans ?_
    refine congrArg G (funext fun a => Fin.ext ?_)
    exact place t y a
  · have h0 : (i 0 : Nat) < 4 := (i 0).isLt
    have h2 : (i 2 : Nat) < 3072 := (i 2).isLt
    obtain ⟨t, ht⟩ : ∃ t : Fin cfg0.N, t.val = 3 * (i 0 : Nat) + (i 2 : Nat) / 1024 :=
      ⟨⟨3 * (i 0 : Nat) + (i 2 : Nat) / 1024, by rw [show cfg0.N = 12 from N_0]; omega⟩, rfl⟩
    refine ⟨t, flush_all t, ?_⟩
    show i ∈ ((View.whole main_v4).slice (win0_3.rect t)).set
    rw [View.set_slice_whole, Rect.mem_set_unit]
    exact covers t i ht

/-- On one core, where the two memories agree, the array the kernel writes is the reference's result. -/
theorem results_agree (m' : (ℓ : Loc Cert.ModReferenceIdeal.nD Cert.ModReferenceIdeal.τ Cert.ModReferenceIdeal.sig) → Buf (Elt Ideal) ℓ)
    (a0 : m' ((c.tc : Thread nD τ).loc Cert.ModReferenceIdeal.main_arg0) = m ((c.tc : Thread nD τ).loc main_arg0))
    (a1 : m' ((c.tc : Thread nD τ).loc Cert.ModReferenceIdeal.main_arg1) = m ((c.tc : Thread nD τ).loc main_arg1))
    (a2 : m' ((c.tc : Thread nD τ).loc Cert.ModReferenceIdeal.main_arg2) = m ((c.tc : Thread nD τ).loc main_arg2))
    (a3 : m' ((c.tc : Thread nD τ).loc Cert.ModReferenceIdeal.main_arg3) = m ((c.tc : Thread nD τ).loc main_arg3)) :
    (dats m 0 c).arrAt 3 cfg0.N
      = Cert.ModReferenceIdeal.Rows.whole (m' ((c.tc : Thread nD τ).loc Cert.ModReferenceIdeal.main_arg0)) (m' ((c.tc : Thread nD τ).loc Cert.ModReferenceIdeal.main_arg1))
          (m' ((c.tc : Thread nD τ).loc Cert.ModReferenceIdeal.main_arg2)) (m' ((c.tc : Thread nD τ).loc Cert.ModReferenceIdeal.main_arg3)) := by
  refine final m c _ fun t r j => ?_
  rw [after0_3]
  refine (out_at m c t r j).trans ?_
  rw [a0, a1, a2, a3]
  exact (Cert.ModReferenceIdeal.Rows.whole_at _ _ _ _ (layer t) r (col t j)).symm

/-- THE TWO RESULTS ARE ONE: the kernel and the reference end with the same array, whatever the arguments. -/
theorem algebraic : Cert.algebraic_ModIdeal_ModReferenceIdeal := by
  intro m ρ m' ρ' _ hagree
  refine ⟨fun c => Cert.ModReferenceIdeal.Rows.whole (m' ((c.tc : Thread nD τ).loc Cert.ModReferenceIdeal.main_arg0))
    (m' ((c.tc : Thread nD τ).loc Cert.ModReferenceIdeal.main_arg1)) (m' ((c.tc : Thread nD τ).loc Cert.ModReferenceIdeal.main_arg2))
    (m' ((c.tc : Thread nD τ).loc Cert.ModReferenceIdeal.main_arg3)), ?_, Cert.ModReferenceIdeal.Rows.run m' ρ'⟩
  refine (θ_run defs _ _).mono (fun r h c => ⟨?_, h.2 c⟩) (θ_run_and (run_main m ρ) (frame_of m ρ (dats m) (A_eq m) (run_main m ρ)))
  refine ((h.1 c).1 3).trans ?_
  obtain ⟨a0, a1, a2, a3⟩ := hagree c
  exact results_agree m c m' a0 a1 a2 a3

end Cert.ModIdeal.Rows

end
-- ==== Proof.lean ====
module

public import proofs.«01_k».proof.Defs
public import proofs.«01_k».proof.Proof.AttBits.Frame
public import proofs.«01_k».proof.Proof.AttIdeal.Frame
public import proofs.«01_k».proof.Proof.AttIdeal.Algebraic
public import proofs.«01_k».proof.Proof.MergeIdeal.Algebraic
public import proofs.«01_k».proof.Proof.Gen.Merge.Frame
public import proofs.«01_k».proof.Proof.Gen.MergeIdeal.Frame
public import proofs.«01_k».proof.Proof.Gen.MergeReferenceIdeal.Run
public import proofs.«01_k».proof.Proof.FrontBits.Frame
public import proofs.«01_k».proof.Proof.FrontIdeal.Algebraic
public import proofs.«01_k».proof.Proof.Gen.FrontReferenceIdeal.Run
public import proofs.«01_k».proof.Proof.Gen.Mod.Frame
public import proofs.«01_k».proof.Proof.Gen.ModIdeal.Frame
public import proofs.«01_k».proof.Proof.Gen.ModReferenceIdeal.Run
public import proofs.«01_k».proof.Proof.ModIdeal.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The kernel at words: it ends, its arguments are as they were, every counter is at zero. -/
theorem frame_p : Cert.quiescent_Kernel := fun m ρ _ => Cert.Kernel.Att.frame m ρ

/-- The same at extended reals. -/
theorem frame_pi : Cert.quiescent_KernelIdeal := fun m ρ _ => Cert.KernelIdeal.Att.frame m ρ

/-- The reference at extended reals. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The constant the kernel scales the queries by is `1 / (8 log 2)` as named. -/
theorem preserves : Cert.preserves_Kernel_KernelIdeal :=
  IdealRules.named_const.statement Cert.KernelIdeal.κ "log2e_over_8" .f32 0x3E38AA3B#32 (((8 * (Real.log 2))⁻¹ : ℝ) : EReal) rfl

/-- The merge at words: it ends, its arguments are as they were, every counter is at zero. -/
theorem frame_p2 : Cert.quiescent_Merge := fun m ρ _ => Cert.Merge.Gen.frame m ρ

/-- The same at extended reals. -/
theorem frame_pi2 : Cert.quiescent_MergeIdeal := fun m ρ _ => Cert.MergeIdeal.Gen.frame m ρ

/-- The merge's reference at extended reals. -/
theorem frame_ri2 : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- Widening a narrowed number gives it back, at all four places. -/
theorem preserves2 : Cert.preserves_Merge_MergeIdeal := IdealRules.truncf_extf.statement _ _ _ (by decide)

/-- The projections at words: they end, their arguments are as they were, every counter is at zero. -/
theorem frame_p3 : Cert.quiescent_Front := fun m ρ _ => Cert.Front.Rows.frame m ρ

/-- The same at extended reals. -/
theorem frame_pi3 : Cert.quiescent_FrontIdeal := fun m ρ _ => Cert.FrontIdeal.Rows.frame m ρ

/-- The projections' reference at extended reals. -/
theorem frame_ri3 : Cert.quiescent_FrontReferenceIdeal := fun m ρ _ =>
  (θ_run Cert.FrontReferenceIdeal.defs _ _).mono (fun r h => ⟨fun c => (h c).2.2.2.2, sem_eq_zero_of_no_sems (by decide) r.2⟩)
    (Cert.FrontReferenceIdeal.Value.run (F := Ideal) m ρ)

/-- Widening a narrowed number gives it back, at every place. -/
theorem preserves3 : Cert.preserves_Front_FrontIdeal :=
  ⟨IdealRules.truncf_extf.statement _ _ _ (by decide), IdealRules.truncf_extf.statement _ _ _ (by decide), IdealRules.truncf_extf.statement _ _ _ (by decide)⟩

/-- The modulation at words: it ends, its arguments are as they were, every counter is at zero. -/
theorem frame_p4 : Cert.quiescent_Mod := fun m ρ _ => Cert.Mod.Gen.frame m ρ

/-- The same at extended reals. -/
theorem frame_pi4 : Cert.quiescent_ModIdeal := fun m ρ _ => Cert.ModIdeal.Gen.frame m ρ

/-- The modulation's reference at extended reals. -/
theorem frame_ri4 : Cert.quiescent_ModReferenceIdeal := fun m ρ _ =>
  (θ_run Cert.ModReferenceIdeal.defs _ _).mono (fun r h => ⟨fun c => (h c).2, sem_eq_zero_of_no_sems (by decide) r.2⟩)
    (Cert.ModReferenceIdeal.Value.run (F := Ideal) m ρ)

/-- The modulation's idealization rewrites nothing. -/
theorem preserves4 : Cert.preserves_Mod_ModIdeal := trivial

/-- Everything claimed. -/
theorem claim : Cert.Claim := ⟨Cert.Kernel.Gen.facts, Cert.KernelIdeal.Gen.facts, Cert.ReferenceIdeal.Gen.facts,
  Cert.Merge.Gen.facts, Cert.MergeIdeal.Gen.facts, Cert.MergeReferenceIdeal.Gen.facts,
  Cert.Front.Gen.facts, Cert.FrontIdeal.Gen.facts, Cert.FrontReferenceIdeal.Gen.facts,
  Cert.Mod.Gen.facts, Cert.ModIdeal.Gen.facts, Cert.ModReferenceIdeal.Gen.facts, Cert.Pre_finite.facts, Cert.Pre_scans_finite.facts,
  frame_p, frame_pi, fun m ρ _ => frame_pi m ρ trivial, frame_ri, fun m ρ _ => frame_ri m ρ trivial,
  frame_p2, frame_pi2, fun m ρ _ => frame_pi2 m ρ trivial, frame_ri2, fun m ρ _ => frame_ri2 m ρ trivial,
  frame_p3, frame_pi3, frame_ri3, frame_p4, frame_pi4, frame_ri4, preserves,
  Cert.KernelIdeal.Att.algebraic, preserves2, Cert.MergeIdeal.Rows.algebraic, preserves3, Cert.FrontIdeal.Rows.algebraic,
  preserves4, Cert.ModIdeal.Rows.algebraic⟩

end Cert.Proof

end
